-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones_row [hPre_finite_with_ones_row : Cert.Pre_finite_with_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_with_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones_row [hPre_finite_with_ones_row : Cert.Pre_finite_with_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_with_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_with_ones_row [hKernelIdeal : Cert.KernelIdeal.Facts] [hPre_finite_with_ones_row : Cert.Pre_finite_with_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_with_ones_row [hReferenceIdeal : Cert.ReferenceIdeal.Facts] [hPre_finite_with_ones_row : Cert.Pre_finite_with_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones_row [hKernelIdeal : Cert.KernelIdeal.Facts] [hReferenceIdeal : Cert.ReferenceIdeal.Facts] [hPre_finite_with_ones_row : Cert.Pre_finite_with_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v162) = v1 c
          ∧ r.2.mem ((c.tc : Thread Cert.Reference3Ideal.nD Cert.Reference3Ideal.τ).loc Cert.Reference3Ideal.main_v164) = v2 c
          ∧ r.2.mem ((c.tc : Thread Cert.Reference3Ideal.nD Cert.Reference3Ideal.τ).loc Cert.Reference3Ideal.main_v165) = v3 c
          ∧ r.2.mem ((c.tc : Thread Cert.Reference3Ideal.nD Cert.Reference3Ideal.τ).loc Cert.Reference3Ideal.main_v126) = v4 c
          ∧ r.2.mem ((c.tc : Thread Cert.Reference3Ideal.nD Cert.Reference3Ideal.τ).loc Cert.Reference3Ideal.main_v166) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_with_ones_row : Cert.Pre_finite_with_ones_row.Facts),
    quiescent_Kernel (hKernel := hKernel)
    ∧ quiescent_KernelIdeal (hKernelIdeal := hKernelIdeal)
    ∧ quiescent_KernelIdeal_pre_finite_with_ones_row (hKernelIdeal := hKernelIdeal) (hPre_finite_with_ones_row := hPre_finite_with_ones_row)
    ∧ quiescent_ReferenceIdeal (hReferenceIdeal := hReferenceIdeal)
    ∧ quiescent_ReferenceIdeal_pre_finite_with_ones_row (hReferenceIdeal := hReferenceIdeal) (hPre_finite_with_ones_row := hPre_finite_with_ones_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_with_ones_row (hKernelIdeal := hKernelIdeal) (hReferenceIdeal := hReferenceIdeal) (hPre_finite_with_ones_row := hPre_finite_with_ones_row)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
-- ==== Pre_finite_with_ones_row.lean ====
abbrev S16384x2048 : Shape := ⟨2, ![16384, 2048]⟩
abbrev S1280x16384 : Shape := ⟨2, ![1280, 16384]⟩
abbrev S_ : Shape := ⟨0, ![]⟩
abbrev S16x80x16384 : Shape := ⟨3, ![16, 80, 16384]⟩
abbrev S16x1x16384 : Shape := ⟨3, ![16, 1, 16384]⟩
abbrev S16x16384 : Shape := ⟨2, ![16, 16384]⟩

class Facts : Prop where
  bcast_S_S16384x2048 : S_.BroadcastsInDim S16384x2048 (![] : Fin 0 → Fin S16384x2048.rank)
  shapeCasts_S1280x16384_S16x80x16384 : S1280x16384.ShapeCasts S16x80x16384
  slices_S16x80x16384_S16x1x16384_0_64_0 : S16x80x16384.Slices ![0, 64, 0] S16x1x16384
  shapeCasts_S16x1x16384_S16x16384 : S16x1x16384.ShapeCasts S16x16384
  bcast_S_S16x16384 : S_.BroadcastsInDim S16x16384 (![] : Fin 0 → Fin S16x16384.rank)

variable [Facts]

def fn {F : FTy → Type} [FloatOps F] (main_arg0 : FVec F S16384x2048 .bf16) (main_arg1 : FVec F S16384x2048 .bf16) (main_arg2 : FVec F S1280x16384 .bf16) : IVec S16384x2048 1 × IVec S16384x2048 1 × IVec S16x16384 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  let main_v6 : FVec F S16x80x16384 .bf16 := shapeCast S16x80x16384 main_arg2 shapeCasts_S1280x16384_S16x80x16384
  let main_v7 : FVec F S16x1x16384 .bf16 := (extractStridedSlice S16x1x16384 ![0, 64, 0] · slices_S16x80x16384_S16x1x16384_0_64_0) main_v6
  let main_v8 : FVec F S16x16384 .bf16 := shapeCast S16x16384 main_v7 shapeCasts_S16x1x16384_S16x16384
  let main_cst_1 : FVec F S_ .bf16 := constant S_ .bf16 0x3F80#16
  let main_v9 : FVec F S16x16384 .bf16 := broadcastInDim S16x16384 ![] bcast_S_S16x16384 main_cst_1
  let main_v10 : IVec S16x16384 1 := cmpf .oeq main_v8 main_v9
  (main_v2, main_v5, main_v10)
-- ==== Kernel.lean ====
abbrev S16384x2048 : Shape := ⟨2, ![16384, 2048]⟩
abbrev S1280x16384 : Shape := ⟨2, ![1280, 16384]⟩
abbrev S16384x1024 : Shape := ⟨2, ![16384, 1024]⟩
abbrev S512x1024 : Shape := ⟨2, ![512, 1024]⟩
abbrev S4096x1024 : Shape := ⟨2, ![4096, 1024]⟩
abbrev S640x4096 : Shape := ⟨2, ![640, 4096]⟩
abbrev S512x512 : Shape := ⟨2, ![512, 512]⟩
abbrev S8x1x512 : Shape := ⟨3, ![8, 1, 512]⟩
abbrev S8x80x512 : Shape := ⟨3, ![8, 80, 512]⟩
abbrev S8x512x512 : Shape := ⟨3, ![8, 512, 512]⟩
abbrev S512x128 : Shape := ⟨2, ![512, 128]⟩
abbrev S256x128 : Shape := ⟨2, ![256, 128]⟩
abbrev S256x512 : Shape := ⟨2, ![256, 512]⟩
abbrev S256x1 : Shape := ⟨2, ![256, 1]⟩
abbrev S1x512 : Shape := ⟨2, ![1, 512]⟩
abbrev S1x1x512 : Shape := ⟨3, ![1, 1, 512]⟩
abbrev S512 : Shape := ⟨1, ![512]⟩
abbrev S80x256 : Shape := ⟨2, ![80, 256]⟩
abbrev S1x80x512 : Shape := ⟨3, ![1, 80, 512]⟩
abbrev S80x512 : Shape := ⟨2, ![80, 512]⟩
abbrev S1x512x512 : Shape := ⟨3, ![1, 512, 512]⟩
abbrev S256x256 : Shape := ⟨2, ![256, 256]⟩
abbrev S1x256 : Shape := ⟨2, ![1, 256]⟩
abbrev S1x1x256 : Shape := ⟨3, ![1, 1, 256]⟩
abbrev S256 : Shape := ⟨1, ![256]⟩
abbrev S1x80x256 : Shape := ⟨3, ![1, 80, 256]⟩
abbrev S64x512 : Shape := ⟨2, ![64, 512]⟩
abbrev S128x512 : Shape := ⟨2, ![128, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1280x16384, .bf16⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S640x4096, .bf16⟩
  | .local _ .vmem, ⟨5, _⟩ => ⟨S640x4096, .bf16⟩
  | .local _ .vmem, ⟨6, _⟩ => ⟨S512x512, .bf16⟩
  | .local _ .vmem, ⟨7, _⟩ => ⟨S512x512, .bf16⟩
  | .local _ .vmem, ⟨8, _⟩ => ⟨S8x1x512, .f32⟩
  | .local _ .vmem, ⟨9, _⟩ => ⟨S8x80x512, .f32⟩
  | .local _ .vmem, ⟨10, _⟩ => ⟨S8x512x512, .f32⟩
  | .local _ .vmem, ⟨11, _⟩ => ⟨S8x512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c512_i32_20 : BitVec 32 := 512#32
  let v34 : BitVec 32 := Scalar.muli arg2 c512_i32_20
  let c0_i32_21 : BitVec 32 := 0#32
  let v35 : BitVec 32 := Scalar.addi v34 c0_i32_21
  v35
def k0_mult2 (i : grid0.Coords) : BitVec 32 :=
  let arg2 : BitVec 32 := BitVec.ofNat 32 (i 2).val
  let c512_i32_22 : BitVec 32 := 512#32
  let v37 : BitVec 32 := Scalar.muli arg2 c512_i32_22
  let c256_i32 : BitVec 32 := 256#32
  let v38 : BitVec 32 := Scalar.addi v37 c256_i32
  v38
def k0_off1 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v40 : Index := Scalar.indexCast v36
  let c0_23 : Index := 0#32
  ![v40.toNat, 0]
def k0_off2 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v104 : Index := Scalar.indexCast v36
  let c128_41 : Index := 128#32
  ![v104.toNat, 128]
def k0_off3 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v168 : Index := Scalar.indexCast v36
  let c256_60 : Index := 256#32
  ![v168.toNat, 256]
def k0_off4 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v232 : Index := Scalar.indexCast v36
  let c384_79 : Index := 384#32
  ![v232.toNat, 384]
def k0_off5 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v296 : Index := Scalar.indexCast v36
  let c512_98 : Index := 512#32
  ![v296.toNat, 512]
def k0_off6 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v360 : Index := Scalar.indexCast v36
  let c640_117 : Index := 640#32
  ![v360.toNat, 640]
def k0_off7 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v424 : Index := Scalar.indexCast v36
  let c768_136 : Index := 768#32
  ![v424.toNat, 768]
def k0_off8 (i : grid0.Coords) (c0_i32_21 : BitVec 32) : Fin 2 → Nat :=
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v488 : Index := Scalar.indexCast v36
  let c896_155 : Index := 896#32
  ![v488.toNat, 896]
def k0_off9 (i : grid0.Coords) (c0_i32_21 : BitVec 32) : Fin 2 → Nat :=
  let c0_178 : Index := 0#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v563 : Index := Scalar.indexCast v36
  ![0, v563.toNat]
def k0_mult3 : BitVec 32 :=
  let c0_i32_189 : BitVec 32 := 0#32
  c0_i32_189
def k0_off10 (i : grid0.Coords) (c0_i32_21 : BitVec 32) : Fin 2 → Nat :=
  let c80 : Index := 80#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v660 : Index := Scalar.indexCast v36
  ![80, v660.toNat]
def k0_mult4 : BitVec 32 :=
  let c0_i32_227 : BitVec 32 := 0#32
  c0_i32_227
def k0_off11 (i : grid0.Coords) (c0_i32_21 : BitVec 32) : Fin 2 → Nat :=
  let c160 : Index := 160#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v757 : Index := Scalar.indexCast v36
  ![160, v757.toNat]
def k0_mult5 : BitVec 32 :=
  let c0_i32_265 : BitVec 32 := 0#32
  c0_i32_265
def k0_off12 (i : grid0.Coords) (c0_i32_21 : BitVec 32) : Fin 2 → Nat :=
  let c240 : Index := 240#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v854 : Index := Scalar.indexCast v36
  ![240, v854.toNat]
def k0_mult6 : BitVec 32 :=
  let c0_i32_303 : BitVec 32 := 0#32
  c0_i32_303
def k0_off13 (i : grid0.Coords) (c0_i32_21 : BitVec 32) : Fin 2 → Nat :=
  let c320 : Index := 320#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v951 : Index := Scalar.indexCast v36
  ![320, v951.toNat]
def k0_mult7 : BitVec 32 :=
  let c0_i32_341 : BitVec 32 := 0#32
  c0_i32_341
def k0_off14 (i : grid0.Coords) (c0_i32_21 : BitVec 32) : Fin 2 → Nat :=
  let c400 : Index := 400#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v1048 : Index := Scalar.indexCast v36
  ![400, v1048.toNat]
def k0_mult8 : BitVec 32 :=
  let c0_i32_379 : BitVec 32 := 0#32
  c0_i32_379
def k0_off15 (i : grid0.Coords) (c0_i32_21 : BitVec 32) : Fin 2 → Nat :=
  let c480 : Index := 480#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v1145 : Index := Scalar.indexCast v36
  ![480, v1145.toNat]
def k0_mult9 : BitVec 32 :=
  let c0_i32_417 : BitVec 32 := 0#32
  c0_i32_417
def k0_off16 (i : grid0.Coords) (c0_i32_21 : BitVec 32) : Fin 2 → Nat :=
  let c560 : Index := 560#32
  let arg2 : BitVec 32 := BitVec.ofNat 32 (i 2).val
  let c512_i32_20 : BitVec 32 := 512#32
  let v34 : BitVec 32 := Scalar.muli arg2 c512_i32_20
  let v35 : BitVec 32 := Scalar.addi v34 c0_i32_21
  let v36 : BitVec 32 := v35
  let v1242 : Index := Scalar.indexCast v36
  ![560, v1242.toNat]
def k0_mult10 : BitVec 32 :=
  let c0_i32_455 : BitVec 32 := 0#32
  c0_i32_455
def k0_cond1 (i : grid0.Coords) : BitVec 1 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c0_i32_600 : BitVec 32 := 0#32
  let v1528 : BitVec 1 := Scalar.cmpi .sgt v33 c0_i32_600
  let v1529 : BitVec 32 := Scalar.extui v1528
  let c0_i32_601 : BitVec 32 := 0#32
  let v1530 : BitVec 1 := Scalar.cmpi .ne v1529 c0_i32_601
  v1530

@[reducible] def k0_t1_loop (i : grid0.Coords) : Scf.Loop 32 :=
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_657 : BitVec 32 := 1#32
  ⟨c0_i32_655, v1637, c1_i32_657⟩
def k0_mult11 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_676 : BitVec 32 := 1#32
  let v1667 : BitVec 32 := Scalar.addi v1666 c1_i32_676
  let c512_i32_677 : BitVec 32 := 512#32
  let v1668 : BitVec 32 := Scalar.muli v1667 c512_i32_677
  v1668
def k0_off17 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_676 : BitVec 32 := 1#32
  let v1667 : BitVec 32 := Scalar.addi v1666 c1_i32_676
  let c512_i32_677 : BitVec 32 := 512#32
  let v1668 : BitVec 32 := Scalar.muli v1667 c512_i32_677
  let v1669 : BitVec 32 := v1668
  let v1670 : Index := Scalar.indexCast v1669
  let c0_678 : Index := 0#32
  ![v1670.toNat, 0]
def k0_mult12 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_690 : BitVec 32 := 512#32
  let v1689 : BitVec 32 := Scalar.muli v1666 c512_i32_690
  v1689
def k0_off18 (i : grid0.Coords) (k0_t1 : Fin (k0_t1_loop i).trips) : Fin 2 → Nat :=
  let c0_691 : Index := 0#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_690 : BitVec 32 := 512#32
  let v1689 : BitVec 32 := Scalar.muli v1666 c512_i32_690
  let v1690 : BitVec 32 := v1689
  let v1691 : Index := Scalar.indexCast v1690
  ![0, v1691.toNat]
def k0_mult13 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_702 : BitVec 32 := 1#32
  let v1705 : BitVec 32 := Scalar.addi v1666 c1_i32_702
  let c512_i32_703 : BitVec 32 := 512#32
  let v1706 : BitVec 32 := Scalar.muli v1705 c512_i32_703
  v1706
def k0_off19 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_702 : BitVec 32 := 1#32
  let v1705 : BitVec 32 := Scalar.addi v1666 c1_i32_702
  let c512_i32_703 : BitVec 32 := 512#32
  let v1706 : BitVec 32 := Scalar.muli v1705 c512_i32_703
  let v1707 : BitVec 32 := v1706
  let v1708 : Index := Scalar.indexCast v1707
  let c128_704 : Index := 128#32
  ![v1708.toNat, 128]
def k0_mult14 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_716 : BitVec 32 := 512#32
  let v1727 : BitVec 32 := Scalar.muli v1666 c512_i32_716
  v1727
def k0_off20 (i : grid0.Coords) (k0_t1 : Fin (k0_t1_loop i).trips) : Fin 2 → Nat :=
  let c80_717 : Index := 80#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_716 : BitVec 32 := 512#32
  let v1727 : BitVec 32 := Scalar.muli v1666 c512_i32_716
  let v1728 : BitVec 32 := v1727
  let v1729 : Index := Scalar.indexCast v1728
  ![80, v1729.toNat]
def k0_mult15 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_728 : BitVec 32 := 1#32
  let v1743 : BitVec 32 := Scalar.addi v1666 c1_i32_728
  let c512_i32_729 : BitVec 32 := 512#32
  let v1744 : BitVec 32 := Scalar.muli v1743 c512_i32_729
  v1744
def k0_off21 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_728 : BitVec 32 := 1#32
  let v1743 : BitVec 32 := Scalar.addi v1666 c1_i32_728
  let c512_i32_729 : BitVec 32 := 512#32
  let v1744 : BitVec 32 := Scalar.muli v1743 c512_i32_729
  let v1745 : BitVec 32 := v1744
  let v1746 : Index := Scalar.indexCast v1745
  let c256_730 : Index := 256#32
  ![v1746.toNat, 256]
def k0_mult16 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_742 : BitVec 32 := 512#32
  let v1765 : BitVec 32 := Scalar.muli v1666 c512_i32_742
  v1765
def k0_off22 (i : grid0.Coords) (k0_t1 : Fin (k0_t1_loop i).trips) : Fin 2 → Nat :=
  let c160_743 : Index := 160#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_742 : BitVec 32 := 512#32
  let v1765 : BitVec 32 := Scalar.muli v1666 c512_i32_742
  let v1766 : BitVec 32 := v1765
  let v1767 : Index := Scalar.indexCast v1766
  ![160, v1767.toNat]
def k0_mult17 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_754 : BitVec 32 := 1#32
  let v1781 : BitVec 32 := Scalar.addi v1666 c1_i32_754
  let c512_i32_755 : BitVec 32 := 512#32
  let v1782 : BitVec 32 := Scalar.muli v1781 c512_i32_755
  v1782
def k0_off23 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_754 : BitVec 32 := 1#32
  let v1781 : BitVec 32 := Scalar.addi v1666 c1_i32_754
  let c512_i32_755 : BitVec 32 := 512#32
  let v1782 : BitVec 32 := Scalar.muli v1781 c512_i32_755
  let v1783 : BitVec 32 := v1782
  let v1784 : Index := Scalar.indexCast v1783
  let c384_756 : Index := 384#32
  ![v1784.toNat, 384]
def k0_mult18 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_768 : BitVec 32 := 512#32
  let v1803 : BitVec 32 := Scalar.muli v1666 c512_i32_768
  v1803
def k0_off24 (i : grid0.Coords) (k0_t1 : Fin (k0_t1_loop i).trips) : Fin 2 → Nat :=
  let c240_769 : Index := 240#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_768 : BitVec 32 := 512#32
  let v1803 : BitVec 32 := Scalar.muli v1666 c512_i32_768
  let v1804 : BitVec 32 := v1803
  let v1805 : Index := Scalar.indexCast v1804
  ![240, v1805.toNat]
def k0_mult19 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_780 : BitVec 32 := 1#32
  let v1819 : BitVec 32 := Scalar.addi v1666 c1_i32_780
  let c512_i32_781 : BitVec 32 := 512#32
  let v1820 : BitVec 32 := Scalar.muli v1819 c512_i32_781
  v1820
def k0_off25 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_780 : BitVec 32 := 1#32
  let v1819 : BitVec 32 := Scalar.addi v1666 c1_i32_780
  let c512_i32_781 : BitVec 32 := 512#32
  let v1820 : BitVec 32 := Scalar.muli v1819 c512_i32_781
  let v1821 : BitVec 32 := v1820
  let v1822 : Index := Scalar.indexCast v1821
  let c512_782 : Index := 512#32
  ![v1822.toNat, 512]
def k0_mult20 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_794 : BitVec 32 := 512#32
  let v1841 : BitVec 32 := Scalar.muli v1666 c512_i32_794
  v1841
def k0_off26 (i : grid0.Coords) (k0_t1 : Fin (k0_t1_loop i).trips) : Fin 2 → Nat :=
  let c320_795 : Index := 320#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_794 : BitVec 32 := 512#32
  let v1841 : BitVec 32 := Scalar.muli v1666 c512_i32_794
  let v1842 : BitVec 32 := v1841
  let v1843 : Index := Scalar.indexCast v1842
  ![320, v1843.toNat]
def k0_mult21 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_806 : BitVec 32 := 1#32
  let v1857 : BitVec 32 := Scalar.addi v1666 c1_i32_806
  let c512_i32_807 : BitVec 32 := 512#32
  let v1858 : BitVec 32 := Scalar.muli v1857 c512_i32_807
  v1858
def k0_off27 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_806 : BitVec 32 := 1#32
  let v1857 : BitVec 32 := Scalar.addi v1666 c1_i32_806
  let c512_i32_807 : BitVec 32 := 512#32
  let v1858 : BitVec 32 := Scalar.muli v1857 c512_i32_807
  let v1859 : BitVec 32 := v1858
  let v1860 : Index := Scalar.indexCast v1859
  let c640_808 : Index := 640#32
  ![v1860.toNat, 640]
def k0_mult22 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_820 : BitVec 32 := 512#32
  let v1879 : BitVec 32 := Scalar.muli v1666 c512_i32_820
  v1879
def k0_off28 (i : grid0.Coords) (k0_t1 : Fin (k0_t1_loop i).trips) : Fin 2 → Nat :=
  let c400_821 : Index := 400#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_820 : BitVec 32 := 512#32
  let v1879 : BitVec 32 := Scalar.muli v1666 c512_i32_820
  let v1880 : BitVec 32 := v1879
  let v1881 : Index := Scalar.indexCast v1880
  ![400, v1881.toNat]
def k0_mult23 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_832 : BitVec 32 := 1#32
  let v1895 : BitVec 32 := Scalar.addi v1666 c1_i32_832
  let c512_i32_833 : BitVec 32 := 512#32
  let v1896 : BitVec 32 := Scalar.muli v1895 c512_i32_833
  v1896
def k0_off29 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_832 : BitVec 32 := 1#32
  let v1895 : BitVec 32 := Scalar.addi v1666 c1_i32_832
  let c512_i32_833 : BitVec 32 := 512#32
  let v1896 : BitVec 32 := Scalar.muli v1895 c512_i32_833
  let v1897 : BitVec 32 := v1896
  let v1898 : Index := Scalar.indexCast v1897
  let c768_834 : Index := 768#32
  ![v1898.toNat, 768]
def k0_mult24 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_846 : BitVec 32 := 512#32
  let v1917 : BitVec 32 := Scalar.muli v1666 c512_i32_846
  v1917
def k0_off30 (i : grid0.Coords) (k0_t1 : Fin (k0_t1_loop i).trips) : Fin 2 → Nat :=
  let c480_847 : Index := 480#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_846 : BitVec 32 := 512#32
  let v1917 : BitVec 32 := Scalar.muli v1666 c512_i32_846
  let v1918 : BitVec 32 := v1917
  let v1919 : Index := Scalar.indexCast v1918
  ![480, v1919.toNat]
def k0_mult25 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_858 : BitVec 32 := 1#32
  let v1933 : BitVec 32 := Scalar.addi v1666 c1_i32_858
  let c512_i32_859 : BitVec 32 := 512#32
  let v1934 : BitVec 32 := Scalar.muli v1933 c512_i32_859
  v1934
def k0_off31 (i : grid0.Coords) (k0_t1 : Fin (k0_t1_loop i).trips) : Fin 2 → Nat :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_858 : BitVec 32 := 1#32
  let v1933 : BitVec 32 := Scalar.addi v1666 c1_i32_858
  let c512_i32_859 : BitVec 32 := 512#32
  let v1934 : BitVec 32 := Scalar.muli v1933 c512_i32_859
  let v1935 : BitVec 32 := v1934
  let v1936 : Index := Scalar.indexCast v1935
  let c896_860 : Index := 896#32
  ![v1936.toNat, 896]
def k0_mult26 (i : grid0.Coords) (k0_t1 : Fin (k0_t1_loop i).trips) : BitVec 32 :=
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_872 : BitVec 32 := 512#32
  let v1955 : BitVec 32 := Scalar.muli v1666 c512_i32_872
  v1955
def k0_off32 (i : grid0.Coords) (k0_t1 : Fin (k0_t1_loop i).trips) : Fin 2 → Nat :=
  let c560_873 : Index := 560#32
  let c2_i32_675 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_872 : BitVec 32 := 512#32
  let v1955 : BitVec 32 := Scalar.muli v1666 c512_i32_872
  let v1956 : BitVec 32 := v1955
  let v1957 : Index := Scalar.indexCast v1956
  ![560, v1957.toNat]
def k0_mult27 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_886 : BitVec 32 := 1#32
  let v1973 : BitVec 32 := Scalar.addi v1972 c1_i32_886
  let c512_i32_887 : BitVec 32 := 512#32
  let v1974 : BitVec 32 := Scalar.muli v1973 c512_i32_887
  v1974
def k0_off33 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_886 : BitVec 32 := 1#32
  let v1973 : BitVec 32 := Scalar.addi v1972 c1_i32_886
  let c512_i32_887 : BitVec 32 := 512#32
  let v1974 : BitVec 32 := Scalar.muli v1973 c512_i32_887
  let v1975 : BitVec 32 := v1974
  let v1976 : Index := Scalar.indexCast v1975
  let c0_888 : Index := 0#32
  ![v1976.toNat, 0]
def k0_mult28 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_900 : BitVec 32 := 512#32
  let v1995 : BitVec 32 := Scalar.muli v1972 c512_i32_900
  v1995
def k0_off34 (i : grid0.Coords) (k0_t1 : Fin (k0_t1_loop i).trips) : Fin 2 → Nat :=
  let c0_901 : Index := 0#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_900 : BitVec 32 := 512#32
  let v1995 : BitVec 32 := Scalar.muli v1972 c512_i32_900
  let v1996 : BitVec 32 := v1995
  let v1997 : Index := Scalar.indexCast v1996
  ![0, v1997.toNat]
def k0_mult29 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_912 : BitVec 32 := 1#32
  let v2011 : BitVec 32 := Scalar.addi v1972 c1_i32_912
  let c512_i32_913 : BitVec 32 := 512#32
  let v2012 : BitVec 32 := Scalar.muli v2011 c512_i32_913
  v2012
def k0_off35 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_912 : BitVec 32 := 1#32
  let v2011 : BitVec 32 := Scalar.addi v1972 c1_i32_912
  let c512_i32_913 : BitVec 32 := 512#32
  let v2012 : BitVec 32 := Scalar.muli v2011 c512_i32_913
  let v2013 : BitVec 32 := v2012
  let v2014 : Index := Scalar.indexCast v2013
  let c128_914 : Index := 128#32
  ![v2014.toNat, 128]
def k0_mult30 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_926 : BitVec 32 := 512#32
  let v2033 : BitVec 32 := Scalar.muli v1972 c512_i32_926
  v2033
def k0_off36 (i : grid0.Coords) (k0_t1 : Fin (k0_t1_loop i).trips) : Fin 2 → Nat :=
  let c80_927 : Index := 80#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_926 : BitVec 32 := 512#32
  let v2033 : BitVec 32 := Scalar.muli v1972 c512_i32_926
  let v2034 : BitVec 32 := v2033
  let v2035 : Index := Scalar.indexCast v2034
  ![80, v2035.toNat]
def k0_mult31 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_938 : BitVec 32 := 1#32
  let v2049 : BitVec 32 := Scalar.addi v1972 c1_i32_938
  let c512_i32_939 : BitVec 32 := 512#32
  let v2050 : BitVec 32 := Scalar.muli v2049 c512_i32_939
  v2050
def k0_off37 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_938 : BitVec 32 := 1#32
  let v2049 : BitVec 32 := Scalar.addi v1972 c1_i32_938
  let c512_i32_939 : BitVec 32 := 512#32
  let v2050 : BitVec 32 := Scalar.muli v2049 c512_i32_939
  let v2051 : BitVec 32 := v2050
  let v2052 : Index := Scalar.indexCast v2051
  let c256_940 : Index := 256#32
  ![v2052.toNat, 256]
def k0_mult32 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_952 : BitVec 32 := 512#32
  let v2071 : BitVec 32 := Scalar.muli v1972 c512_i32_952
  v2071
def k0_off38 (i : grid0.Coords) (k0_t1 : Fin (k0_t1_loop i).trips) : Fin 2 → Nat :=
  let c160_953 : Index := 160#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_952 : BitVec 32 := 512#32
  let v2071 : BitVec 32 := Scalar.muli v1972 c512_i32_952
  let v2072 : BitVec 32 := v2071
  let v2073 : Index := Scalar.indexCast v2072
  ![160, v2073.toNat]
def k0_mult33 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_964 : BitVec 32 := 1#32
  let v2087 : BitVec 32 := Scalar.addi v1972 c1_i32_964
  let c512_i32_965 : BitVec 32 := 512#32
  let v2088 : BitVec 32 := Scalar.muli v2087 c512_i32_965
  v2088
def k0_off39 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_964 : BitVec 32 := 1#32
  let v2087 : BitVec 32 := Scalar.addi v1972 c1_i32_964
  let c512_i32_965 : BitVec 32 := 512#32
  let v2088 : BitVec 32 := Scalar.muli v2087 c512_i32_965
  let v2089 : BitVec 32 := v2088
  let v2090 : Index := Scalar.indexCast v2089
  let c384_966 : Index := 384#32
  ![v2090.toNat, 384]
def k0_mult34 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_978 : BitVec 32 := 512#32
  let v2109 : BitVec 32 := Scalar.muli v1972 c512_i32_978
  v2109
def k0_off40 (i : grid0.Coords) (k0_t1 : Fin (k0_t1_loop i).trips) : Fin 2 → Nat :=
  let c240_979 : Index := 240#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_978 : BitVec 32 := 512#32
  let v2109 : BitVec 32 := Scalar.muli v1972 c512_i32_978
  let v2110 : BitVec 32 := v2109
  let v2111 : Index := Scalar.indexCast v2110
  ![240, v2111.toNat]
def k0_mult35 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_990 : BitVec 32 := 1#32
  let v2125 : BitVec 32 := Scalar.addi v1972 c1_i32_990
  let c512_i32_991 : BitVec 32 := 512#32
  let v2126 : BitVec 32 := Scalar.muli v2125 c512_i32_991
  v2126
def k0_off41 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_990 : BitVec 32 := 1#32
  let v2125 : BitVec 32 := Scalar.addi v1972 c1_i32_990
  let c512_i32_991 : BitVec 32 := 512#32
  let v2126 : BitVec 32 := Scalar.muli v2125 c512_i32_991
  let v2127 : BitVec 32 := v2126
  let v2128 : Index := Scalar.indexCast v2127
  let c512_992 : Index := 512#32
  ![v2128.toNat, 512]
def k0_mult36 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1004 : BitVec 32 := 512#32
  let v2147 : BitVec 32 := Scalar.muli v1972 c512_i32_1004
  v2147
def k0_off42 (i : grid0.Coords) (k0_t1 : Fin (k0_t1_loop i).trips) : Fin 2 → Nat :=
  let c320_1005 : Index := 320#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1004 : BitVec 32 := 512#32
  let v2147 : BitVec 32 := Scalar.muli v1972 c512_i32_1004
  let v2148 : BitVec 32 := v2147
  let v2149 : Index := Scalar.indexCast v2148
  ![320, v2149.toNat]
def k0_mult37 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1016 : BitVec 32 := 1#32
  let v2163 : BitVec 32 := Scalar.addi v1972 c1_i32_1016
  let c512_i32_1017 : BitVec 32 := 512#32
  let v2164 : BitVec 32 := Scalar.muli v2163 c512_i32_1017
  v2164
def k0_off43 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1016 : BitVec 32 := 1#32
  let v2163 : BitVec 32 := Scalar.addi v1972 c1_i32_1016
  let c512_i32_1017 : BitVec 32 := 512#32
  let v2164 : BitVec 32 := Scalar.muli v2163 c512_i32_1017
  let v2165 : BitVec 32 := v2164
  let v2166 : Index := Scalar.indexCast v2165
  let c640_1018 : Index := 640#32
  ![v2166.toNat, 640]
def k0_mult38 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1030 : BitVec 32 := 512#32
  let v2185 : BitVec 32 := Scalar.muli v1972 c512_i32_1030
  v2185
def k0_off44 (i : grid0.Coords) (k0_t1 : Fin (k0_t1_loop i).trips) : Fin 2 → Nat :=
  let c400_1031 : Index := 400#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1030 : BitVec 32 := 512#32
  let v2185 : BitVec 32 := Scalar.muli v1972 c512_i32_1030
  let v2186 : BitVec 32 := v2185
  let v2187 : Index := Scalar.indexCast v2186
  ![400, v2187.toNat]
def k0_mult39 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1042 : BitVec 32 := 1#32
  let v2201 : BitVec 32 := Scalar.addi v1972 c1_i32_1042
  let c512_i32_1043 : BitVec 32 := 512#32
  let v2202 : BitVec 32 := Scalar.muli v2201 c512_i32_1043
  v2202
def k0_off45 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1042 : BitVec 32 := 1#32
  let v2201 : BitVec 32 := Scalar.addi v1972 c1_i32_1042
  let c512_i32_1043 : BitVec 32 := 512#32
  let v2202 : BitVec 32 := Scalar.muli v2201 c512_i32_1043
  let v2203 : BitVec 32 := v2202
  let v2204 : Index := Scalar.indexCast v2203
  let c768_1044 : Index := 768#32
  ![v2204.toNat, 768]
def k0_mult40 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1056 : BitVec 32 := 512#32
  let v2223 : BitVec 32 := Scalar.muli v1972 c512_i32_1056
  v2223
def k0_off46 (i : grid0.Coords) (k0_t1 : Fin (k0_t1_loop i).trips) : Fin 2 → Nat :=
  let c480_1057 : Index := 480#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1056 : BitVec 32 := 512#32
  let v2223 : BitVec 32 := Scalar.muli v1972 c512_i32_1056
  let v2224 : BitVec 32 := v2223
  let v2225 : Index := Scalar.indexCast v2224
  ![480, v2225.toNat]
def k0_mult41 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1068 : BitVec 32 := 1#32
  let v2239 : BitVec 32 := Scalar.addi v1972 c1_i32_1068
  let c512_i32_1069 : BitVec 32 := 512#32
  let v2240 : BitVec 32 := Scalar.muli v2239 c512_i32_1069
  v2240
def k0_off47 (i : grid0.Coords) (k0_t1 : Fin (k0_t1_loop i).trips) : Fin 2 → Nat :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1068 : BitVec 32 := 1#32
  let v2239 : BitVec 32 := Scalar.addi v1972 c1_i32_1068
  let c512_i32_1069 : BitVec 32 := 512#32
  let v2240 : BitVec 32 := Scalar.muli v2239 c512_i32_1069
  let v2241 : BitVec 32 := v2240
  let v2242 : Index := Scalar.indexCast v2241
  let c896_1070 : Index := 896#32
  ![v2242.toNat, 896]
def k0_mult42 (i : grid0.Coords) (k0_t1 : Fin (k0_t1_loop i).trips) : BitVec 32 :=
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1082 : BitVec 32 := 512#32
  let v2261 : BitVec 32 := Scalar.muli v1972 c512_i32_1082
  v2261
def k0_off48 (i : grid0.Coords) (k0_t1 : Fin (k0_t1_loop i).trips) : Fin 2 → Nat :=
  let c560_1083 : Index := 560#32
  let c2_i32_884 : BitVec 32 := 2#32
  let c0_i32_654 : BitVec 32 := 0#32
  let c0_i32_655 : BitVec 32 := 0#32
  let c1_i32_657 : BitVec 32 := 1#32
  let arg11 : BitVec 32 := Scf.iv c0_i32_655 c1_i32_657 k0_t1
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1082 : BitVec 32 := 512#32
  let v2261 : BitVec 32 := Scalar.muli v1972 c512_i32_1082
  let v2262 : BitVec 32 := v2261
  let v2263 : Index := Scalar.indexCast v2262
  ![560, v2263.toNat]
@[reducible] def k0_t2_loop (i : grid0.Coords) : Scf.Loop 32 :=
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let v1634 : BitVec 32 := Scalar.addi c0_i32_655 v1633
  let c1_i32_658 : BitVec 32 := 1#32
  ⟨v1637, v1634, c1_i32_658⟩
def k0_mult43 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_676 : BitVec 32 := 1#32
  let v1667 : BitVec 32 := Scalar.addi v1666 c1_i32_676
  let c512_i32_677 : BitVec 32 := 512#32
  let v1668 : BitVec 32 := Scalar.muli v1667 c512_i32_677
  v1668
def k0_off49 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_676 : BitVec 32 := 1#32
  let v1667 : BitVec 32 := Scalar.addi v1666 c1_i32_676
  let c512_i32_677 : BitVec 32 := 512#32
  let v1668 : BitVec 32 := Scalar.muli v1667 c512_i32_677
  let v1669 : BitVec 32 := v1668
  let v1670 : Index := Scalar.indexCast v1669
  let c0_678 : Index := 0#32
  ![v1670.toNat, 0]
def k0_mult44 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_690 : BitVec 32 := 512#32
  let v1689 : BitVec 32 := Scalar.muli v1666 c512_i32_690
  v1689
def k0_off50 (i : grid0.Coords) (k0_t2 : Fin (k0_t2_loop i).trips) : Fin 2 → Nat :=
  let c0_691 : Index := 0#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_690 : BitVec 32 := 512#32
  let v1689 : BitVec 32 := Scalar.muli v1666 c512_i32_690
  let v1690 : BitVec 32 := v1689
  let v1691 : Index := Scalar.indexCast v1690
  ![0, v1691.toNat]
def k0_mult45 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_702 : BitVec 32 := 1#32
  let v1705 : BitVec 32 := Scalar.addi v1666 c1_i32_702
  let c512_i32_703 : BitVec 32 := 512#32
  let v1706 : BitVec 32 := Scalar.muli v1705 c512_i32_703
  v1706
def k0_off51 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_702 : BitVec 32 := 1#32
  let v1705 : BitVec 32 := Scalar.addi v1666 c1_i32_702
  let c512_i32_703 : BitVec 32 := 512#32
  let v1706 : BitVec 32 := Scalar.muli v1705 c512_i32_703
  let v1707 : BitVec 32 := v1706
  let v1708 : Index := Scalar.indexCast v1707
  let c128_704 : Index := 128#32
  ![v1708.toNat, 128]
def k0_mult46 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_716 : BitVec 32 := 512#32
  let v1727 : BitVec 32 := Scalar.muli v1666 c512_i32_716
  v1727
def k0_off52 (i : grid0.Coords) (k0_t2 : Fin (k0_t2_loop i).trips) : Fin 2 → Nat :=
  let c80_717 : Index := 80#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_716 : BitVec 32 := 512#32
  let v1727 : BitVec 32 := Scalar.muli v1666 c512_i32_716
  let v1728 : BitVec 32 := v1727
  let v1729 : Index := Scalar.indexCast v1728
  ![80, v1729.toNat]
def k0_mult47 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_728 : BitVec 32 := 1#32
  let v1743 : BitVec 32 := Scalar.addi v1666 c1_i32_728
  let c512_i32_729 : BitVec 32 := 512#32
  let v1744 : BitVec 32 := Scalar.muli v1743 c512_i32_729
  v1744
def k0_off53 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_728 : BitVec 32 := 1#32
  let v1743 : BitVec 32 := Scalar.addi v1666 c1_i32_728
  let c512_i32_729 : BitVec 32 := 512#32
  let v1744 : BitVec 32 := Scalar.muli v1743 c512_i32_729
  let v1745 : BitVec 32 := v1744
  let v1746 : Index := Scalar.indexCast v1745
  let c256_730 : Index := 256#32
  ![v1746.toNat, 256]
def k0_mult48 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_742 : BitVec 32 := 512#32
  let v1765 : BitVec 32 := Scalar.muli v1666 c512_i32_742
  v1765
def k0_off54 (i : grid0.Coords) (k0_t2 : Fin (k0_t2_loop i).trips) : Fin 2 → Nat :=
  let c160_743 : Index := 160#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_742 : BitVec 32 := 512#32
  let v1765 : BitVec 32 := Scalar.muli v1666 c512_i32_742
  let v1766 : BitVec 32 := v1765
  let v1767 : Index := Scalar.indexCast v1766
  ![160, v1767.toNat]
def k0_mult49 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_754 : BitVec 32 := 1#32
  let v1781 : BitVec 32 := Scalar.addi v1666 c1_i32_754
  let c512_i32_755 : BitVec 32 := 512#32
  let v1782 : BitVec 32 := Scalar.muli v1781 c512_i32_755
  v1782
def k0_off55 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_754 : BitVec 32 := 1#32
  let v1781 : BitVec 32 := Scalar.addi v1666 c1_i32_754
  let c512_i32_755 : BitVec 32 := 512#32
  let v1782 : BitVec 32 := Scalar.muli v1781 c512_i32_755
  let v1783 : BitVec 32 := v1782
  let v1784 : Index := Scalar.indexCast v1783
  let c384_756 : Index := 384#32
  ![v1784.toNat, 384]
def k0_mult50 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_768 : BitVec 32 := 512#32
  let v1803 : BitVec 32 := Scalar.muli v1666 c512_i32_768
  v1803
def k0_off56 (i : grid0.Coords) (k0_t2 : Fin (k0_t2_loop i).trips) : Fin 2 → Nat :=
  let c240_769 : Index := 240#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_768 : BitVec 32 := 512#32
  let v1803 : BitVec 32 := Scalar.muli v1666 c512_i32_768
  let v1804 : BitVec 32 := v1803
  let v1805 : Index := Scalar.indexCast v1804
  ![240, v1805.toNat]
def k0_mult51 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_780 : BitVec 32 := 1#32
  let v1819 : BitVec 32 := Scalar.addi v1666 c1_i32_780
  let c512_i32_781 : BitVec 32 := 512#32
  let v1820 : BitVec 32 := Scalar.muli v1819 c512_i32_781
  v1820
def k0_off57 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_780 : BitVec 32 := 1#32
  let v1819 : BitVec 32 := Scalar.addi v1666 c1_i32_780
  let c512_i32_781 : BitVec 32 := 512#32
  let v1820 : BitVec 32 := Scalar.muli v1819 c512_i32_781
  let v1821 : BitVec 32 := v1820
  let v1822 : Index := Scalar.indexCast v1821
  let c512_782 : Index := 512#32
  ![v1822.toNat, 512]
def k0_mult52 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_794 : BitVec 32 := 512#32
  let v1841 : BitVec 32 := Scalar.muli v1666 c512_i32_794
  v1841
def k0_off58 (i : grid0.Coords) (k0_t2 : Fin (k0_t2_loop i).trips) : Fin 2 → Nat :=
  let c320_795 : Index := 320#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_794 : BitVec 32 := 512#32
  let v1841 : BitVec 32 := Scalar.muli v1666 c512_i32_794
  let v1842 : BitVec 32 := v1841
  let v1843 : Index := Scalar.indexCast v1842
  ![320, v1843.toNat]
def k0_mult53 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_806 : BitVec 32 := 1#32
  let v1857 : BitVec 32 := Scalar.addi v1666 c1_i32_806
  let c512_i32_807 : BitVec 32 := 512#32
  let v1858 : BitVec 32 := Scalar.muli v1857 c512_i32_807
  v1858
def k0_off59 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_806 : BitVec 32 := 1#32
  let v1857 : BitVec 32 := Scalar.addi v1666 c1_i32_806
  let c512_i32_807 : BitVec 32 := 512#32
  let v1858 : BitVec 32 := Scalar.muli v1857 c512_i32_807
  let v1859 : BitVec 32 := v1858
  let v1860 : Index := Scalar.indexCast v1859
  let c640_808 : Index := 640#32
  ![v1860.toNat, 640]
def k0_mult54 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_820 : BitVec 32 := 512#32
  let v1879 : BitVec 32 := Scalar.muli v1666 c512_i32_820
  v1879
def k0_off60 (i : grid0.Coords) (k0_t2 : Fin (k0_t2_loop i).trips) : Fin 2 → Nat :=
  let c400_821 : Index := 400#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_820 : BitVec 32 := 512#32
  let v1879 : BitVec 32 := Scalar.muli v1666 c512_i32_820
  let v1880 : BitVec 32 := v1879
  let v1881 : Index := Scalar.indexCast v1880
  ![400, v1881.toNat]
def k0_mult55 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_832 : BitVec 32 := 1#32
  let v1895 : BitVec 32 := Scalar.addi v1666 c1_i32_832
  let c512_i32_833 : BitVec 32 := 512#32
  let v1896 : BitVec 32 := Scalar.muli v1895 c512_i32_833
  v1896
def k0_off61 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_832 : BitVec 32 := 1#32
  let v1895 : BitVec 32 := Scalar.addi v1666 c1_i32_832
  let c512_i32_833 : BitVec 32 := 512#32
  let v1896 : BitVec 32 := Scalar.muli v1895 c512_i32_833
  let v1897 : BitVec 32 := v1896
  let v1898 : Index := Scalar.indexCast v1897
  let c768_834 : Index := 768#32
  ![v1898.toNat, 768]
def k0_mult56 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_846 : BitVec 32 := 512#32
  let v1917 : BitVec 32 := Scalar.muli v1666 c512_i32_846
  v1917
def k0_off62 (i : grid0.Coords) (k0_t2 : Fin (k0_t2_loop i).trips) : Fin 2 → Nat :=
  let c480_847 : Index := 480#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_846 : BitVec 32 := 512#32
  let v1917 : BitVec 32 := Scalar.muli v1666 c512_i32_846
  let v1918 : BitVec 32 := v1917
  let v1919 : Index := Scalar.indexCast v1918
  ![480, v1919.toNat]
def k0_mult57 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_858 : BitVec 32 := 1#32
  let v1933 : BitVec 32 := Scalar.addi v1666 c1_i32_858
  let c512_i32_859 : BitVec 32 := 512#32
  let v1934 : BitVec 32 := Scalar.muli v1933 c512_i32_859
  v1934
def k0_off63 (i : grid0.Coords) (k0_t2 : Fin (k0_t2_loop i).trips) : Fin 2 → Nat :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c1_i32_858 : BitVec 32 := 1#32
  let v1933 : BitVec 32 := Scalar.addi v1666 c1_i32_858
  let c512_i32_859 : BitVec 32 := 512#32
  let v1934 : BitVec 32 := Scalar.muli v1933 c512_i32_859
  let v1935 : BitVec 32 := v1934
  let v1936 : Index := Scalar.indexCast v1935
  let c896_860 : Index := 896#32
  ![v1936.toNat, 896]
def k0_mult58 (i : grid0.Coords) (k0_t2 : Fin (k0_t2_loop i).trips) : BitVec 32 :=
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_872 : BitVec 32 := 512#32
  let v1955 : BitVec 32 := Scalar.muli v1666 c512_i32_872
  v1955
def k0_off64 (i : grid0.Coords) (k0_t2 : Fin (k0_t2_loop i).trips) : Fin 2 → Nat :=
  let c560_873 : Index := 560#32
  let c2_i32_675 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1666 : BitVec 32 := Scalar.muli c2_i32_675 v1665
  let c512_i32_872 : BitVec 32 := 512#32
  let v1955 : BitVec 32 := Scalar.muli v1666 c512_i32_872
  let v1956 : BitVec 32 := v1955
  let v1957 : Index := Scalar.indexCast v1956
  ![560, v1957.toNat]
def k0_mult59 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_886 : BitVec 32 := 1#32
  let v1973 : BitVec 32 := Scalar.addi v1972 c1_i32_886
  let c512_i32_887 : BitVec 32 := 512#32
  let v1974 : BitVec 32 := Scalar.muli v1973 c512_i32_887
  v1974
def k0_off65 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_886 : BitVec 32 := 1#32
  let v1973 : BitVec 32 := Scalar.addi v1972 c1_i32_886
  let c512_i32_887 : BitVec 32 := 512#32
  let v1974 : BitVec 32 := Scalar.muli v1973 c512_i32_887
  let v1975 : BitVec 32 := v1974
  let v1976 : Index := Scalar.indexCast v1975
  let c0_888 : Index := 0#32
  ![v1976.toNat, 0]
def k0_mult60 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_900 : BitVec 32 := 512#32
  let v1995 : BitVec 32 := Scalar.muli v1972 c512_i32_900
  v1995
def k0_off66 (i : grid0.Coords) (k0_t2 : Fin (k0_t2_loop i).trips) : Fin 2 → Nat :=
  let c0_901 : Index := 0#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_900 : BitVec 32 := 512#32
  let v1995 : BitVec 32 := Scalar.muli v1972 c512_i32_900
  let v1996 : BitVec 32 := v1995
  let v1997 : Index := Scalar.indexCast v1996
  ![0, v1997.toNat]
def k0_mult61 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_912 : BitVec 32 := 1#32
  let v2011 : BitVec 32 := Scalar.addi v1972 c1_i32_912
  let c512_i32_913 : BitVec 32 := 512#32
  let v2012 : BitVec 32 := Scalar.muli v2011 c512_i32_913
  v2012
def k0_off67 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_912 : BitVec 32 := 1#32
  let v2011 : BitVec 32 := Scalar.addi v1972 c1_i32_912
  let c512_i32_913 : BitVec 32 := 512#32
  let v2012 : BitVec 32 := Scalar.muli v2011 c512_i32_913
  let v2013 : BitVec 32 := v2012
  let v2014 : Index := Scalar.indexCast v2013
  let c128_914 : Index := 128#32
  ![v2014.toNat, 128]
def k0_mult62 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_926 : BitVec 32 := 512#32
  let v2033 : BitVec 32 := Scalar.muli v1972 c512_i32_926
  v2033
def k0_off68 (i : grid0.Coords) (k0_t2 : Fin (k0_t2_loop i).trips) : Fin 2 → Nat :=
  let c80_927 : Index := 80#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_926 : BitVec 32 := 512#32
  let v2033 : BitVec 32 := Scalar.muli v1972 c512_i32_926
  let v2034 : BitVec 32 := v2033
  let v2035 : Index := Scalar.indexCast v2034
  ![80, v2035.toNat]
def k0_mult63 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_938 : BitVec 32 := 1#32
  let v2049 : BitVec 32 := Scalar.addi v1972 c1_i32_938
  let c512_i32_939 : BitVec 32 := 512#32
  let v2050 : BitVec 32 := Scalar.muli v2049 c512_i32_939
  v2050
def k0_off69 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_938 : BitVec 32 := 1#32
  let v2049 : BitVec 32 := Scalar.addi v1972 c1_i32_938
  let c512_i32_939 : BitVec 32 := 512#32
  let v2050 : BitVec 32 := Scalar.muli v2049 c512_i32_939
  let v2051 : BitVec 32 := v2050
  let v2052 : Index := Scalar.indexCast v2051
  let c256_940 : Index := 256#32
  ![v2052.toNat, 256]
def k0_mult64 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_952 : BitVec 32 := 512#32
  let v2071 : BitVec 32 := Scalar.muli v1972 c512_i32_952
  v2071
def k0_off70 (i : grid0.Coords) (k0_t2 : Fin (k0_t2_loop i).trips) : Fin 2 → Nat :=
  let c160_953 : Index := 160#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_952 : BitVec 32 := 512#32
  let v2071 : BitVec 32 := Scalar.muli v1972 c512_i32_952
  let v2072 : BitVec 32 := v2071
  let v2073 : Index := Scalar.indexCast v2072
  ![160, v2073.toNat]
def k0_mult65 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_964 : BitVec 32 := 1#32
  let v2087 : BitVec 32 := Scalar.addi v1972 c1_i32_964
  let c512_i32_965 : BitVec 32 := 512#32
  let v2088 : BitVec 32 := Scalar.muli v2087 c512_i32_965
  v2088
def k0_off71 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_964 : BitVec 32 := 1#32
  let v2087 : BitVec 32 := Scalar.addi v1972 c1_i32_964
  let c512_i32_965 : BitVec 32 := 512#32
  let v2088 : BitVec 32 := Scalar.muli v2087 c512_i32_965
  let v2089 : BitVec 32 := v2088
  let v2090 : Index := Scalar.indexCast v2089
  let c384_966 : Index := 384#32
  ![v2090.toNat, 384]
def k0_mult66 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_978 : BitVec 32 := 512#32
  let v2109 : BitVec 32 := Scalar.muli v1972 c512_i32_978
  v2109
def k0_off72 (i : grid0.Coords) (k0_t2 : Fin (k0_t2_loop i).trips) : Fin 2 → Nat :=
  let c240_979 : Index := 240#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_978 : BitVec 32 := 512#32
  let v2109 : BitVec 32 := Scalar.muli v1972 c512_i32_978
  let v2110 : BitVec 32 := v2109
  let v2111 : Index := Scalar.indexCast v2110
  ![240, v2111.toNat]
def k0_mult67 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_990 : BitVec 32 := 1#32
  let v2125 : BitVec 32 := Scalar.addi v1972 c1_i32_990
  let c512_i32_991 : BitVec 32 := 512#32
  let v2126 : BitVec 32 := Scalar.muli v2125 c512_i32_991
  v2126
def k0_off73 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_990 : BitVec 32 := 1#32
  let v2125 : BitVec 32 := Scalar.addi v1972 c1_i32_990
  let c512_i32_991 : BitVec 32 := 512#32
  let v2126 : BitVec 32 := Scalar.muli v2125 c512_i32_991
  let v2127 : BitVec 32 := v2126
  let v2128 : Index := Scalar.indexCast v2127
  let c512_992 : Index := 512#32
  ![v2128.toNat, 512]
def k0_mult68 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1004 : BitVec 32 := 512#32
  let v2147 : BitVec 32 := Scalar.muli v1972 c512_i32_1004
  v2147
def k0_off74 (i : grid0.Coords) (k0_t2 : Fin (k0_t2_loop i).trips) : Fin 2 → Nat :=
  let c320_1005 : Index := 320#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1004 : BitVec 32 := 512#32
  let v2147 : BitVec 32 := Scalar.muli v1972 c512_i32_1004
  let v2148 : BitVec 32 := v2147
  let v2149 : Index := Scalar.indexCast v2148
  ![320, v2149.toNat]
def k0_mult69 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1016 : BitVec 32 := 1#32
  let v2163 : BitVec 32 := Scalar.addi v1972 c1_i32_1016
  let c512_i32_1017 : BitVec 32 := 512#32
  let v2164 : BitVec 32 := Scalar.muli v2163 c512_i32_1017
  v2164
def k0_off75 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1016 : BitVec 32 := 1#32
  let v2163 : BitVec 32 := Scalar.addi v1972 c1_i32_1016
  let c512_i32_1017 : BitVec 32 := 512#32
  let v2164 : BitVec 32 := Scalar.muli v2163 c512_i32_1017
  let v2165 : BitVec 32 := v2164
  let v2166 : Index := Scalar.indexCast v2165
  let c640_1018 : Index := 640#32
  ![v2166.toNat, 640]
def k0_mult70 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1030 : BitVec 32 := 512#32
  let v2185 : BitVec 32 := Scalar.muli v1972 c512_i32_1030
  v2185
def k0_off76 (i : grid0.Coords) (k0_t2 : Fin (k0_t2_loop i).trips) : Fin 2 → Nat :=
  let c400_1031 : Index := 400#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1030 : BitVec 32 := 512#32
  let v2185 : BitVec 32 := Scalar.muli v1972 c512_i32_1030
  let v2186 : BitVec 32 := v2185
  let v2187 : Index := Scalar.indexCast v2186
  ![400, v2187.toNat]
def k0_mult71 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1042 : BitVec 32 := 1#32
  let v2201 : BitVec 32 := Scalar.addi v1972 c1_i32_1042
  let c512_i32_1043 : BitVec 32 := 512#32
  let v2202 : BitVec 32 := Scalar.muli v2201 c512_i32_1043
  v2202
def k0_off77 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1042 : BitVec 32 := 1#32
  let v2201 : BitVec 32 := Scalar.addi v1972 c1_i32_1042
  let c512_i32_1043 : BitVec 32 := 512#32
  let v2202 : BitVec 32 := Scalar.muli v2201 c512_i32_1043
  let v2203 : BitVec 32 := v2202
  let v2204 : Index := Scalar.indexCast v2203
  let c768_1044 : Index := 768#32
  ![v2204.toNat, 768]
def k0_mult72 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1056 : BitVec 32 := 512#32
  let v2223 : BitVec 32 := Scalar.muli v1972 c512_i32_1056
  v2223
def k0_off78 (i : grid0.Coords) (k0_t2 : Fin (k0_t2_loop i).trips) : Fin 2 → Nat :=
  let c480_1057 : Index := 480#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1056 : BitVec 32 := 512#32
  let v2223 : BitVec 32 := Scalar.muli v1972 c512_i32_1056
  let v2224 : BitVec 32 := v2223
  let v2225 : Index := Scalar.indexCast v2224
  ![480, v2225.toNat]
def k0_mult73 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1068 : BitVec 32 := 1#32
  let v2239 : BitVec 32 := Scalar.addi v1972 c1_i32_1068
  let c512_i32_1069 : BitVec 32 := 512#32
  let v2240 : BitVec 32 := Scalar.muli v2239 c512_i32_1069
  v2240
def k0_off79 (i : grid0.Coords) (k0_t2 : Fin (k0_t2_loop i).trips) : Fin 2 → Nat :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c1_i32_1068 : BitVec 32 := 1#32
  let v2239 : BitVec 32 := Scalar.addi v1972 c1_i32_1068
  let c512_i32_1069 : BitVec 32 := 512#32
  let v2240 : BitVec 32 := Scalar.muli v2239 c512_i32_1069
  let v2241 : BitVec 32 := v2240
  let v2242 : Index := Scalar.indexCast v2241
  let c896_1070 : Index := 896#32
  ![v2242.toNat, 896]
def k0_mult74 (i : grid0.Coords) (k0_t2 : Fin (k0_t2_loop i).trips) : BitVec 32 :=
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1082 : BitVec 32 := 512#32
  let v2261 : BitVec 32 := Scalar.muli v1972 c512_i32_1082
  v2261
def k0_off80 (i : grid0.Coords) (k0_t2 : Fin (k0_t2_loop i).trips) : Fin 2 → Nat :=
  let c560_1083 : Index := 560#32
  let c2_i32_884 : BitVec 32 := 2#32
  let c0_i32_654 : BitVec 32 := 0#32
  let c0_i32_655 : BitVec 32 := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c0_i32_643 : BitVec 32 := 0#32
  let v1613 : BitVec 1 := Scalar.cmpi .sgt v1611 c0_i32_643
  let v1614 : BitVec 32 := Scalar.extui v1613
  let c0_i32_644 : BitVec 32 := 0#32
  let v1615 : BitVec 1 := Scalar.cmpi .slt v1611 c0_i32_644
  let v1616 : BitVec 32 := Scalar.extui v1615
  let v1617 : BitVec 32 := Scalar.subi v1614 v1616
  let c2_i32 : BitVec 32 := 2#32
  let c0_i32_645 : BitVec 32 := 0#32
  let v1618 : BitVec 1 := Scalar.cmpi .sgt c2_i32 c0_i32_645
  let v1619 : BitVec 32 := Scalar.extui v1618
  let c0_i32_646 : BitVec 32 := 0#32
  let v1620 : BitVec 1 := Scalar.cmpi .slt c2_i32 c0_i32_646
  let v1621 : BitVec 32 := Scalar.extui v1620
  let v1622 : BitVec 32 := Scalar.subi v1619 v1621
  let v1623 : BitVec 1 := Scalar.cmpi .ne v1617 v1622
  let v1624 : BitVec 32 := Scalar.remsi v1611 c2_i32
  let c0_i32_647 : BitVec 32 := 0#32
  let v1625 : BitVec 1 := Scalar.cmpi .ne v1624 c0_i32_647
  let v1626 : BitVec 1 := Scalar.andi v1623 v1625
  let v1612 : BitVec 32 := Scalar.divsi v1611 c2_i32
  let c1_i32_648 : BitVec 32 := 1#32
  let v1627 : BitVec 32 := Scalar.subi v1612 c1_i32_648
  let v1628 : BitVec 32 := Scalar.select v1626 v1627 v1612
  let c0_i32_649 : BitVec 32 := 0#32
  let v1629 : BitVec 32 := Scalar.subi v1628 c0_i32_649
  let c1_i32_650 : BitVec 32 := 1#32
  let c1_i32_651 : BitVec 32 := 1#32
  let v1630 : BitVec 32 := Scalar.subi c1_i32_650 c1_i32_651
  let v1631 : BitVec 32 := Scalar.addi v1629 v1630
  let c1_i32_652 : BitVec 32 := 1#32
  let v1632 : BitVec 32 := Scalar.divsi v1631 c1_i32_652
  let v1633 : BitVec 32 := Scalar.subi v1632 c0_i32_655
  let c1_i32_656 : BitVec 32 := 1#32
  let v1635 : BitVec 32 := Scalar.divsi v1633 c1_i32_656
  let v1636 : BitVec 32 := Scalar.muli v1635 c1_i32_656
  let v1637 : BitVec 32 := Scalar.addi c0_i32_655 v1636
  let c1_i32_658 : BitVec 32 := 1#32
  let arg11 : BitVec 32 := Scf.iv v1637 c1_i32_658 k0_t2
  let c1_i32_653 : BitVec 32 := 1#32
  let v1664 : BitVec 32 := Scalar.muli arg11 c1_i32_653
  let v1665 : BitVec 32 := Scalar.addi c0_i32_654 v1664
  let v1971 : BitVec 32 := Scalar.muli c2_i32_884 v1665
  let c1_i32_885 : BitVec 32 := 1#32
  let v1972 : BitVec 32 := Scalar.addi v1971 c1_i32_885
  let c512_i32_1082 : BitVec 32 := 512#32
  let v2261 : BitVec 32 := Scalar.muli v1972 c512_i32_1082
  let v2262 : BitVec 32 := v2261
  let v2263 : Index := Scalar.indexCast v2262
  ![560, v2263.toNat]
def k0_cond2 (i : grid0.Coords) : BitVec 1 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c2_i32_659 : BitVec 32 := 2#32
  let c0_i32_660 : BitVec 32 := 0#32
  let v1638 : BitVec 1 := Scalar.cmpi .eq c2_i32_659 c0_i32_660
  let c1_i32_661 : BitVec 32 := 1#32
  let v1639 : BitVec 32 := Scalar.select v1638 c1_i32_661 c2_i32_659
  let v1640 : BitVec 32 := Scalar.remsi v1611 v1639
  let c0_i32_663 : BitVec 32 := 0#32
  let v1642 : BitVec 1 := Scalar.cmpi .slt v1640 c0_i32_663
  let c0_i32_664 : BitVec 32 := 0#32
  let v1643 : BitVec 1 := Scalar.cmpi .slt v1639 c0_i32_664
  let v1644 : BitVec 1 := Scalar.xori v1642 v1643
  let c0_i32_662 : BitVec 32 := 0#32
  let v1641 : BitVec 1 := Scalar.cmpi .ne v1640 c0_i32_662
  let v1645 : BitVec 1 := Scalar.andi v1644 v1641
  let v1646 : BitVec 32 := Scalar.addi v1640 v1639
  let v1647 : BitVec 32 := Scalar.select v1645 v1646 v1640
  let c1_i32_665 : BitVec 32 := 1#32
  let v1648 : BitVec 1 := Scalar.cmpi .eq v1647 c1_i32_665
  let v1649 : BitVec 32 := Scalar.extui v1648
  let c0_i32_666 : BitVec 32 := 0#32
  let v1650 : BitVec 1 := Scalar.cmpi .ne v1649 c0_i32_666
  v1650

def k0_mult75 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_676 : BitVec 32 := 1#32
  let v1665 : BitVec 32 := Scalar.addi v1664 c1_i32_676
  let c512_i32_677 : BitVec 32 := 512#32
  let v1666 : BitVec 32 := Scalar.muli v1665 c512_i32_677
  v1666
def k0_off81 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_676 : BitVec 32 := 1#32
  let v1665 : BitVec 32 := Scalar.addi v1664 c1_i32_676
  let c512_i32_677 : BitVec 32 := 512#32
  let v1666 : BitVec 32 := Scalar.muli v1665 c512_i32_677
  let v1667 : BitVec 32 := v1666
  let v1668 : Index := Scalar.indexCast v1667
  let c0_678 : Index := 0#32
  ![v1668.toNat, 0]
def k0_mult76 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_690 : BitVec 32 := 512#32
  let v1687 : BitVec 32 := Scalar.muli v1664 c512_i32_690
  v1687
def k0_off82 (i : grid0.Coords) : Fin 2 → Nat :=
  let c0_691 : Index := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_690 : BitVec 32 := 512#32
  let v1687 : BitVec 32 := Scalar.muli v1664 c512_i32_690
  let v1688 : BitVec 32 := v1687
  let v1689 : Index := Scalar.indexCast v1688
  ![0, v1689.toNat]
def k0_mult77 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_702 : BitVec 32 := 1#32
  let v1703 : BitVec 32 := Scalar.addi v1664 c1_i32_702
  let c512_i32_703 : BitVec 32 := 512#32
  let v1704 : BitVec 32 := Scalar.muli v1703 c512_i32_703
  v1704
def k0_off83 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_702 : BitVec 32 := 1#32
  let v1703 : BitVec 32 := Scalar.addi v1664 c1_i32_702
  let c512_i32_703 : BitVec 32 := 512#32
  let v1704 : BitVec 32 := Scalar.muli v1703 c512_i32_703
  let v1705 : BitVec 32 := v1704
  let v1706 : Index := Scalar.indexCast v1705
  let c128_704 : Index := 128#32
  ![v1706.toNat, 128]
def k0_mult78 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_716 : BitVec 32 := 512#32
  let v1725 : BitVec 32 := Scalar.muli v1664 c512_i32_716
  v1725
def k0_off84 (i : grid0.Coords) : Fin 2 → Nat :=
  let c80_717 : Index := 80#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_716 : BitVec 32 := 512#32
  let v1725 : BitVec 32 := Scalar.muli v1664 c512_i32_716
  let v1726 : BitVec 32 := v1725
  let v1727 : Index := Scalar.indexCast v1726
  ![80, v1727.toNat]
def k0_mult79 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_728 : BitVec 32 := 1#32
  let v1741 : BitVec 32 := Scalar.addi v1664 c1_i32_728
  let c512_i32_729 : BitVec 32 := 512#32
  let v1742 : BitVec 32 := Scalar.muli v1741 c512_i32_729
  v1742
def k0_off85 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_728 : BitVec 32 := 1#32
  let v1741 : BitVec 32 := Scalar.addi v1664 c1_i32_728
  let c512_i32_729 : BitVec 32 := 512#32
  let v1742 : BitVec 32 := Scalar.muli v1741 c512_i32_729
  let v1743 : BitVec 32 := v1742
  let v1744 : Index := Scalar.indexCast v1743
  let c256_730 : Index := 256#32
  ![v1744.toNat, 256]
def k0_mult80 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_742 : BitVec 32 := 512#32
  let v1763 : BitVec 32 := Scalar.muli v1664 c512_i32_742
  v1763
def k0_off86 (i : grid0.Coords) : Fin 2 → Nat :=
  let c160_743 : Index := 160#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_742 : BitVec 32 := 512#32
  let v1763 : BitVec 32 := Scalar.muli v1664 c512_i32_742
  let v1764 : BitVec 32 := v1763
  let v1765 : Index := Scalar.indexCast v1764
  ![160, v1765.toNat]
def k0_mult81 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_754 : BitVec 32 := 1#32
  let v1779 : BitVec 32 := Scalar.addi v1664 c1_i32_754
  let c512_i32_755 : BitVec 32 := 512#32
  let v1780 : BitVec 32 := Scalar.muli v1779 c512_i32_755
  v1780
def k0_off87 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_754 : BitVec 32 := 1#32
  let v1779 : BitVec 32 := Scalar.addi v1664 c1_i32_754
  let c512_i32_755 : BitVec 32 := 512#32
  let v1780 : BitVec 32 := Scalar.muli v1779 c512_i32_755
  let v1781 : BitVec 32 := v1780
  let v1782 : Index := Scalar.indexCast v1781
  let c384_756 : Index := 384#32
  ![v1782.toNat, 384]
def k0_mult82 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_768 : BitVec 32 := 512#32
  let v1801 : BitVec 32 := Scalar.muli v1664 c512_i32_768
  v1801
def k0_off88 (i : grid0.Coords) : Fin 2 → Nat :=
  let c240_769 : Index := 240#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_768 : BitVec 32 := 512#32
  let v1801 : BitVec 32 := Scalar.muli v1664 c512_i32_768
  let v1802 : BitVec 32 := v1801
  let v1803 : Index := Scalar.indexCast v1802
  ![240, v1803.toNat]
def k0_mult83 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_780 : BitVec 32 := 1#32
  let v1817 : BitVec 32 := Scalar.addi v1664 c1_i32_780
  let c512_i32_781 : BitVec 32 := 512#32
  let v1818 : BitVec 32 := Scalar.muli v1817 c512_i32_781
  v1818
def k0_off89 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_780 : BitVec 32 := 1#32
  let v1817 : BitVec 32 := Scalar.addi v1664 c1_i32_780
  let c512_i32_781 : BitVec 32 := 512#32
  let v1818 : BitVec 32 := Scalar.muli v1817 c512_i32_781
  let v1819 : BitVec 32 := v1818
  let v1820 : Index := Scalar.indexCast v1819
  let c512_782 : Index := 512#32
  ![v1820.toNat, 512]
def k0_mult84 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_794 : BitVec 32 := 512#32
  let v1839 : BitVec 32 := Scalar.muli v1664 c512_i32_794
  v1839
def k0_off90 (i : grid0.Coords) : Fin 2 → Nat :=
  let c320_795 : Index := 320#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_794 : BitVec 32 := 512#32
  let v1839 : BitVec 32 := Scalar.muli v1664 c512_i32_794
  let v1840 : BitVec 32 := v1839
  let v1841 : Index := Scalar.indexCast v1840
  ![320, v1841.toNat]
def k0_mult85 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_806 : BitVec 32 := 1#32
  let v1855 : BitVec 32 := Scalar.addi v1664 c1_i32_806
  let c512_i32_807 : BitVec 32 := 512#32
  let v1856 : BitVec 32 := Scalar.muli v1855 c512_i32_807
  v1856
def k0_off91 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_806 : BitVec 32 := 1#32
  let v1855 : BitVec 32 := Scalar.addi v1664 c1_i32_806
  let c512_i32_807 : BitVec 32 := 512#32
  let v1856 : BitVec 32 := Scalar.muli v1855 c512_i32_807
  let v1857 : BitVec 32 := v1856
  let v1858 : Index := Scalar.indexCast v1857
  let c640_808 : Index := 640#32
  ![v1858.toNat, 640]
def k0_mult86 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_820 : BitVec 32 := 512#32
  let v1877 : BitVec 32 := Scalar.muli v1664 c512_i32_820
  v1877
def k0_off92 (i : grid0.Coords) : Fin 2 → Nat :=
  let c400_821 : Index := 400#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_820 : BitVec 32 := 512#32
  let v1877 : BitVec 32 := Scalar.muli v1664 c512_i32_820
  let v1878 : BitVec 32 := v1877
  let v1879 : Index := Scalar.indexCast v1878
  ![400, v1879.toNat]
def k0_mult87 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_832 : BitVec 32 := 1#32
  let v1893 : BitVec 32 := Scalar.addi v1664 c1_i32_832
  let c512_i32_833 : BitVec 32 := 512#32
  let v1894 : BitVec 32 := Scalar.muli v1893 c512_i32_833
  v1894
def k0_off93 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_832 : BitVec 32 := 1#32
  let v1893 : BitVec 32 := Scalar.addi v1664 c1_i32_832
  let c512_i32_833 : BitVec 32 := 512#32
  let v1894 : BitVec 32 := Scalar.muli v1893 c512_i32_833
  let v1895 : BitVec 32 := v1894
  let v1896 : Index := Scalar.indexCast v1895
  let c768_834 : Index := 768#32
  ![v1896.toNat, 768]
def k0_mult88 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_846 : BitVec 32 := 512#32
  let v1915 : BitVec 32 := Scalar.muli v1664 c512_i32_846
  v1915
def k0_off94 (i : grid0.Coords) : Fin 2 → Nat :=
  let c480_847 : Index := 480#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_846 : BitVec 32 := 512#32
  let v1915 : BitVec 32 := Scalar.muli v1664 c512_i32_846
  let v1916 : BitVec 32 := v1915
  let v1917 : Index := Scalar.indexCast v1916
  ![480, v1917.toNat]
def k0_mult89 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_858 : BitVec 32 := 1#32
  let v1931 : BitVec 32 := Scalar.addi v1664 c1_i32_858
  let c512_i32_859 : BitVec 32 := 512#32
  let v1932 : BitVec 32 := Scalar.muli v1931 c512_i32_859
  v1932
def k0_off95 (i : grid0.Coords) : Fin 2 → Nat :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c1_i32_858 : BitVec 32 := 1#32
  let v1931 : BitVec 32 := Scalar.addi v1664 c1_i32_858
  let c512_i32_859 : BitVec 32 := 512#32
  let v1932 : BitVec 32 := Scalar.muli v1931 c512_i32_859
  let v1933 : BitVec 32 := v1932
  let v1934 : Index := Scalar.indexCast v1933
  let c896_860 : Index := 896#32
  ![v1934.toNat, 896]
def k0_mult90 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_872 : BitVec 32 := 512#32
  let v1953 : BitVec 32 := Scalar.muli v1664 c512_i32_872
  v1953
def k0_off96 (i : grid0.Coords) : Fin 2 → Nat :=
  let c560_873 : Index := 560#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c1_i32_675 : BitVec 32 := 1#32
  let v1664 : BitVec 32 := Scalar.subi v1611 c1_i32_675
  let c512_i32_872 : BitVec 32 := 512#32
  let v1953 : BitVec 32 := Scalar.muli v1664 c512_i32_872
  let v1954 : BitVec 32 := v1953
  let v1955 : Index := Scalar.indexCast v1954
  ![560, v1955.toNat]
def k0_mult91 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_891 : BitVec 32 := 512#32
  let v1982 : BitVec 32 := Scalar.muli v1611 c512_i32_891
  v1982
def k0_off97 (i : grid0.Coords) : Fin 2 → Nat :=
  let c0_892 : Index := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_891 : BitVec 32 := 512#32
  let v1982 : BitVec 32 := Scalar.muli v1611 c512_i32_891
  let v1983 : BitVec 32 := v1982
  let v1984 : Index := Scalar.indexCast v1983
  ![0, v1984.toNat]
def k0_mult92 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_910 : BitVec 32 := 512#32
  let v2011 : BitVec 32 := Scalar.muli v1611 c512_i32_910
  v2011
def k0_off98 (i : grid0.Coords) : Fin 2 → Nat :=
  let c80_911 : Index := 80#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_910 : BitVec 32 := 512#32
  let v2011 : BitVec 32 := Scalar.muli v1611 c512_i32_910
  let v2012 : BitVec 32 := v2011
  let v2013 : Index := Scalar.indexCast v2012
  ![80, v2013.toNat]
def k0_mult93 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_929 : BitVec 32 := 512#32
  let v2040 : BitVec 32 := Scalar.muli v1611 c512_i32_929
  v2040
def k0_off99 (i : grid0.Coords) : Fin 2 → Nat :=
  let c160_930 : Index := 160#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_929 : BitVec 32 := 512#32
  let v2040 : BitVec 32 := Scalar.muli v1611 c512_i32_929
  let v2041 : BitVec 32 := v2040
  let v2042 : Index := Scalar.indexCast v2041
  ![160, v2042.toNat]
def k0_mult94 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_948 : BitVec 32 := 512#32
  let v2069 : BitVec 32 := Scalar.muli v1611 c512_i32_948
  v2069
def k0_off100 (i : grid0.Coords) : Fin 2 → Nat :=
  let c240_949 : Index := 240#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_948 : BitVec 32 := 512#32
  let v2069 : BitVec 32 := Scalar.muli v1611 c512_i32_948
  let v2070 : BitVec 32 := v2069
  let v2071 : Index := Scalar.indexCast v2070
  ![240, v2071.toNat]
def k0_mult95 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_967 : BitVec 32 := 512#32
  let v2098 : BitVec 32 := Scalar.muli v1611 c512_i32_967
  v2098
def k0_off101 (i : grid0.Coords) : Fin 2 → Nat :=
  let c320_968 : Index := 320#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_967 : BitVec 32 := 512#32
  let v2098 : BitVec 32 := Scalar.muli v1611 c512_i32_967
  let v2099 : BitVec 32 := v2098
  let v2100 : Index := Scalar.indexCast v2099
  ![320, v2100.toNat]
def k0_mult96 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_986 : BitVec 32 := 512#32
  let v2127 : BitVec 32 := Scalar.muli v1611 c512_i32_986
  v2127
def k0_off102 (i : grid0.Coords) : Fin 2 → Nat :=
  let c400_987 : Index := 400#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_986 : BitVec 32 := 512#32
  let v2127 : BitVec 32 := Scalar.muli v1611 c512_i32_986
  let v2128 : BitVec 32 := v2127
  let v2129 : Index := Scalar.indexCast v2128
  ![400, v2129.toNat]
def k0_mult97 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_1005 : BitVec 32 := 512#32
  let v2156 : BitVec 32 := Scalar.muli v1611 c512_i32_1005
  v2156
def k0_off103 (i : grid0.Coords) : Fin 2 → Nat :=
  let c480_1006 : Index := 480#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_1005 : BitVec 32 := 512#32
  let v2156 : BitVec 32 := Scalar.muli v1611 c512_i32_1005
  let v2157 : BitVec 32 := v2156
  let v2158 : Index := Scalar.indexCast v2157
  ![480, v2158.toNat]
def k0_mult98 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_1024 : BitVec 32 := 512#32
  let v2185 : BitVec 32 := Scalar.muli v1611 c512_i32_1024
  v2185
def k0_off104 (i : grid0.Coords) : Fin 2 → Nat :=
  let c560_1025 : Index := 560#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_1024 : BitVec 32 := 512#32
  let v2185 : BitVec 32 := Scalar.muli v1611 c512_i32_1024
  let v2186 : BitVec 32 := v2185
  let v2187 : Index := Scalar.indexCast v2186
  ![560, v2187.toNat]
def k0_cond3 (i : grid0.Coords) : BitVec 1 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c2_i32_667 : BitVec 32 := 2#32
  let c0_i32_668 : BitVec 32 := 0#32
  let v1651 : BitVec 1 := Scalar.cmpi .eq c2_i32_667 c0_i32_668
  let c1_i32_669 : BitVec 32 := 1#32
  let v1652 : BitVec 32 := Scalar.select v1651 c1_i32_669 c2_i32_667
  let v1653 : BitVec 32 := Scalar.remsi v1611 v1652
  let c0_i32_671 : BitVec 32 := 0#32
  let v1655 : BitVec 1 := Scalar.cmpi .slt v1653 c0_i32_671
  let c0_i32_672 : BitVec 32 := 0#32
  let v1656 : BitVec 1 := Scalar.cmpi .slt v1652 c0_i32_672
  let v1657 : BitVec 1 := Scalar.xori v1655 v1656
  let c0_i32_670 : BitVec 32 := 0#32
  let v1654 : BitVec 1 := Scalar.cmpi .ne v1653 c0_i32_670
  let v1658 : BitVec 1 := Scalar.andi v1657 v1654
  let v1659 : BitVec 32 := Scalar.addi v1653 v1652
  let v1660 : BitVec 32 := Scalar.select v1658 v1659 v1653
  let c0_i32_673 : BitVec 32 := 0#32
  let v1661 : BitVec 1 := Scalar.cmpi .eq v1660 c0_i32_673
  let v1662 : BitVec 32 := Scalar.extui v1661
  let c0_i32_674 : BitVec 32 := 0#32
  let v1663 : BitVec 1 := Scalar.cmpi .ne v1662 c0_i32_674
  v1663

def k0_mult99 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_682 : BitVec 32 := 512#32
  let v1677 : BitVec 32 := Scalar.muli v1611 c512_i32_682
  v1677
def k0_off105 (i : grid0.Coords) : Fin 2 → Nat :=
  let c0_683 : Index := 0#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_682 : BitVec 32 := 512#32
  let v1677 : BitVec 32 := Scalar.muli v1611 c512_i32_682
  let v1678 : BitVec 32 := v1677
  let v1679 : Index := Scalar.indexCast v1678
  ![0, v1679.toNat]
def k0_mult100 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_701 : BitVec 32 := 512#32
  let v1706 : BitVec 32 := Scalar.muli v1611 c512_i32_701
  v1706
def k0_off106 (i : grid0.Coords) : Fin 2 → Nat :=
  let c80_702 : Index := 80#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_701 : BitVec 32 := 512#32
  let v1706 : BitVec 32 := Scalar.muli v1611 c512_i32_701
  let v1707 : BitVec 32 := v1706
  let v1708 : Index := Scalar.indexCast v1707
  ![80, v1708.toNat]
def k0_mult101 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_720 : BitVec 32 := 512#32
  let v1735 : BitVec 32 := Scalar.muli v1611 c512_i32_720
  v1735
def k0_off107 (i : grid0.Coords) : Fin 2 → Nat :=
  let c160_721 : Index := 160#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_720 : BitVec 32 := 512#32
  let v1735 : BitVec 32 := Scalar.muli v1611 c512_i32_720
  let v1736 : BitVec 32 := v1735
  let v1737 : Index := Scalar.indexCast v1736
  ![160, v1737.toNat]
def k0_mult102 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_739 : BitVec 32 := 512#32
  let v1764 : BitVec 32 := Scalar.muli v1611 c512_i32_739
  v1764
def k0_off108 (i : grid0.Coords) : Fin 2 → Nat :=
  let c240_740 : Index := 240#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_739 : BitVec 32 := 512#32
  let v1764 : BitVec 32 := Scalar.muli v1611 c512_i32_739
  let v1765 : BitVec 32 := v1764
  let v1766 : Index := Scalar.indexCast v1765
  ![240, v1766.toNat]
def k0_mult103 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_758 : BitVec 32 := 512#32
  let v1793 : BitVec 32 := Scalar.muli v1611 c512_i32_758
  v1793
def k0_off109 (i : grid0.Coords) : Fin 2 → Nat :=
  let c320_759 : Index := 320#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_758 : BitVec 32 := 512#32
  let v1793 : BitVec 32 := Scalar.muli v1611 c512_i32_758
  let v1794 : BitVec 32 := v1793
  let v1795 : Index := Scalar.indexCast v1794
  ![320, v1795.toNat]
def k0_mult104 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_777 : BitVec 32 := 512#32
  let v1822 : BitVec 32 := Scalar.muli v1611 c512_i32_777
  v1822
def k0_off110 (i : grid0.Coords) : Fin 2 → Nat :=
  let c400_778 : Index := 400#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_777 : BitVec 32 := 512#32
  let v1822 : BitVec 32 := Scalar.muli v1611 c512_i32_777
  let v1823 : BitVec 32 := v1822
  let v1824 : Index := Scalar.indexCast v1823
  ![400, v1824.toNat]
def k0_mult105 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_796 : BitVec 32 := 512#32
  let v1851 : BitVec 32 := Scalar.muli v1611 c512_i32_796
  v1851
def k0_off111 (i : grid0.Coords) : Fin 2 → Nat :=
  let c480_797 : Index := 480#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_796 : BitVec 32 := 512#32
  let v1851 : BitVec 32 := Scalar.muli v1611 c512_i32_796
  let v1852 : BitVec 32 := v1851
  let v1853 : Index := Scalar.indexCast v1852
  ![480, v1853.toNat]
def k0_mult106 (i : grid0.Coords) : BitVec 32 :=
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_815 : BitVec 32 := 512#32
  let v1880 : BitVec 32 := Scalar.muli v1611 c512_i32_815
  v1880
def k0_off112 (i : grid0.Coords) : Fin 2 → Nat :=
  let c560_816 : Index := 560#32
  let arg2 : BitVec 32 := BitVec.ofNat 32 (i 2).val
  let c512_i32 : BitVec 32 := 512#32
  let v16 : BitVec 32 := Scalar.muli arg2 c512_i32
  let c0_i32 : BitVec 32 := 0#32
  let v18 : BitVec 1 := Scalar.cmpi .sgt v16 c0_i32
  let v19 : BitVec 32 := Scalar.extui v18
  let c0_i32_16 : BitVec 32 := 0#32
  let v20 : BitVec 1 := Scalar.cmpi .slt v16 c0_i32_16
  let v21 : BitVec 32 := Scalar.extui v20
  let v22 : BitVec 32 := Scalar.subi v19 v21
  let c512_i32_15 : BitVec 32 := 512#32
  let c0_i32_17 : BitVec 32 := 0#32
  let v23 : BitVec 1 := Scalar.cmpi .sgt c512_i32_15 c0_i32_17
  let v24 : BitVec 32 := Scalar.extui v23
  let c0_i32_18 : BitVec 32 := 0#32
  let v25 : BitVec 1 := Scalar.cmpi .slt c512_i32_15 c0_i32_18
  let v26 : BitVec 32 := Scalar.extui v25
  let v27 : BitVec 32 := Scalar.subi v24 v26
  let v28 : BitVec 1 := Scalar.cmpi .ne v22 v27
  let v29 : BitVec 32 := Scalar.remsi v16 c512_i32_15
  let c0_i32_19 : BitVec 32 := 0#32
  let v30 : BitVec 1 := Scalar.cmpi .ne v29 c0_i32_19
  let v31 : BitVec 1 := Scalar.andi v28 v30
  let v17 : BitVec 32 := Scalar.divsi v16 c512_i32_15
  let c1_i32 : BitVec 32 := 1#32
  let v32 : BitVec 32 := Scalar.subi v17 c1_i32
  let v33 : BitVec 32 := Scalar.select v31 v32 v17
  let c1_i32_642 : BitVec 32 := 1#32
  let v1611 : BitVec 32 := Scalar.subi v33 c1_i32_642
  let c512_i32_815 : BitVec 32 := 512#32
  let v1880 : BitVec 32 := Scalar.muli v1611 c512_i32_815
  let v1881 : BitVec 32 := v1880
  let v1882 : Index := Scalar.indexCast v1881
  ![560, v1882.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S1280x16384 : Shape := ⟨2, ![1280, 16384]⟩
abbrev S4x4096x16x128 : Shape := ⟨4, ![4, 4096, 16, 128]⟩
abbrev S16x80x4x4096 : Shape := ⟨4, ![16, 80, 4, 4096]⟩
abbrev S16x64x4x4096 : Shape := ⟨4, ![16, 64, 4, 4096]⟩
abbrev S4x16x4096x4096 : Shape := ⟨4, ![4, 16, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x16x64 : Shape := ⟨4, ![4, 4096, 16, 64]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1280x16384, .bf16⟩
  | .hbm, ⟨3, _⟩ => ⟨S16384x2048, .f32⟩
  | .hbm, ⟨4, _⟩ => ⟨S4x4096x16x128, .f32⟩
  | .hbm, ⟨5, _⟩ => ⟨S16384x2048, .f32⟩
  | .hbm, ⟨6, _⟩ => ⟨S4x4096x16x128, .f32⟩
  | .hbm, ⟨7, _⟩ => ⟨S1280x16384, .f32⟩
  | .hbm, ⟨8, _⟩ => ⟨S16x80x4x4096, .f32⟩
  | .hbm, ⟨9, _⟩ => ⟨S16x64x4x4096, .f32⟩
  | .hbm, ⟨10, _⟩ => ⟨S4x16x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x1x4096x4096, .i1⟩
  | .hbm, ⟨36, _⟩ => ⟨S_, .f32⟩
  | .hbm, ⟨37, _⟩ => ⟨S_, .f32⟩
  | .hbm, ⟨38, _⟩ => ⟨S4x16x4096x4096, .i1⟩
  | .hbm, ⟨39, _⟩ => ⟨S4x16x4096x4096, .f32⟩
  | .hbm, ⟨40, _⟩ => ⟨S4x16x4096x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x16x4096, .f32⟩
  | .hbm, ⟨45, _⟩ => ⟨S4x16x4096x1, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S_, .f32⟩
  | .hbm, ⟨52, _⟩ => ⟨S4x16x4096, .f32⟩
  | .hbm, ⟨53, _⟩ => ⟨S4x16x4096x1, .f32⟩
  | .hbm, ⟨54, _⟩ => ⟨S4x16x4096x4096, .f32⟩
  | .hbm, ⟨55, _⟩ => ⟨S4x16x4096x4096, .f32⟩
  | .hbm, ⟨56, _⟩ => ⟨S4x16x64x4096, .f32⟩
  | .hbm, ⟨57, _⟩ => ⟨S4x4096x16x64, .f32⟩
  | .hbm, ⟨58, _⟩ => ⟨S16384x1024, .f32⟩
  | .hbm, ⟨59, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x512 : Shape := ⟨2, ![1024, 512]⟩
abbrev S256x1024 : Shape := ⟨2, ![256, 1024]⟩
abbrev S256x256 : Shape := ⟨2, ![256, 256]⟩
abbrev S1x1024 : Shape := ⟨2, ![1, 1024]⟩
abbrev S16384x512 : Shape := ⟨2, ![16384, 512]⟩
abbrev S256x16384 : Shape := ⟨2, ![256, 16384]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩
abbrev S512x256 : Shape := ⟨2, ![512, 256]⟩

abbrev nBuf : Space → Nat
  | .hbm => 19
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .hbm, ⟨3, _⟩ => ⟨S2x1024, .f32⟩
  | .hbm, ⟨4, _⟩ => ⟨S2x1024x2816, .bf16⟩
  | .hbm, ⟨5, _⟩ => ⟨S2x1024x2816, .bf16⟩
  | .hbm, ⟨6, _⟩ => ⟨S2x2816x1024, .bf16⟩
  | .hbm, ⟨7, _⟩ => ⟨S1024, .f32⟩
  | .hbm, ⟨8, _⟩ => ⟨S1024x512, .bf16⟩
  | .hbm, ⟨9, _⟩ => ⟨S256x1024, .bf16⟩
  | .hbm, ⟨10, _⟩ => ⟨S256x256, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S16384x512, .f32⟩
  | .hbm, ⟨17, _⟩ => ⟨S16384x1024, .bf16⟩
  | .hbm, ⟨18, _⟩ => ⟨S256x16384, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S1024x512, .bf16⟩
  | .local _ .vmem, ⟨11, _⟩ => ⟨S256x1024, .bf16⟩
  | .local _ .vmem, ⟨12, _⟩ => ⟨S256x256, .bf16⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S256x512, .bf16⟩
  | .local _ .vmem, ⟨20, _⟩ => ⟨S256x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S1024x1024 : Shape := ⟨2, ![1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x512 : Shape := ⟨2, ![1024, 512]⟩
abbrev S256x1024 : Shape := ⟨2, ![256, 1024]⟩
abbrev S256x256 : Shape := ⟨2, ![256, 256]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S16384x512 : Shape := ⟨2, ![16384, 512]⟩
abbrev S16384x256 : Shape := ⟨2, ![16384, 256]⟩
abbrev S256x16384 : Shape := ⟨2, ![256, 16384]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .hbm, ⟨3, _⟩ => ⟨S2x1024, .f32⟩
  | .hbm, ⟨4, _⟩ => ⟨S2x1024x2816, .bf16⟩
  | .hbm, ⟨5, _⟩ => ⟨S2x1024x2816, .bf16⟩
  | .hbm, ⟨6, _⟩ => ⟨S2x2816x1024, .bf16⟩
  | .hbm, ⟨7, _⟩ => ⟨S1024, .f32⟩
  | .hbm, ⟨8, _⟩ => ⟨S1024x512, .bf16⟩
  | .hbm, ⟨9, _⟩ => ⟨S256x1024, .bf16⟩
  | .hbm, ⟨10, _⟩ => ⟨S256x256, .bf16⟩
  | .hbm, ⟨11, _⟩ => ⟨S16384x1024, .f32⟩
  | .hbm, ⟨12, _⟩ => ⟨S1024x1024, .f32⟩
  | .hbm, ⟨13, _⟩ => ⟨S2x1024x2816, .f32⟩
  | .hbm, ⟨14, _⟩ => ⟨S2x1024x2816, .f32⟩
  | .hbm, ⟨15, _⟩ => ⟨S2x2816x1024, .f32⟩
  | .hbm, ⟨16, _⟩ => ⟨S1024x512, .f32⟩
  | .hbm, ⟨17, _⟩ => ⟨S256x1024, .f32⟩
  | .hbm, ⟨18, _⟩ => ⟨S256x256, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024x2816, .f32⟩
  | .hbm, ⟨40, _⟩ => ⟨S1024x2816, .f32⟩
  | .hbm, ⟨41, _⟩ => ⟨S1x1024x2816, .f32⟩
  | .hbm, ⟨42, _⟩ => ⟨S1024x2816, .f32⟩
  | .hbm, ⟨43, _⟩ => ⟨S1x2816x1024, .f32⟩
  | .hbm, ⟨44, _⟩ => ⟨S2816x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x512, .f32⟩
  | .hbm, ⟨79, _⟩ => ⟨S16384x256, .f32⟩
  | .hbm, ⟨80, _⟩ => ⟨S16384x1024, .f32⟩
  | .hbm, ⟨81, _⟩ => ⟨S16384x1024, .bf16⟩
  | .hbm, ⟨82, _⟩ => ⟨S16384x256, .f32⟩
  | .hbm, ⟨83, _⟩ => ⟨S256x16384, .f32⟩
  | .hbm, ⟨84, _⟩ => ⟨S256x16384, .f32⟩
  | .hbm, ⟨85, _⟩ => ⟨S256x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x384 : Shape := ⟨2, ![1024, 384]⟩
abbrev S1x384 : Shape := ⟨2, ![1, 384]⟩
abbrev S384x2048 : Shape := ⟨2, ![384, 2048]⟩
abbrev S1024x256 : Shape := ⟨2, ![1024, 256]⟩
abbrev S1x256 : Shape := ⟨2, ![1, 256]⟩
abbrev S1024x128 : Shape := ⟨2, ![1024, 128]⟩
abbrev S256x2048 : Shape := ⟨2, ![256, 2048]⟩
abbrev S1280x256 : Shape := ⟨2, ![1280, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x128 : Shape := ⟨2, ![4096, 128]⟩
abbrev S4096x256 : Shape := ⟨2, ![4096, 256]⟩
abbrev S1x1024 : Shape := ⟨2, ![1, 1024]⟩
abbrev S1024 : Shape := ⟨1, ![1024]⟩
abbrev S384 : Shape := ⟨1, ![384]⟩
abbrev S256 : Shape := ⟨1, ![256]⟩
abbrev S16384x2048 : Shape := ⟨2, ![16384, 2048]⟩
abbrev S1280x16384 : Shape := ⟨2, ![1280, 16384]⟩
abbrev S16384x256 : Shape := ⟨2, ![16384, 256]⟩
abbrev S4x32x4096 : Shape := ⟨3, ![4, 32, 4096]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x256 : Shape := ⟨2, ![512, 256]⟩
abbrev S512x2048 : Shape := ⟨2, ![512, 2048]⟩
abbrev S1280x512 : Shape := ⟨2, ![1280, 512]⟩
abbrev S1x32x512 : Shape := ⟨3, ![1, 32, 512]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩
abbrev S512x128 : Shape := ⟨2, ![512, 128]⟩
abbrev S1x128 : Shape := ⟨2, ![1, 128]⟩
abbrev S512x384 : Shape := ⟨2, ![512, 384]⟩
abbrev S128x512 : Shape := ⟨2, ![128, 512]⟩
abbrev S32x512 : Shape := ⟨2, ![32, 512]⟩

abbrev nBuf : Space → Nat
  | .hbm => 63
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .bf16⟩
  | .hbm, ⟨3, _⟩ => ⟨S2x1024x2816, .bf16⟩
  | .hbm, ⟨4, _⟩ => ⟨S2x2816x1024, .bf16⟩
  | .hbm, ⟨5, _⟩ => ⟨S2x1024, .f32⟩
  | .hbm, ⟨6, _⟩ => ⟨S1024x384, .bf16⟩
  | .hbm, ⟨7, _⟩ => ⟨S1x384, .f32⟩
  | .hbm, ⟨8, _⟩ => ⟨S384x2048, .bf16⟩
  | .hbm, ⟨9, _⟩ => ⟨S1024x256, .bf16⟩
  | .hbm, ⟨10, _⟩ => ⟨S1x256, .f32⟩
  | .hbm, ⟨11, _⟩ => ⟨S1024x128, .bf16⟩
  | .hbm, ⟨12, _⟩ => ⟨S256x2048, .bf16⟩
  | .hbm, ⟨13, _⟩ => ⟨S1280x256, .bf16⟩
  | .hbm, ⟨14, _⟩ => ⟨S4096, .i32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S4096, .f32⟩
  | .hbm, ⟨30, _⟩ => ⟨S4096x1, .f32⟩
  | .hbm, ⟨31, _⟩ => ⟨S1x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x32, .f32⟩
  | .hbm, ⟨38, _⟩ => ⟨S_, .i32⟩
  | .hbm, ⟨39, _⟩ => ⟨S_, .f32⟩
  | .hbm, ⟨40, _⟩ => ⟨S4096x128, .f32⟩
  | .hbm, ⟨41, _⟩ => ⟨S4096x16, .f32⟩
  | .hbm, ⟨42, _⟩ => ⟨S4096x32, .f32⟩
  | .hbm, ⟨43, _⟩ => ⟨S_, .i32⟩
  | .hbm, ⟨44, _⟩ => ⟨S_, .f32⟩
  | .hbm, ⟨45, _⟩ => ⟨S4096x128, .f32⟩
  | .hbm, ⟨46, _⟩ => ⟨S4096x256, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S384, .f32⟩
  | .hbm, ⟨54, _⟩ => ⟨S1x384, .f32⟩
  | .hbm, ⟨55, _⟩ => ⟨S256, .f32⟩
  | .hbm, ⟨56, _⟩ => ⟨S1x256, .f32⟩
  | .hbm, ⟨57, _⟩ => ⟨S16384x1024, .f32⟩
  | .hbm, ⟨58, _⟩ => ⟨S16384x2048, .bf16⟩
  | .hbm, ⟨59, _⟩ => ⟨S16384x2048, .bf16⟩
  | .hbm, ⟨60, _⟩ => ⟨S1280x16384, .bf16⟩
  | .hbm, ⟨61, _⟩ => ⟨S16384x256, .f32⟩
  | .hbm, ⟨62, _⟩ => ⟨S4x32x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x384, .bf16⟩
  | .local _ .vmem, ⟨8, _⟩ => ⟨S1x384, .f32⟩
  | .local _ .vmem, ⟨9, _⟩ => ⟨S384x2048, .bf16⟩
  | .local _ .vmem, ⟨10, _⟩ => ⟨S1024x256, .bf16⟩
  | .local _ .vmem, ⟨11, _⟩ => ⟨S1x256, .f32⟩
  | .local _ .vmem, ⟨12, _⟩ => ⟨S1024x128, .bf16⟩
  | .local _ .vmem, ⟨13, _⟩ => ⟨S512x256, .f32⟩
  | .local _ .vmem, ⟨14, _⟩ => ⟨S512x256, .f32⟩
  | .local _ .vmem, ⟨15, _⟩ => ⟨S256x2048, .bf16⟩
  | .local _ .vmem, ⟨16, _⟩ => ⟨S1280x256, .bf16⟩
  | .local _ .vmem, ⟨17, _⟩ => ⟨S512x1024, .f32⟩
  | .local _ .vmem, ⟨18, _⟩ => ⟨S512x1024, .f32⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S1280x512, .bf16⟩
  | .local _ .vmem, ⟨24, _⟩ => ⟨S1280x512, .bf16⟩
  | .local _ .vmem, ⟨25, _⟩ => ⟨S512x256, .f32⟩
  | .local _ .vmem, ⟨26, _⟩ => ⟨S512x256, .f32⟩
  | .local _ .vmem, ⟨27, _⟩ => ⟨S1x32x512, .f32⟩
  | .local _ .vmem, ⟨28, _⟩ => ⟨S1x32x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_v35_2 : Ref sig .tc := ⟨.hbm, 59, rfl⟩
abbrev main_v35_3 : Ref sig .tc := ⟨.hbm, 60, rfl⟩
abbrev main_v35_4 : Ref sig .tc := ⟨.hbm, 61, rfl⟩
abbrev main_v35_5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1280x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1280x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x384 : Shape := ⟨2, ![1024, 384]⟩
abbrev S1x384 : Shape := ⟨2, ![1, 384]⟩
abbrev S384x2048 : Shape := ⟨2, ![384, 2048]⟩
abbrev S1024x256 : Shape := ⟨2, ![1024, 256]⟩
abbrev S1x256 : Shape := ⟨2, ![1, 256]⟩
abbrev S1024x128 : Shape := ⟨2, ![1024, 128]⟩
abbrev S256x2048 : Shape := ⟨2, ![256, 2048]⟩
abbrev S1280x256 : Shape := ⟨2, ![1280, 256]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S16384x384 : Shape := ⟨2, ![16384, 384]⟩
abbrev S384 : Shape := ⟨1, ![384]⟩
abbrev S16384x2048 : Shape := ⟨2, ![16384, 2048]⟩
abbrev S4x4096x16x128 : Shape := ⟨4, ![4, 4096, 16, 128]⟩
abbrev S4x4096x16x64 : Shape := ⟨4, ![4, 4096, 16, 64]⟩
abbrev S4x4096x16x32 : Shape := ⟨4, ![4, 4096, 16, 32]⟩
abbrev S4096x1x16 : Shape := ⟨3, ![4096, 1, 16]⟩
abbrev S4x4096x16x16 : Shape := ⟨4, ![4, 4096, 16, 16]⟩
abbrev S1x4096x1x16 : Shape := ⟨4, ![1, 4096, 1, 16]⟩
abbrev S16384x256 : Shape := ⟨2, ![16384, 256]⟩
abbrev S256 : Shape := ⟨1, ![256]⟩
abbrev S16384x128 : Shape := ⟨2, ![16384, 128]⟩
abbrev S16384x32 : Shape := ⟨2, ![16384, 32]⟩
abbrev S4x4096x32 : Shape := ⟨3, ![4, 4096, 32]⟩
abbrev S4x4096x16 : Shape := ⟨3, ![4, 4096, 16]⟩
abbrev S1x4096x16 : Shape := ⟨3, ![1, 4096, 16]⟩
abbrev S4x4096x128 : Shape := ⟨3, ![4, 4096, 128]⟩
abbrev S4x4096x1x128 : Shape := ⟨4, ![4, 4096, 1, 128]⟩
abbrev S1280 : Shape := ⟨1, ![1280]⟩
abbrev S1280x1 : Shape := ⟨2, ![1280, 1]⟩
abbrev S256x16384 : Shape := ⟨2, ![256, 16384]⟩
abbrev S1280x16384 : Shape := ⟨2, ![1280, 16384]⟩
abbrev S4x32x4096 : Shape := ⟨3, ![4, 32, 4096]⟩

abbrev nBuf : Space → Nat
  | .hbm => 235
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x2816, .bf16⟩
  | 3 => ⟨S2x1024x2816, .bf16⟩
  | 4 => ⟨S2x2816x1024, .bf16⟩
  | 5 => ⟨S2x1024, .f32⟩
  | 6 => ⟨S1024x384, .bf16⟩
  | 7 => ⟨S1x384, .f32⟩
  | 8 => ⟨S384x2048, .bf16⟩
  | 9 => ⟨S1024x256, .bf16⟩
  | 10 => ⟨S1x256, .f32⟩
  | 11 => ⟨S1024x128, .bf16⟩
  | 12 => ⟨S256x2048, .bf16⟩
  | 13 => ⟨S1280x256, .bf16⟩
  | 14 => ⟨S2x1024x2816, .f32⟩
  | 15 => ⟨S2x1024x2816, .f32⟩
  | 16 => ⟨S2x2816x1024, .f32⟩
  | 17 => ⟨S1024x384, .f32⟩
  | 18 => ⟨S384x2048, .f32⟩
  | 19 => ⟨S1024x256, .f32⟩
  | 20 => ⟨S1024x128, .f32⟩
  | 21 => ⟨S256x2048, .f32⟩
  | 22 => ⟨S1280x256, .f32⟩
  | 23 => ⟨S1x1024, .f32⟩
  | 24 => ⟨S1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384x1024, .f32⟩
  | 37 => ⟨S16384x1024, .f32⟩
  | 38 => ⟨S1x1024, .f32⟩
  | 39 => ⟨S16384x1024, .f32⟩
  | 40 => ⟨S16384x1024, .f32⟩
  | 41 => ⟨S1x1024x2816, .f32⟩
  | 42 => ⟨S1024x2816, .f32⟩
  | 43 => ⟨S1x1024x2816, .f32⟩
  | 44 => ⟨S1024x2816, .f32⟩
  | 45 => ⟨S1x2816x1024, .f32⟩
  | 46 => ⟨S2816x1024, .f32⟩
  | 47 => ⟨S16384x2816, .f32⟩
  | 48 => ⟨S16384x2816, .f32⟩
  | 49 => ⟨S16384x2816, .f32⟩
  | 50 => ⟨S_, .f32⟩
  | 51 => ⟨S16384x2816, .f32⟩
  | 52 => ⟨S16384x2816, .f32⟩
  | 53 => ⟨S_, .f32⟩
  | 54 => ⟨S16384x2816, .f32⟩
  | 55 => ⟨S16384x2816, .f32⟩
  | 56 => ⟨S16384x2816, .f32⟩
  | 57 => ⟨S16384x2816, .f32⟩
  | 58 => ⟨S16384x2816, .f32⟩
  | 59 => ⟨S16384x1024, .f32⟩
  | 60 => ⟨S_, .f32⟩
  | 61 => ⟨S16384x1024, .f32⟩
  | 62 => ⟨S16384x1024, .f32⟩
  | 63 => ⟨S16384x1024, .f32⟩
  | 64 => ⟨S1x1024, .f32⟩
  | 65 => ⟨S1024, .f32⟩
  | 66 => ⟨S16384x1024, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x1, .f32⟩
  | 77 => ⟨S16384x1024, .f32⟩
  | 78 => ⟨S16384x1024, .f32⟩
  | 79 => ⟨S1x1024, .f32⟩
  | 80 => ⟨S16384x1024, .f32⟩
  | 81 => ⟨S16384x1024, .f32⟩
  | 82 => ⟨S4096, .i32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S4096, .f32⟩
  | 98 => ⟨S4096x1, .f32⟩
  | 99 => ⟨S1x16, .f32⟩
  | 100 => ⟨S4096x16, .f32⟩
  | 101 => ⟨S4096x16, .f32⟩
  | 102 => ⟨S4096x16, .f32⟩
  | 103 => ⟨S4096x16, .f32⟩
  | 104 => ⟨S4096x16, .f32⟩
  | 105 => ⟨S16384x384, .f32⟩
  | 106 => ⟨S384, .f32⟩
  | 107 => ⟨S16384x384, .f32⟩
  | 108 => ⟨S_, .f32⟩
  | 109 => ⟨S16384, .f32⟩
  | 110 => ⟨S16384x1, .f32⟩
  | 111 => ⟨S_, .f32⟩
  | 112 => ⟨S16384x1, .f32⟩
  | 113 => ⟨S16384x1, .f32⟩
  | 114 => ⟨S_, .f32⟩
  | 115 => ⟨S16384x1, .f32⟩
  | 116 => ⟨S16384x1, .f32⟩
  | 117 => ⟨S16384x1, .f32⟩
  | 118 => ⟨S16384x384, .f32⟩
  | 119 => ⟨S16384x384, .f32⟩
  | 120 => ⟨S1x384, .f32⟩
  | 121 => ⟨S16384x384, .f32⟩
  | 122 => ⟨S16384x384, .f32⟩
  | 123 => ⟨S16384x2048, .f32⟩
  | 124 => ⟨S4x4096x16x128, .f32⟩
  | 125 => ⟨S4x4096x16x64, .f32⟩
  | 126 => ⟨S4x4096x16x32, .f32⟩
  | 127 => ⟨S4096x1x16, .f32⟩
  | _ => ⟨S16384x1024, .f32⟩

abbrev hbmTy0_1 (i : Nat) : BufTy := match i % 128 with
  | 0 => ⟨S4096x1x16, .f32⟩
  | 1 => ⟨S4x4096x16x16, .f32⟩
  | 2 => ⟨S4x4096x16x16, .f32⟩
  | 3 => ⟨S1x4096x1x16, .f32⟩
  | 4 => ⟨S4x4096x16x16, .f32⟩
  | 5 => ⟨S4x4096x16x16, .f32⟩
  | 6 => ⟨S1x4096x1x16, .f32⟩
  | 7 => ⟨S4x4096x16x16, .f32⟩
  | 8 => ⟨S4x4096x16x16, .f32⟩
  | 9 => ⟨S4x4096x16x16, .f32⟩
  | 10 => ⟨S1x4096x1x16, .f32⟩
  | 11 => ⟨S4x4096x16x16, .f32⟩
  | 12 => ⟨S4x4096x16x16, .f32⟩
  | 13 => ⟨S1x4096x1x16, .f32⟩
  | 14 => ⟨S4x4096x16x16, .f32⟩
  | 15 => ⟨S4x4096x16x16, .f32⟩
  | 16 => ⟨S4x4096x16x16, .f32⟩
  | 17 => ⟨S4x4096x16x32, .f32⟩
  | 18 => ⟨S_, .f32⟩
  | 19 => ⟨S4x4096x16x32, .f32⟩
  | 20 => ⟨S4x4096x16x128, .f32⟩
  | 21 => ⟨S16384x256, .f32⟩
  | 22 => ⟨S256, .f32⟩
  | 23 => ⟨S16384x256, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1, .f32⟩
  | 34 => ⟨S16384x256, .f32⟩
  | 35 => ⟨S16384x256, .f32⟩
  | 36 => ⟨S1x256, .f32⟩
  | 37 => ⟨S16384x256, .f32⟩
  | 38 => ⟨S16384x256, .f32⟩
  | 39 => ⟨S16384x128, .f32⟩
  | 40 => ⟨S16384x32, .f32⟩
  | 41 => ⟨S4x4096x32, .f32⟩
  | 42 => ⟨S4x4096x16, .f32⟩
  | 43 => ⟨S4x4096x16, .f32⟩
  | 44 => ⟨S1x4096x16, .f32⟩
  | 45 => ⟨S4x4096x16, .f32⟩
  | 46 => ⟨S4x4096x16, .f32⟩
  | 47 => ⟨S1x4096x16, .f32⟩
  | 48 => ⟨S4x4096x16, .f32⟩
  | 49 => ⟨S4x4096x16, .f32⟩
  | 50 => ⟨S4x4096x16, .f32⟩
  | 51 => ⟨S1x4096x16, .f32⟩
  | 52 => ⟨S4x4096x16, .f32⟩
  | 53 => ⟨S4x4096x16, .f32⟩
  | 54 => ⟨S1x4096x16, .f32⟩
  | 55 => ⟨S4x4096x16, .f32⟩
  | 56 => ⟨S4x4096x16, .f32⟩
  | 57 => ⟨S4x4096x16, .f32⟩
  | 58 => ⟨S4x4096x32, .f32⟩
  | 59 => ⟨S16384x2048, .f32⟩
  | 60 => ⟨S4x4096x16x128, .f32⟩
  | 61 => ⟨S_, .i32⟩
  | 62 => ⟨S_, .f32⟩
  | 63 => ⟨S4x4096x128, .f32⟩
  | 64 => ⟨S4x4096x1x128, .f32⟩
  | 65 => ⟨S4x4096x16x128, .f32⟩
  | 66 => ⟨S4x4096x16x128, .f32⟩
  | 67 => ⟨S1280, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S1280, .i32⟩
  | 75 => ⟨S1280, .i32⟩
  | 76 => ⟨S_, .i32⟩
  | 77 => ⟨S1280, .i32⟩
  | 78 => ⟨S1280, .i1⟩
  | 79 => ⟨S_, .i32⟩
  | 80 => ⟨S1280, .i32⟩
  | 81 => ⟨S1280, .i1⟩
  | 82 => ⟨S_, .i32⟩
  | 83 => ⟨S_, .i1⟩
  | 84 => ⟨S1280, .i1⟩
  | 85 => ⟨S1280, .i1⟩
  | 86 => ⟨S1280, .i1⟩
  | 87 => ⟨S1280, .i32⟩
  | 88 => ⟨S1280, .i32⟩
  | 89 => ⟨S1280, .i32⟩
  | 90 => ⟨S_, .i32⟩
  | 91 => ⟨S1280, .i32⟩
  | 92 => ⟨S1280, .i1⟩
  | 93 => ⟨S1280x1, .i1⟩
  | 94 => ⟨S256x16384, .f32⟩
  | 95 => ⟨S1280x16384, .f32⟩
  | 96 => ⟨S_, .f32⟩
  | 97 => ⟨S_, .f32⟩
  | 98 => ⟨S1280x16384, .i1⟩
  | 99 => ⟨S1280x16384, .f32⟩
  | 100 => ⟨S1280x16384, .f32⟩
  | 101 => ⟨S16384x2048, .f32⟩
  | 102 => ⟨S16384x2048, .bf16⟩
  | 103 => ⟨S16384x2048, .f32⟩
  | 104 => ⟨S16384x2048, .bf16⟩
  | 105 => ⟨S1280x16384, .bf16⟩
  | 106 => ⟨S4x32x4096, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_cst_5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_v75 : Ref sig .tc := ⟨.hbm, 109, rfl⟩
abbrev main_v76 : Ref sig .tc := ⟨.hbm, 110, rfl⟩
abbrev main_cst_11 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_13 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_14 : Ref sig .tc := ⟨.hbm, 152, rfl⟩
abbrev main_v115 : Ref sig .tc := ⟨.hbm, 153, rfl⟩
abbrev main_v116 : Ref sig .tc := ⟨.hbm, 154, rfl⟩
abbrev main_cst_15 : Ref sig .tc := ⟨.hbm, 155, rfl⟩
abbrev main_v117 : Ref sig .tc := ⟨.hbm, 156, rfl⟩
abbrev main_v118 : Ref sig .tc := ⟨.hbm, 157, rfl⟩
abbrev main_cst_16 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_c : Ref sig .tc := ⟨.hbm, 189, rfl⟩
abbrev main_call1_v0 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_c_17 : Ref sig .tc := ⟨.hbm, 196, rfl⟩
abbrev main_call2_v0 : Ref sig .tc := ⟨.hbm, 197, rfl⟩
abbrev main_call2_c : Ref sig .tc := ⟨.hbm, 198, rfl⟩
abbrev main_call2_v1 : Ref sig .tc := ⟨.hbm, 199, rfl⟩
abbrev main_call2_c_0 : Ref sig .tc := ⟨.hbm, 200, rfl⟩
abbrev main_call2_v2 : Ref sig .tc := ⟨.hbm, 201, rfl⟩
abbrev main_call2_v3 : Ref sig .tc := ⟨.hbm, 202, rfl⟩
abbrev main_call2_v4 : Ref sig .tc := ⟨.hbm, 203, rfl⟩
abbrev main_call2_c_1 : Ref sig .tc := ⟨.hbm, 204, rfl⟩
abbrev main_call2_v5 : Ref sig .tc := ⟨.hbm, 205, rfl⟩
abbrev main_call2_v6 : Ref sig .tc := ⟨.hbm, 206, rfl⟩
abbrev main_call2_c_2 : Ref sig .tc := ⟨.hbm, 207, rfl⟩
abbrev main_call2_v7 : Ref sig .tc := ⟨.hbm, 208, rfl⟩
abbrev main_call2_v8 : Ref sig .tc := ⟨.hbm, 209, rfl⟩
abbrev main_call2_c_3 : Ref sig .tc := ⟨.hbm, 210, rfl⟩
abbrev main_call2_v9 : Ref sig .tc := ⟨.hbm, 211, rfl⟩
abbrev main_call2_v10 : Ref sig .tc := ⟨.hbm, 212, rfl⟩
abbrev main_call2_v11 : Ref sig .tc := ⟨.hbm, 213, rfl⟩
abbrev main_call2_v12 : Ref sig .tc := ⟨.hbm, 214, rfl⟩
abbrev main_call2_v13 : Ref sig .tc := ⟨.hbm, 215, rfl⟩
abbrev main_call2_v14 : Ref sig .tc := ⟨.hbm, 216, rfl⟩
abbrev main_v154 : Ref sig .tc := ⟨.hbm, 217, rfl⟩
abbrev main_c_18 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_19 : Ref sig .tc := ⟨.hbm, 224, rfl⟩
abbrev main_call3_v0 : Ref sig .tc := ⟨.hbm, 225, rfl⟩
abbrev main_call3_v1 : Ref sig .tc := ⟨.hbm, 226, rfl⟩
abbrev main_call3_v2 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩

abbrev nD : Nat := 1
abbrev τ : Topo := Topo.v7x

variable {F : FTy → Type} [FloatOps F]
-- ==== Proof.Run.KernelIdeal.Loop.lean ====
/- The counted loop over pairs of full blocks: the pieces its trips write do not depend on what the second score buffer
   held before the loop, because a trip fills that buffer before it reads it. The loop's invariant is restated so. The
   remainder loop after it makes no trip. -/
module

public import proofs.«01_k».proof.Proof.Gen.KernelIdeal.Loops
import all proofs.«01_k».proof.Proof.Gen.KernelIdeal.Loops
public import Idealize.ShloMosaic.Lib.LoopRemainder

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip's pieces do not depend on the second score buffer's contents. -/
theorem trip_congr (𝒱 : Variants) (c : Dev nD) (bd : Option 𝒱.V) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (v0 : Vec F S512x128 .bf16) (v1 : Vec F S512x128 .bf16) (v2 : Vec F S512x128 .bf16) (v3 : Vec F S512x128 .bf16) (v4 : Vec F S512x128 .bf16) (v5 : Vec F S512x128 .bf16) (v6 : Vec F S512x128 .bf16) (v7 : Vec F S512x128 .bf16) (v33 : BitVec 32) (k0_h1 : k0_cond1 i = 1#1) (X_arg4 : BufTy.Contents (Elt F) a4.view.ty) (X_arg5 : BufTy.Contents (Elt F) a5.view.ty) (k : Fin (k0_t1_loop i).trips)
    (f7 : BufTy.Contents (Elt F) a7.view.ty) (f8 : BufTy.Contents (Elt F) a8.view.ty) (f9 : BufTy.Contents (Elt F) a9.view.ty) (f g : BufTy.Contents (Elt F) a10.view.ty) :
    tripL_k0_t1 (F := F) 𝒱 c bd i a3 w3 a4 w4 a5 w5 a6 w6 a7 w7 a8 w8 a9 w9 a10 w10 v0 v1 v2 v3 v4 v5 v6 v7 v33 k0_h1 X_arg4 X_arg5 k f7 f8 f9 f = tripL_k0_t1 (F := F) 𝒱 c bd i a3 w3 a4 w4 a5 w5 a6 w6 a7 w7 a8 w8 a9 w9 a10 w10 v0 v1 v2 v3 v4 v5 v6 v7 v33 k0_h1 X_arg4 X_arg5 k f7 f8 f9 g := by
  unfold tripL_k0_t1 trip_k0_t1
  rfl

/-- Nor do the pieces of the trips before any. -/
theorem pb_congr (𝒱 : Variants) (c : Dev nD) (bd : Option 𝒱.V) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (v0 : Vec F S512x128 .bf16) (v1 : Vec F S512x128 .bf16) (v2 : Vec F S512x128 .bf16) (v3 : Vec F S512x128 .bf16) (v4 : Vec F S512x128 .bf16) (v5 : Vec F S512x128 .bf16) (v6 : Vec F S512x128 .bf16) (v7 : Vec F S512x128 .bf16) (v33 : BitVec 32) (k0_h1 : k0_cond1 i = 1#1) (X_arg4 : BufTy.Contents (Elt F) a4.view.ty) (X_arg5 : BufTy.Contents (Elt F) a5.view.ty) (G_arg7 : BufTy.Contents (Elt F) a7.view.ty) (G_arg8 : BufTy.Contents (Elt F) a8.view.ty) (G_arg9 : BufTy.Contents (Elt F) a9.view.ty) (G H : BufTy.Contents (Elt F) a10.view.ty) (k : ℕ) :
    pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 G k = pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 H k := by
  induction k with
  | zero => rfl
  | succ k ih =>
    rw [pb_k0_t1.eq_2, pb_k0_t1.eq_2, ih]
    unfold pb_k0_t1Step
    split
    · rw [trip_congr (g := a10.view.writes (Elt F) H (pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 H k).2.2.2)]
    · rfl

/-- The invariant before trip `k`. -/
abbrev invJ_k0_t1 (𝒱 : Variants) (c : Dev nD) (bd : Option 𝒱.V) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (v0 : Vec F S512x128 .bf16) (v1 : Vec F S512x128 .bf16) (v2 : Vec F S512x128 .bf16) (v3 : Vec F S512x128 .bf16) (v4 : Vec F S512x128 .bf16) (v5 : Vec F S512x128 .bf16) (v6 : Vec F S512x128 .bf16) (v7 : Vec F S512x128 .bf16) (v33 : BitVec 32) (k0_h1 : k0_cond1 i = 1#1) (X_arg4 : BufTy.Contents (Elt F) a4.view.ty) (X_arg5 : BufTy.Contents (Elt F) a5.view.ty) (G_arg7 : BufTy.Contents (Elt F) a7.view.ty) (G_arg8 : BufTy.Contents (Elt F) a8.view.ty) (G_arg9 : BufTy.Contents (Elt F) a9.view.ty) (G_arg10 : BufTy.Contents (Elt F) a10.view.ty) (k : ℕ) (acc : Unit) : sProp 𝕄G :=
  iprop((a4.view.loc (c : Thread nD τ) ↦[a4.view.set]{fullShare} X_arg4) ∗ (a5.view.loc (c : Thread nD τ) ↦[a5.view.set]{fullShare} X_arg5) ∗ (∃ f, (a7.view.loc (c : Thread nD τ) ↦[a7.view.set]{fullShare} f) ∗ ⌜f = a7.view.writes (Elt F) G_arg7 (pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 a10.view.junk k).1⌝) ∗ (∃ f, (a8.view.loc (c : Thread nD τ) ↦[a8.view.set]{fullShare} f) ∗ ⌜f = a8.view.writes (Elt F) G_arg8 (pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 a10.view.junk k).2.1⌝) ∗ (∃ f, (a9.view.loc (c : Thread nD τ) ↦[a9.view.set]{fullShare} f) ∗ ⌜f = a9.view.writes (Elt F) G_arg9 (pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 a10.view.junk k).2.2.1⌝) ∗ (∃ f, (a10.view.loc (c : Thread nD τ) ↦[a10.view.set]{fullShare} f) ∗ ⌜f = a10.view.writes (Elt F) G_arg10 (pb_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 a10.view.junk k).2.2.2⌝))

set_option warn.classDefReducibility false in
/-- The loop by that invariant. -/
@[sl_loop] def loopJ_k0_t1 (𝒱 : Variants) (c : Dev nD) (bd : Option 𝒱.V) (E : Set ℕ) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (v0 : Vec F S512x128 .bf16) (v1 : Vec F S512x128 .bf16) (v2 : Vec F S512x128 .bf16) (v3 : Vec F S512x128 .bf16) (v4 : Vec F S512x128 .bf16) (v5 : Vec F S512x128 .bf16) (v6 : Vec F S512x128 .bf16) (v7 : Vec F S512x128 .bf16) (v33 : BitVec 32) (k0_h1 : k0_cond1 i = 1#1) (X_arg4 : BufTy.Contents (Elt F) a4.view.ty) (X_arg5 : BufTy.Contents (Elt F) a5.view.ty) (G_arg7 : BufTy.Contents (Elt F) a7.view.ty) (G_arg8 : BufTy.Contents (Elt F) a8.view.ty) (G_arg9 : BufTy.Contents (Elt F) a9.view.ty) (G_arg10 : BufTy.Contents (Elt F) a10.view.ty) :
    Idealize.ShloMosaic.LoopInv (M := MT nD τ sig Unit (Elt F) ℕ (UR sig nD τ) ℕ) Idealize.ShloMosaic.frame (wpE (defs₀ (F := F)) 𝒱 (c : Thread nD τ) bd) E
    (k0_t1_loop i).lb (k0_t1_loop i).ub (k0_t1_loop i).st (k0_t1_ok i k0_h1) () (k0_t1_body (F := F) i a3 w3 a4 w4 a5 w5 a6 w6 a7 w7 a8 w8 a9 w9 a10 w10 v0 v1 v2 v3 v4 v5 v6 v7 v33 k0_h1) where
  inv := invJ_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 G_arg10
  step k acc := by
    have h := (loopInv_k0_t1 (F := F) 𝒱 c bd E i a3 w3 a4 w4 a5 w5 a6 w6 a7 w7 a8 w8 a9 w9 a10 w10 v0 v1 v2 v3 v4 v5 v6 v7 v33 k0_h1 X_arg4 X_arg5 G_arg7 G_arg8 G_arg9 G_arg10).step k acc
    have e : (loopInv_k0_t1 (F := F) 𝒱 c bd E i a3 w3 a4 w4 a5 w5 a6 w6 a7 w7 a8 w8 a9 w9 a10 w10 v0 v1 v2 v3 v4 v5 v6 v7 v33 k0_h1 X_arg4 X_arg5 G_arg7 G_arg8 G_arg9 G_arg10).inv
        = invJ_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 G_arg10 := by
      funext k acc
      show inv_k0_t1 (F := F) 𝒱 c bd i a3 w3 a4 w4 a5 w5 a6 w6 a7 w7 a8 w8 a9 w9 a10 w10 v0 v1 v2 v3 v4 v5 v6 v7 v33 k0_h1 X_arg4 X_arg5 G_arg7 G_arg8 G_arg9 G_arg10 k acc = _
      unfold inv_k0_t1 invJ_k0_t1
      rw [pb_congr (G := G_arg10) (H := a10.view.junk)]
    rw [e] at h
    exact h

set_option warn.classDefReducibility false in
/-- The remainder loop makes no trip. -/
@[sl_loop] def loopJ_k0_t2 (𝒱 : Variants) (c : Dev nD) (bd : Option 𝒱.V) (E : Set ℕ) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (v0 : Vec F S512x128 .bf16) (v1 : Vec F S512x128 .bf16) (v2 : Vec F S512x128 .bf16) (v3 : Vec F S512x128 .bf16) (v4 : Vec F S512x128 .bf16) (v5 : Vec F S512x128 .bf16) (v6 : Vec F S512x128 .bf16) (v7 : Vec F S512x128 .bf16) (v33 : BitVec 32) (k0_h1 : k0_cond1 i = 1#1) (v1637 : BitVec 32) :
    Idealize.ShloMosaic.LoopInv (M := MT nD τ sig Unit (Elt F) ℕ (UR sig nD τ) ℕ) Idealize.ShloMosaic.frame (wpE (defs₀ (F := F)) 𝒱 (c : Thread nD τ) bd) E
    (k0_t2_loop i).lb (k0_t2_loop i).ub (k0_t2_loop i).st (k0_t2_ok i k0_h1) () (k0_t2_body (F := F) i a3 w3 a4 w4 a5 w5 a6 w6 a7 w7 a8 w8 a9 w9 a10 w10 v0 v1 v2 v3 v4 v5 v6 v7 v33 k0_h1 v1637) where
  inv _ acc := iprop(⌜acc = ()⌝)
  step k _ := (Scf.rem_no_trip _ _ k).elim

end Cert.KernelIdeal.Gen

end
-- ==== Proof.Run.KernelIdeal.B.lean ====
/- The kernel's body run in case B: what its stores leave in the output window, as pieces. The loop over pairs of full
   blocks is met inside the conditional's own part, so that part's skeleton is opened before the one it calls; the loop
   is gone through by the invariant of `Loop.lean`. -/
module

public import proofs.«01_k».proof.Proof.Gen.KernelIdeal.Frame.RunA
public import proofs.«01_k».proof.Proof.Run.KernelIdeal.Loop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 taken, `scf.if` 1 not taken, `scf.if` 2 taken: points 1, 3, … 63: 32 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : ¬cond0_1 i) (hc2 : cond0_2 i)
    (x0 : Vec F S512x1024 .bf16) (x1 : Vec F S4096x1024 .bf16) (x2 : Vec F S640x4096 .bf16) :
    Σ' (L3 : List (View.Piece (Elt F) S512x512 .bf16)), Σ' (LT0 : List (View.Piece (Elt F) S8x1x512 .f32)), { LT1 : List (View.Piece (Elt F) S8x80x512 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
          ⊢ wp frame (wpE (defs₀ (F := F)) Variants.none c none) E (cc0_mla_attn_prompt i a3 w3 a4 w4 a5 w5 a6 w6 a7 w7 a8 w8 a9 w9 a10 w10) K } := by
  refine ⟨?_, [], [], fun E K => ?run⟩
  case run =>
    simp only [cc0_mla_attn_prompt_eq_skeleton]; unfold cc0_mla_attn_prompt_skel
    simp only [k0_part97_eq_skeleton]
    unfold k0_part97_skel
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part58_eq_skeleton, k0_part52_eq_skeleton, k0_part53_eq_skeleton, k0_part54_eq_skeleton, k0_part55_eq_skeleton, k0_part56_eq_skeleton, k0_part57_eq_skeleton, k0_part96_eq_skeleton]
    unfold k0_part95_skel
    simp only [k0_part58_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := w3.eq_unread hf0; obtain rfl := w4.eq_unread hf1; obtain rfl := w5.eq_unread hf2
    sl_exec (disch := first | sl_exact hc0 | sl_exact hc1 | sl_exact hc2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Run.KernelIdeal.C.lean ====
/- The kernel's body run in case C: what its stores leave in the output window, as pieces. The loop over pairs of full
   blocks is met inside the conditional's own part, so that part's skeleton is opened before the one it calls; the loop
   is gone through by the invariant of `Loop.lean`. -/
module

public import proofs.«01_k».proof.Proof.Gen.KernelIdeal.Frame.RunA
public import proofs.«01_k».proof.Proof.Run.KernelIdeal.Loop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE C (`scf.if` 0 taken, `scf.if` 1 taken, `scf.if` 2 not taken: points 2, 4, … 62: 24 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : cond0_1 i) (hc2 : ¬cond0_2 i)
    (x0 : Vec F S512x1024 .bf16) (x1 : Vec F S4096x1024 .bf16) (x2 : Vec F S640x4096 .bf16) :
    Σ' (L3 : List (View.Piece (Elt F) S512x512 .bf16)), Σ' (LT0 : List (View.Piece (Elt F) S8x1x512 .f32)), { LT1 : List (View.Piece (Elt F) S8x80x512 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)) -∗ K ⟨⟩))
          ⊢ wp frame (wpE (defs₀ (F := F)) Variants.none c none) E (cc0_mla_attn_prompt i a3 w3 a4 w4 a5 w5 a6 w6 a7 w7 a8 w8 a9 w9 a10 w10) K } := by
  refine ⟨?_, [], [], fun E K => ?run⟩
  case run =>
    simp only [cc0_mla_attn_prompt_eq_skeleton]; unfold cc0_mla_attn_prompt_skel
    simp only [k0_part97_eq_skeleton]
    unfold k0_part97_skel
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part58_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part96_eq_skeleton]
    unfold k0_part95_skel
    simp only [k0_part58_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := w3.eq_unread hf0; obtain rfl := w4.eq_unread hf1; obtain rfl := w5.eq_unread hf2
    sl_exec (disch := first | sl_exact hc0 | sl_exact hc1 | sl_exact hc2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Run.KernelIdeal.Frame.lean ====
/- The frame of the kernel program from the runs of its three cases: what the output window holds per case and point by
   point, the proof data, the body obligation, the run and the frame claim. -/
module

public import proofs.«01_k».proof.Proof.Run.KernelIdeal.B
public import proofs.«01_k».proof.Proof.Run.KernelIdeal.C
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (4 stores of `S512x128`, checked by the kernel's evaluation: Lib/Ring.lean `Piece.tiledL`, linear in the pieces, through a loop's `@[irreducible]` trip theorem too), so they cover it. -/
theorem cover0_A_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : ¬cond0_0 i)
    (x0 : Vec F S512x1024 .bf16) (x1 : Vec F S4096x1024 .bf16) (x2 : Vec F S640x4096 .bf16) (y : S512x512.Idx) :
    ∃ pc ∈ (kernelRun0_A c i a3 w3 a4 w4 a5 w5 a6 w6 a7 w7 a8 w8 a9 w9 a10 w10 hc0 x0 x1 x2).1, y ∈ pc.1.set :=
  View.cover_of_tiledL (kernelRun0_A c i a3 w3 a4 w4 a5 w5 a6 w6 a7 w7 a8 w8 a9 w9 a10 w10 hc0 x0 x1 x2).1 S512x128.size (by sl_kernel_rfl) y

/-- What case A leaves in output 3's staging buffer: its pieces read back over junk. -/
def out0_A_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : ¬cond0_0 i)
    (x0 : Vec F S512x1024 .bf16) (x1 : Vec F S4096x1024 .bf16) (x2 : Vec F S640x4096 .bf16) : Vec F S512x512 .bf16 :=
  VO0_3.read (Elt F) (VO0_3.writes (Elt F) VO0_3.junk (kernelRun0_A c i a3 w3 a4 w4 a5 w5 a6 w6 a7 w7 a8 w8 a9 w9 a10 w10 hc0 x0 x1 x2).1)

/-- Case B's pieces for output 3 tile its block (4 stores of `S512x128`, checked by the kernel's evaluation: Lib/Ring.lean `Piece.tiledL`, linear in the pieces, through a loop's `@[irreducible]` trip theorem too), so they cover it. -/
theorem cover0_B_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : ¬cond0_1 i) (hc2 : cond0_2 i)
    (x0 : Vec F S512x1024 .bf16) (x1 : Vec F S4096x1024 .bf16) (x2 : Vec F S640x4096 .bf16) (y : S512x512.Idx) :
    ∃ pc ∈ (kernelRun0_B c i a3 w3 a4 w4 a5 w5 a6 w6 a7 w7 a8 w8 a9 w9 a10 w10 hc0 hc1 hc2 x0 x1 x2).1, y ∈ pc.1.set :=
  View.cover_of_tiledL (kernelRun0_B c i a3 w3 a4 w4 a5 w5 a6 w6 a7 w7 a8 w8 a9 w9 a10 w10 hc0 hc1 hc2 x0 x1 x2).1 S512x128.size (by sl_kernel_rfl) y

/-- What case B leaves in output 3's staging buffer: its pieces read back over junk. -/
def out0_B_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : ¬cond0_1 i) (hc2 : cond0_2 i)
    (x0 : Vec F S512x1024 .bf16) (x1 : Vec F S4096x1024 .bf16) (x2 : Vec F S640x4096 .bf16) : Vec F S512x512 .bf16 :=
  VO0_3.read (Elt F) (VO0_3.writes (Elt F) VO0_3.junk (kernelRun0_B c i a3 w3 a4 w4 a5 w5 a6 w6 a7 w7 a8 w8 a9 w9 a10 w10 hc0 hc1 hc2 x0 x1 x2).1)

/-- Case C's pieces for output 3 tile its block (4 stores of `S512x128`, checked by the kernel's evaluation: Lib/Ring.lean `Piece.tiledL`, linear in the pieces, through a loop's `@[irreducible]` trip theorem too), so they cover it. -/
theorem cover0_C_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : cond0_1 i) (hc2 : ¬cond0_2 i)
    (x0 : Vec F S512x1024 .bf16) (x1 : Vec F S4096x1024 .bf16) (x2 : Vec F S640x4096 .bf16) (y : S512x512.Idx) :
    ∃ pc ∈ (kernelRun0_C c i a3 w3 a4 w4 a5 w5 a6 w6 a7 w7 a8 w8 a9 w9 a10 w10 hc0 hc1 hc2 x0 x1 x2).1, y ∈ pc.1.set :=
  View.cover_of_tiledL (kernelRun0_C c i a3 w3 a4 w4 a5 w5 a6 w6 a7 w7 a8 w8 a9 w9 a10 w10 hc0 hc1 hc2 x0 x1 x2).1 S512x128.size (by sl_kernel_rfl) y

/-- What case C leaves in output 3's staging buffer: its pieces read back over junk. -/
def out0_C_3 (c : Dev nD) (i : grid0.Coords) (a3 : Memref sig .tc .vmem S512x1024 .bf16) (w3 : a3.IsWhole) (a4 : Memref sig .tc .vmem S4096x1024 .bf16) (w4 : a4.IsWhole) (a5 : Memref sig .tc .vmem S640x4096 .bf16) (w5 : a5.IsWhole) (a6 : Memref sig .tc .vmem S512x512 .bf16) (w6 : a6.IsWhole) (a7 : Memref sig .tc .vmem S8x1x512 .f32) (w7 : a7.IsWhole) (a8 : Memref sig .tc .vmem S8x80x512 .f32) (w8 : a8.IsWhole) (a9 : Memref sig .tc .vmem S8x512x512 .f32) (w9 : a9.IsWhole) (a10 : Memref sig .tc .vmem S8x512x512 .f32) (w10 : a10.IsWhole) (hc0 : cond0_0 i) (hc1 : cond0_1 i) (hc2 : ¬cond0_2 i)
    (x0 : Vec F S512x1024 .bf16) (x1 : Vec F S4096x1024 .bf16) (x2 : Vec F S640x4096 .bf16) : Vec F S512x512 .bf16 :=
  VO0_3.read (Elt F) (VO0_3.writes (Elt F) VO0_3.junk (kernelRun0_C c i a3 w3 a4 w4 a5 w5 a6 w6 a7 w7 a8 w8 a9 w9 a10 w10 hc0 hc1 hc2 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩)
  | n + 1, hn =>
    if h0 : 1 ≤ (n + 1) % 8 then
      if h1 : (n + 1) % 2 = 0 then
        if h2 : (n + 1) % 2 = 1 then
          False.elim (by have hN : n + 1 < 64 := lt_of_lt_of_eq hn (show cfg0.N = 64 from N_0); omega)
        else
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩)
      else
        if h2 : (n + 1) % 2 = 1 then
          out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩)
        else
          False.elim (by have hN : n + 1 < 64 := lt_of_lt_of_eq hn (show cfg0.N = 64 from N_0); omega)
    else
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩)

/-- `outsAt0` at a point of case A: that case's contents. -/
theorem outsAt0_A (c : Dev nD) (t : Fin cfg0.N) (h0 : ¬1 ≤ t.val % 8) :
    outsAt0 m c t.val t.isLt = out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) := by
  obtain ⟨n, hn⟩ := t
  cases n with
  | zero => exact rfl
  | succ n => exact (dif_neg h0).trans rfl

/-- `outsAt0` at a point of case B: that case's contents. -/
theorem outsAt0_B (c : Dev nD) (t : Fin cfg0.N) (h0 : 1 ≤ t.val % 8) (h1 : ¬t.val % 2 = 0) (h2 : t.val % 2 = 1) :
    outsAt0 m c t.val t.isLt = out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t) := by
  obtain ⟨n, hn⟩ := t
  cases n with
  | zero => exact (by exfalso; (try dsimp only at h0); exact by omega)
  | succ n => exact (dif_pos h0).trans ((dif_neg h1).trans ((dif_pos h2).trans rfl))

/-- `outsAt0` at a point of case C: that case's contents. -/
theorem outsAt0_C (c : Dev nD) (t : Fin cfg0.N) (h0 : 1 ≤ t.val % 8) (h1 : t.val % 2 = 0) (h2 : ¬t.val % 2 = 1) :
    outsAt0 m c t.val t.isLt = out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) := by
  obtain ⟨n, hn⟩ := t
  cases n with
  | zero => exact (by exfalso; (try dsimp only at h0); exact by omega)
  | succ n => exact (dif_pos h0).trans ((dif_pos h1).trans ((dif_neg h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : 1 ≤ t.val % 8
  · by_cases h1 : t.val % 2 = 0
    · by_cases h2 : t.val % 2 = 1
      · exfalso; omega
      · rw [outsAt0_C m c t h0 h1 h2]
        unfold out0_C_3
        iintro ⟨⟨⟨HS0, HS1, HS2, HS3⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t)).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _ _)
    · by_cases h2 : t.val % 2 = 1
      · rw [outsAt0_B m c t h0 h1 h2]
        unfold out0_B_3
        iintro ⟨⟨⟨HS0, HS1, HS2, HS3⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ _ _ ((hcond0_0 t).mpr h0) (fun h => h1 ((hcond0_1 t).mp h)) ((hcond0_2 t).mpr h2) (iblk m c 0 t) (iblk m c 1 t) (iblk m c 2 t)).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_B_3 c _ _ _ _ _ _ _ _ _ _ _ _ _ _ _ _ _ _ _ _ _ _ _)
      · exfalso; omega
  · rw [outsAt0_A m c t h0]
    unfold out0_A_3
    iintro ⟨⟨⟨HS0, HS1, HS2, HS3⟩, Hg⟩, Ho, ⟨%d0, H0⟩, ⟨%d1, H1⟩, ⟨%d2, H2⟩, ⟨%d3, H3⟩⟩
    iapply ((kernelRun0_A c (grid0.coords t) _ _ _ _ _ _ _ _ _ _ _ _ _ _ _ _ (fun h => h0 ((hcond0_0 t).mp h)) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%e3, H3⟩, ⟨%fT0, HS0⟩, ⟨%fT1, HS1⟩, HS2, HS3⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexact HS2
        iexact HS3
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Run.KernelIdeal.Value.lean ====
/- The output array after the run, block by block: block `t` is what grid point `t` wrote, named per case. -/
module

public import proofs.«01_k».proof.Proof.Run.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : ¬1 ≤ t.val % 8) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : 1 ≤ t.val % 8) (h1 : ¬t.val % 2 = 0) (h2 : t.val % 2 = 1) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t)) := by
  simp only [flushed3, outsAt0_B m c t h0 h1 h2]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : 1 ≤ t.val % 8) (h1 : t.val % 2 = 0) (h2 : ¬t.val % 2 = 1) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t)) := by
  simp only [flushed3, outsAt0_C m c t h0 h1 h2]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S16384x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Value

end
-- ==== Proof.Softmax.lean ====
/- The softmax of one query taken key block by key block, over the extended reals.

   The kernel keeps, for a query, the greatest score met so far and sums weighted by powers of two that are taken
   relative to that greatest score; when a further block raises it, the sums are scaled. `State` says what these
   numbers are for a set of keys, `State.step` that one such update goes from a set of keys to a larger one, and
   `State.done` that after all keys the quotient the kernel forms is the softmax-weighted sum as it is usually
   written. -/
module

public import Idealize.ShloMosaic.PureOps.Ideal

@[expose] public section

noncomputable section

namespace Cert.Softmax

open Idealize.ShloMosaic

/-- A positive real factor goes through a finite sum of extended reals. -/
theorem coe_mul_sum {ι : Type*} (c : ℝ) (hc : 0 ≤ c) (S : Finset ι) (f : ι → EReal) :
    (c : EReal) * ∑ k ∈ S, f k = ∑ k ∈ S, (c : EReal) * f k := by
  classical
  induction S using Finset.induction_on with
  | empty => simp
  | insert a S ha ih => rw [Finset.sum_insert ha, Finset.sum_insert ha,
      EReal.left_distrib_of_nonneg_of_ne_top (EReal.coe_nonneg.mpr hc) (EReal.coe_ne_top _), ih]

theorem exp2_bot : Ideal.exp2 ⊥ = 0 := rfl
theorem exp2_coe (r : ℝ) : Ideal.exp2 (r : EReal) = ((2 ^ r : ℝ) : EReal) := rfl

/-- Scaling a weighted sum from the reference point `m` to the reference point `m'`. -/
theorem rescale {ι : Type*} (s v : ι → EReal) (S : Finset ι) (m m' : EReal) (hm : ∀ k ∈ S, s k ≤ m) (hmm : m ≤ m') :
    Ideal.exp2 (m - m') * ∑ k ∈ S, v k * Ideal.exp2 (s k - m) = ∑ k ∈ S, v k * Ideal.exp2 (s k - m') := by
  induction m' with
  | bot =>
    obtain rfl : m = ⊥ := le_bot_iff.mp hmm
    rw [EReal.bot_sub, exp2_bot, zero_mul]
    exact (Finset.sum_eq_zero fun k hk => by
      rw [le_bot_iff.mp (hm k hk), EReal.bot_sub, exp2_bot, mul_zero]).symm
  | top =>
    have h : ∀ x : EReal, Ideal.exp2 (x - ⊤) = 0 := fun x => by
      rw [sub_eq_add_neg, EReal.neg_top, EReal.add_bot, exp2_bot]
    simp only [h, zero_mul, mul_zero, Finset.sum_const_zero]
  | coe r' =>
    induction m with
    | bot =>
      rw [EReal.bot_sub, exp2_bot, zero_mul]
      exact (Finset.sum_eq_zero fun k hk => by
        rw [le_bot_iff.mp (hm k hk), EReal.bot_sub, exp2_bot, mul_zero]).symm
    | top => exact absurd hmm (by simp)
    | coe r =>
      rw [← EReal.coe_sub, exp2_coe, coe_mul_sum _ (Real.rpow_nonneg (by norm_num) _)]
      refine Finset.sum_congr rfl fun k hk => ?_
      have h := hm k hk
      generalize s k = x at h
      induction x with
      | bot => simp only [EReal.bot_sub, exp2_bot, mul_zero]
      | top => exact absurd h (by simp)
      | coe x =>
        rw [← EReal.coe_sub, ← EReal.coe_sub, exp2_coe, exp2_coe, mul_left_comm, ← EReal.coe_mul,
          ← Real.rpow_add (by norm_num)]
        rw [show r - r' + (x - r) = x - r' by ring]

/-- What is kept for one query after the keys `S`: `m` is the greatest score, `a d` the sum of the `d`-th values
    weighted by the powers of two of the scores relative to `m`. -/
structure State {δ : Type*} (s : ℕ → EReal) (v : δ → ℕ → EReal) (S : Finset ℕ) (m : EReal) (a : δ → EReal) : Prop where
  max : m = S.sup s
  acc : ∀ d, a d = ∑ k ∈ S, v d k * Ideal.exp2 (s k - m)

theorem State.empty {δ : Type*} (s : ℕ → EReal) (v : δ → ℕ → EReal) : State s v ∅ ⊥ (fun _ => 0) :=
  ⟨by simp, by simp⟩

/-- One update: from the keys `S` to the keys `S ∪ T`. -/
theorem State.step {δ : Type*} {s : ℕ → EReal} {v : δ → ℕ → EReal} {S : Finset ℕ} {m : EReal} {a : δ → EReal}
    (h : State s v S m a) (T : Finset ℕ) (hd : Disjoint S T) :
    State s v (S ∪ T) (Max.max m (T.sup s)) (fun d =>
      Ideal.exp2 (m - Max.max m (T.sup s)) * a d
        + ∑ k ∈ T, v d k * Ideal.exp2 (s k - Max.max m (T.sup s))) where
  max := by rw [h.max, Finset.sup_union]
  acc d := by
    rw [h.acc d, rescale s (v d) S m _ (fun k hk => h.max ▸ Finset.le_sup hk) (le_max_left _ _), Finset.sum_union hd]

/-- Keys of score `-∞` change nothing, neither by being left out nor by being added. -/
theorem State.widen {δ : Type*} {s : ℕ → EReal} {v : δ → ℕ → EReal} {S : Finset ℕ} {m : EReal} {a : δ → EReal}
    (h : State s v S m a) (S' : Finset ℕ) (hS : S ⊆ S') (hb : ∀ k ∈ S', k ∉ S → s k = ⊥) : State s v S' m a where
  max := by
    rw [h.max]
    refine le_antisymm (Finset.sup_mono hS) (Finset.sup_le fun k hk => ?_)
    by_cases hkS : k ∈ S
    · exact Finset.le_sup hkS
    · rw [hb k hk hkS]; exact bot_le
  acc d := by
    rw [h.acc d]
    refine Finset.sum_subset hS fun k hk hkS => ?_
    rw [hb k hk hkS, EReal.bot_sub, exp2_bot, mul_zero]

/-- The exponential of `x · ln 2` is the power of two. -/
theorem exp_log_two (x : EReal) : Ideal.exp (((Real.log 2 : ℝ) : EReal) * x) = Ideal.exp2 x := by
  have h2 : (0 : ℝ) < Real.log 2 := Real.log_pos (by norm_num)
  induction x with
  | bot => rw [EReal.coe_mul_bot_of_pos h2]; rfl
  | top => rw [EReal.coe_mul_top_of_pos h2]; rfl
  | coe r =>
    rw [← EReal.coe_mul, exp2_coe]
    show ((Real.exp (Real.log 2 * r) : ℝ) : EReal) = _
    rw [Real.rpow_def_of_pos (by norm_num)]

/-- After the last key. With scores that are real or `-∞`, not all `-∞`, the sum of weights `a o` (whose values are
    ones) is a positive real, and the kernel's `a d · (1 / a o)` is the sum of the values weighted by the softmax of
    the scores, each weight divided by the sum of all. -/
theorem State.done {δ : Type*} {s : ℕ → EReal} {v : δ → ℕ → EReal} {S : Finset ℕ} {m : EReal} {a : δ → EReal}
    (h : State s v S m a) (o : δ) (ho : ∀ k ∈ S, v o k = 1) (hs : ∀ k ∈ S, s k ≠ ⊤) (k₀ : ℕ) (hk₀ : k₀ ∈ S)
    (hk₀' : s k₀ ≠ ⊥) (d : δ) :
    a d * Ideal.div 1 (a o)
      = ∑ k ∈ S, v d k * Ideal.div (Ideal.exp2 (s k - S.sup s)) (∑ l ∈ S, Ideal.exp2 (s l - S.sup s)) := by
  have hm := h.max
  have hb : ⊥ < S.sup s := lt_of_lt_of_le (bot_lt_iff_ne_bot.mpr hk₀') (Finset.le_sup hk₀)
  have ht : S.sup s < ⊤ := (Finset.sup_lt_iff (by simp)).mpr fun k hk => lt_top_iff_ne_top.mpr (hs k hk)
  obtain ⟨M, hM⟩ : ∃ M : ℝ, S.sup s = (M : EReal) := by
    exact ⟨_, (EReal.coe_toReal ht.ne hb.ne').symm⟩
  have hw : ∀ k ∈ S, ∃ w : ℝ, 0 ≤ w ∧ Ideal.exp2 (s k - S.sup s) = (w : EReal) := fun k hk => by
    have := hs k hk
    rw [hM]
    generalize s k = x at this
    induction x with
    | bot => exact ⟨0, le_rfl, by rw [EReal.bot_sub, exp2_bot, EReal.coe_zero]⟩
    | top => exact absurd rfl this
    | coe x => exact ⟨2 ^ (x - M), Real.rpow_nonneg (by norm_num) _, by rw [← EReal.coe_sub, exp2_coe]⟩
  choose! w hw0 hw using hw
  have hD : (∑ l ∈ S, Ideal.exp2 (s l - S.sup s)) = ((∑ l ∈ S, w l : ℝ) : EReal) := by
    rw [Finset.sum_congr rfl hw]
    exact (map_sum (⟨⟨Real.toEReal, EReal.coe_zero⟩, EReal.coe_add⟩ : ℝ →+ EReal) w S).symm
  have hD0 : (0 : ℝ) < ∑ l ∈ S, w l := by
    refine Finset.sum_pos' hw0 ⟨k₀, hk₀, ?_⟩
    have h1 := hw k₀ hk₀
    have h2 := hs k₀ hk₀
    rw [hM] at h1
    generalize s k₀ = x at h1 h2 hk₀'
    induction x with
    | bot => exact absurd rfl hk₀'
    | top => exact absurd rfl h2
    | coe x =>
      rw [← EReal.coe_sub, exp2_coe, EReal.coe_eq_coe_iff] at h1
      rw [← h1]
      exact Real.rpow_pos_of_pos (by norm_num) _
  have ha : a o = ((∑ l ∈ S, w l : ℝ) : EReal) := by
    rw [h.acc o, hm, ← hD]
    exact Finset.sum_congr rfl fun k hk => by rw [ho k hk, one_mul]
  rw [ha, hD, h.acc d, hm, Ideal.div_coe hD0.ne', one_mul, mul_comm, coe_mul_sum _ (by positivity)]
  refine Finset.sum_congr rfl fun k _ => ?_
  rw [Ideal.div_coe hD0.ne', mul_comm _ (v d k * _), mul_assoc]

end Cert.Softmax

end
-- ==== Proof.Spec.lean ====
/- The attention as it is usually written: what both programs compute, one entry of the result at a time. Row `4096*b + x` of
   the queries is position `x` of sequence `b`; head `h` has columns `128*h …` of queries and keys, rows `80*h …` of the
   transposed values (the first 64 of these 80 are values) and columns `64*h …` of the result. -/
module

public import proofs.«01_k».proof.Proof.Softmax
public import Idealize.ShloMosaic.Lib.Pointwise

@[expose] public section

noncomputable section

namespace Cert.Spec

open Idealize.ShloMosaic

/-- The shapes of queries and keys, of the transposed values, of the result. -/
abbrev SQ : Shape := ⟨2, ![16384, 2048]⟩
abbrev SV : Shape := ⟨2, ![1280, 16384]⟩
abbrev SO : Shape := ⟨2, ![16384, 1024]⟩

section
variable (q k : Vec Ideal SQ .bf16) (v : Vec Ideal SV .bf16) (b : Fin 4) (h : Fin 16)

/-- The row of queries, keys and result, and the column of the values, of a position. -/
def row (x : Fin 4096) : Fin 16384 := ⟨4096 * b.val + x.val, by omega⟩

/-- The product of a query and a key. -/
def raw (x y : Fin 4096) : EReal :=
  ∑ d : Fin 128, q (ix2 (row b x) ⟨128 * h.val + d.val, by omega⟩) * k (ix2 (row b y) ⟨128 * h.val + d.val, by omega⟩)

/-- The score of key `y` for query `x`: a key of a later chunk of 64 positions has none. -/
def score (x y : Fin 4096) : EReal := if y.val / 64 ≤ x.val / 64 then raw q k b h x y else ⊥

/-- The greatest score of a query. -/
def top (x : Fin 4096) : EReal := Finset.univ.sup (score q k b h x)

/-- A key's weight, before division by the sum of the weights. -/
def weight (x y : Fin 4096) : EReal := Ideal.exp2 (score q k b h x y - top q k b h x)

/-- A value. -/
def value (d : Fin 64) (y : Fin 4096) : EReal := v (ix2 ⟨80 * h.val + d.val, by omega⟩ (row b y))

/-- The attention of one query, one head, one column. -/
def attend (x : Fin 4096) (d : Fin 64) : EReal :=
  ∑ y : Fin 4096, value v b h d y * Ideal.div (weight q k b h x y) (∑ z : Fin 4096, weight q k b h x z)

end

/-- The whole result. -/
def out (q k : Vec Ideal SQ .bf16) (v : Vec Ideal SV .bf16) : Vec Ideal SO .bf16 := fun j =>
  attend q k v ⟨(j 0).val / 4096, by have : (j 0).val < 16384 := (j 0).isLt; omega⟩
    ⟨(j 1).val / 64, by have : (j 1).val < 1024 := (j 1).isLt; omega⟩
    ⟨(j 0).val % 4096, by omega⟩ ⟨(j 1).val % 64, by omega⟩

theorem out_apply (q k : Vec Ideal SQ .bf16) (v : Vec Ideal SV .bf16) (j : SO.Idx) (b : Fin 4) (h : Fin 16) (x : Fin 4096) (d : Fin 64)
    (hR : (j 0).val = 4096 * b.val + x.val) (hC : (j 1).val = 64 * h.val + d.val) : out q k v j = attend q k v b h x d := by
  have := b.isLt; have := h.isLt; have := x.isLt; have := d.isLt
  have e1 : ∀ p, (⟨(j 0).val / 4096, p⟩ : Fin 4) = b := fun p => Fin.ext (by dsimp only; omega)
  have e2 : ∀ p, (⟨(j 1).val / 64, p⟩ : Fin 16) = h := fun p => Fin.ext (by dsimp only; omega)
  have e3 : ∀ p, (⟨(j 0).val % 4096, p⟩ : Fin 4096) = x := fun p => Fin.ext (by dsimp only; omega)
  have e4 : ∀ p, (⟨(j 1).val % 64, p⟩ : Fin 64) = d := fun p => Fin.ext (by dsimp only; omega)
  rw [out, e1, e2, e3, e4]

end Cert.Spec

end
-- ==== Proof.Steps.lean ====
/- The kernel's vector arithmetic, one function for each step that recurs.

   Each head of each block of keys goes through the same few steps: the scores of a block of keys against the block of
   queries (`score`, and with the causal mask `own0`, `own1`), the new greatest score (`newM`, `newM0`, `newM1`) and the
   new weighted sums (`newA`, `newA0`, `newA1`), and at the end the quotient (`fin`). They are given here as the kernel
   prints them, for any float instance, and then read at an index over the extended reals. -/
module

public import proofs.«01_k».proof.Proof.Gen.KernelIdeal
public import Idealize.ShloMosaic.Lib.Pointwise
public import Idealize.ShloMosaic.Lib.Pipeline.Value

@[expose] public section

set_option maxRecDepth 16384

noncomputable section

namespace Cert.Steps

open Idealize.ShloMosaic Cert.KernelIdeal Cert.KernelIdeal.Facts₀

section AnyInstance
variable {F : FTy → Type} [FloatOps F] [Named F]

/-- Scores of 512 keys (first axis) against 512 queries. -/
def score (q kb : Vec F S512x128 .bf16) : FVec F S1x512x512 .f32 :=
  shapeCast S1x512x512
    (matmul dot_S512x128_S512x128_S512x512_1_1_0_0_n_n none kb q (constant S512x512 .f32 0x00000000#32))
    shapeCasts_S512x512_S1x512x512

/-- The greatest score so far, after 512 more keys. -/
def topM (s : Vec F S1x512x512 .f32) (m : Vec F S1x1x512 .f32) : FVec F S1x512 .f32 :=
  maximumf (shapeCast S1x512 m shapeCasts_S1x1x512_S1x512)
    (shapeCast S1x512 (multiReduction .maximumf [0] S512 (shapeCast S512x512 s shapeCasts_S1x512x512_S512x512)
      0xFF800000#32 reduces_S512x512_S512 (.inl rfl) rfl) shapeCasts_S512_S1x512)

/-- `topM` in the layout it is kept in. -/
def newM (s : Vec F S1x512x512 .f32) (m : Vec F S1x1x512 .f32) : FVec F S1x1x512 .f32 :=
  shapeCast S1x1x512 (topM s m) shapeCasts_S1x512_S1x1x512

/-- The weighted sums of the value rows, after 512 more keys. -/
def newA (s : Vec F S1x512x512 .f32) (m : Vec F S1x1x512 .f32) (vt : Vec F S80x512 .bf16) (a : Vec F S1x80x512 .f32) :
    FVec F S1x80x512 .f32 :=
  shapeCast S1x80x512
    (addf
      (mulf
        (broadcastTo S80x512 (exp2 (subf (shapeCast S1x512 m shapeCasts_S1x1x512_S1x512) (topM s m)))
          broadcasts_S1x512_S80x512)
        (shapeCast S80x512 a shapeCasts_S1x80x512_S80x512))
      (matmul dot_S80x512_S512x512_S80x512_1_0_0_1_n_n none vt
        (truncf .bf16 (exp2 (subf (shapeCast S512x512 s shapeCasts_S1x512x512_S512x512)
          (broadcastTo S512x512 (topM s m) broadcasts_S1x512_S512x512))) bitsLt_bf16_f32)
        (constant S80x512 .f32 0x00000000#32)))
    shapeCasts_S80x512_S1x80x512

/-- Each word divided by 64, rounded down, as the kernel computes it. -/
def chunkOf {s : Shape} (x : IVec s 32) : IVec s 32 :=
  select
    (andi
      (cmpi .ne
        (subi (extui 32 (cmpi .sgt x (broadcast s 0#32)) natLt_1_32) (extui 32 (cmpi .slt x (broadcast s 0#32)) natLt_1_32))
        (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32))
    (divsi x (broadcast s 64#32))

/-- The masked scores of the first 256 keys of the block of keys at the queries' own positions. -/
def own0 (i : BitVec 32) (q : Vec F S512x128 .bf16) (kb : Vec F S256x128 .bf16) : FVec F S256x512 .f32 :=
  select
    (cmpi .sle
      (broadcastTo S256x512 (chunkOf (addi (broadcast S256x1 (Scalar.addi (Scalar.muli i 512#32) 0#32))
        (iota .tc S256x1 32 [0] iota_S256x1_d0_w32))) broadcasts_S256x1_S256x512)
      (broadcastTo S256x512 (chunkOf (addi (broadcast S1x512 (Scalar.addi (Scalar.muli i 512#32) 0#32))
        (iota .tc S1x512 32 [1] iota_S1x512_d1_w32))) broadcasts_S1x512_S256x512))
    (matmul dot_S256x128_S512x128_S256x512_1_1_0_0_n_n none kb q (constant S256x512 .f32 0x00000000#32))
    (broadcast S256x512 (Named.named κ "mask" 0xF149F2CA#32))

def topM0 (s : FVec F S256x512 .f32) (m : Vec F S1x1x512 .f32) : FVec F S1x512 .f32 :=
  maximumf (shapeCast S1x512 m shapeCasts_S1x1x512_S1x512)
    (shapeCast S1x512 (multiReduction .maximumf [0] S512 s 0xFF800000#32 reduces_S256x512_S512 (.inl rfl) rfl)
      shapeCasts_S512_S1x512)

def newM0 (s : FVec F S256x512 .f32) (m : Vec F S1x1x512 .f32) : FVec F S1x1x512 .f32 :=
  shapeCast S1x1x512 (topM0 s m) shapeCasts_S1x512_S1x1x512

def newA0 (s : FVec F S256x512 .f32) (m : Vec F S1x1x512 .f32) (vt : Vec F S80x256 .bf16) (a : Vec F S1x80x512 .f32) :
    FVec F S1x80x512 .f32 :=
  shapeCast S1x80x512
    (addf
      (mulf
        (broadcastTo S80x512 (exp2 (subf (shapeCast S1x512 m shapeCasts_S1x1x512_S1x512) (topM0 s m)))
          broadcasts_S1x512_S80x512)
        (shapeCast S80x512 a shapeCasts_S1x80x512_S80x512))
      (matmul dot_S80x256_S256x512_S80x512_1_0_0_1_n_n none vt
        (truncf .bf16 (exp2 (subf s (broadcastTo S256x512 (topM0 s m) broadcasts_S1x512_S256x512))) bitsLt_bf16_f32)
        (constant S80x512 .f32 0x00000000#32)))
    shapeCasts_S80x512_S1x80x512

/-- The masked scores of the other 256 keys there, against the last 256 queries. -/
def own1 (i : BitVec 32) (q : Vec F S512x128 .bf16) (kb : Vec F S256x128 .bf16) : FVec F S256x256 .f32 :=
  select
    (cmpi .sle
      (broadcastTo S256x256 (chunkOf (addi (broadcast S256x1 (Scalar.addi (Scalar.muli i 512#32) 256#32))
        (iota .tc S256x1 32 [0] iota_S256x1_d0_w32))) broadcasts_S256x1_S256x256)
      (broadcastTo S256x256 (chunkOf (addi (broadcast S1x256 (Scalar.addi (Scalar.muli i 512#32) 256#32))
        (iota .tc S1x256 32 [1] iota_S1x256_d1_w32))) broadcasts_S1x256_S256x256))
    (matmul dot_S256x128_S256x128_S256x256_1_1_0_0_n_n none kb
      (extractStridedSlice S256x128 ![256, 0] q slices_S512x128_o256_0_S256x128) (constant S256x256 .f32 0x00000000#32))
    (broadcast S256x256 (Named.named κ "mask" 0xF149F2CA#32))

def topM1 (s : FVec F S256x256 .f32) (m : Vec F S1x1x256 .f32) : FVec F S1x256 .f32 :=
  maximumf (shapeCast S1x256 m shapeCasts_S1x1x256_S1x256)
    (shapeCast S1x256 (multiReduction .maximumf [0] S256 s 0xFF800000#32 reduces_S256x256_S256 (.inl rfl) rfl)
      shapeCasts_S256_S1x256)

def newM1 (s : FVec F S256x256 .f32) (m : Vec F S1x1x256 .f32) : FVec F S1x1x256 .f32 :=
  shapeCast S1x1x256 (topM1 s m) shapeCasts_S1x256_S1x1x256

def newA1 (s : FVec F S256x256 .f32) (m : Vec F S1x1x256 .f32) (vt : Vec F S80x256 .bf16) (a : Vec F S1x80x256 .f32) :
    FVec F S1x80x256 .f32 :=
  shapeCast S1x80x256
    (addf
      (mulf
        (broadcastTo S80x256 (exp2 (subf (shapeCast S1x256 m shapeCasts_S1x1x256_S1x256) (topM1 s m)))
          broadcasts_S1x256_S80x256)
        (shapeCast S80x256 a shapeCasts_S1x80x256_S80x256))
      (matmul dot_S80x256_S256x256_S80x256_1_0_0_1_n_n none vt
        (truncf .bf16 (exp2 (subf s (broadcastTo S256x256 (topM1 s m) broadcasts_S1x256_S256x256))) bitsLt_bf16_f32)
        (constant S80x256 .f32 0x00000000#32)))
    shapeCasts_S80x256_S1x80x256

/-- The quotient of one head: 64 rows of sums over the 65th row. -/
def quot (a : Vec F S1x80x512 .f32) : FVec F S64x512 .f32 :=
  mulf (extractStridedSlice S64x512 ![0, 0] (shapeCast S80x512 a shapeCasts_S1x80x512_S80x512) slices_S80x512_o0_0_S64x512)
    (broadcastTo S64x512
      (divf (broadcast S1x512 (Scalar.ofBits .f32 0x3F800000#32))
        (extractStridedSlice S1x512 ![64, 0] (shapeCast S80x512 a shapeCasts_S1x80x512_S80x512) slices_S80x512_o64_0_S1x512))
      broadcasts_S1x512_S64x512)

/-- A pair of heads, queries first. -/
def fin (a b : Vec F S1x80x512 .f32) : FVec F S512x128 .bf16 :=
  truncf .bf16
    (transpose S512x128 [1, 0]
      (concatenate S128x512 0 [⟨S64x512, quot a⟩, ⟨S64x512, quot b⟩] concatenates_S64x512_S64x512_S128x512_d0)
      transposes_S128x512_p1_0_S512x128) bitsLt_bf16_f32

end AnyInstance

/-! ## At an index, over the extended reals -/

/-- The greatest of a column, as the kernel's reduction starts it. -/
theorem fold_eq_sup {n : ℕ} (f : Fin n → EReal) :
    Finset.fold max (Ideal.ofBits FTy.f32 0xFF800000#32) f Finset.univ = Finset.univ.sup f := by
  have h : Ideal.ofBits FTy.f32 0xFF800000#32 = ⊥ := by
    simp [Ideal.ofBits, Ideal.ieee]
  rw [h]
  rfl

theorem score_apply (q kb : Vec Ideal S512x128 .bf16) (k x : Fin 512) :
    score (F := Ideal) q kb (ix3 0 k x) = ∑ d : Fin 128, kb (ix2 k d) * q (ix2 x d) := by
  pointwise [score]

theorem topM_apply (s : Vec Ideal S1x512x512 .f32) (m : Vec Ideal S1x1x512 .f32) (x : Fin 512) :
    topM (F := Ideal) s m (ix2 0 x) = max (m (ix3 0 0 x)) (Finset.univ.sup fun k : Fin 512 => s (ix3 0 k x)) := by
  pointwise [topM]
  rw [fold_eq_sup]

theorem newM_apply (s : Vec Ideal S1x512x512 .f32) (m : Vec Ideal S1x1x512 .f32) (x : Fin 512) :
    newM (F := Ideal) s m (ix3 0 0 x) = max (m (ix3 0 0 x)) (Finset.univ.sup fun k : Fin 512 => s (ix3 0 k x)) := by
  rw [← topM_apply]
  pointwise [newM]

theorem newA_apply (s : Vec Ideal S1x512x512 .f32) (m : Vec Ideal S1x1x512 .f32) (vt : Vec Ideal S80x512 .bf16)
    (a : Vec Ideal S1x80x512 .f32) (d : Fin 80) (x : Fin 512) :
    newA (F := Ideal) s m vt a (ix3 0 d x)
      = Ideal.exp2 (m (ix3 0 0 x) - newM (F := Ideal) s m (ix3 0 0 x)) * a (ix3 0 d x)
        + ∑ k : Fin 512, vt (ix2 d k) * Ideal.exp2 (s (ix3 0 k x) - newM (F := Ideal) s m (ix3 0 0 x)) := by
  rw [newM_apply, ← topM_apply]
  pointwise [newA]
  rfl

theorem topM0_apply (s : Vec Ideal S256x512 .f32) (m : Vec Ideal S1x1x512 .f32) (x : Fin 512) :
    topM0 (F := Ideal) s m (ix2 0 x) = max (m (ix3 0 0 x)) (Finset.univ.sup fun k : Fin 256 => s (ix2 k x)) := by
  pointwise [topM0]
  rw [fold_eq_sup]

theorem newM0_apply (s : Vec Ideal S256x512 .f32) (m : Vec Ideal S1x1x512 .f32) (x : Fin 512) :
    newM0 (F := Ideal) s m (ix3 0 0 x) = max (m (ix3 0 0 x)) (Finset.univ.sup fun k : Fin 256 => s (ix2 k x)) := by
  rw [← topM0_apply]
  pointwise [newM0]

theorem newA0_apply (s : Vec Ideal S256x512 .f32) (m : Vec Ideal S1x1x512 .f32) (vt : Vec Ideal S80x256 .bf16)
    (a : Vec Ideal S1x80x512 .f32) (d : Fin 80) (x : Fin 512) :
    newA0 (F := Ideal) s m vt a (ix3 0 d x)
      = Ideal.exp2 (m (ix3 0 0 x) - newM0 (F := Ideal) s m (ix3 0 0 x)) * a (ix3 0 d x)
        + ∑ k : Fin 256, vt (ix2 d k) * Ideal.exp2 (s (ix2 k x) - newM0 (F := Ideal) s m (ix3 0 0 x)) := by
  rw [newM0_apply, ← topM0_apply]
  pointwise [newA0]
  rfl

theorem topM1_apply (s : Vec Ideal S256x256 .f32) (m : Vec Ideal S1x1x256 .f32) (x : Fin 256) :
    topM1 (F := Ideal) s m (ix2 0 x) = max (m (ix3 0 0 x)) (Finset.univ.sup fun k : Fin 256 => s (ix2 k x)) := by
  pointwise [topM1]
  rw [fold_eq_sup]

theorem newM1_apply (s : Vec Ideal S256x256 .f32) (m : Vec Ideal S1x1x256 .f32) (x : Fin 256) :
    newM1 (F := Ideal) s m (ix3 0 0 x) = max (m (ix3 0 0 x)) (Finset.univ.sup fun k : Fin 256 => s (ix2 k x)) := by
  rw [← topM1_apply]
  pointwise [newM1]

theorem newA1_apply (s : Vec Ideal S256x256 .f32) (m : Vec Ideal S1x1x256 .f32) (vt : Vec Ideal S80x256 .bf16)
    (a : Vec Ideal S1x80x256 .f32) (d : Fin 80) (x : Fin 256) :
    newA1 (F := Ideal) s m vt a (ix3 0 d x)
      = Ideal.exp2 (m (ix3 0 0 x) - newM1 (F := Ideal) s m (ix3 0 0 x)) * a (ix3 0 d x)
        + ∑ k : Fin 256, vt (ix2 d k) * Ideal.exp2 (s (ix2 k x) - newM1 (F := Ideal) s m (ix3 0 0 x)) := by
  rw [newM1_apply, ← topM1_apply]
  pointwise [newA1]
  rfl

theorem fin_apply_left (a b : Vec Ideal S1x80x512 .f32) (x : Fin 512) (d : ℕ) (hd : d < 64) :
    fin (F := Ideal) a b (ix2 x ⟨d, by omega⟩) = a (ix3 0 ⟨d, by omega⟩ x) * Ideal.div 1 (a (ix3 0 64 x)) := by
  pointwise [fin, quot]
  exact dif_pos hd

theorem fin_apply_right (a b : Vec Ideal S1x80x512 .f32) (x : Fin 512) (d : ℕ) (hd : d < 64) :
    fin (F := Ideal) a b (ix2 x ⟨64 + d, by omega⟩) = b (ix3 0 ⟨d, by omega⟩ x) * Ideal.div 1 (b (ix3 0 64 x)) := by
  pointwise [fin, quot]

/-! ## The causal mask -/

/-- `chunkOf` of one word. -/
def chunkW (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem chunkOf_apply {s : Shape} (x : IVec s 32) (j : s.Idx) : chunkOf x j = chunkW (x j) := rfl

theorem chunkW_fin : ∀ n : Fin 4096, chunkW (BitVec.ofNat 32 n.val) = BitVec.ofNat 32 (n.val / 64) := by
  decide +kernel

theorem sle_fin : ∀ a b : Fin 64, IntOp.cmpi .sle (BitVec.ofNat 32 a.val) (BitVec.ofNat 32 b.val)
    = if a.val ≤ b.val then 1#1 else 0#1 := by
  decide +kernel

theorem pos_eq (i k c : ℕ) : IntOp.addi (Scalar.addi (Scalar.muli (BitVec.ofNat 32 i) 512#32) (BitVec.ofNat 32 c)) (BitVec.ofNat 32 k)
    = BitVec.ofNat 32 (i * 512 + c + k) := by
  show BitVec.ofNat 32 i * BitVec.ofNat 32 512 + BitVec.ofNat 32 c + BitVec.ofNat 32 k = _
  rw [BitVec.ofNat_add, BitVec.ofNat_add, BitVec.ofNat_mul]

/-- The comparison of the chunks of two positions. -/
theorem causal (a b : ℕ) (ha : a < 4096) (hb : b < 4096) :
    IntOp.cmpi .sle (chunkW (BitVec.ofNat 32 a)) (chunkW (BitVec.ofNat 32 b)) = if a / 64 ≤ b / 64 then 1#1 else 0#1 := by
  rw [chunkW_fin ⟨a, ha⟩, chunkW_fin ⟨b, hb⟩]
  exact sle_fin ⟨a / 64, by omega⟩ ⟨b / 64, by omega⟩

theorem mask_ideal : (Named.named κ "mask" 0xF149F2CA#32 : Ideal .f32) = ⊥ :=
  IdealRules.named_const.ideal_named_scalar _ _ _ _ rfl

theorem own0_apply (i : ℕ) (hi : i < 8) (q : Vec Ideal S512x128 .bf16) (kb : Vec Ideal S256x128 .bf16) (k : Fin 256) (x : Fin 512) :
    own0 (F := Ideal) (BitVec.ofNat 32 i) q kb (ix2 k x)
      = if (i * 512 + k.val) / 64 ≤ (i * 512 + x.val) / 64 then ∑ d : Fin 128, kb (ix2 k d) * q (ix2 x d) else ⊥ := by
  have h := causal (i * 512 + 0 + k.val) (i * 512 + 0 + x.val) (by omega) (by omega)
  rw [← pos_eq, ← pos_eq] at h
  pointwise [own0, chunkOf_apply]
  rw [mask_ideal]
  refine (congrArg (fun c => Scalar.select c _ _) h).trans ?_
  simp only [Nat.add_zero]
  split_ifs <;> rfl

theorem own1_apply (i : ℕ) (hi : i < 8) (q : Vec Ideal S512x128 .bf16) (kb : Vec Ideal S256x128 .bf16) (k x : Fin 256) :
    own1 (F := Ideal) (BitVec.ofNat 32 i) q kb (ix2 k x)
      = if (i * 512 + 256 + k.val) / 64 ≤ (i * 512 + 256 + x.val) / 64 then
          ∑ d : Fin 128, kb (ix2 k d) * q (ix2 ⟨256 + x.val, by omega⟩ d) else ⊥ := by
  have h := causal (i * 512 + 256 + k.val) (i * 512 + 256 + x.val) (by omega) (by omega)
  rw [← pos_eq, ← pos_eq] at h
  pointwise [own1, chunkOf_apply]
  rw [mask_ideal]
  refine (congrArg (fun c => Scalar.select c _ _) h).trans ?_
  split_ifs <;> rfl

end Cert.Steps
-- ==== Proof.Slab.lean ====
/- Reading and writing the scratch buffers one head at a time, and the blocks of queries, keys and values that a head reads.

   The buffers hold eight heads. A step writes one piece for each head, so the lists of pieces are maps over the heads, and
   a read of a head's piece finds the newest piece of that head. -/
module

public import proofs.«01_k».proof.Proof.Steps
public import Idealize.ShloMosaic.Lib.WholeRead
public import Idealize.ShloMosaic.Lib.Pipeline.ReadBack

@[expose] public section

set_option maxRecDepth 16384

noncomputable section

namespace Cert.Slab

open Idealize.ShloMosaic Cert.KernelIdeal

/-- A head's row of greatest scores. -/
abbrev mR (h : Fin 8) : Rect S8x1x512 := Rect.unit ![h.val, 0, 0] S1x1x512.size (by intro a; fin_cases a <;> simp <;> omega)
/-- A head's weighted sums. -/
abbrev aR (h : Fin 8) : Rect S8x80x512 := Rect.unit ![h.val, 0, 0] S1x80x512.size (by intro a; fin_cases a <;> simp <;> omega)
/-- A head's block of scores. -/
abbrev sR (h : Fin 8) : Rect S8x512x512 := Rect.unit ![h.val, 0, 0] S1x512x512.size (by intro a; fin_cases a <;> simp <;> omega)
/-- The later half of `mR`. -/
abbrev mH (h : Fin 8) : Rect S8x1x512 := Rect.unit ![h.val, 0, 256] S1x1x256.size (by intro a; fin_cases a <;> simp <;> omega)
/-- The later half of `aR`. -/
abbrev aH (h : Fin 8) : Rect S8x80x512 := Rect.unit ![h.val, 0, 256] S1x80x256.size (by intro a; fin_cases a <;> simp <;> omega)

theorem mR_apart : ∀ j k : Fin 8, j ≠ k → LoadRect.disj (mR j) (mR k).toLoadRect = true := by decide +kernel
theorem aR_apart : ∀ j k : Fin 8, j ≠ k → LoadRect.disj (aR j) (aR k).toLoadRect = true := by decide +kernel
theorem sR_apart : ∀ j k : Fin 8, j ≠ k → LoadRect.disj (sR j) (sR k).toLoadRect = true := by decide +kernel
theorem mH_apart : ∀ j k : Fin 8, j ≠ k → LoadRect.disj (mH j) (mH k).toLoadRect = true := by decide +kernel
theorem aH_apart : ∀ j k : Fin 8, j ≠ k → LoadRect.disj (aH j) (aH k).toLoadRect = true := by decide +kernel
theorem mRH_apart : ∀ j k : Fin 8, j ≠ k → LoadRect.disj (mR j) (mH k).toLoadRect = true := by decide +kernel
theorem aRH_apart : ∀ j k : Fin 8, j ≠ k → LoadRect.disj (aR j) (aH k).toLoadRect = true := by decide +kernel
theorem mHR_apart : ∀ j k : Fin 8, j ≠ k → LoadRect.disj (mH j) (mR k).toLoadRect = true := by decide +kernel
theorem aHR_apart : ∀ j k : Fin 8, j ≠ k → LoadRect.disj (aH j) (aR k).toLoadRect = true := by decide +kernel

/-- The heads, last first. -/
abbrev heads : List (Fin 8) := [7, 6, 5, 4, 3, 2, 1, 0]

theorem mem_heads : ∀ h : Fin 8, h ∈ heads := by decide

section Pieces
variable {sg : RefSig} {κ : Kind} {sp : Space} {s : Shape} {e : EltTy} {Val : EltTy → Type} [∀ e, Nonempty (Val e)]

theorem readCov_skips (v : View sg κ sp s e) (r : Fin 8 → Rect s) (w : ∀ h, (r h).shape.Idx → Val e)
    (L : List (View.Piece Val s e)) (B : LoadRect s) (hs : List (Fin 8)) (hd : ∀ j ∈ hs, LoadRect.disj (r j) B = true) :
    v.readCov (hs.map (fun h => (⟨r h, w h⟩ : View.Piece Val s e)) ++ L) B = v.readCov L B := by
  induction hs with
  | nil => rfl
  | cons j hs ih =>
    exact (View.readCov_skip v (r j) (w j) _ B (hd j List.mem_cons_self)).trans
      (ih fun k hk => hd k (List.mem_cons_of_mem _ hk))

theorem readCov_head (v : View sg κ sp s e) (r : Fin 8 → Rect s) (w : ∀ h, (r h).shape.Idx → Val e)
    (hr : ∀ j k, j ≠ k → LoadRect.disj (r j) (r k).toLoadRect = true)
    (L : List (View.Piece Val s e)) (hs : List (Fin 8)) (h : Fin 8) (hm : h ∈ hs) :
    v.readCov (hs.map (fun h => (⟨r h, w h⟩ : View.Piece Val s e)) ++ L) (r h).toLoadRect = w h := by
  induction hs with
  | nil => exact absurd hm (by simp)
  | cons j hs ih =>
    by_cases e : j = h
    · subst e
      exact View.readCov_cons_toLoadRect v (r j) (w j) _
    · exact (View.readCov_skip v (r j) (w j) _ _ (hr j h e)).trans
        (ih ((List.mem_cons.mp hm).resolve_left fun h' => e h'.symm))

theorem readAt_head (v : View sg κ sp s e) (f : v.ty.Contents Val) (r : Fin 8 → Rect s) (w : ∀ h, (r h).shape.Idx → Val e)
    (hr : ∀ j k, j ≠ k → LoadRect.disj (r j) (r k).toLoadRect = true)
    (L : List (View.Piece Val s e)) (h : Fin 8) :
    v.readAt Val (r h).toLoadRect (v.writes Val f (heads.map (fun h => (⟨r h, w h⟩ : View.Piece Val s e)) ++ L)) = w h := by
  rw [View.readAt_writes_of_cover v f _ _ fun j => ⟨⟨r h, w h⟩,
    List.mem_append_left _ (List.mem_map.mpr ⟨h, mem_heads h, rfl⟩), (LoadRect.mem_set _).mpr fun a => ⟨j a, (j a).isLt, rfl⟩⟩]
  exact readCov_head v r w hr L heads h (mem_heads h)

end Pieces

section Blocks
variable {F : FTy → Type}

/-- A head's queries. -/
def qh (x : Vec F S512x1024 .bf16) (h : ℕ) : Vec F S512x128 .bf16 := fun j =>
  x (ix2 (Fin.ofNat 512 (j 0).val) (Fin.ofNat 1024 (128 * h + (j 1).val)))
/-- A head's 512 keys from position `p`. -/
def kf (x : Vec F S4096x1024 .bf16) (p h : ℕ) : Vec F S512x128 .bf16 := fun j =>
  x (ix2 (Fin.ofNat 4096 (p + (j 0).val)) (Fin.ofNat 1024 (128 * h + (j 1).val)))
/-- A head's 256 keys from position `p`. -/
def kg (x : Vec F S4096x1024 .bf16) (p h : ℕ) : Vec F S256x128 .bf16 := fun j =>
  x (ix2 (Fin.ofNat 4096 (p + (j 0).val)) (Fin.ofNat 1024 (128 * h + (j 1).val)))
/-- A head's 80 value rows at 512 positions from `p`. -/
def vf (x : Vec F S640x4096 .bf16) (p h : ℕ) : Vec F S80x512 .bf16 := fun j =>
  x (ix2 (Fin.ofNat 640 (80 * h + (j 0).val)) (Fin.ofNat 4096 (p + (j 1).val)))
/-- A head's 80 value rows at 256 positions from `p`. -/
def vg (x : Vec F S640x4096 .bf16) (p h : ℕ) : Vec F S80x256 .bf16 := fun j =>
  x (ix2 (Fin.ofNat 640 (80 * h + (j 0).val)) (Fin.ofNat 4096 (p + (j 1).val)))

variable {κ : Kind} {sp : Space}

theorem rd_q {M : Memref sig κ sp S512x1024 .bf16} (hM : M.IsWhole) (x : Vec F S512x1024 .bf16) (off : Fin 2 → ℕ) (inb)
    (h : ℕ) (ho : off = ![0, 128 * h]) :
    View.readAt (Elt F) M.view (Rect.unit (s := S512x1024) off S512x128.size inb).toLoadRect (hM.unread x) = qh x h := by
  subst ho
  funext j
  rw [hM.readAt_unread]
  refine congrArg x (funext fun a => Fin.ext ?_)
  have h0 := inb 0; have h1 := inb 1; have j0 := (j 0).isLt; have j1 := (j 1).isLt
  simp at h0 h1 j0 j1
  fin_cases a
  · simp [LoadRect.idx, qh, Fin.ofNat]; omega
  · simp [LoadRect.idx, qh, Fin.ofNat]; omega

theorem rd_kf {M : Memref sig κ sp S4096x1024 .bf16} (hM : M.IsWhole) (x : Vec F S4096x1024 .bf16) (off : Fin 2 → ℕ) (inb)
    (p h : ℕ) (ho : off = ![p, 128 * h]) :
    View.readAt (Elt F) M.view (Rect.unit (s := S4096x1024) off S512x128.size inb).toLoadRect (hM.unread x) = kf x p h := by
  subst ho
  funext j
  rw [hM.readAt_unread]
  refine congrArg x (funext fun a => Fin.ext ?_)
  have h0 := inb 0; have h1 := inb 1; have j0 := (j 0).isLt; have j1 := (j 1).isLt
  simp at h0 h1 j0 j1
  fin_cases a
  · simp [LoadRect.idx, kf, Fin.ofNat]; omega
  · simp [LoadRect.idx, kf, Fin.ofNat]; omega

theorem rd_kg {M : Memref sig κ sp S4096x1024 .bf16} (hM : M.IsWhole) (x : Vec F S4096x1024 .bf16) (off : Fin 2 → ℕ) (inb)
    (p h : ℕ) (ho : off = ![p, 128 * h]) :
    View.readAt (Elt F) M.view (Rect.unit (s := S4096x1024) off S256x128.size inb).toLoadRect (hM.unread x) = kg x p h := by
  subst ho
  funext j
  rw [hM.readAt_unread]
  refine congrArg x (funext fun a => Fin.ext ?_)
  have h0 := inb 0; have h1 := inb 1; have j0 := (j 0).isLt; have j1 := (j 1).isLt
  simp at h0 h1 j0 j1
  fin_cases a
  · simp [LoadRect.idx, kg, Fin.ofNat]; omega
  · simp [LoadRect.idx, kg, Fin.ofNat]; omega

theorem rd_vf {M : Memref sig κ sp S640x4096 .bf16} (hM : M.IsWhole) (x : Vec F S640x4096 .bf16) (off : Fin 2 → ℕ) (inb)
    (p h : ℕ) (ho : off = ![80 * h, p]) :
    View.readAt (Elt F) M.view (Rect.unit (s := S640x4096) off S80x512.size inb).toLoadRect (hM.unread x) = vf x p h := by
  subst ho
  funext j
  rw [hM.readAt_unread]
  refine congrArg x (funext fun a => Fin.ext ?_)
  have h0 := inb 0; have h1 := inb 1; have j0 := (j 0).isLt; have j1 := (j 1).isLt
  simp at h0 h1 j0 j1
  fin_cases a
  · simp [LoadRect.idx, vf, Fin.ofNat]; omega
  · simp [LoadRect.idx, vf, Fin.ofNat]; omega

theorem rd_vg {M : Memref sig κ sp S640x4096 .bf16} (hM : M.IsWhole) (x : Vec F S640x4096 .bf16) (off : Fin 2 → ℕ) (inb)
    (p h : ℕ) (ho : off = ![80 * h, p]) :
    View.readAt (Elt F) M.view (Rect.unit (s := S640x4096) off S80x256.size inb).toLoadRect (hM.unread x) = vg x p h := by
  subst ho
  funext j
  rw [hM.readAt_unread]
  refine congrArg x (funext fun a => Fin.ext ?_)
  have h0 := inb 0; have h1 := inb 1; have j0 := (j 0).isLt; have j1 := (j 1).isLt
  simp at h0 h1 j0 j1
  fin_cases a
  · simp [LoadRect.idx, vg, Fin.ofNat]; omega
  · simp [LoadRect.idx, vg, Fin.ofNat]; omega

end Blocks

end Cert.Slab

end
-- ==== Proof.Trip.lean ====
/- One trip of the loop over pairs of full blocks.

   A trip scores the next block of keys into the second score buffer while it takes up the first, then the block after
   that into the first while it takes up the second. What it leaves in the four scratch buffers is, head by head, the steps
   of Steps.lean applied to what it found there. -/
module

public import proofs.«01_k».proof.Proof.Slab
public import proofs.«01_k».proof.Proof.Run.KernelIdeal.Loop
import all proofs.«01_k».proof.Proof.Gen.KernelIdeal.Loops
public import proofs.«01_k».proof.Proof.Gen.KernelIdeal.Points

@[expose] public section

set_option maxRecDepth 16384
set_option maxHeartbeats 1000000

noncomputable section

namespace Cert.Trip

open Idealize.ShloMosaic Cert.KernelIdeal Cert.KernelIdeal.Gen Cert.Steps Cert.Slab

theorem off_k1_0 : ∀ t : Fin grid0.N, ∀ k : Fin (k0_t1_loop (grid0.coords t)).trips, k0_off17 (grid0.coords t) k = ![512 * (2 * k.val + 1), 0] := by decide +kernel
theorem off_v1_0 : ∀ t : Fin grid0.N, ∀ k : Fin (k0_t1_loop (grid0.coords t)).trips, k0_off18 (grid0.coords t) k = ![0, 512 * (2 * k.val)] := by decide +kernel
theorem off_k2_0 : ∀ t : Fin grid0.N, ∀ k : Fin (k0_t1_loop (grid0.coords t)).trips, k0_off33 (grid0.coords t) k = ![512 * (2 * k.val + 2), 0] := by decide +kernel
theorem off_v2_0 : ∀ t : Fin grid0.N, ∀ k : Fin (k0_t1_loop (grid0.coords t)).trips, k0_off34 (grid0.coords t) k = ![0, 512 * (2 * k.val + 1)] := by decide +kernel
theorem off_k1_1 : ∀ t : Fin grid0.N, ∀ k : Fin (k0_t1_loop (grid0.coords t)).trips, k0_off19 (grid0.coords t) k = ![512 * (2 * k.val + 1), 128] := by decide +kernel
theorem off_v1_1 : ∀ t : Fin grid0.N, ∀ k : Fin (k0_t1_loop (grid0.coords t)).trips, k0_off20 (grid0.coords t) k = ![80, 512 * (2 * k.val)] := by decide +kernel
theorem off_k2_1 : ∀ t : Fin grid0.N, ∀ k : Fin (k0_t1_loop (grid0.coords t)).trips, k0_off35 (grid0.coords t) k = ![512 * (2 * k.val + 2), 128] := by decide +kernel
theorem off_v2_1 : ∀ t : Fin grid0.N, ∀ k : Fin (k0_t1_loop (grid0.coords t)).trips, k0_off36 (grid0.coords t) k = ![80, 512 * (2 * k.val + 1)] := by decide +kernel
theorem off_k1_2 : ∀ t : Fin grid0.N, ∀ k : Fin (k0_t1_loop (grid0.coords t)).trips, k0_off21 (grid0.coords t) k = ![512 * (2 * k.val + 1), 256] := by decide +kernel
theorem off_v1_2 : ∀ t : Fin grid0.N, ∀ k : Fin (k0_t1_loop (grid0.coords t)).trips, k0_off22 (grid0.coords t) k = ![160, 512 * (2 * k.val)] := by decide +kernel
theorem off_k2_2 : ∀ t : Fin grid0.N, ∀ k : Fin (k0_t1_loop (grid0.coords t)).trips, k0_off37 (grid0.coords t) k = ![512 * (2 * k.val + 2), 256] := by decide +kernel
theorem off_v2_2 : ∀ t : Fin grid0.N, ∀ k : Fin (k0_t1_loop (grid0.coords t)).trips, k0_off38 (grid0.coords t) k = ![160, 512 * (2 * k.val + 1)] := by decide +kernel
theorem off_k1_3 : ∀ t : Fin grid0.N, ∀ k : Fin (k0_t1_loop (grid0.coords t)).trips, k0_off23 (grid0.coords t) k = ![512 * (2 * k.val + 1), 384] := by decide +kernel
theorem off_v1_3 : ∀ t : Fin grid0.N, ∀ k : Fin (k0_t1_loop (grid0.coords t)).trips, k0_off24 (grid0.coords t) k = ![240, 512 * (2 * k.val)] := by decide +kernel
theorem off_k2_3 : ∀ t : Fin grid0.N, ∀ k : Fin (k0_t1_loop (grid0.coords t)).trips, k0_off39 (grid0.coords t) k = ![512 * (2 * k.val + 2), 384] := by decide +kernel
theorem off_v2_3 : ∀ t : Fin grid0.N, ∀ k : Fin (k0_t1_loop (grid0.coords t)).trips, k0_off40 (grid0.coords t) k = ![240, 512 * (2 * k.val + 1)] := by decide +kernel
theorem off_k1_4 : ∀ t : Fin grid0.N, ∀ k : Fin (k0_t1_loop (grid0.coords t)).trips, k0_off25 (grid0.coords t) k = ![512 * (2 * k.val + 1), 512] := by decide +kernel
theorem off_v1_4 : ∀ t : Fin grid0.N, ∀ k : Fin (k0_t1_loop (grid0.coords t)).trips, k0_off26 (grid0.coords t) k = ![320, 512 * (2 * k.val)] := by decide +kernel
theorem off_k2_4 : ∀ t : Fin grid0.N, ∀ k : Fin (k0_t1_loop (grid0.coords t)).trips, k0_off41 (grid0.coords t) k = ![512 * (2 * k.val + 2), 512] := by decide +kernel
theorem off_v2_4 : ∀ t : Fin grid0.N, ∀ k : Fin (k0_t1_loop (grid0.coords t)).trips, k0_off42 (grid0.coords t) k = ![320, 512 * (2 * k.val + 1)] := by decide +kernel
theorem off_k1_5 : ∀ t : Fin grid0.N, ∀ k : Fin (k0_t1_loop (grid0.coords t)).trips, k0_off27 (grid0.coords t) k = ![512 * (2 * k.val + 1), 640] := by decide +kernel
theorem off_v1_5 : ∀ t : Fin grid0.N, ∀ k : Fin (k0_t1_loop (grid0.coords t)).trips, k0_off28 (grid0.coords t) k = ![400, 512 * (2 * k.val)] := by decide +kernel
theorem off_k2_5 : ∀ t : Fin grid0.N, ∀ k : Fin (k0_t1_loop (grid0.coords t)).trips, k0_off43 (grid0.coords t) k = ![512 * (2 * k.val + 2), 640] := by decide +kernel
theorem off_v2_5 : ∀ t : Fin grid0.N, ∀ k : Fin (k0_t1_loop (grid0.coords t)).trips, k0_off44 (grid0.coords t) k = ![400, 512 * (2 * k.val + 1)] := by decide +kernel
theorem off_k1_6 : ∀ t : Fin grid0.N, ∀ k : Fin (k0_t1_loop (grid0.coords t)).trips, k0_off29 (grid0.coords t) k = ![512 * (2 * k.val + 1), 768] := by decide +kernel
theorem off_v1_6 : ∀ t : Fin grid0.N, ∀ k : Fin (k0_t1_loop (grid0.coords t)).trips, k0_off30 (grid0.coords t) k = ![480, 512 * (2 * k.val)] := by decide +kernel
theorem off_k2_6 : ∀ t : Fin grid0.N, ∀ k : Fin (k0_t1_loop (grid0.coords t)).trips, k0_off45 (grid0.coords t) k = ![512 * (2 * k.val + 2), 768] := by decide +kernel
theorem off_v2_6 : ∀ t : Fin grid0.N, ∀ k : Fin (k0_t1_loop (grid0.coords t)).trips, k0_off46 (grid0.coords t) k = ![480, 512 * (2 * k.val + 1)] := by decide +kernel
theorem off_k1_7 : ∀ t : Fin grid0.N, ∀ k : Fin (k0_t1_loop (grid0.coords t)).trips, k0_off31 (grid0.coords t) k = ![512 * (2 * k.val + 1), 896] := by decide +kernel
theorem off_v1_7 : ∀ t : Fin grid0.N, ∀ k : Fin (k0_t1_loop (grid0.coords t)).trips, k0_off32 (grid0.coords t) k = ![560, 512 * (2 * k.val)] := by decide +kernel
theorem off_k2_7 : ∀ t : Fin grid0.N, ∀ k : Fin (k0_t1_loop (grid0.coords t)).trips, k0_off47 (grid0.coords t) k = ![512 * (2 * k.val + 2), 896] := by decide +kernel
theorem off_v2_7 : ∀ t : Fin grid0.N, ∀ k : Fin (k0_t1_loop (grid0.coords t)).trips, k0_off48 (grid0.coords t) k = ![560, 512 * (2 * k.val + 1)] := by decide +kernel

section
variable {F : FTy → Type} [FloatOps F] [Named F]
variable (t : Fin grid0.N)
  (a4 : Memref sig .tc .vmem S4096x1024 .bf16) (w4 : a4.IsWhole) (a5 : Memref sig .tc .vmem S640x4096 .bf16) (w5 : a5.IsWhole)
  (a7 : Memref sig .tc .vmem S8x1x512 .f32) (a8 : Memref sig .tc .vmem S8x80x512 .f32)
  (a9 : Memref sig .tc .vmem S8x512x512 .f32) (a10 : Memref sig .tc .vmem S8x512x512 .f32)
  (v0 v1 v2 v3 v4 v5 v6 v7 : Vec F S512x128 .bf16) (k0_h1 : k0_cond1 (grid0.coords t) = 1#1)
  (x1 : Vec F S4096x1024 .bf16) (x2 : Vec F S640x4096 .bf16) (k : Fin (k0_t1_loop (grid0.coords t)).trips)
  (f_arg7 : BufTy.Contents (Elt F) a7.view.ty) (f_arg8 : BufTy.Contents (Elt F) a8.view.ty)
  (f_arg9 : BufTy.Contents (Elt F) a9.view.ty)

/-- A head's row of greatest scores, read. -/
abbrev rdM (f : BufTy.Contents (Elt F) a7.view.ty) (h : Fin 8) : Vec F S1x1x512 .f32 := View.readAt (Elt F) a7.view (mR h).toLoadRect f
/-- A head's weighted sums, read. -/
abbrev rdA (f : BufTy.Contents (Elt F) a8.view.ty) (h : Fin 8) : Vec F S1x80x512 .f32 := View.readAt (Elt F) a8.view (aR h).toLoadRect f
/-- A head's block of scores, read. -/
abbrev rdS (f : BufTy.Contents (Elt F) a9.view.ty) (h : Fin 8) : Vec F S1x512x512 .f32 := View.readAt (Elt F) a9.view (sR h).toLoadRect f

/-- The scores that the trip's first half produces. -/
def s1 (q : Fin 8 → Vec F S512x128 .bf16) (x1 : Vec F S4096x1024 .bf16) (k : ℕ) (h : Fin 8) : Vec F S1x512x512 .f32 :=
  score (q h) (kf x1 (512 * (2 * k + 1)) h.val)
/-- The scores that its second half produces. -/
def s2 (q : Fin 8 → Vec F S512x128 .bf16) (x1 : Vec F S4096x1024 .bf16) (k : ℕ) (h : Fin 8) : Vec F S1x512x512 .f32 :=
  score (q h) (kf x1 (512 * (2 * k + 2)) h.val)
/-- The greatest scores after each half. -/
def m1 (s : Fin 8 → Vec F S1x512x512 .f32) (m : Fin 8 → Vec F S1x1x512 .f32) (h : Fin 8) : Vec F S1x1x512 .f32 := newM (s h) (m h)
def m2 (q : Fin 8 → Vec F S512x128 .bf16) (x1 : Vec F S4096x1024 .bf16) (k : ℕ) (s : Fin 8 → Vec F S1x512x512 .f32)
    (m : Fin 8 → Vec F S1x1x512 .f32) (h : Fin 8) : Vec F S1x1x512 .f32 := newM (s1 q x1 k h) (m1 s m h)
/-- The weighted sums after each half. -/
def a1 (x2 : Vec F S640x4096 .bf16) (k : ℕ) (s : Fin 8 → Vec F S1x512x512 .f32) (m : Fin 8 → Vec F S1x1x512 .f32)
    (a : Fin 8 → Vec F S1x80x512 .f32) (h : Fin 8) : Vec F S1x80x512 .f32 :=
  newA (s h) (m h) (vf x2 (512 * (2 * k)) h.val) (a h)
def a2 (q : Fin 8 → Vec F S512x128 .bf16) (x1 : Vec F S4096x1024 .bf16) (x2 : Vec F S640x4096 .bf16) (k : ℕ)
    (s : Fin 8 → Vec F S1x512x512 .f32) (m : Fin 8 → Vec F S1x1x512 .f32)
    (a : Fin 8 → Vec F S1x80x512 .f32) (h : Fin 8) : Vec F S1x80x512 .f32 :=
  newA (s1 q x1 k h) (m1 s m h) (vf x2 (512 * (2 * k + 1)) h.val) (a1 x2 k s m a h)

/-- The queries of the eight heads. -/
def qs8 (v0 v1 v2 v3 v4 v5 v6 v7 : Vec F S512x128 .bf16) : Fin 8 → Vec F S512x128 .bf16 := ![v0, v1, v2, v3, v4, v5, v6, v7]

local notation "Q" => qs8 v0 v1 v2 v3 v4 v5 v6 v7
local notation "FM" => rdM a7 f_arg7
local notation "FA" => rdA a8 f_arg8
local notation "FS" => rdS a9 f_arg9

theorem w_s1_0 : trip_k0_t1.sl.v1675 (grid0.coords t) a4 v0 k0_h1 (w4.unread x1) k = s1 Q x1 k.val 0 :=
  congrArg (score v0) (rd_kf w4 x1 _ _ _ 0 (off_k1_0 t k))
theorem w_m1_0 : trip_k0_t1.sl.v1704 a7 a9 f_arg7 f_arg9 = m1 FS FM 0 := rfl
theorem w_a1_0 : trip_k0_t1.sl.v1701 (grid0.coords t) a5 a7 a8 a9 k0_h1 (w5.unread x2) k f_arg7 f_arg8 f_arg9 = a1 x2 k.val FS FM FA 0 :=
  congrArg (fun v => newA (FS 0) (FM 0) v (FA 0)) (rd_vf w5 x2 _ _ _ 0 (off_v1_0 t k))
theorem w_s1_1 : trip_k0_t1.sl.v1713 (grid0.coords t) a4 v1 k0_h1 (w4.unread x1) k = s1 Q x1 k.val 1 :=
  congrArg (score v1) (rd_kf w4 x1 _ _ _ 1 (off_k1_1 t k))
theorem w_m1_1 : trip_k0_t1.sl.v1742 a7 a9 f_arg7 f_arg9 = m1 FS FM 1 := rfl
theorem w_a1_1 : trip_k0_t1.sl.v1739 (grid0.coords t) a5 a7 a8 a9 k0_h1 (w5.unread x2) k f_arg7 f_arg8 f_arg9 = a1 x2 k.val FS FM FA 1 :=
  congrArg (fun v => newA (FS 1) (FM 1) v (FA 1)) (rd_vf w5 x2 _ _ _ 1 (off_v1_1 t k))
theorem w_s1_2 : trip_k0_t1.sl.v1751 (grid0.coords t) a4 v2 k0_h1 (w4.unread x1) k = s1 Q x1 k.val 2 :=
  congrArg (score v2) (rd_kf w4 x1 _ _ _ 2 (off_k1_2 t k))
theorem w_m1_2 : trip_k0_t1.sl.v1780 a7 a9 f_arg7 f_arg9 = m1 FS FM 2 := rfl
theorem w_a1_2 : trip_k0_t1.sl.v1777 (grid0.coords t) a5 a7 a8 a9 k0_h1 (w5.unread x2) k f_arg7 f_arg8 f_arg9 = a1 x2 k.val FS FM FA 2 :=
  congrArg (fun v => newA (FS 2) (FM 2) v (FA 2)) (rd_vf w5 x2 _ _ _ 2 (off_v1_2 t k))
theorem w_s1_3 : trip_k0_t1.sl.v1789 (grid0.coords t) a4 v3 k0_h1 (w4.unread x1) k = s1 Q x1 k.val 3 :=
  congrArg (score v3) (rd_kf w4 x1 _ _ _ 3 (off_k1_3 t k))
theorem w_m1_3 : trip_k0_t1.sl.v1818 a7 a9 f_arg7 f_arg9 = m1 FS FM 3 := rfl
theorem w_a1_3 : trip_k0_t1.sl.v1815 (grid0.coords t) a5 a7 a8 a9 k0_h1 (w5.unread x2) k f_arg7 f_arg8 f_arg9 = a1 x2 k.val FS FM FA 3 :=
  congrArg (fun v => newA (FS 3) (FM 3) v (FA 3)) (rd_vf w5 x2 _ _ _ 3 (off_v1_3 t k))
theorem w_s1_4 : trip_k0_t1.sl.v1827 (grid0.coords t) a4 v4 k0_h1 (w4.unread x1) k = s1 Q x1 k.val 4 :=
  congrArg (score v4) (rd_kf w4 x1 _ _ _ 4 (off_k1_4 t k))
theorem w_m1_4 : trip_k0_t1.sl.v1856 a7 a9 f_arg7 f_arg9 = m1 FS FM 4 := rfl
theorem w_a1_4 : trip_k0_t1.sl.v1853 (grid0.coords t) a5 a7 a8 a9 k0_h1 (w5.unread x2) k f_arg7 f_arg8 f_arg9 = a1 x2 k.val FS FM FA 4 :=
  congrArg (fun v => newA (FS 4) (FM 4) v (FA 4)) (rd_vf w5 x2 _ _ _ 4 (off_v1_4 t k))
theorem w_s1_5 : trip_k0_t1.sl.v1865 (grid0.coords t) a4 v5 k0_h1 (w4.unread x1) k = s1 Q x1 k.val 5 :=
  congrArg (score v5) (rd_kf w4 x1 _ _ _ 5 (off_k1_5 t k))
theorem w_m1_5 : trip_k0_t1.sl.v1894 a7 a9 f_arg7 f_arg9 = m1 FS FM 5 := rfl
theorem w_a1_5 : trip_k0_t1.sl.v1891 (grid0.coords t) a5 a7 a8 a9 k0_h1 (w5.unread x2) k f_arg7 f_arg8 f_arg9 = a1 x2 k.val FS FM FA 5 :=
  congrArg (fun v => newA (FS 5) (FM 5) v (FA 5)) (rd_vf w5 x2 _ _ _ 5 (off_v1_5 t k))
theorem w_s1_6 : trip_k0_t1.sl.v1903 (grid0.coords t) a4 v6 k0_h1 (w4.unread x1) k = s1 Q x1 k.val 6 :=
  congrArg (score v6) (rd_kf w4 x1 _ _ _ 6 (off_k1_6 t k))
theorem w_m1_6 : trip_k0_t1.sl.v1932 a7 a9 f_arg7 f_arg9 = m1 FS FM 6 := rfl
theorem w_a1_6 : trip_k0_t1.sl.v1929 (grid0.coords t) a5 a7 a8 a9 k0_h1 (w5.unread x2) k f_arg7 f_arg8 f_arg9 = a1 x2 k.val FS FM FA 6 :=
  congrArg (fun v => newA (FS 6) (FM 6) v (FA 6)) (rd_vf w5 x2 _ _ _ 6 (off_v1_6 t k))
theorem w_s1_7 : trip_k0_t1.sl.v1941 (grid0.coords t) a4 v7 k0_h1 (w4.unread x1) k = s1 Q x1 k.val 7 :=
  congrArg (score v7) (rd_kf w4 x1 _ _ _ 7 (off_k1_7 t k))
theorem w_m1_7 : trip_k0_t1.sl.v1970 a7 a9 f_arg7 f_arg9 = m1 FS FM 7 := rfl
theorem w_a1_7 : trip_k0_t1.sl.v1967 (grid0.coords t) a5 a7 a8 a9 k0_h1 (w5.unread x2) k f_arg7 f_arg8 f_arg9 = a1 x2 k.val FS FM FA 7 :=
  congrArg (fun v => newA (FS 7) (FM 7) v (FA 7)) (rd_vf w5 x2 _ _ _ 7 (off_v1_7 t k))
theorem l_s1 : trip_k0_t1.sl.HW_arg10_8 (grid0.coords t) a4 v0 v1 v2 v3 v4 v5 v6 v7 k0_h1 (w4.unread x1) k = heads.map (fun h => (⟨sR h, s1 Q x1 k.val h⟩ : View.Piece (Elt F) _ _)) := by
  show ([⟨sR 7, trip_k0_t1.sl.v1941 (grid0.coords t) a4 v7 k0_h1 (w4.unread x1) k⟩, ⟨sR 6, trip_k0_t1.sl.v1903 (grid0.coords t) a4 v6 k0_h1 (w4.unread x1) k⟩, ⟨sR 5, trip_k0_t1.sl.v1865 (grid0.coords t) a4 v5 k0_h1 (w4.unread x1) k⟩, ⟨sR 4, trip_k0_t1.sl.v1827 (grid0.coords t) a4 v4 k0_h1 (w4.unread x1) k⟩, ⟨sR 3, trip_k0_t1.sl.v1789 (grid0.coords t) a4 v3 k0_h1 (w4.unread x1) k⟩, ⟨sR 2, trip_k0_t1.sl.v1751 (grid0.coords t) a4 v2 k0_h1 (w4.unread x1) k⟩, ⟨sR 1, trip_k0_t1.sl.v1713 (grid0.coords t) a4 v1 k0_h1 (w4.unread x1) k⟩, ⟨sR 0, trip_k0_t1.sl.v1675 (grid0.coords t) a4 v0 k0_h1 (w4.unread x1) k⟩] : List (View.Piece (Elt F) _ .f32)) = _
  rw [w_s1_0, w_s1_1, w_s1_2, w_s1_3, w_s1_4, w_s1_5, w_s1_6, w_s1_7]
  rfl
theorem l_m1 : trip_k0_t1.sl.HW_arg7_8 a7 a9 f_arg7 f_arg9 = heads.map (fun h => (⟨mR h, m1 FS FM h⟩ : View.Piece (Elt F) _ _)) := rfl
theorem l_a1 : trip_k0_t1.sl.HW_arg8_8 (grid0.coords t) a5 a7 a8 a9 k0_h1 (w5.unread x2) k f_arg7 f_arg8 f_arg9 = heads.map (fun h => (⟨aR h, a1 x2 k.val FS FM FA h⟩ : View.Piece (Elt F) _ _)) := by
  show ([⟨aR 7, trip_k0_t1.sl.v1967 (grid0.coords t) a5 a7 a8 a9 k0_h1 (w5.unread x2) k f_arg7 f_arg8 f_arg9⟩, ⟨aR 6, trip_k0_t1.sl.v1929 (grid0.coords t) a5 a7 a8 a9 k0_h1 (w5.unread x2) k f_arg7 f_arg8 f_arg9⟩, ⟨aR 5, trip_k0_t1.sl.v1891 (grid0.coords t) a5 a7 a8 a9 k0_h1 (w5.unread x2) k f_arg7 f_arg8 f_arg9⟩, ⟨aR 4, trip_k0_t1.sl.v1853 (grid0.coords t) a5 a7 a8 a9 k0_h1 (w5.unread x2) k f_arg7 f_arg8 f_arg9⟩, ⟨aR 3, trip_k0_t1.sl.v1815 (grid0.coords t) a5 a7 a8 a9 k0_h1 (w5.unread x2) k f_arg7 f_arg8 f_arg9⟩, ⟨aR 2, trip_k0_t1.sl.v1777 (grid0.coords t) a5 a7 a8 a9 k0_h1 (w5.unread x2) k f_arg7 f_arg8 f_arg9⟩, ⟨aR 1, trip_k0_t1.sl.v1739 (grid0.coords t) a5 a7 a8 a9 k0_h1 (w5.unread x2) k f_arg7 f_arg8 f_arg9⟩, ⟨aR 0, trip_k0_t1.sl.v1701 (grid0.coords t) a5 a7 a8 a9 k0_h1 (w5.unread x2) k f_arg7 f_arg8 f_arg9⟩] : List (View.Piece (Elt F) _ .f32)) = _
  rw [w_a1_0, w_a1_1, w_a1_2, w_a1_3, w_a1_4, w_a1_5, w_a1_6, w_a1_7]
  rfl
theorem w_s2_0 : trip_k0_t1.sl.v1981 (grid0.coords t) a4 v0 k0_h1 (w4.unread x1) k = s2 Q x1 k.val 0 :=
  congrArg (score v0) (rd_kf w4 x1 _ _ _ 0 (off_k2_0 t k))
theorem w_s2_1 : trip_k0_t1.sl.v2019 (grid0.coords t) a4 v1 k0_h1 (w4.unread x1) k = s2 Q x1 k.val 1 :=
  congrArg (score v1) (rd_kf w4 x1 _ _ _ 1 (off_k2_1 t k))
theorem w_s2_2 : trip_k0_t1.sl.v2057 (grid0.coords t) a4 v2 k0_h1 (w4.unread x1) k = s2 Q x1 k.val 2 :=
  congrArg (score v2) (rd_kf w4 x1 _ _ _ 2 (off_k2_2 t k))
theorem w_s2_3 : trip_k0_t1.sl.v2095 (grid0.coords t) a4 v3 k0_h1 (w4.unread x1) k = s2 Q x1 k.val 3 :=
  congrArg (score v3) (rd_kf w4 x1 _ _ _ 3 (off_k2_3 t k))
theorem w_s2_4 : trip_k0_t1.sl.v2133 (grid0.coords t) a4 v4 k0_h1 (w4.unread x1) k = s2 Q x1 k.val 4 :=
  congrArg (score v4) (rd_kf w4 x1 _ _ _ 4 (off_k2_4 t k))
theorem w_s2_5 : trip_k0_t1.sl.v2171 (grid0.coords t) a4 v5 k0_h1 (w4.unread x1) k = s2 Q x1 k.val 5 :=
  congrArg (score v5) (rd_kf w4 x1 _ _ _ 5 (off_k2_5 t k))
theorem w_s2_6 : trip_k0_t1.sl.v2209 (grid0.coords t) a4 v6 k0_h1 (w4.unread x1) k = s2 Q x1 k.val 6 :=
  congrArg (score v6) (rd_kf w4 x1 _ _ _ 6 (off_k2_6 t k))
theorem w_s2_7 : trip_k0_t1.sl.v2247 (grid0.coords t) a4 v7 k0_h1 (w4.unread x1) k = s2 Q x1 k.val 7 :=
  congrArg (score v7) (rd_kf w4 x1 _ _ _ 7 (off_k2_7 t k))
theorem rd_s1_0 : View.readCov (Val := Elt F) a10.view (trip_k0_t1.sl.HW_arg10_8 (grid0.coords t) a4 v0 v1 v2 v3 v4 v5 v6 v7 k0_h1 (w4.unread x1) k) (sR 0).toLoadRect = s1 Q x1 k.val 0 := by
  rw [l_s1]
  exact (congrArg (fun L => View.readCov a10.view L _) (List.append_nil _).symm).trans (readCov_head a10.view sR _ sR_apart [] heads 0 (mem_heads 0))
theorem rd_s1_1 : View.readCov (Val := Elt F) a10.view (trip_k0_t1.sl.HW_arg10_8 (grid0.coords t) a4 v0 v1 v2 v3 v4 v5 v6 v7 k0_h1 (w4.unread x1) k) (sR 1).toLoadRect = s1 Q x1 k.val 1 := by
  rw [l_s1]
  exact (congrArg (fun L => View.readCov a10.view L _) (List.append_nil _).symm).trans (readCov_head a10.view sR _ sR_apart [] heads 1 (mem_heads 1))
theorem rd_s1_2 : View.readCov (Val := Elt F) a10.view (trip_k0_t1.sl.HW_arg10_8 (grid0.coords t) a4 v0 v1 v2 v3 v4 v5 v6 v7 k0_h1 (w4.unread x1) k) (sR 2).toLoadRect = s1 Q x1 k.val 2 := by
  rw [l_s1]
  exact (congrArg (fun L => View.readCov a10.view L _) (List.append_nil _).symm).trans (readCov_head a10.view sR _ sR_apart [] heads 2 (mem_heads 2))
theorem rd_s1_3 : View.readCov (Val := Elt F) a10.view (trip_k0_t1.sl.HW_arg10_8 (grid0.coords t) a4 v0 v1 v2 v3 v4 v5 v6 v7 k0_h1 (w4.unread x1) k) (sR 3).toLoadRect = s1 Q x1 k.val 3 := by
  rw [l_s1]
  exact (congrArg (fun L => View.readCov a10.view L _) (List.append_nil _).symm).trans (readCov_head a10.view sR _ sR_apart [] heads 3 (mem_heads 3))
theorem rd_s1_4 : View.readCov (Val := Elt F) a10.view (trip_k0_t1.sl.HW_arg10_8 (grid0.coords t) a4 v0 v1 v2 v3 v4 v5 v6 v7 k0_h1 (w4.unread x1) k) (sR 4).toLoadRect = s1 Q x1 k.val 4 := by
  rw [l_s1]
  exact (congrArg (fun L => View.readCov a10.view L _) (List.append_nil _).symm).trans (readCov_head a10.view sR _ sR_apart [] heads 4 (mem_heads 4))
theorem rd_s1_5 : View.readCov (Val := Elt F) a10.view (trip_k0_t1.sl.HW_arg10_8 (grid0.coords t) a4 v0 v1 v2 v3 v4 v5 v6 v7 k0_h1 (w4.unread x1) k) (sR 5).toLoadRect = s1 Q x1 k.val 5 := by
  rw [l_s1]
  exact (congrArg (fun L => View.readCov a10.view L _) (List.append_nil _).symm).trans (readCov_head a10.view sR _ sR_apart [] heads 5 (mem_heads 5))
theorem rd_s1_6 : View.readCov (Val := Elt F) a10.view (trip_k0_t1.sl.HW_arg10_8 (grid0.coords t) a4 v0 v1 v2 v3 v4 v5 v6 v7 k0_h1 (w4.unread x1) k) (sR 6).toLoadRect = s1 Q x1 k.val 6 := by
  rw [l_s1]
  exact (congrArg (fun L => View.readCov a10.view L _) (List.append_nil _).symm).trans (readCov_head a10.view sR _ sR_apart [] heads 6 (mem_heads 6))
theorem rd_s1_7 : View.readCov (Val := Elt F) a10.view (trip_k0_t1.sl.HW_arg10_8 (grid0.coords t) a4 v0 v1 v2 v3 v4 v5 v6 v7 k0_h1 (w4.unread x1) k) (sR 7).toLoadRect = s1 Q x1 k.val 7 := by
  rw [l_s1]
  exact (congrArg (fun L => View.readCov a10.view L _) (List.append_nil _).symm).trans (readCov_head a10.view sR _ sR_apart [] heads 7 (mem_heads 7))
theorem rd_m1_0 : View.readCov (Val := Elt F) a7.view (trip_k0_t1.sl.HW_arg7_8 a7 a9 f_arg7 f_arg9) (mR 0).toLoadRect = m1 FS FM 0 := by
  rw [l_m1]
  exact (congrArg (fun L => View.readCov a7.view L _) (List.append_nil _).symm).trans (readCov_head a7.view mR _ mR_apart [] heads 0 (mem_heads 0))
theorem w_m2_0 : trip_k0_t1.sl.v2010 (grid0.coords t) a4 a7 a9 a10 v0 v1 v2 v3 v4 v5 v6 v7 k0_h1 (w4.unread x1) k f_arg7 f_arg9 = m2 Q x1 k.val FS FM 0 := by
  show newM (View.readCov (Val := Elt F) a10.view (trip_k0_t1.sl.HW_arg10_8 (grid0.coords t) a4 v0 v1 v2 v3 v4 v5 v6 v7 k0_h1 (w4.unread x1) k) (sR 0).toLoadRect) (View.readCov (Val := Elt F) a7.view (trip_k0_t1.sl.HW_arg7_8 a7 a9 f_arg7 f_arg9) (mR 0).toLoadRect) = _
  rw [rd_s1_0, rd_m1_0]
  rfl
theorem l_m2_1 : trip_k0_t1.sl.HW_arg7_9 (grid0.coords t) a4 a7 a9 a10 v0 v1 v2 v3 v4 v5 v6 v7 k0_h1 (w4.unread x1) k f_arg7 f_arg9 = ([0] : List (Fin 8)).map (fun h => (⟨mR h, m2 Q x1 k.val FS FM h⟩ : View.Piece (Elt F) _ _)) ++ heads.map (fun h => (⟨mR h, m1 FS FM h⟩ : View.Piece (Elt F) _ _)) := by
  show (⟨mR 0, trip_k0_t1.sl.v2010 (grid0.coords t) a4 a7 a9 a10 v0 v1 v2 v3 v4 v5 v6 v7 k0_h1 (w4.unread x1) k f_arg7 f_arg9⟩ :: trip_k0_t1.sl.HW_arg7_8 a7 a9 f_arg7 f_arg9 : List (View.Piece (Elt F) _ .f32)) = _
  rw [w_m2_0, l_m1]
  rfl
theorem rd_m1_1 : View.readCov (Val := Elt F) a7.view (trip_k0_t1.sl.HW_arg7_9 (grid0.coords t) a4 a7 a9 a10 v0 v1 v2 v3 v4 v5 v6 v7 k0_h1 (w4.unread x1) k f_arg7 f_arg9) (mR 1).toLoadRect = m1 FS FM 1 := by
  rw [l_m2_1, readCov_skips a7.view mR _ _ _ _ (by intro j hj; exact mR_apart j 1 (by revert j; decide))]
  exact (congrArg (fun L => View.readCov a7.view L _) (List.append_nil _).symm).trans (readCov_head a7.view mR _ mR_apart [] heads 1 (mem_heads 1))
theorem w_m2_1 : trip_k0_t1.sl.v2048 (grid0.coords t) a4 a7 a9 a10 v0 v1 v2 v3 v4 v5 v6 v7 k0_h1 (w4.unread x1) k f_arg7 f_arg9 = m2 Q x1 k.val FS FM 1 := by
  show newM (View.readCov (Val := Elt F) a10.view (trip_k0_t1.sl.HW_arg10_8 (grid0.coords t) a4 v0 v1 v2 v3 v4 v5 v6 v7 k0_h1 (w4.unread x1) k) (sR 1).toLoadRect) (View.readCov (Val := Elt F) a7.view (trip_k0_t1.sl.HW_arg7_9 (grid0.coords t) a4 a7 a9 a10 v0 v1 v2 v3 v4 v5 v6 v7 k0_h1 (w4.unread x1) k f_arg7 f_arg9) (mR 1).toLoadRect) = _
  rw [rd_s1_1, rd_m1_1]
  rfl
theorem l_m2_2 : trip_k0_t1.sl.HW_arg7_10 (grid0.coords t) a4 a7 a9 a10 v0 v1 v2 v3 v4 v5 v6 v7 k0_h1 (w4.unread x1) k f_arg7 f_arg9 = ([1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 1, trip_k0_t1.sl.v2048 (grid0.coords t) a4 a7 a9 a10 v0 v1 v2 v3 v4 v5 v6 v7 k0_h1 (w4.unread x1) k f_arg7 f_arg9⟩ :: trip_k0_t1.sl.HW_arg7_9 (grid0.coords t) a4 a7 a9 a10 v0 v1 v2 v3 v4 v5 v6 v7 k0_h1 (w4.unread x1) k f_arg7 f_arg9 : List (View.Piece (Elt F) _ .f32)) = _
  rw [w_m2_1, l_m2_1]
  rfl
theorem rd_m1_2 : View.readCov (Val := Elt F) a7.view (trip_k0_t1.sl.HW_arg7_10 (grid0.coords t) a4 a7 a9 a10 v0 v1 v2 v3 v4 v5 v6 v7 k0_h1 (w4.unread x1) k f_arg7 f_arg9) (mR 2).toLoadRect = m1 FS FM 2 := by
  rw [l_m2_2, readCov_skips a7.view mR _ _ _ _ (by intro j hj; exact mR_apart j 2 (by revert j; decide))]
  exact (congrArg (fun L => View.readCov a7.view L _) (List.append_nil _).symm).trans (readCov_head a7.view mR _ mR_apart [] heads 2 (mem_heads 2))
theorem w_m2_2 : trip_k0_t1.sl.v2086 (grid0.coords t) a4 a7 a9 a10 v0 v1 v2 v3 v4 v5 v6 v7 k0_h1 (w4.unread x1) k f_arg7 f_arg9 = m2 Q x1 k.val FS FM 2 := by
  show newM (View.readCov (Val := Elt F) a10.view (trip_k0_t1.sl.HW_arg10_8 (grid0.coords t) a4 v0 v1 v2 v3 v4 v5 v6 v7 k0_h1 (w4.unread x1) k) (sR 2).toLoadRect) (View.readCov (Val := Elt F) a7.view (trip_k0_t1.sl.HW_arg7_10 (grid0.coords t) a4 a7 a9 a10 v0 v1 v2 v3 v4 v5 v6 v7 k0_h1 (w4.unread x1) k f_arg7 f_arg9) (mR 2).toLoadRect) = _
  rw [rd_s1_2, rd_m1_2]
  rfl
theorem l_m2_3 : trip_k0_t1.sl.HW_arg7_11 (grid0.coords t) a4 a7 a9 a10 v0 v1 v2 v3 v4 v5 v6 v7 k0_h1 (w4.unread x1) k f_arg7 f_arg9 = ([2, 1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 2, trip_k0_t1.sl.v2086 (grid0.coords t) a4 a7 a9 a10 v0 v1 v2 v3 v4 v5 v6 v7 k0_h1 (w4.unread x1) k f_arg7 f_arg9⟩ :: trip_k0_t1.sl.HW_arg7_10 (grid0.coords t) a4 a7 a9 a10 v0 v1 v2 v3 v4 v5 v6 v7 k0_h1 (w4.unread x1) k f_arg7 f_arg9 : List (View.Piece (Elt F) _ .f32)) = _
  rw [w_m2_2, l_m2_2]
  rfl
theorem rd_m1_3 : View.readCov (Val := Elt F) a7.view (trip_k0_t1.sl.HW_arg7_11 (grid0.coords t) a4 a7 a9 a10 v0 v1 v2 v3 v4 v5 v6 v7 k0_h1 (w4.unread x1) k f_arg7 f_arg9) (mR 3).toLoadRect = m1 FS FM 3 := by
  rw [l_m2_3, readCov_skips a7.view mR _ _ _ _ (by intro j hj; exact mR_apart j 3 (by revert j; decide))]
  exact (congrArg (fun L => View.readCov a7.view L _) (List.append_nil _).symm).trans (readCov_head a7.view mR _ mR_apart [] heads 3 (mem_heads 3))
theorem w_m2_3 : trip_k0_t1.sl.v2124 (grid0.coords t) a4 a7 a9 a10 v0 v1 v2 v3 v4 v5 v6 v7 k0_h1 (w4.unread x1) k f_arg7 f_arg9 = m2 Q x1 k.val FS FM 3 := by
  show newM (View.readCov (Val := Elt F) a10.view (trip_k0_t1.sl.HW_arg10_8 (grid0.coords t) a4 v0 v1 v2 v3 v4 v5 v6 v7 k0_h1 (w4.unread x1) k) (sR 3).toLoadRect) (View.readCov (Val := Elt F) a7.view (trip_k0_t1.sl.HW_arg7_11 (grid0.coords t) a4 a7 a9 a10 v0 v1 v2 v3 v4 v5 v6 v7 k0_h1 (w4.unread x1) k f_arg7 f_arg9) (mR 3).toLoadRect) = _
  rw [rd_s1_3, rd_m1_3]
  rfl
theorem l_m2_4 : trip_k0_t1.sl.HW_arg7_12 (grid0.coords t) a4 a7 a9 a10 v0 v1 v2 v3 v4 v5 v6 v7 k0_h1 (w4.unread x1) k f_arg7 f_arg9 = ([3, 2, 1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 3, trip_k0_t1.sl.v2124 (grid0.coords t) a4 a7 a9 a10 v0 v1 v2 v3 v4 v5 v6 v7 k0_h1 (w4.unread x1) k f_arg7 f_arg9⟩ :: trip_k0_t1.sl.HW_arg7_11 (grid0.coords t) a4 a7 a9 a10 v0 v1 v2 v3 v4 v5 v6 v7 k0_h1 (w4.unread x1) k f_arg7 f_arg9 : List (View.Piece (Elt F) _ .f32)) = _
  rw [w_m2_3, l_m2_3]
  rfl
theorem rd_m1_4 : View.readCov (Val := Elt F) a7.view (trip_k0_t1.sl.HW_arg7_12 (grid0.coords t) a4 a7 a9 a10 v0 v1 v2 v3 v4 v5 v6 v7 k0_h1 (w4.unread x1) k f_arg7 f_arg9) (mR 4).toLoadRect = m1 FS FM 4 := by
  rw [l_m2_4, readCov_skips a7.view mR _ _ _ _ (by intro j hj; exact mR_apart j 4 (by revert j; decide))]
  exact (congrArg (fun L => View.readCov a7.view L _) (List.append_nil _).symm).trans (readCov_head a7.view mR _ mR_apart [] heads 4 (mem_heads 4))
theorem w_m2_4 : trip_k0_t1.sl.v2162 (grid0.coords t) a4 a7 a9 a10 v0 v1 v2 v3 v4 v5 v6 v7 k0_h1 (w4.unread x1) k f_arg7 f_arg9 = m2 Q x1 k.val FS FM 4 := by
  show newM (View.readCov (Val := Elt F) a10.view (trip_k0_t1.sl.HW_arg10_8 (grid0.coords t) a4 v0 v1 v2 v3 v4 v5 v6 v7 k0_h1 (w4.unread x1) k) (sR 4).toLoadRect) (View.readCov (Val := Elt F) a7.view (trip_k0_t1.sl.HW_arg7_12 (grid0.coords t) a4 a7 a9 a10 v0 v1 v2 v3 v4 v5 v6 v7 k0_h1 (w4.unread x1) k f_arg7 f_arg9) (mR 4).toLoadRect) = _
  rw [rd_s1_4, rd_m1_4]
  rfl
theorem l_m2_5 : trip_k0_t1.sl.HW_arg7_13 (grid0.coords t) a4 a7 a9 a10 v0 v1 v2 v3 v4 v5 v6 v7 k0_h1 (w4.unread x1) k f_arg7 f_arg9 = ([4, 3, 2, 1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 4, trip_k0_t1.sl.v2162 (grid0.coords t) a4 a7 a9 a10 v0 v1 v2 v3 v4 v5 v6 v7 k0_h1 (w4.unread x1) k f_arg7 f_arg9⟩ :: trip_k0_t1.sl.HW_arg7_12 (grid0.coords t) a4 a7 a9 a10 v0 v1 v2 v3 v4 v5 v6 v7 k0_h1 (w4.unread x1) k f_arg7 f_arg9 : List (View.Piece (Elt F) _ .f32)) = _
  rw [w_m2_4, l_m2_4]
  rfl
theorem rd_m1_5 : View.readCov (Val := Elt F) a7.view (trip_k0_t1.sl.HW_arg7_13 (grid0.coords t) a4 a7 a9 a10 v0 v1 v2 v3 v4 v5 v6 v7 k0_h1 (w4.unread x1) k f_arg7 f_arg9) (mR 5).toLoadRect = m1 FS FM 5 := by
  rw [l_m2_5, readCov_skips a7.view mR _ _ _ _ (by intro j hj; exact mR_apart j 5 (by revert j; decide))]
  exact (congrArg (fun L => View.readCov a7.view L _) (List.append_nil _).symm).trans (readCov_head a7.view mR _ mR_apart [] heads 5 (mem_heads 5))
theorem w_m2_5 : trip_k0_t1.sl.v2200 (grid0.coords t) a4 a7 a9 a10 v0 v1 v2 v3 v4 v5 v6 v7 k0_h1 (w4.unread x1) k f_arg7 f_arg9 = m2 Q x1 k.val FS FM 5 := by
  show newM (View.readCov (Val := Elt F) a10.view (trip_k0_t1.sl.HW_arg10_8 (grid0.coords t) a4 v0 v1 v2 v3 v4 v5 v6 v7 k0_h1 (w4.unread x1) k) (sR 5).toLoadRect) (View.readCov (Val := Elt F) a7.view (trip_k0_t1.sl.HW_arg7_13 (grid0.coords t) a4 a7 a9 a10 v0 v1 v2 v3 v4 v5 v6 v7 k0_h1 (w4.unread x1) k f_arg7 f_arg9) (mR 5).toLoadRect) = _
  rw [rd_s1_5, rd_m1_5]
  rfl
theorem l_m2_6 : trip_k0_t1.sl.HW_arg7_14 (grid0.coords t) a4 a7 a9 a10 v0 v1 v2 v3 v4 v5 v6 v7 k0_h1 (w4.unread x1) k f_arg7 f_arg9 = ([5, 4, 3, 2, 1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 5, trip_k0_t1.sl.v2200 (grid0.coords t) a4 a7 a9 a10 v0 v1 v2 v3 v4 v5 v6 v7 k0_h1 (w4.unread x1) k f_arg7 f_arg9⟩ :: trip_k0_t1.sl.HW_arg7_13 (grid0.coords t) a4 a7 a9 a10 v0 v1 v2 v3 v4 v5 v6 v7 k0_h1 (w4.unread x1) k f_arg7 f_arg9 : List (View.Piece (Elt F) _ .f32)) = _
  rw [w_m2_5, l_m2_5]
  rfl
theorem rd_m1_6 : View.readCov (Val := Elt F) a7.view (trip_k0_t1.sl.HW_arg7_14 (grid0.coords t) a4 a7 a9 a10 v0 v1 v2 v3 v4 v5 v6 v7 k0_h1 (w4.unread x1) k f_arg7 f_arg9) (mR 6).toLoadRect = m1 FS FM 6 := by
  rw [l_m2_6, readCov_skips a7.view mR _ _ _ _ (by intro j hj; exact mR_apart j 6 (by revert j; decide))]
  exact (congrArg (fun L => View.readCov a7.view L _) (List.append_nil _).symm).trans (readCov_head a7.view mR _ mR_apart [] heads 6 (mem_heads 6))
theorem w_m2_6 : trip_k0_t1.sl.v2238 (grid0.coords t) a4 a7 a9 a10 v0 v1 v2 v3 v4 v5 v6 v7 k0_h1 (w4.unread x1) k f_arg7 f_arg9 = m2 Q x1 k.val FS FM 6 := by
  show newM (View.readCov (Val := Elt F) a10.view (trip_k0_t1.sl.HW_arg10_8 (grid0.coords t) a4 v0 v1 v2 v3 v4 v5 v6 v7 k0_h1 (w4.unread x1) k) (sR 6).toLoadRect) (View.readCov (Val := Elt F) a7.view (trip_k0_t1.sl.HW_arg7_14 (grid0.coords t) a4 a7 a9 a10 v0 v1 v2 v3 v4 v5 v6 v7 k0_h1 (w4.unread x1) k f_arg7 f_arg9) (mR 6).toLoadRect) = _
  rw [rd_s1_6, rd_m1_6]
  rfl
theorem l_m2_7 : trip_k0_t1.sl.HW_arg7_15 (grid0.coords t) a4 a7 a9 a10 v0 v1 v2 v3 v4 v5 v6 v7 k0_h1 (w4.unread x1) k f_arg7 f_arg9 = ([6, 5, 4, 3, 2, 1, 0] : List (Fin 8)).map (fun h => (⟨mR h, m2 Q x1 k.val FS FM h⟩ : View.Piece (Elt F) _ _)) ++ heads.map (fun h => (⟨mR h, m1 FS FM h⟩ : View.Piece (Elt F) _ _)) := by
  show (⟨mR 6, trip_k0_t1.sl.v2238 (grid0.coords t) a4 a7 a9 a10 v0 v1 v2 v3 v4 v5 v6 v7 k0_h1 (w4.unread x1) k f_arg7 f_arg9⟩ :: trip_k0_t1.sl.HW_arg7_14 (grid0.coords t) a4 a7 a9 a10 v0 v1 v2 v3 v4 v5 v6 v7 k0_h1 (w4.unread x1) k f_arg7 f_arg9 : List (View.Piece (Elt F) _ .f32)) = _
  rw [w_m2_6, l_m2_6]
  rfl
theorem rd_m1_7 : View.readCov (Val := Elt F) a7.view (trip_k0_t1.sl.HW_arg7_15 (grid0.coords t) a4 a7 a9 a10 v0 v1 v2 v3 v4 v5 v6 v7 k0_h1 (w4.unread x1) k f_arg7 f_arg9) (mR 7).toLoadRect = m1 FS FM 7 := by
  rw [l_m2_7, readCov_skips a7.view mR _ _ _ _ (by intro j hj; exact mR_apart j 7 (by revert j; decide))]
  exact (congrArg (fun L => View.readCov a7.view L _) (List.append_nil _).symm).trans (readCov_head a7.view mR _ mR_apart [] heads 7 (mem_heads 7))
theorem w_m2_7 : trip_k0_t1.sl.v2276 (grid0.coords t) a4 a7 a9 a10 v0 v1 v2 v3 v4 v5 v6 v7 k0_h1 (w4.unread x1) k f_arg7 f_arg9 = m2 Q x1 k.val FS FM 7 := by
  show newM (View.readCov (Val := Elt F) a10.view (trip_k0_t1.sl.HW_arg10_8 (grid0.coords t) a4 v0 v1 v2 v3 v4 v5 v6 v7 k0_h1 (w4.unread x1) k) (sR 7).toLoadRect) (View.readCov (Val := Elt F) a7.view (trip_k0_t1.sl.HW_arg7_15 (grid0.coords t) a4 a7 a9 a10 v0 v1 v2 v3 v4 v5 v6 v7 k0_h1 (w4.unread x1) k f_arg7 f_arg9) (mR 7).toLoadRect) = _
  rw [rd_s1_7, rd_m1_7]
  rfl
theorem rd_a1_0 : View.readCov (Val := Elt F) a8.view (trip_k0_t1.sl.HW_arg8_8 (grid0.coords t) a5 a7 a8 a9 k0_h1 (w5.unread x2) k f_arg7 f_arg8 f_arg9) (aR 0).toLoadRect = a1 x2 k.val FS FM FA 0 := by
  rw [l_a1]
  exact (congrArg (fun L => View.readCov a8.view L _) (List.append_nil _).symm).trans (readCov_head a8.view aR _ aR_apart [] heads 0 (mem_heads 0))
theorem w_a2_0 : trip_k0_t1.sl.v2007 (grid0.coords t) a4 a5 a7 a8 a9 a10 v0 v1 v2 v3 v4 v5 v6 v7 k0_h1 (w4.unread x1) (w5.unread x2) k f_arg7 f_arg8 f_arg9 = a2 Q x1 x2 k.val FS FM FA 0 := by
  show newA (View.readCov (Val := Elt F) a10.view (trip_k0_t1.sl.HW_arg10_8 (grid0.coords t) a4 v0 v1 v2 v3 v4 v5 v6 v7 k0_h1 (w4.unread x1) k) (sR 0).toLoadRect) (View.readCov (Val := Elt F) a7.view (trip_k0_t1.sl.HW_arg7_8 a7 a9 f_arg7 f_arg9) (mR 0).toLoadRect) (View.readAt (Elt F) a5.view (Rect.unit (s := S640x4096) (k0_off34 (grid0.coords t) k) S80x512.size _).toLoadRect (w5.unread x2)) (View.readCov (Val := Elt F) a8.view (trip_k0_t1.sl.HW_arg8_8 (grid0.coords t) a5 a7 a8 a9 k0_h1 (w5.unread x2) k f_arg7 f_arg8 f_arg9) (aR 0).toLoadRect) = _
  rw [rd_s1_0, rd_m1_0, rd_a1_0, rd_vf w5 x2 _ _ (512 * (2 * k.val + 1)) 0 (off_v2_0 t k)]
  rfl
theorem l_a2_1 : trip_k0_t1.sl.HW_arg8_9 (grid0.coords t) a4 a5 a7 a8 a9 a10 v0 v1 v2 v3 v4 v5 v6 v7 k0_h1 (w4.unread x1) (w5.unread x2) k f_arg7 f_arg8 f_arg9 = ([0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 0, trip_k0_t1.sl.v2007 (grid0.coords t) a4 a5 a7 a8 a9 a10 v0 v1 v2 v3 v4 v5 v6 v7 k0_h1 (w4.unread x1) (w5.unread x2) k f_arg7 f_arg8 f_arg9⟩ :: trip_k0_t1.sl.HW_arg8_8 (grid0.coords t) a5 a7 a8 a9 k0_h1 (w5.unread x2) k f_arg7 f_arg8 f_arg9 : List (View.Piece (Elt F) _ .f32)) = _
  rw [w_a2_0, l_a1]
  rfl
theorem rd_a1_1 : View.readCov (Val := Elt F) a8.view (trip_k0_t1.sl.HW_arg8_9 (grid0.coords t) a4 a5 a7 a8 a9 a10 v0 v1 v2 v3 v4 v5 v6 v7 k0_h1 (w4.unread x1) (w5.unread x2) k f_arg7 f_arg8 f_arg9) (aR 1).toLoadRect = a1 x2 k.val FS FM FA 1 := by
  rw [l_a2_1, readCov_skips a8.view aR _ _ _ _ (by intro j hj; exact aR_apart j 1 (by revert j; decide))]
  exact (congrArg (fun L => View.readCov a8.view L _) (List.append_nil _).symm).trans (readCov_head a8.view aR _ aR_apart [] heads 1 (mem_heads 1))
theorem w_a2_1 : trip_k0_t1.sl.v2045 (grid0.coords t) a4 a5 a7 a8 a9 a10 v0 v1 v2 v3 v4 v5 v6 v7 k0_h1 (w4.unread x1) (w5.unread x2) k f_arg7 f_arg8 f_arg9 = a2 Q x1 x2 k.val FS FM FA 1 := by
  show newA (View.readCov (Val := Elt F) a10.view (trip_k0_t1.sl.HW_arg10_8 (grid0.coords t) a4 v0 v1 v2 v3 v4 v5 v6 v7 k0_h1 (w4.unread x1) k) (sR 1).toLoadRect) (View.readCov (Val := Elt F) a7.view (trip_k0_t1.sl.HW_arg7_9 (grid0.coords t) a4 a7 a9 a10 v0 v1 v2 v3 v4 v5 v6 v7 k0_h1 (w4.unread x1) k f_arg7 f_arg9) (mR 1).toLoadRect) (View.readAt (Elt F) a5.view (Rect.unit (s := S640x4096) (k0_off36 (grid0.coords t) k) S80x512.size _).toLoadRect (w5.unread x2)) (View.readCov (Val := Elt F) a8.view (trip_k0_t1.sl.HW_arg8_9 (grid0.coords t) a4 a5 a7 a8 a9 a10 v0 v1 v2 v3 v4 v5 v6 v7 k0_h1 (w4.unread x1) (w5.unread x2) k f_arg7 f_arg8 f_arg9) (aR 1).toLoadRect) = _
  rw [rd_s1_1, rd_m1_1, rd_a1_1, rd_vf w5 x2 _ _ (512 * (2 * k.val + 1)) 1 (off_v2_1 t k)]
  rfl
theorem l_a2_2 : trip_k0_t1.sl.HW_arg8_10 (grid0.coords t) a4 a5 a7 a8 a9 a10 v0 v1 v2 v3 v4 v5 v6 v7 k0_h1 (w4.unread x1) (w5.unread x2) k f_arg7 f_arg8 f_arg9 = ([1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 1, trip_k0_t1.sl.v2045 (grid0.coords t) a4 a5 a7 a8 a9 a10 v0 v1 v2 v3 v4 v5 v6 v7 k0_h1 (w4.unread x1) (w5.unread x2) k f_arg7 f_arg8 f_arg9⟩ :: trip_k0_t1.sl.HW_arg8_9 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_1, l_a2_1]
  rfl
theorem rd_a1_2 : View.readCov (Val := Elt F) a8.view (trip_k0_t1.sl.HW_arg8_10 (grid0.coords t) a4 a5 a7 a8 a9 a10 v0 v1 v2 v3 v4 v5 v6 v7 k0_h1 (w4.unread x1) (w5.unread x2) k f_arg7 f_arg8 f_arg9) (aR 2).toLoadRect = a1 x2 k.val FS FM FA 2 := by
  rw [l_a2_2, readCov_skips a8.view aR _ _ _ _ (by intro j hj; exact aR_apart j 2 (by revert j; decide))]
  exact (congrArg (fun L => View.readCov a8.view L _) (List.append_nil _).symm).trans (readCov_head a8.view aR _ aR_apart [] heads 2 (mem_heads 2))
theorem w_a2_2 : trip_k0_t1.sl.v2083 (grid0.coords t) a4 a5 a7 a8 a9 a10 v0 v1 v2 v3 v4 v5 v6 v7 k0_h1 (w4.unread x1) (w5.unread x2) k f_arg7 f_arg8 f_arg9 = a2 Q x1 x2 k.val FS FM FA 2 := by
  show newA (View.readCov (Val := Elt F) a10.view (trip_k0_t1.sl.HW_arg10_8 (grid0.coords t) a4 v0 v1 v2 v3 v4 v5 v6 v7 k0_h1 (w4.unread x1) k) (sR 2).toLoadRect) (View.readCov (Val := Elt F) a7.view (trip_k0_t1.sl.HW_arg7_10 (grid0.coords t) a4 a7 a9 a10 v0 v1 v2 v3 v4 v5 v6 v7 k0_h1 (w4.unread x1) k f_arg7 f_arg9) (mR 2).toLoadRect) (View.readAt (Elt F) a5.view (Rect.unit (s := S640x4096) (k0_off38 (grid0.coords t) k) S80x512.size _).toLoadRect (w5.unread x2)) (View.readCov (Val := Elt F) a8.view (trip_k0_t1.sl.HW_arg8_10 (grid0.coords t) a4 a5 a7 a8 a9 a10 v0 v1 v2 v3 v4 v5 v6 v7 k0_h1 (w4.unread x1) (w5.unread x2) k f_arg7 f_arg8 f_arg9) (aR 2).toLoadRect) = _
  rw [rd_s1_2, rd_m1_2, rd_a1_2, rd_vf w5 x2 _ _ (512 * (2 * k.val + 1)) 2 (off_v2_2 t k)]
  rfl
theorem l_a2_3 : trip_k0_t1.sl.HW_arg8_11 (grid0.coords t) a4 a5 a7 a8 a9 a10 v0 v1 v2 v3 v4 v5 v6 v7 k0_h1 (w4.unread x1) (w5.unread x2) k f_arg7 f_arg8 f_arg9 = ([2, 1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 2, trip_k0_t1.sl.v2083 (grid0.coords t) a4 a5 a7 a8 a9 a10 v0 v1 v2 v3 v4 v5 v6 v7 k0_h1 (w4.unread x1) (w5.unread x2) k f_arg7 f_arg8 f_arg9⟩ :: trip_k0_t1.sl.HW_arg8_10 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_2, l_a2_2]
  rfl
theorem rd_a1_3 : View.readCov (Val := Elt F) a8.view (trip_k0_t1.sl.HW_arg8_11 (grid0.coords t) a4 a5 a7 a8 a9 a10 v0 v1 v2 v3 v4 v5 v6 v7 k0_h1 (w4.unread x1) (w5.unread x2) k f_arg7 f_arg8 f_arg9) (aR 3).toLoadRect = a1 x2 k.val FS FM FA 3 := by
  rw [l_a2_3, readCov_skips a8.view aR _ _ _ _ (by intro j hj; exact aR_apart j 3 (by revert j; decide))]
  exact (congrArg (fun L => View.readCov a8.view L _) (List.append_nil _).symm).trans (readCov_head a8.view aR _ aR_apart [] heads 3 (mem_heads 3))
theorem w_a2_3 : trip_k0_t1.sl.v2121 (grid0.coords t) a4 a5 a7 a8 a9 a10 v0 v1 v2 v3 v4 v5 v6 v7 k0_h1 (w4.unread x1) (w5.unread x2) k f_arg7 f_arg8 f_arg9 = a2 Q x1 x2 k.val FS FM FA 3 := by
  show newA (View.readCov (Val := Elt F) a10.view (trip_k0_t1.sl.HW_arg10_8 (grid0.coords t) a4 v0 v1 v2 v3 v4 v5 v6 v7 k0_h1 (w4.unread x1) k) (sR 3).toLoadRect) (View.readCov (Val := Elt F) a7.view (trip_k0_t1.sl.HW_arg7_11 (grid0.coords t) a4 a7 a9 a10 v0 v1 v2 v3 v4 v5 v6 v7 k0_h1 (w4.unread x1) k f_arg7 f_arg9) (mR 3).toLoadRect) (View.readAt (Elt F) a5.view (Rect.unit (s := S640x4096) (k0_off40 (grid0.coords t) k) S80x512.size _).toLoadRect (w5.unread x2)) (View.readCov (Val := Elt F) a8.view (trip_k0_t1.sl.HW_arg8_11 (grid0.coords t) a4 a5 a7 a8 a9 a10 v0 v1 v2 v3 v4 v5 v6 v7 k0_h1 (w4.unread x1) (w5.unread x2) k f_arg7 f_arg8 f_arg9) (aR 3).toLoadRect) = _
  rw [rd_s1_3, rd_m1_3, rd_a1_3, rd_vf w5 x2 _ _ (512 * (2 * k.val + 1)) 3 (off_v2_3 t k)]
  rfl
theorem l_a2_4 : trip_k0_t1.sl.HW_arg8_12 (grid0.coords t) a4 a5 a7 a8 a9 a10 v0 v1 v2 v3 v4 v5 v6 v7 k0_h1 (w4.unread x1) (w5.unread x2) k f_arg7 f_arg8 f_arg9 = ([3, 2, 1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 3, trip_k0_t1.sl.v2121 (grid0.coords t) a4 a5 a7 a8 a9 a10 v0 v1 v2 v3 v4 v5 v6 v7 k0_h1 (w4.unread x1) (w5.unread x2) k f_arg7 f_arg8 f_arg9⟩ :: trip_k0_t1.sl.HW_arg8_11 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_3, l_a2_3]
  rfl
theorem rd_a1_4 : View.readCov (Val := Elt F) a8.view (trip_k0_t1.sl.HW_arg8_12 (grid0.coords t) a4 a5 a7 a8 a9 a10 v0 v1 v2 v3 v4 v5 v6 v7 k0_h1 (w4.unread x1) (w5.unread x2) k f_arg7 f_arg8 f_arg9) (aR 4).toLoadRect = a1 x2 k.val FS FM FA 4 := by
  rw [l_a2_4, readCov_skips a8.view aR _ _ _ _ (by intro j hj; exact aR_apart j 4 (by revert j; decide))]
  exact (congrArg (fun L => View.readCov a8.view L _) (List.append_nil _).symm).trans (readCov_head a8.view aR _ aR_apart [] heads 4 (mem_heads 4))
theorem w_a2_4 : trip_k0_t1.sl.v2159 (grid0.coords t) a4 a5 a7 a8 a9 a10 v0 v1 v2 v3 v4 v5 v6 v7 k0_h1 (w4.unread x1) (w5.unread x2) k f_arg7 f_arg8 f_arg9 = a2 Q x1 x2 k.val FS FM FA 4 := by
  show newA (View.readCov (Val := Elt F) a10.view (trip_k0_t1.sl.HW_arg10_8 (grid0.coords t) a4 v0 v1 v2 v3 v4 v5 v6 v7 k0_h1 (w4.unread x1) k) (sR 4).toLoadRect) (View.readCov (Val := Elt F) a7.view (trip_k0_t1.sl.HW_arg7_12 (grid0.coords t) a4 a7 a9 a10 v0 v1 v2 v3 v4 v5 v6 v7 k0_h1 (w4.unread x1) k f_arg7 f_arg9) (mR 4).toLoadRect) (View.readAt (Elt F) a5.view (Rect.unit (s := S640x4096) (k0_off42 (grid0.coords t) k) S80x512.size _).toLoadRect (w5.unread x2)) (View.readCov (Val := Elt F) a8.view (trip_k0_t1.sl.HW_arg8_12 (grid0.coords t) a4 a5 a7 a8 a9 a10 v0 v1 v2 v3 v4 v5 v6 v7 k0_h1 (w4.unread x1) (w5.unread x2) k f_arg7 f_arg8 f_arg9) (aR 4).toLoadRect) = _
  rw [rd_s1_4, rd_m1_4, rd_a1_4, rd_vf w5 x2 _ _ (512 * (2 * k.val + 1)) 4 (off_v2_4 t k)]
  rfl
theorem l_a2_5 : trip_k0_t1.sl.HW_arg8_13 (grid0.coords t) a4 a5 a7 a8 a9 a10 v0 v1 v2 v3 v4 v5 v6 v7 k0_h1 (w4.unread x1) (w5.unread x2) k f_arg7 f_arg8 f_arg9 = ([4, 3, 2, 1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 4, trip_k0_t1.sl.v2159 (grid0.coords t) a4 a5 a7 a8 a9 a10 v0 v1 v2 v3 v4 v5 v6 v7 k0_h1 (w4.unread x1) (w5.unread x2) k f_arg7 f_arg8 f_arg9⟩ :: trip_k0_t1.sl.HW_arg8_12 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_4, l_a2_4]
  rfl
theorem rd_a1_5 : View.readCov (Val := Elt F) a8.view (trip_k0_t1.sl.HW_arg8_13 (grid0.coords t) a4 a5 a7 a8 a9 a10 v0 v1 v2 v3 v4 v5 v6 v7 k0_h1 (w4.unread x1) (w5.unread x2) k f_arg7 f_arg8 f_arg9) (aR 5).toLoadRect = a1 x2 k.val FS FM FA 5 := by
  rw [l_a2_5, readCov_skips a8.view aR _ _ _ _ (by intro j hj; exact aR_apart j 5 (by revert j; decide))]
  exact (congrArg (fun L => View.readCov a8.view L _) (List.append_nil _).symm).trans (readCov_head a8.view aR _ aR_apart [] heads 5 (mem_heads 5))
theorem w_a2_5 : trip_k0_t1.sl.v2197 (grid0.coords t) a4 a5 a7 a8 a9 a10 v0 v1 v2 v3 v4 v5 v6 v7 k0_h1 (w4.unread x1) (w5.unread x2) k f_arg7 f_arg8 f_arg9 = a2 Q x1 x2 k.val FS FM FA 5 := by
  show newA (View.readCov (Val := Elt F) a10.view (trip_k0_t1.sl.HW_arg10_8 (grid0.coords t) a4 v0 v1 v2 v3 v4 v5 v6 v7 k0_h1 (w4.unread x1) k) (sR 5).toLoadRect) (View.readCov (Val := Elt F) a7.view (trip_k0_t1.sl.HW_arg7_13 (grid0.coords t) a4 a7 a9 a10 v0 v1 v2 v3 v4 v5 v6 v7 k0_h1 (w4.unread x1) k f_arg7 f_arg9) (mR 5).toLoadRect) (View.readAt (Elt F) a5.view (Rect.unit (s := S640x4096) (k0_off44 (grid0.coords t) k) S80x512.size _).toLoadRect (w5.unread x2)) (View.readCov (Val := Elt F) a8.view (trip_k0_t1.sl.HW_arg8_13 (grid0.coords t) a4 a5 a7 a8 a9 a10 v0 v1 v2 v3 v4 v5 v6 v7 k0_h1 (w4.unread x1) (w5.unread x2) k f_arg7 f_arg8 f_arg9) (aR 5).toLoadRect) = _
  rw [rd_s1_5, rd_m1_5, rd_a1_5, rd_vf w5 x2 _ _ (512 * (2 * k.val + 1)) 5 (off_v2_5 t k)]
  rfl
theorem l_a2_6 : trip_k0_t1.sl.HW_arg8_14 (grid0.coords t) a4 a5 a7 a8 a9 a10 v0 v1 v2 v3 v4 v5 v6 v7 k0_h1 (w4.unread x1) (w5.unread x2) k f_arg7 f_arg8 f_arg9 = ([5, 4, 3, 2, 1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 5, trip_k0_t1.sl.v2197 (grid0.coords t) a4 a5 a7 a8 a9 a10 v0 v1 v2 v3 v4 v5 v6 v7 k0_h1 (w4.unread x1) (w5.unread x2) k f_arg7 f_arg8 f_arg9⟩ :: trip_k0_t1.sl.HW_arg8_13 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_5, l_a2_5]
  rfl
theorem rd_a1_6 : View.readCov (Val := Elt F) a8.view (trip_k0_t1.sl.HW_arg8_14 (grid0.coords t) a4 a5 a7 a8 a9 a10 v0 v1 v2 v3 v4 v5 v6 v7 k0_h1 (w4.unread x1) (w5.unread x2) k f_arg7 f_arg8 f_arg9) (aR 6).toLoadRect = a1 x2 k.val FS FM FA 6 := by
  rw [l_a2_6, readCov_skips a8.view aR _ _ _ _ (by intro j hj; exact aR_apart j 6 (by revert j; decide))]
  exact (congrArg (fun L => View.readCov a8.view L _) (List.append_nil _).symm).trans (readCov_head a8.view aR _ aR_apart [] heads 6 (mem_heads 6))
theorem w_a2_6 : trip_k0_t1.sl.v2235 (grid0.coords t) a4 a5 a7 a8 a9 a10 v0 v1 v2 v3 v4 v5 v6 v7 k0_h1 (w4.unread x1) (w5.unread x2) k f_arg7 f_arg8 f_arg9 = a2 Q x1 x2 k.val FS FM FA 6 := by
  show newA (View.readCov (Val := Elt F) a10.view (trip_k0_t1.sl.HW_arg10_8 (grid0.coords t) a4 v0 v1 v2 v3 v4 v5 v6 v7 k0_h1 (w4.unread x1) k) (sR 6).toLoadRect) (View.readCov (Val := Elt F) a7.view (trip_k0_t1.sl.HW_arg7_14 (grid0.coords t) a4 a7 a9 a10 v0 v1 v2 v3 v4 v5 v6 v7 k0_h1 (w4.unread x1) k f_arg7 f_arg9) (mR 6).toLoadRect) (View.readAt (Elt F) a5.view (Rect.unit (s := S640x4096) (k0_off46 (grid0.coords t) k) S80x512.size _).toLoadRect (w5.unread x2)) (View.readCov (Val := Elt F) a8.view (trip_k0_t1.sl.HW_arg8_14 (grid0.coords t) a4 a5 a7 a8 a9 a10 v0 v1 v2 v3 v4 v5 v6 v7 k0_h1 (w4.unread x1) (w5.unread x2) k f_arg7 f_arg8 f_arg9) (aR 6).toLoadRect) = _
  rw [rd_s1_6, rd_m1_6, rd_a1_6, rd_vf w5 x2 _ _ (512 * (2 * k.val + 1)) 6 (off_v2_6 t k)]
  rfl
theorem l_a2_7 : trip_k0_t1.sl.HW_arg8_15 (grid0.coords t) a4 a5 a7 a8 a9 a10 v0 v1 v2 v3 v4 v5 v6 v7 k0_h1 (w4.unread x1) (w5.unread x2) k f_arg7 f_arg8 f_arg9 = ([6, 5, 4, 3, 2, 1, 0] : List (Fin 8)).map (fun h => (⟨aR h, a2 Q x1 x2 k.val FS FM FA h⟩ : View.Piece (Elt F) _ _)) ++ heads.map (fun h => (⟨aR h, a1 x2 k.val FS FM FA h⟩ : View.Piece (Elt F) _ _)) := by
  show (⟨aR 6, trip_k0_t1.sl.v2235 (grid0.coords t) a4 a5 a7 a8 a9 a10 v0 v1 v2 v3 v4 v5 v6 v7 k0_h1 (w4.unread x1) (w5.unread x2) k f_arg7 f_arg8 f_arg9⟩ :: trip_k0_t1.sl.HW_arg8_14 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_6, l_a2_6]
  rfl
theorem rd_a1_7 : View.readCov (Val := Elt F) a8.view (trip_k0_t1.sl.HW_arg8_15 (grid0.coords t) a4 a5 a7 a8 a9 a10 v0 v1 v2 v3 v4 v5 v6 v7 k0_h1 (w4.unread x1) (w5.unread x2) k f_arg7 f_arg8 f_arg9) (aR 7).toLoadRect = a1 x2 k.val FS FM FA 7 := by
  rw [l_a2_7, readCov_skips a8.view aR _ _ _ _ (by intro j hj; exact aR_apart j 7 (by revert j; decide))]
  exact (congrArg (fun L => View.readCov a8.view L _) (List.append_nil _).symm).trans (readCov_head a8.view aR _ aR_apart [] heads 7 (mem_heads 7))
theorem w_a2_7 : trip_k0_t1.sl.v2273 (grid0.coords t) a4 a5 a7 a8 a9 a10 v0 v1 v2 v3 v4 v5 v6 v7 k0_h1 (w4.unread x1) (w5.unread x2) k f_arg7 f_arg8 f_arg9 = a2 Q x1 x2 k.val FS FM FA 7 := by
  show newA (View.readCov (Val := Elt F) a10.view (trip_k0_t1.sl.HW_arg10_8 (grid0.coords t) a4 v0 v1 v2 v3 v4 v5 v6 v7 k0_h1 (w4.unread x1) k) (sR 7).toLoadRect) (View.readCov (Val := Elt F) a7.view (trip_k0_t1.sl.HW_arg7_15 (grid0.coords t) a4 a7 a9 a10 v0 v1 v2 v3 v4 v5 v6 v7 k0_h1 (w4.unread x1) k f_arg7 f_arg9) (mR 7).toLoadRect) (View.readAt (Elt F) a5.view (Rect.unit (s := S640x4096) (k0_off48 (grid0.coords t) k) S80x512.size _).toLoadRect (w5.unread x2)) (View.readCov (Val := Elt F) a8.view (trip_k0_t1.sl.HW_arg8_15 (grid0.coords t) a4 a5 a7 a8 a9 a10 v0 v1 v2 v3 v4 v5 v6 v7 k0_h1 (w4.unread x1) (w5.unread x2) k f_arg7 f_arg8 f_arg9) (aR 7).toLoadRect) = _
  rw [rd_s1_7, rd_m1_7, rd_a1_7, rd_vf w5 x2 _ _ (512 * (2 * k.val + 1)) 7 (off_v2_7 t k)]
  rfl
variable (𝒱 : Variants) (c : Dev nD) (bd : Option 𝒱.V) (a3 : Memref sig .tc .vmem S512x1024 .bf16) (w3 : a3.IsWhole)
  (a6 : Memref sig .tc .vmem S512x512 .bf16) (w6 : a6.IsWhole) (w7 : a7.IsWhole) (w8 : a8.IsWhole)
  (w9 : a9.IsWhole) (w10 : a10.IsWhole) (v33 : BitVec 32) (f_arg10 : BufTy.Contents (Elt F) a10.view.ty)

theorem trip_m : (tripL_k0_t1 (F := F) 𝒱 c bd (grid0.coords t) a3 w3 a4 w4 a5 w5 a6 w6 a7 w7 a8 w8 a9 w9 a10 w10 v0 v1 v2 v3 v4 v5 v6 v7 v33 k0_h1 (w4.unread x1) (w5.unread x2) k f_arg7 f_arg8 f_arg9 f_arg10).1 = heads.map (fun h => (⟨mR h, m2 Q x1 k.val FS FM h⟩ : View.Piece (Elt F) _ _)) ++ heads.map (fun h => (⟨mR h, m1 FS FM h⟩ : View.Piece (Elt F) _ _)) := by
  unfold tripL_k0_t1 trip_k0_t1
  show (⟨mR 7, trip_k0_t1.sl.v2276 (grid0.coords t) a4 a7 a9 a10 v0 v1 v2 v3 v4 v5 v6 v7 k0_h1 (w4.unread x1) k f_arg7 f_arg9⟩ :: trip_k0_t1.sl.HW_arg7_15 (grid0.coords t) a4 a7 a9 a10 v0 v1 v2 v3 v4 v5 v6 v7 k0_h1 (w4.unread x1) k f_arg7 f_arg9 : List (View.Piece (Elt F) _ .f32)) = _
  rw [w_m2_7, l_m2_7]
  rfl
theorem trip_a : (tripL_k0_t1 (F := F) 𝒱 c bd (grid0.coords t) a3 w3 a4 w4 a5 w5 a6 w6 a7 w7 a8 w8 a9 w9 a10 w10 v0 v1 v2 v3 v4 v5 v6 v7 v33 k0_h1 (w4.unread x1) (w5.unread x2) k f_arg7 f_arg8 f_arg9 f_arg10).2.1 = heads.map (fun h => (⟨aR h, a2 Q x1 x2 k.val FS FM FA h⟩ : View.Piece (Elt F) _ _)) ++ heads.map (fun h => (⟨aR h, a1 x2 k.val FS FM FA h⟩ : View.Piece (Elt F) _ _)) := by
  unfold tripL_k0_t1 trip_k0_t1
  show (⟨aR 7, trip_k0_t1.sl.v2273 (grid0.coords t) a4 a5 a7 a8 a9 a10 v0 v1 v2 v3 v4 v5 v6 v7 k0_h1 (w4.unread x1) (w5.unread x2) k f_arg7 f_arg8 f_arg9⟩ :: trip_k0_t1.sl.HW_arg8_15 (grid0.coords t) a4 a5 a7 a8 a9 a10 v0 v1 v2 v3 v4 v5 v6 v7 k0_h1 (w4.unread x1) (w5.unread x2) k f_arg7 f_arg8 f_arg9 : List (View.Piece (Elt F) _ .f32)) = _
  rw [w_a2_7, l_a2_7]
  rfl
theorem trip_s : (tripL_k0_t1 (F := F) 𝒱 c bd (grid0.coords t) a3 w3 a4 w4 a5 w5 a6 w6 a7 w7 a8 w8 a9 w9 a10 w10 v0 v1 v2 v3 v4 v5 v6 v7 v33 k0_h1 (w4.unread x1) (w5.unread x2) k f_arg7 f_arg8 f_arg9 f_arg10).2.2.1 = heads.map (fun h => (⟨sR h, s2 Q x1 k.val h⟩ : View.Piece (Elt F) _ _)) := by
  unfold tripL_k0_t1 trip_k0_t1
  show ([⟨sR 7, trip_k0_t1.sl.v2247 (grid0.coords t) a4 v7 k0_h1 (w4.unread x1) k⟩, ⟨sR 6, trip_k0_t1.sl.v2209 (grid0.coords t) a4 v6 k0_h1 (w4.unread x1) k⟩, ⟨sR 5, trip_k0_t1.sl.v2171 (grid0.coords t) a4 v5 k0_h1 (w4.unread x1) k⟩, ⟨sR 4, trip_k0_t1.sl.v2133 (grid0.coords t) a4 v4 k0_h1 (w4.unread x1) k⟩, ⟨sR 3, trip_k0_t1.sl.v2095 (grid0.coords t) a4 v3 k0_h1 (w4.unread x1) k⟩, ⟨sR 2, trip_k0_t1.sl.v2057 (grid0.coords t) a4 v2 k0_h1 (w4.unread x1) k⟩, ⟨sR 1, trip_k0_t1.sl.v2019 (grid0.coords t) a4 v1 k0_h1 (w4.unread x1) k⟩, ⟨sR 0, trip_k0_t1.sl.v1981 (grid0.coords t) a4 v0 k0_h1 (w4.unread x1) k⟩] : List (View.Piece (Elt F) _ .f32)) = _
  rw [w_s2_0, w_s2_1, w_s2_2, w_s2_3, w_s2_4, w_s2_5, w_s2_6, w_s2_7]
  rfl

end

end Cert.Trip

end
-- ==== Proof.Own.lean ====
/- The keys at the queries' own positions: what the two steps over them leave in the scratch buffers.

   The first step takes 256 keys against all 512 queries, the second the other 256 keys against the last 256 queries, so
   that it changes the later half of each row only. -/
module

public import proofs.«01_k».proof.Proof.Slab

@[expose] public section

set_option maxRecDepth 16384

noncomputable section

namespace Cert.Own

open Idealize.ShloMosaic Cert.KernelIdeal Cert.Steps Cert.Slab

section Pieces
variable {s : Shape} {e : EltTy} {Val : EltTy → Type} [∀ e, Nonempty (Val e)]

theorem canon_off (r : Fin 8 → Rect s) (w : ∀ h, (r h).shape.Idx → Val e) (L : List (View.Piece Val s e)) (x : s.Idx)
    (hs : List (Fin 8)) (hx : ∀ k ∈ hs, x ∉ (r k).set) :
    View.canon (hs.map (fun h => (⟨r h, w h⟩ : View.Piece Val s e)) ++ L) x = View.canon L x := by
  induction hs with
  | nil => rfl
  | cons j hs ih =>
    exact (View.canon_cons_of_not_mem ⟨r j, w j⟩ _ (hx j List.mem_cons_self)).trans
      (ih fun k hk => hx k (List.mem_cons_of_mem _ hk))

theorem canon_at (r : Fin 8 → Rect s) (w : ∀ h, (r h).shape.Idx → Val e) (L : List (View.Piece Val s e)) (h : Fin 8)
    (y : (r h).shape.Idx) (hs : List (Fin 8)) (hm : h ∈ hs) (hx : ∀ k, k ≠ h → (r h).emb y ∉ (r k).set) :
    View.canon (hs.map (fun h => (⟨r h, w h⟩ : View.Piece Val s e)) ++ L) ((r h).emb y) = w h y := by
  induction hs with
  | nil => exact absurd hm (by simp)
  | cons j hs ih =>
    by_cases e : j = h
    · subst e
      exact View.canon_cons_emb (r j) (w j) _ y
    · exact (View.canon_cons_of_not_mem ⟨r j, w j⟩ _ (hx j e)).trans
        (ih ((List.mem_cons.mp hm).resolve_left fun h' => e h'.symm))

end Pieces

/-- Pieces of the three scratch buffers. -/
abbrev PM (F : FTy → Type) := View.Piece (Elt F) S8x1x512 .f32
abbrev PA (F : FTy → Type) := View.Piece (Elt F) S8x80x512 .f32
abbrev PS (F : FTy → Type) := View.Piece (Elt F) S8x512x512 .f32

section Defs
variable {F : FTy → Type} [FloatOps F] [Named F]

/-- The later half of a row. -/
def lateM (m : Vec F S1x1x512 .f32) : Vec F S1x1x256 .f32 := fun j =>
  m (ix3 0 0 (Fin.ofNat 512 (256 + (j 2).val)))
def lateA (a : Vec F S1x80x512 .f32) : Vec F S1x80x256 .f32 := fun j =>
  a (ix3 0 (Fin.ofNat 80 (j 1).val) (Fin.ofNat 512 (256 + (j 2).val)))

/-- A row whose later half is another. -/
def glueM (m : Vec F S1x1x512 .f32) (l : Vec F S1x1x256 .f32) : Vec F S1x1x512 .f32 := fun j =>
  if (j 2).val < 256 then m j else l (ix3 0 0 (Fin.ofNat 256 ((j 2).val - 256)))
def glueA (a : Vec F S1x80x512 .f32) (l : Vec F S1x80x256 .f32) : Vec F S1x80x512 .f32 := fun j =>
  if (j 2).val < 256 then a j else l (ix3 0 (Fin.ofNat 80 (j 1).val) (Fin.ofNat 256 ((j 2).val - 256)))

/-- What the buffers are filled with first. -/
def noM : Vec F S1x1x512 .f32 := fun _ => Named.named κ "mask" 0xF149F2CA#32
def noA : Vec F S1x80x512 .f32 := fun _ => Scalar.ofBits .f32 0x00000000#32

variable (i : ℕ) (x0 : Vec F S512x1024 .bf16) (x1 : Vec F S4096x1024 .bf16) (x2 : Vec F S640x4096 .bf16) (h : Fin 8)

/-- The masked scores of the two steps. -/
def s0 : FVec F S256x512 .f32 := own0 (BitVec.ofNat 32 i) (qh x0 h.val) (kg x1 (512 * i) h.val)
def s1 : FVec F S256x256 .f32 := own1 (BitVec.ofNat 32 i) (qh x0 h.val) (kg x1 (512 * i + 256) h.val)

/-- The greatest scores after the first step, in the later half after the second, and together. -/
def m0 : Vec F S1x1x512 .f32 := newM0 (s0 i x0 x1 h) noM
def m1 : Vec F S1x1x256 .f32 := newM1 (s1 i x0 x1 h) (lateM (m0 i x0 x1 h))
def m : Vec F S1x1x512 .f32 := glueM (m0 i x0 x1 h) (m1 i x0 x1 h)

/-- The weighted sums likewise. -/
def a0 : Vec F S1x80x512 .f32 := newA0 (s0 i x0 x1 h) noM (vg x2 (512 * i) h.val) noA
def a1 : Vec F S1x80x256 .f32 :=
  newA1 (s1 i x0 x1 h) (lateM (m0 i x0 x1 h)) (vg x2 (512 * i + 256) h.val) (lateA (a0 i x0 x1 x2 h))
def a : Vec F S1x80x512 .f32 := glueA (a0 i x0 x1 x2 h) (a1 i x0 x1 x2 h)

/-- The scores of the first full block. -/
def s : Vec F S1x512x512 .f32 := score (qh x0 h.val) (kf x1 0 h.val)

end Defs

section Reads
variable {F : FTy → Type} [FloatOps F] [Named F] {κ : Kind} {sp : Space}

theorem mH_idx (h : Fin 8) (j : S1x1x256.Idx) :
    (mH h).toLoadRect.idx j = (mR h).toLoadRect.idx (ix3 0 0 (Fin.ofNat 512 (256 + (j 2).val))) := by
  have j0 := (j 0).isLt; have j1 := (j 1).isLt; have j2 := (j 2).isLt
  simp at j0 j1 j2
  refine funext fun a => Fin.ext ?_
  fin_cases a
  · simp [LoadRect.idx, j0]
  · simp [LoadRect.idx, j1]
  · simp [LoadRect.idx, Fin.ofNat]; omega

theorem aH_idx (h : Fin 8) (j : S1x80x256.Idx) :
    (aH h).toLoadRect.idx j = (aR h).toLoadRect.idx (ix3 0 (Fin.ofNat 80 (j 1).val) (Fin.ofNat 512 (256 + (j 2).val))) := by
  have j0 := (j 0).isLt; have j1 := (j 1).isLt; have j2 := (j 2).isLt
  simp at j0 j1 j2
  refine funext fun a => Fin.ext ?_
  fin_cases a
  · simp [LoadRect.idx, j0]
  · simp [LoadRect.idx, Fin.ofNat]; omega
  · simp [LoadRect.idx, Fin.ofNat]; omega

theorem late_m (v : View sig κ sp S8x1x512 .f32) (w : Fin 8 → Vec F S1x1x512 .f32) (L : List (View.Piece (Elt F) S8x1x512 .f32)) (h : Fin 8) :
    View.readCov (Val := Elt F) v (heads.map (fun h => (⟨mR h, w h⟩ : View.Piece (Elt F) S8x1x512 .f32)) ++ L) (mH h).toLoadRect = lateM (w h) := by
  rw [View.readCov_eq_canon']
  funext j
  rw [mH_idx]
  refine canon_at mR w L h _ heads (mem_heads h) fun k hk => ?_
  have := LoadRect.idx_not_mem_of_disj (mRH_apart k h hk) j
  rwa [mH_idx] at this

theorem late_a (v : View sig κ sp S8x80x512 .f32) (w : Fin 8 → Vec F S1x80x512 .f32) (L : List (View.Piece (Elt F) S8x80x512 .f32)) (h : Fin 8) :
    View.readCov (Val := Elt F) v (heads.map (fun h => (⟨aR h, w h⟩ : View.Piece (Elt F) S8x80x512 .f32)) ++ L) (aH h).toLoadRect = lateA (w h) := by
  rw [View.readCov_eq_canon']
  funext j
  rw [aH_idx]
  refine canon_at aR w L h _ heads (mem_heads h) fun k hk => ?_
  have := LoadRect.idx_not_mem_of_disj (aRH_apart k h hk) j
  rwa [aH_idx] at this

theorem glue_m (v : View sig κ sp S8x1x512 .f32) (l : Fin 8 → Vec F S1x1x256 .f32) (w : Fin 8 → Vec F S1x1x512 .f32)
    (L : List (View.Piece (Elt F) S8x1x512 .f32)) (h : Fin 8) :
    View.readCov (Val := Elt F) v (heads.map (fun h => (⟨mH h, l h⟩ : View.Piece (Elt F) S8x1x512 .f32))
      ++ (heads.map (fun h => (⟨mR h, w h⟩ : View.Piece (Elt F) S8x1x512 .f32)) ++ L)) (mR h).toLoadRect = glueM (w h) (l h) := by
  rw [View.readCov_eq_canon']
  funext j
  have j0 := (j 0).isLt; have j1 := (j 1).isLt; have j2 := (j 2).isLt
  simp at j0 j1 j2
  by_cases hj : (j 2).val < 256
  · rw [canon_off]
    · refine (canon_at mR w L h j heads (mem_heads h) fun k hk => LoadRect.idx_not_mem_of_disj (mR_apart k h hk) j).trans ?_
      simp [glueM, hj]
    · intro k _ hm
      have := (Rect.mem_set_unit.mp hm) 2
      simp [LoadRect.idx] at this
      omega
  · have e : (mR h).toLoadRect.idx j = (mH h).toLoadRect.idx (ix3 0 0 (Fin.ofNat 256 ((j 2).val - 256))) := by
      refine funext fun a => Fin.ext ?_
      fin_cases a
      · simp [LoadRect.idx, j0]
      · simp [LoadRect.idx, j1]
      · simp [LoadRect.idx, Fin.ofNat]; omega
    rw [e]
    refine (canon_at mH l _ h _ heads (mem_heads h) fun k hk => ?_).trans ?_
    · have := LoadRect.idx_not_mem_of_disj (mHR_apart k h hk) j
      rwa [e] at this
    · simp [glueM, hj]

theorem glue_a (v : View sig κ sp S8x80x512 .f32) (l : Fin 8 → Vec F S1x80x256 .f32) (w : Fin 8 → Vec F S1x80x512 .f32)
    (L : List (View.Piece (Elt F) S8x80x512 .f32)) (h : Fin 8) :
    View.readCov (Val := Elt F) v (heads.map (fun h => (⟨aH h, l h⟩ : View.Piece (Elt F) S8x80x512 .f32))
      ++ (heads.map (fun h => (⟨aR h, w h⟩ : View.Piece (Elt F) S8x80x512 .f32)) ++ L)) (aR h).toLoadRect = glueA (w h) (l h) := by
  rw [View.readCov_eq_canon']
  funext j
  have j0 := (j 0).isLt; have j1 := (j 1).isLt; have j2 := (j 2).isLt
  simp at j0 j1 j2
  by_cases hj : (j 2).val < 256
  · rw [canon_off]
    · refine (canon_at aR w L h j heads (mem_heads h) fun k hk => LoadRect.idx_not_mem_of_disj (aR_apart k h hk) j).trans ?_
      simp [glueA, hj]
    · intro k _ hm
      have := (Rect.mem_set_unit.mp hm) 2
      simp [LoadRect.idx] at this
      omega
  · have e : (aR h).toLoadRect.idx j = (aH h).toLoadRect.idx (ix3 0 (Fin.ofNat 80 (j 1).val) (Fin.ofNat 256 ((j 2).val - 256))) := by
      refine funext fun a => Fin.ext ?_
      fin_cases a
      · simp [LoadRect.idx, j0]
      · simp [LoadRect.idx, Fin.ofNat]; omega
      · simp [LoadRect.idx, Fin.ofNat]; omega
    rw [e]
    refine (canon_at aH l _ h _ heads (mem_heads h) fun k hk => ?_).trans ?_
    · have := LoadRect.idx_not_mem_of_disj (aHR_apart k h hk) j
      rwa [e] at this
    · simp [glueA, hj]

end Reads

end Cert.Own

end
-- ==== Proof.Loop.lean ====
/- The loop over pairs of full blocks, closed: what the scratch buffers hold before each trip.

   The score buffer holds the scores of the next block to take up; the other two hold the steps of Steps.lean applied in
   turn, from what the keys at the queries' own positions left. -/
module

public import proofs.«01_k».proof.Proof.Trip
public import proofs.«01_k».proof.Proof.Own

@[expose] public section

set_option maxRecDepth 16384
set_option maxHeartbeats 1000000

noncomputable section

namespace Cert.Loop

open Idealize.ShloMosaic Cert.KernelIdeal Cert.KernelIdeal.Gen Cert.Steps Cert.Slab Cert.Trip

section
variable {F : FTy → Type} [FloatOps F] [Named F]

/-- The queries of each head. -/
abbrev Qv (x0 : Vec F S512x1024 .bf16) (h : Fin 8) : Vec F S512x128 .bf16 := qh x0 h.val

variable (i : ℕ) (x0 : Vec F S512x1024 .bf16) (x1 : Vec F S4096x1024 .bf16) (x2 : Vec F S640x4096 .bf16)

/-- The scores, the greatest scores and the weighted sums before trip `k`. -/
def Sv (k : ℕ) (h : Fin 8) : Vec F S1x512x512 .f32 := score (qh x0 h.val) (kf x1 (512 * (2 * k)) h.val)
def Mv : ℕ → Fin 8 → Vec F S1x1x512 .f32
  | 0 => Own.m i x0 x1
  | k + 1 => m2 (Qv x0) x1 k (Sv x0 x1 k) (Mv k)
def Av : ℕ → Fin 8 → Vec F S1x80x512 .f32
  | 0 => Own.a i x0 x1 x2
  | k + 1 => a2 (Qv x0) x1 x2 k (Sv x0 x1 k) (Mv i x0 x1 k) (Av k)

variable (t : Fin grid0.N) (𝒱 : Variants) (c : Dev nD) (bd : Option 𝒱.V) (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a6 : Memref sig .tc .vmem S512x512 .bf16) (w6 : a6.IsWhole)
  (a7 : Memref sig .tc .vmem S8x1x512 .f32) (w7 : a7.IsWhole) (a8 : Memref sig .tc .vmem S8x80x512 .f32) (w8 : a8.IsWhole)
  (a9 : Memref sig .tc .vmem S8x512x512 .f32) (w9 : a9.IsWhole) (a10 : Memref sig .tc .vmem S8x512x512 .f32) (w10 : a10.IsWhole)
  (v0 v1 v2 v3 v4 v5 v6 v7 : Vec F S512x128 .bf16) (v33 : BitVec 32) (k0_h1 : k0_cond1 (grid0.coords t) = 1#1)
  (g7 : BufTy.Contents (Elt F) a7.view.ty) (g8 : BufTy.Contents (Elt F) a8.view.ty)
  (g9 : BufTy.Contents (Elt F) a9.view.ty) (g10 : BufTy.Contents (Elt F) a10.view.ty)

/-- The pieces of the trips before `k`. -/
abbrev pb (k : ℕ) := pb_k0_t1 (F := F) 𝒱 c bd (grid0.coords t) a3 w3 a4 w4 a5 w5 a6 w6 a7 w7 a8 w8 a9 w9 a10 w10 v0 v1 v2 v3 v4 v5 v6 v7 v33 k0_h1 (w4.unread x1) (w5.unread x2) g7 g8 g9 g10 k

local notation "P" => pb x1 x2 t 𝒱 c bd a3 w3 a4 w4 a5 w5 a6 w6 a7 w7 a8 w8 a9 w9 a10 w10 v0 v1 v2 v3 v4 v5 v6 v7 v33 k0_h1 g7 g8 g9 g10

theorem reads (hq : qs8 v0 v1 v2 v3 v4 v5 v6 v7 = Qv x0) (h7 : rdM a7 g7 = Own.m i x0 x1)
    (h8 : rdA a8 g8 = Own.a i x0 x1 x2) (h9 : rdS a9 g9 = Own.s x0 x1) :
    ∀ k, k ≤ (k0_t1_loop (grid0.coords t)).trips →
      rdM a7 (a7.view.writes (Elt F) g7 (P k).1) = Mv i x0 x1 k
        ∧ rdA a8 (a8.view.writes (Elt F) g8 (P k).2.1) = Av i x0 x1 x2 k
        ∧ rdS a9 (a9.view.writes (Elt F) g9 (P k).2.2.1) = Sv x0 x1 k := by
  intro k
  induction k with
  | zero => exact fun _ => ⟨h7, h8, h9⟩
  | succ k ih =>
    intro hk
    obtain ⟨i7, i8, i9⟩ := ih (by omega)
    have e := pb_k0_t1_succ (F := F) 𝒱 c bd (grid0.coords t) a3 w3 a4 w4 a5 w5 a6 w6 a7 w7 a8 w8 a9 w9 a10 w10 v0 v1 v2 v3 v4 v5 v6 v7 v33 k0_h1 (w4.unread x1) (w5.unread x2) g7 g8 g9 g10 ⟨k, hk⟩
    refine ⟨?_, ?_, ?_⟩
    · rw [show (P (k + 1)) = _ from e]
      funext h
      show View.readAt (Elt F) a7.view (mR h).toLoadRect (a7.view.writes (Elt F) g7 (_ ++ _)) = _
      rw [View.writes_append, trip_m, readAt_head a7.view _ mR _ mR_apart _ h, hq, i7, i9]
      rfl
    · rw [show (P (k + 1)) = _ from e]
      funext h
      show View.readAt (Elt F) a8.view (aR h).toLoadRect (a8.view.writes (Elt F) g8 (_ ++ _)) = _
      rw [View.writes_append, trip_a, readAt_head a8.view _ aR _ aR_apart _ h, hq, i7, i8, i9]
      rfl
    · rw [show (P (k + 1)) = _ from e]
      funext h
      show View.readAt (Elt F) a9.view (sR h).toLoadRect (a9.view.writes (Elt F) g9 (_ ++ _)) = _
      rw [View.writes_append, trip_s, ← List.append_nil (List.map _ heads), readAt_head a9.view _ sR _ sR_apart _ h, hq]
      rfl

end

end Cert.Loop

end
-- ==== Proof.Attn.lean ====
/- One query of one head, key block by key block: what the buffers hold is the softmax's state (Softmax.lean) over the keys
   taken so far, and at the end over all 4096 keys of the query's sequence, the later chunks having score `-∞`. -/
module

public import proofs.«01_k».proof.Proof.Softmax
public import proofs.«01_k».proof.Proof.Loop

@[expose] public section

set_option maxRecDepth 16384
set_option maxHeartbeats 1000000

noncomputable section

namespace Cert.Attn

open Idealize.ShloMosaic Cert.KernelIdeal Cert.Steps Cert.Slab Cert.Softmax

theorem Ico_eq_image (p n : ℕ) : Finset.Ico p (p + n) = Finset.univ.image (fun k : Fin n => p + k.val) := by
  ext y
  simp only [Finset.mem_Ico, Finset.mem_image, Finset.mem_univ, true_and]
  constructor
  · rintro ⟨h1, h2⟩
    exact ⟨⟨y - p, by omega⟩, by simp; omega⟩
  · rintro ⟨k, rfl⟩
    have := k.isLt
    omega

/-- `State.step` for a block of `n` keys from `p`. -/
theorem block {δ : Type*} {s : ℕ → EReal} {v : δ → ℕ → EReal} {S : Finset ℕ} {m : EReal} {a : δ → EReal}
    (h : State s v S m a) (p n : ℕ) (hd : Disjoint S (Finset.Ico p (p + n)))
    (b : Fin n → EReal) (hb : ∀ k, b k = s (p + k.val)) (w : δ → Fin n → EReal) (hw : ∀ d k, w d k = v d (p + k.val))
    (m' : EReal) (a' : δ → EReal) (hm : m' = max m (Finset.univ.sup b))
    (ha : ∀ d, a' d = Ideal.exp2 (m - m') * a d + ∑ k, w d k * Ideal.exp2 (b k - m')) :
    State s v (S ∪ Finset.Ico p (p + n)) m' a' := by
  have e : (Finset.Ico p (p + n)).sup s = Finset.univ.sup b := by
    rw [Ico_eq_image, Finset.sup_image]
    exact Finset.sup_congr rfl fun k _ => (hb k).symm
  have st := h.step (Finset.Ico p (p + n)) hd
  rw [e, ← hm] at st
  refine ⟨st.max, fun d => ?_⟩
  rw [← st.acc d, ha d]
  refine congrArg (fun z => Ideal.exp2 (m - m') * a d + z) ?_
  rw [Ico_eq_image, Finset.sum_image (by intro x _ y _ hxy; exact Fin.ext (by simpa using hxy))]
  exact Finset.sum_congr rfl fun k _ => by rw [hb, hw]

section
variable (i : ℕ) (x0 : Vec Ideal S512x1024 .bf16) (x1 : Vec Ideal S4096x1024 .bf16) (x2 : Vec Ideal S640x4096 .bf16)
  (h : Fin 8) (x : Fin 512)

/-- A key's score. -/
def raw (k : ℕ) : EReal := ∑ d : Fin 128,
  x1 (ix2 (Fin.ofNat 4096 k) (Fin.ofNat 1024 (128 * h.val + d.val))) * x0 (ix2 (Fin.ofNat 512 x.val) (Fin.ofNat 1024 (128 * h.val + d.val)))
/-- … masked: a key of a later chunk has `-∞`. -/
def sc (k : ℕ) : EReal := if k / 64 ≤ (512 * i + x.val) / 64 then raw x0 x1 h x k else ⊥
/-- A key's values. -/
def vl (d : Fin 80) (k : ℕ) : EReal := x2 (ix2 (Fin.ofNat 640 (80 * h.val + d.val)) (Fin.ofNat 4096 k))

theorem st_own0 (hi : i < 8) : State (sc i x0 x1 h x) (vl x2 h) (Finset.Ico (512 * i) (512 * i + 256))
    (Own.m0 (F := Ideal) i x0 x1 h (ix3 0 0 x)) (fun d => Own.a0 (F := Ideal) i x0 x1 x2 h (ix3 0 d x)) := by
  have e := State.empty (sc i x0 x1 h x) (vl x2 h)
  have := block e (512 * i) 256 (by simp) (fun k => Own.s0 (F := Ideal) i x0 x1 h (ix2 k x)) (fun k => ?_)
    (fun d k => vg (F := Ideal) x2 (512 * i) h.val (ix2 d k)) (fun d k => rfl)
    (Own.m0 (F := Ideal) i x0 x1 h (ix3 0 0 x)) (fun d => Own.a0 (F := Ideal) i x0 x1 x2 h (ix3 0 d x)) ?_ (fun d => ?_)
  · rwa [Finset.empty_union] at this
  · show own0 _ _ _ _ = _
    rw [own0_apply i hi]
    simp only [sc, Nat.mul_comm i 512]
    rfl
  · show newM0 _ _ _ = _
    rw [newM0_apply]
    refine congrArg (max · _) mask_ideal
  · simp only [Own.a0, Own.m0]
    rw [newA0_apply]
    rw [show Own.noM (F := Ideal) (ix3 0 0 x) = ⊥ from mask_ideal,
      show Own.noA (F := Ideal) (ix3 0 d x) = 0 from Ideal.ofBits_zero_f32]

theorem st_own1 (hi : i < 8) (y : Fin 256) (hx : x.val = 256 + y.val) :
    State (sc i x0 x1 h x) (vl x2 h) (Finset.Ico (512 * i) (512 * i + 256) ∪ Finset.Ico (512 * i + 256) (512 * i + 256 + 256))
    (Own.m1 (F := Ideal) i x0 x1 h (ix3 0 0 y)) (fun d => Own.a1 (F := Ideal) i x0 x1 x2 h (ix3 0 d y)) := by
  have ex : Fin.ofNat 512 (256 + y.val) = x := Fin.ext (by simp [Fin.ofNat]; omega)
  have em : Own.lateM (F := Ideal) (Own.m0 i x0 x1 h) (ix3 0 0 y) = Own.m0 (F := Ideal) i x0 x1 h (ix3 0 0 x) :=
    congrArg (fun z => Own.m0 (F := Ideal) i x0 x1 h (ix3 0 0 z)) ex
  refine block (st_own0 i x0 x1 x2 h x hi) (512 * i + 256) 256 ?_ (fun k => Own.s1 (F := Ideal) i x0 x1 h (ix2 k y)) (fun k => ?_)
    (fun d k => vg (F := Ideal) x2 (512 * i + 256) h.val (ix2 d k)) (fun d k => rfl) _ _ ?_ (fun d => ?_)
  · rw [Finset.disjoint_left]
    intro k
    simp only [Finset.mem_Ico]
    omega
  · show own1 _ _ _ _ = _
    rw [own1_apply i hi]
    simp only [sc, Nat.mul_comm i 512, hx, Nat.add_assoc]
    refine if_congr Iff.rfl (Finset.sum_congr rfl fun d _ => ?_) rfl
    refine congrArg₂ (· * ·) (congrArg (fun z => x1 (ix2 z _)) (by simp [Nat.add_assoc])) ?_
    exact congrArg (fun z => x0 (ix2 (Fin.ofNat 512 z) _)) hx.symm
  · show newM1 _ _ _ = _
    rw [newM1_apply, em]
  · simp only [Own.a1, Own.m1]
    rw [newA1_apply, em, show Own.lateA (F := Ideal) (Own.a0 i x0 x1 x2 h) (ix3 0 d y) = Own.a0 (F := Ideal) i x0 x1 x2 h (ix3 0 d x)
      from congrArg₂ (fun e z => Own.a0 (F := Ideal) i x0 x1 x2 h (ix3 0 e z)) (Fin.ext (by simp [Fin.ofNat])) ex]

/-- After the keys at the queries' own positions. -/
theorem st_own (hi : i < 8) : State (sc i x0 x1 h x) (vl x2 h) (Finset.Ico (512 * i) (512 * i + 512))
    (Own.m (F := Ideal) i x0 x1 h (ix3 0 0 x)) (fun d => Own.a (F := Ideal) i x0 x1 x2 h (ix3 0 d x)) := by
  by_cases hx : x.val < 256
  · have := (st_own0 i x0 x1 x2 h x hi).widen (Finset.Ico (512 * i) (512 * i + 512))
      (Finset.Ico_subset_Ico_right (by omega)) (fun k h1 h2 => by
        simp only [Finset.mem_Ico] at h1 h2
        exact if_neg (by omega))
    have e1 : Own.m (F := Ideal) i x0 x1 h (ix3 0 0 x) = Own.m0 (F := Ideal) i x0 x1 h (ix3 0 0 x) := if_pos hx
    have e2 : (fun d => Own.a (F := Ideal) i x0 x1 x2 h (ix3 0 d x)) = (fun d => Own.a0 (F := Ideal) i x0 x1 x2 h (ix3 0 d x)) :=
      funext fun d => if_pos hx
    rwa [e1, e2]
  · have hx' := x.isLt
    have := st_own1 i x0 x1 x2 h x hi ⟨x.val - 256, by omega⟩ (by simp; omega)
    have ey : (Fin.ofNat 256 (x.val - 256) : Fin 256) = ⟨x.val - 256, by omega⟩ := Fin.ext (by simp [Fin.ofNat]; omega)
    have e1 : Own.m (F := Ideal) i x0 x1 h (ix3 0 0 x) = Own.m1 (F := Ideal) i x0 x1 h (ix3 0 0 ⟨x.val - 256, by omega⟩) :=
      (if_neg hx).trans (congrArg (fun z => Own.m1 (F := Ideal) i x0 x1 h (ix3 0 0 z)) ey)
    have e2 : (fun d => Own.a (F := Ideal) i x0 x1 x2 h (ix3 0 d x))
        = (fun d => Own.a1 (F := Ideal) i x0 x1 x2 h (ix3 0 d ⟨x.val - 256, by omega⟩)) :=
      funext fun d => (if_neg hx).trans (congrArg₂ (fun e z => Own.a1 (F := Ideal) i x0 x1 x2 h (ix3 0 e z))
        (Fin.ext (by simp [Fin.ofNat])) ey)
    rw [e1, e2]
    have eS : Finset.Ico (512 * i) (512 * i + 256) ∪ Finset.Ico (512 * i + 256) (512 * i + 256 + 256)
        = Finset.Ico (512 * i) (512 * i + 512) := by
      ext k; simp only [Finset.mem_union, Finset.mem_Ico]; omega
    rwa [eS] at this

/-- The keys at the queries' own positions and the first `j` full blocks. -/
abbrev upTo (j : ℕ) : Finset ℕ := Finset.Ico (512 * i) (512 * i + 512) ∪ Finset.Ico 0 (512 * j)

/-- One full block more. -/
theorem st_block (j : ℕ) (hj : j < i) (m : Vec Ideal S1x1x512 .f32) (a : Vec Ideal S1x80x512 .f32)
    (st : State (sc i x0 x1 h x) (vl x2 h) (upTo i j) (m (ix3 0 0 x)) (fun d => a (ix3 0 d x))) :
    State (sc i x0 x1 h x) (vl x2 h) (upTo i (j + 1))
      (newM (F := Ideal) (score (qh x0 h.val) (kf x1 (512 * j) h.val)) m (ix3 0 0 x))
      (fun d => newA (F := Ideal) (score (qh x0 h.val) (kf x1 (512 * j) h.val)) m (vf x2 (512 * j) h.val) a (ix3 0 d x)) := by
  have eS : upTo i (j + 1) = upTo i j ∪ Finset.Ico (512 * j) (512 * j + 512) := by
    ext k; simp only [Finset.mem_union, Finset.mem_Ico]; omega
  rw [eS]
  refine block st (512 * j) 512 ?_ (fun k => score (F := Ideal) (qh x0 h.val) (kf x1 (512 * j) h.val) (ix3 0 k x)) (fun k => ?_)
    (fun d k => vf (F := Ideal) x2 (512 * j) h.val (ix2 d k)) (fun d k => rfl) _ _ ?_ (fun d => ?_)
  · rw [Finset.disjoint_left]
    intro k
    simp only [Finset.mem_union, Finset.mem_Ico]
    omega
  · rw [score_apply]
    have := k.isLt
    exact (if_pos (by omega : (512 * j + k.val) / 64 ≤ (512 * i + x.val) / 64)).symm
  · rw [newM_apply]
  · rw [newA_apply]

/-- After `n` trips, so after `2n` full blocks. -/
theorem st_trips (hi : i < 8) (n : ℕ) (hn : 2 * n ≤ i) : State (sc i x0 x1 h x) (vl x2 h) (upTo i (2 * n))
    (Loop.Mv (F := Ideal) i x0 x1 n h (ix3 0 0 x)) (fun d => Loop.Av (F := Ideal) i x0 x1 x2 n h (ix3 0 d x)) := by
  induction n with
  | zero =>
    have := st_own i x0 x1 x2 h x hi
    rwa [← Finset.union_empty (Finset.Ico (512 * i) (512 * i + 512))] at this
  | succ n ih =>
    have s1 := st_block i x0 x1 x2 h x (2 * n) (by omega) _ _ (ih (by omega))
    exact st_block i x0 x1 x2 h x (2 * n + 1) (by omega) _ _ s1

/-- With every full block taken, the state is that of all keys. -/
theorem st_all (hi : i < 8) (m : EReal) (a : Fin 80 → EReal) (st : State (sc i x0 x1 h x) (vl x2 h) (upTo i i) m a) :
    State (sc i x0 x1 h x) (vl x2 h) (Finset.range 4096) m a :=
  st.widen _ (fun k hk => by
    simp only [Finset.mem_union, Finset.mem_Ico] at hk
    exact Finset.mem_range.mpr (by omega)) (fun k h1 h2 => by
      have := x.isLt
      simp only [Finset.mem_union, Finset.mem_Ico] at h2
      exact if_neg (by omega))

theorem full_A (hi : i = 0) : ∃ m, State (sc i x0 x1 h x) (vl x2 h) (Finset.range 4096) m
    (fun d => Own.a (F := Ideal) i x0 x1 x2 h (ix3 0 d x)) :=
  ⟨_, st_all i x0 x1 x2 h x (by omega) (Own.m (F := Ideal) i x0 x1 h (ix3 0 0 x)) _ (by
    have := st_trips i x0 x1 x2 h x (by omega) 0 (by omega)
    rwa [show 2 * 0 = i from hi.symm] at this)⟩

theorem full_B (n : ℕ) (hi : i < 8) (hn : i = 2 * n + 1) : ∃ m, State (sc i x0 x1 h x) (vl x2 h) (Finset.range 4096) m
    (fun d => Trip.a1 (F := Ideal) x2 n (Loop.Sv x0 x1 n) (Loop.Mv i x0 x1 n) (Loop.Av i x0 x1 x2 n) h (ix3 0 d x)) :=
  ⟨_, st_all i x0 x1 x2 h x hi _ _ (by
    have := st_block i x0 x1 x2 h x (2 * n) (by omega) _ _ (st_trips i x0 x1 x2 h x hi n (by omega))
    rw [← hn] at this
    exact this)⟩

theorem full_C (n : ℕ) (hi : i < 8) (hn : i = 2 * n + 2) : ∃ m, State (sc i x0 x1 h x) (vl x2 h) (Finset.range 4096) m
    (fun d => Loop.Av (F := Ideal) i x0 x1 x2 (n + 1) h (ix3 0 d x)) :=
  ⟨_, st_all i x0 x1 x2 h x hi _ _ (by
    have := st_trips i x0 x1 x2 h x hi (n + 1) (by omega)
    rw [show 2 * (n + 1) = i by omega] at this
    exact this)⟩

end

end Cert.Attn

end
-- ==== Proof.OwnB.lean ====
/- The two steps over the keys at the queries' own positions, in the run at the odd row blocks: the lists of
   pieces that the run finds are those of Own.lean, head by head. -/
module

public import proofs.«01_k».proof.Proof.Own
public import proofs.«01_k».proof.Proof.Run.KernelIdeal.B
import all proofs.«01_k».proof.Proof.Run.KernelIdeal.B
public import proofs.«01_k».proof.Proof.Gen.KernelIdeal.Points

@[expose] public section

set_option maxRecDepth 16384
set_option maxHeartbeats 1000000

noncomputable section

namespace Cert.OwnB

open Idealize.ShloMosaic Cert.KernelIdeal Cert.KernelIdeal.Gen Cert.Steps Cert.Slab kernelRun0_B

theorem off_k0_0 : ∀ t : Fin grid0.N, k0_off1 (grid0.coords t) 0#32 = ![512 * ((grid0.coords t) 2).val, 128 * 0] := by decide +kernel
theorem off_k1_0 : ∀ t : Fin grid0.N, k0_off1 (grid0.coords t) 256#32 = ![512 * ((grid0.coords t) 2).val + 256, 128 * 0] := by decide +kernel
theorem off_v0_0 : ∀ t : Fin grid0.N, k0_off9 (grid0.coords t) 0#32 = ![80 * 0, 512 * ((grid0.coords t) 2).val] := by decide +kernel
theorem off_v1_0 : ∀ t : Fin grid0.N, k0_off9 (grid0.coords t) 256#32 = ![80 * 0, 512 * ((grid0.coords t) 2).val + 256] := by decide +kernel
theorem off_k0_1 : ∀ t : Fin grid0.N, k0_off2 (grid0.coords t) 0#32 = ![512 * ((grid0.coords t) 2).val, 128 * 1] := by decide +kernel
theorem off_k1_1 : ∀ t : Fin grid0.N, k0_off2 (grid0.coords t) 256#32 = ![512 * ((grid0.coords t) 2).val + 256, 128 * 1] := by decide +kernel
theorem off_v0_1 : ∀ t : Fin grid0.N, k0_off10 (grid0.coords t) 0#32 = ![80 * 1, 512 * ((grid0.coords t) 2).val] := by decide +kernel
theorem off_v1_1 : ∀ t : Fin grid0.N, k0_off10 (grid0.coords t) 256#32 = ![80 * 1, 512 * ((grid0.coords t) 2).val + 256] := by decide +kernel
theorem off_k0_2 : ∀ t : Fin grid0.N, k0_off3 (grid0.coords t) 0#32 = ![512 * ((grid0.coords t) 2).val, 128 * 2] := by decide +kernel
theorem off_k1_2 : ∀ t : Fin grid0.N, k0_off3 (grid0.coords t) 256#32 = ![512 * ((grid0.coords t) 2).val + 256, 128 * 2] := by decide +kernel
theorem off_v0_2 : ∀ t : Fin grid0.N, k0_off11 (grid0.coords t) 0#32 = ![80 * 2, 512 * ((grid0.coords t) 2).val] := by decide +kernel
theorem off_v1_2 : ∀ t : Fin grid0.N, k0_off11 (grid0.coords t) 256#32 = ![80 * 2, 512 * ((grid0.coords t) 2).val + 256] := by decide +kernel
theorem off_k0_3 : ∀ t : Fin grid0.N, k0_off4 (grid0.coords t) 0#32 = ![512 * ((grid0.coords t) 2).val, 128 * 3] := by decide +kernel
theorem off_k1_3 : ∀ t : Fin grid0.N, k0_off4 (grid0.coords t) 256#32 = ![512 * ((grid0.coords t) 2).val + 256, 128 * 3] := by decide +kernel
theorem off_v0_3 : ∀ t : Fin grid0.N, k0_off12 (grid0.coords t) 0#32 = ![80 * 3, 512 * ((grid0.coords t) 2).val] := by decide +kernel
theorem off_v1_3 : ∀ t : Fin grid0.N, k0_off12 (grid0.coords t) 256#32 = ![80 * 3, 512 * ((grid0.coords t) 2).val + 256] := by decide +kernel
theorem off_k0_4 : ∀ t : Fin grid0.N, k0_off5 (grid0.coords t) 0#32 = ![512 * ((grid0.coords t) 2).val, 128 * 4] := by decide +kernel
theorem off_k1_4 : ∀ t : Fin grid0.N, k0_off5 (grid0.coords t) 256#32 = ![512 * ((grid0.coords t) 2).val + 256, 128 * 4] := by decide +kernel
theorem off_v0_4 : ∀ t : Fin grid0.N, k0_off13 (grid0.coords t) 0#32 = ![80 * 4, 512 * ((grid0.coords t) 2).val] := by decide +kernel
theorem off_v1_4 : ∀ t : Fin grid0.N, k0_off13 (grid0.coords t) 256#32 = ![80 * 4, 512 * ((grid0.coords t) 2).val + 256] := by decide +kernel
theorem off_k0_5 : ∀ t : Fin grid0.N, k0_off6 (grid0.coords t) 0#32 = ![512 * ((grid0.coords t) 2).val, 128 * 5] := by decide +kernel
theorem off_k1_5 : ∀ t : Fin grid0.N, k0_off6 (grid0.coords t) 256#32 = ![512 * ((grid0.coords t) 2).val + 256, 128 * 5] := by decide +kernel
theorem off_v0_5 : ∀ t : Fin grid0.N, k0_off14 (grid0.coords t) 0#32 = ![80 * 5, 512 * ((grid0.coords t) 2).val] := by decide +kernel
theorem off_v1_5 : ∀ t : Fin grid0.N, k0_off14 (grid0.coords t) 256#32 = ![80 * 5, 512 * ((grid0.coords t) 2).val + 256] := by decide +kernel
theorem off_k0_6 : ∀ t : Fin grid0.N, k0_off7 (grid0.coords t) 0#32 = ![512 * ((grid0.coords t) 2).val, 128 * 6] := by decide +kernel
theorem off_k1_6 : ∀ t : Fin grid0.N, k0_off7 (grid0.coords t) 256#32 = ![512 * ((grid0.coords t) 2).val + 256, 128 * 6] := by decide +kernel
theorem off_v0_6 : ∀ t : Fin grid0.N, k0_off15 (grid0.coords t) 0#32 = ![80 * 6, 512 * ((grid0.coords t) 2).val] := by decide +kernel
theorem off_v1_6 : ∀ t : Fin grid0.N, k0_off15 (grid0.coords t) 256#32 = ![80 * 6, 512 * ((grid0.coords t) 2).val + 256] := by decide +kernel
theorem off_k0_7 : ∀ t : Fin grid0.N, k0_off8 (grid0.coords t) 0#32 = ![512 * ((grid0.coords t) 2).val, 128 * 7] := by decide +kernel
theorem off_k1_7 : ∀ t : Fin grid0.N, k0_off8 (grid0.coords t) 256#32 = ![512 * ((grid0.coords t) 2).val + 256, 128 * 7] := by decide +kernel
theorem off_v0_7 : ∀ t : Fin grid0.N, k0_off16 (grid0.coords t) 0#32 = ![80 * 7, 512 * ((grid0.coords t) 2).val] := by decide +kernel
theorem off_v1_7 : ∀ t : Fin grid0.N, k0_off16 (grid0.coords t) 256#32 = ![80 * 7, 512 * ((grid0.coords t) 2).val + 256] := by decide +kernel

section
variable {F : FTy → Type} [FloatOps F] [Named F]
variable (t : Fin grid0.N) (c : Dev nD)
  (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a7 : Memref sig .tc .vmem S8x1x512 .f32) (a8 : Memref sig .tc .vmem S8x80x512 .f32)
  (x0 : Vec F S512x1024 .bf16) (x1 : Vec F S4096x1024 .bf16) (x2 : Vec F S640x4096 .bf16)

theorem l_m0_0 : sl.HS0_1 (F := F) = ([] : List (Fin 8)).map (fun h => (⟨mR h, Own.m0 ((grid0.coords t) 2).val x0 x1 h⟩ : Own.PM F)) ++ sl.HS0_1 (F := F) := rfl
theorem l_a0_0 : sl.HS1_1 (F := F) = ([] : List (Fin 8)).map (fun h => (⟨aR h, Own.a0 ((grid0.coords t) 2).val x0 x1 x2 h⟩ : Own.PA F)) ++ sl.HS1_1 (F := F) := rfl
theorem rd_m0_0 : View.readCov (Val := Elt F) a7.view (sl.HS0_1 (F := F)) (mR 0).toLoadRect = Own.noM := by
  exact View.readCov_fill a7.view _ _ [] _ (by decide)
theorem rd_a0_0 : View.readCov (Val := Elt F) a8.view (sl.HS1_1 (F := F)) (aR 0).toLoadRect = Own.noA := by
  exact View.readCov_fill a8.view _ _ [] _ (by decide)
theorem l_m0_1 : sl.HS0_2 (F := F) c (grid0.coords t) a3 w3 a4 w4 a7 x0 x1 = ([0] : List (Fin 8)).map (fun h => (⟨mR h, Own.m0 ((grid0.coords t) 2).val x0 x1 h⟩ : Own.PM F)) ++ sl.HS0_1 (F := F) := by
  show ((⟨mR 0, newM0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect)⟩ : Own.PM F) :: sl.HS0_1 (F := F)) = _
  rw [rd_q w3 x0 ![0, 0] _ 0 (by rfl), rd_kg w4 x1 _ _ (512 * ((grid0.coords t) 2).val) 0 (off_k0_0 t), rd_m0_0, l_m0_0]
  rfl
theorem l_a0_1 : sl.HS1_2 (F := F) c (grid0.coords t) a3 w3 a4 w4 a5 w5 a7 a8 x0 x1 x2 = ([0] : List (Fin 8)).map (fun h => (⟨aR h, Own.a0 ((grid0.coords t) 2).val x0 x1 x2 h⟩ : Own.PA F)) ++ sl.HS1_1 (F := F) := by
  show ((⟨aR 0, newA0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect) (View.readAt (Elt F) a5.view (Rect.unit (s := S640x4096) (k0_off9 (grid0.coords t) 0#32) S80x256.size _).toLoadRect (w5.unread x2)) (View.readCov (Val := Elt F) a8.view (sl.HS1_1 (F := F)) (aR 0).toLoadRect)⟩ : Own.PA F) :: sl.HS1_1 (F := F)) = _
  rw [rd_q w3 x0 ![0, 0] _ 0 (by rfl), rd_kg w4 x1 _ _ (512 * ((grid0.coords t) 2).val) 0 (off_k0_0 t), rd_m0_0, rd_vg w5 x2 _ _ (512 * ((grid0.coords t) 2).val) 0 (off_v0_0 t), rd_a0_0, l_a0_0]
  rfl
theorem rd_m0_1 : View.readCov (Val := Elt F) a7.view (sl.HS0_2 (F := F) c (grid0.coords t) a3 w3 a4 w4 a7 x0 x1) (mR 1).toLoadRect = Own.noM := by
  rw [l_m0_1, readCov_skips a7.view mR _ _ _ _ (by intro j hj; exact mR_apart j 1 (by revert j; decide))]
  exact View.readCov_fill a7.view _ _ [] _ (by decide)
theorem rd_a0_1 : View.readCov (Val := Elt F) a8.view (sl.HS1_2 (F := F) c (grid0.coords t) a3 w3 a4 w4 a5 w5 a7 a8 x0 x1 x2) (aR 1).toLoadRect = Own.noA := by
  rw [l_a0_1, readCov_skips a8.view aR _ _ _ _ (by intro j hj; exact aR_apart j 1 (by revert j; decide))]
  exact View.readCov_fill a8.view _ _ [] _ (by decide)
theorem l_m0_2 : sl.HS0_3 (F := F) c (grid0.coords t) a3 w3 a4 w4 a7 x0 x1 = ([1, 0] : List (Fin 8)).map (fun h => (⟨mR h, Own.m0 ((grid0.coords t) 2).val x0 x1 h⟩ : Own.PM F)) ++ sl.HS0_1 (F := F) := by
  show ((⟨mR 1, newM0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect)⟩ : Own.PM F) :: sl.HS0_2 (F := F) c (grid0.coords t) a3 w3 a4 w4 a7 x0 x1) = _
  rw [rd_q w3 x0 ![0, 128] _ 1 (by rfl), rd_kg w4 x1 _ _ (512 * ((grid0.coords t) 2).val) 1 (off_k0_1 t), rd_m0_1, l_m0_1]
  rfl
theorem l_a0_2 : sl.HS1_3 (F := F) c (grid0.coords t) a3 w3 a4 w4 a5 w5 a7 a8 x0 x1 x2 = ([1, 0] : List (Fin 8)).map (fun h => (⟨aR h, Own.a0 ((grid0.coords t) 2).val x0 x1 x2 h⟩ : Own.PA F)) ++ sl.HS1_1 (F := F) := by
  show ((⟨aR 1, newA0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect) (View.readAt (Elt F) a5.view (Rect.unit (s := S640x4096) (k0_off10 (grid0.coords t) 0#32) S80x256.size _).toLoadRect (w5.unread x2)) (View.readCov (Val := Elt F) a8.view (sl.HS1_2 (F := F) c (grid0.coords t) a3 w3 a4 w4 a5 w5 a7 a8 x0 x1 x2) (aR 1).toLoadRect)⟩ : Own.PA F) :: sl.HS1_2 (F := F) c (grid0.coords t) a3 w3 a4 w4 a5 w5 a7 a8 x0 x1 x2) = _
  rw [rd_q w3 x0 ![0, 128] _ 1 (by rfl), rd_kg w4 x1 _ _ (512 * ((grid0.coords t) 2).val) 1 (off_k0_1 t), rd_m0_1, rd_vg w5 x2 _ _ (512 * ((grid0.coords t) 2).val) 1 (off_v0_1 t), rd_a0_1, l_a0_1]
  rfl
theorem rd_m0_2 : View.readCov (Val := Elt F) a7.view (sl.HS0_3 (F := F) c (grid0.coords t) a3 w3 a4 w4 a7 x0 x1) (mR 2).toLoadRect = Own.noM := by
  rw [l_m0_2, readCov_skips a7.view mR _ _ _ _ (by intro j hj; exact mR_apart j 2 (by revert j; decide))]
  exact View.readCov_fill a7.view _ _ [] _ (by decide)
theorem rd_a0_2 : View.readCov (Val := Elt F) a8.view (sl.HS1_3 (F := F) c (grid0.coords t) a3 w3 a4 w4 a5 w5 a7 a8 x0 x1 x2) (aR 2).toLoadRect = Own.noA := by
  rw [l_a0_2, readCov_skips a8.view aR _ _ _ _ (by intro j hj; exact aR_apart j 2 (by revert j; decide))]
  exact View.readCov_fill a8.view _ _ [] _ (by decide)
theorem l_m0_3 : sl.HS0_4 (F := F) c (grid0.coords t) a3 w3 a4 w4 a7 x0 x1 = ([2, 1, 0] : List (Fin 8)).map (fun h => (⟨mR h, Own.m0 ((grid0.coords t) 2).val x0 x1 h⟩ : Own.PM F)) ++ sl.HS0_1 (F := F) := by
  show ((⟨mR 2, newM0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect)⟩ : Own.PM F) :: sl.HS0_3 (F := F) c (grid0.coords t) a3 w3 a4 w4 a7 x0 x1) = _
  rw [rd_q w3 x0 ![0, 256] _ 2 (by rfl), rd_kg w4 x1 _ _ (512 * ((grid0.coords t) 2).val) 2 (off_k0_2 t), rd_m0_2, l_m0_2]
  rfl
theorem l_a0_3 : sl.HS1_4 (F := F) c (grid0.coords t) a3 w3 a4 w4 a5 w5 a7 a8 x0 x1 x2 = ([2, 1, 0] : List (Fin 8)).map (fun h => (⟨aR h, Own.a0 ((grid0.coords t) 2).val x0 x1 x2 h⟩ : Own.PA F)) ++ sl.HS1_1 (F := F) := by
  show ((⟨aR 2, newA0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect) (View.readAt (Elt F) a5.view (Rect.unit (s := S640x4096) (k0_off11 (grid0.coords t) 0#32) S80x256.size _).toLoadRect (w5.unread x2)) (View.readCov (Val := Elt F) a8.view (sl.HS1_3 (F := F) c (grid0.coords t) a3 w3 a4 w4 a5 w5 a7 a8 x0 x1 x2) (aR 2).toLoadRect)⟩ : Own.PA F) :: sl.HS1_3 (F := F) c (grid0.coords t) a3 w3 a4 w4 a5 w5 a7 a8 x0 x1 x2) = _
  rw [rd_q w3 x0 ![0, 256] _ 2 (by rfl), rd_kg w4 x1 _ _ (512 * ((grid0.coords t) 2).val) 2 (off_k0_2 t), rd_m0_2, rd_vg w5 x2 _ _ (512 * ((grid0.coords t) 2).val) 2 (off_v0_2 t), rd_a0_2, l_a0_2]
  rfl
theorem rd_m0_3 : View.readCov (Val := Elt F) a7.view (sl.HS0_4 (F := F) c (grid0.coords t) a3 w3 a4 w4 a7 x0 x1) (mR 3).toLoadRect = Own.noM := by
  rw [l_m0_3, readCov_skips a7.view mR _ _ _ _ (by intro j hj; exact mR_apart j 3 (by revert j; decide))]
  exact View.readCov_fill a7.view _ _ [] _ (by decide)
theorem rd_a0_3 : View.readCov (Val := Elt F) a8.view (sl.HS1_4 (F := F) c (grid0.coords t) a3 w3 a4 w4 a5 w5 a7 a8 x0 x1 x2) (aR 3).toLoadRect = Own.noA := by
  rw [l_a0_3, readCov_skips a8.view aR _ _ _ _ (by intro j hj; exact aR_apart j 3 (by revert j; decide))]
  exact View.readCov_fill a8.view _ _ [] _ (by decide)
theorem l_m0_4 : sl.HS0_5 (F := F) c (grid0.coords t) a3 w3 a4 w4 a7 x0 x1 = ([3, 2, 1, 0] : List (Fin 8)).map (fun h => (⟨mR h, Own.m0 ((grid0.coords t) 2).val x0 x1 h⟩ : Own.PM F)) ++ sl.HS0_1 (F := F) := by
  show ((⟨mR 3, newM0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect)⟩ : Own.PM F) :: sl.HS0_4 (F := F) c (grid0.coords t) a3 w3 a4 w4 a7 x0 x1) = _
  rw [rd_q w3 x0 ![0, 384] _ 3 (by rfl), rd_kg w4 x1 _ _ (512 * ((grid0.coords t) 2).val) 3 (off_k0_3 t), rd_m0_3, l_m0_3]
  rfl
theorem l_a0_4 : sl.HS1_5 (F := F) c (grid0.coords t) a3 w3 a4 w4 a5 w5 a7 a8 x0 x1 x2 = ([3, 2, 1, 0] : List (Fin 8)).map (fun h => (⟨aR h, Own.a0 ((grid0.coords t) 2).val x0 x1 x2 h⟩ : Own.PA F)) ++ sl.HS1_1 (F := F) := by
  show ((⟨aR 3, newA0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect) (View.readAt (Elt F) a5.view (Rect.unit (s := S640x4096) (k0_off12 (grid0.coords t) 0#32) S80x256.size _).toLoadRect (w5.unread x2)) (View.readCov (Val := Elt F) a8.view (sl.HS1_4 (F := F) c (grid0.coords t) a3 w3 a4 w4 a5 w5 a7 a8 x0 x1 x2) (aR 3).toLoadRect)⟩ : Own.PA F) :: sl.HS1_4 (F := F) c (grid0.coords t) a3 w3 a4 w4 a5 w5 a7 a8 x0 x1 x2) = _
  rw [rd_q w3 x0 ![0, 384] _ 3 (by rfl), rd_kg w4 x1 _ _ (512 * ((grid0.coords t) 2).val) 3 (off_k0_3 t), rd_m0_3, rd_vg w5 x2 _ _ (512 * ((grid0.coords t) 2).val) 3 (off_v0_3 t), rd_a0_3, l_a0_3]
  rfl
theorem rd_m0_4 : View.readCov (Val := Elt F) a7.view (sl.HS0_5 (F := F) c (grid0.coords t) a3 w3 a4 w4 a7 x0 x1) (mR 4).toLoadRect = Own.noM := by
  rw [l_m0_4, readCov_skips a7.view mR _ _ _ _ (by intro j hj; exact mR_apart j 4 (by revert j; decide))]
  exact View.readCov_fill a7.view _ _ [] _ (by decide)
theorem rd_a0_4 : View.readCov (Val := Elt F) a8.view (sl.HS1_5 (F := F) c (grid0.coords t) a3 w3 a4 w4 a5 w5 a7 a8 x0 x1 x2) (aR 4).toLoadRect = Own.noA := by
  rw [l_a0_4, readCov_skips a8.view aR _ _ _ _ (by intro j hj; exact aR_apart j 4 (by revert j; decide))]
  exact View.readCov_fill a8.view _ _ [] _ (by decide)
theorem l_m0_5 : sl.HS0_6 (F := F) c (grid0.coords t) a3 w3 a4 w4 a7 x0 x1 = ([4, 3, 2, 1, 0] : List (Fin 8)).map (fun h => (⟨mR h, Own.m0 ((grid0.coords t) 2).val x0 x1 h⟩ : Own.PM F)) ++ sl.HS0_1 (F := F) := by
  show ((⟨mR 4, newM0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect)⟩ : Own.PM F) :: sl.HS0_5 (F := F) c (grid0.coords t) a3 w3 a4 w4 a7 x0 x1) = _
  rw [rd_q w3 x0 ![0, 512] _ 4 (by rfl), rd_kg w4 x1 _ _ (512 * ((grid0.coords t) 2).val) 4 (off_k0_4 t), rd_m0_4, l_m0_4]
  rfl
theorem l_a0_5 : sl.HS1_6 (F := F) c (grid0.coords t) a3 w3 a4 w4 a5 w5 a7 a8 x0 x1 x2 = ([4, 3, 2, 1, 0] : List (Fin 8)).map (fun h => (⟨aR h, Own.a0 ((grid0.coords t) 2).val x0 x1 x2 h⟩ : Own.PA F)) ++ sl.HS1_1 (F := F) := by
  show ((⟨aR 4, newA0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect) (View.readAt (Elt F) a5.view (Rect.unit (s := S640x4096) (k0_off13 (grid0.coords t) 0#32) S80x256.size _).toLoadRect (w5.unread x2)) (View.readCov (Val := Elt F) a8.view (sl.HS1_5 (F := F) c (grid0.coords t) a3 w3 a4 w4 a5 w5 a7 a8 x0 x1 x2) (aR 4).toLoadRect)⟩ : Own.PA F) :: sl.HS1_5 (F := F) c (grid0.coords t) a3 w3 a4 w4 a5 w5 a7 a8 x0 x1 x2) = _
  rw [rd_q w3 x0 ![0, 512] _ 4 (by rfl), rd_kg w4 x1 _ _ (512 * ((grid0.coords t) 2).val) 4 (off_k0_4 t), rd_m0_4, rd_vg w5 x2 _ _ (512 * ((grid0.coords t) 2).val) 4 (off_v0_4 t), rd_a0_4, l_a0_4]
  rfl
theorem rd_m0_5 : View.readCov (Val := Elt F) a7.view (sl.HS0_6 (F := F) c (grid0.coords t) a3 w3 a4 w4 a7 x0 x1) (mR 5).toLoadRect = Own.noM := by
  rw [l_m0_5, readCov_skips a7.view mR _ _ _ _ (by intro j hj; exact mR_apart j 5 (by revert j; decide))]
  exact View.readCov_fill a7.view _ _ [] _ (by decide)
theorem rd_a0_5 : View.readCov (Val := Elt F) a8.view (sl.HS1_6 (F := F) c (grid0.coords t) a3 w3 a4 w4 a5 w5 a7 a8 x0 x1 x2) (aR 5).toLoadRect = Own.noA := by
  rw [l_a0_5, readCov_skips a8.view aR _ _ _ _ (by intro j hj; exact aR_apart j 5 (by revert j; decide))]
  exact View.readCov_fill a8.view _ _ [] _ (by decide)
theorem l_m0_6 : sl.HS0_7 (F := F) c (grid0.coords t) a3 w3 a4 w4 a7 x0 x1 = ([5, 4, 3, 2, 1, 0] : List (Fin 8)).map (fun h => (⟨mR h, Own.m0 ((grid0.coords t) 2).val x0 x1 h⟩ : Own.PM F)) ++ sl.HS0_1 (F := F) := by
  show ((⟨mR 5, newM0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect)⟩ : Own.PM F) :: sl.HS0_6 (F := F) c (grid0.coords t) a3 w3 a4 w4 a7 x0 x1) = _
  rw [rd_q w3 x0 ![0, 640] _ 5 (by rfl), rd_kg w4 x1 _ _ (512 * ((grid0.coords t) 2).val) 5 (off_k0_5 t), rd_m0_5, l_m0_5]
  rfl
theorem l_a0_6 : sl.HS1_7 (F := F) c (grid0.coords t) a3 w3 a4 w4 a5 w5 a7 a8 x0 x1 x2 = ([5, 4, 3, 2, 1, 0] : List (Fin 8)).map (fun h => (⟨aR h, Own.a0 ((grid0.coords t) 2).val x0 x1 x2 h⟩ : Own.PA F)) ++ sl.HS1_1 (F := F) := by
  show ((⟨aR 5, newA0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect) (View.readAt (Elt F) a5.view (Rect.unit (s := S640x4096) (k0_off14 (grid0.coords t) 0#32) S80x256.size _).toLoadRect (w5.unread x2)) (View.readCov (Val := Elt F) a8.view (sl.HS1_6 (F := F) c (grid0.coords t) a3 w3 a4 w4 a5 w5 a7 a8 x0 x1 x2) (aR 5).toLoadRect)⟩ : Own.PA F) :: sl.HS1_6 (F := F) c (grid0.coords t) a3 w3 a4 w4 a5 w5 a7 a8 x0 x1 x2) = _
  rw [rd_q w3 x0 ![0, 640] _ 5 (by rfl), rd_kg w4 x1 _ _ (512 * ((grid0.coords t) 2).val) 5 (off_k0_5 t), rd_m0_5, rd_vg w5 x2 _ _ (512 * ((grid0.coords t) 2).val) 5 (off_v0_5 t), rd_a0_5, l_a0_5]
  rfl
theorem rd_m0_6 : View.readCov (Val := Elt F) a7.view (sl.HS0_7 (F := F) c (grid0.coords t) a3 w3 a4 w4 a7 x0 x1) (mR 6).toLoadRect = Own.noM := by
  rw [l_m0_6, readCov_skips a7.view mR _ _ _ _ (by intro j hj; exact mR_apart j 6 (by revert j; decide))]
  exact View.readCov_fill a7.view _ _ [] _ (by decide)
theorem rd_a0_6 : View.readCov (Val := Elt F) a8.view (sl.HS1_7 (F := F) c (grid0.coords t) a3 w3 a4 w4 a5 w5 a7 a8 x0 x1 x2) (aR 6).toLoadRect = Own.noA := by
  rw [l_a0_6, readCov_skips a8.view aR _ _ _ _ (by intro j hj; exact aR_apart j 6 (by revert j; decide))]
  exact View.readCov_fill a8.view _ _ [] _ (by decide)
theorem l_m0_7 : sl.HS0_8 (F := F) c (grid0.coords t) a3 w3 a4 w4 a7 x0 x1 = ([6, 5, 4, 3, 2, 1, 0] : List (Fin 8)).map (fun h => (⟨mR h, Own.m0 ((grid0.coords t) 2).val x0 x1 h⟩ : Own.PM F)) ++ sl.HS0_1 (F := F) := by
  show ((⟨mR 6, newM0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect)⟩ : Own.PM F) :: sl.HS0_7 (F := F) c (grid0.coords t) a3 w3 a4 w4 a7 x0 x1) = _
  rw [rd_q w3 x0 ![0, 768] _ 6 (by rfl), rd_kg w4 x1 _ _ (512 * ((grid0.coords t) 2).val) 6 (off_k0_6 t), rd_m0_6, l_m0_6]
  rfl
theorem l_a0_7 : sl.HS1_8 (F := F) c (grid0.coords t) a3 w3 a4 w4 a5 w5 a7 a8 x0 x1 x2 = ([6, 5, 4, 3, 2, 1, 0] : List (Fin 8)).map (fun h => (⟨aR h, Own.a0 ((grid0.coords t) 2).val x0 x1 x2 h⟩ : Own.PA F)) ++ sl.HS1_1 (F := F) := by
  show ((⟨aR 6, newA0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect) (View.readAt (Elt F) a5.view (Rect.unit (s := S640x4096) (k0_off15 (grid0.coords t) 0#32) S80x256.size _).toLoadRect (w5.unread x2)) (View.readCov (Val := Elt F) a8.view (sl.HS1_7 (F := F) c (grid0.coords t) a3 w3 a4 w4 a5 w5 a7 a8 x0 x1 x2) (aR 6).toLoadRect)⟩ : Own.PA F) :: sl.HS1_7 (F := F) c (grid0.coords t) a3 w3 a4 w4 a5 w5 a7 a8 x0 x1 x2) = _
  rw [rd_q w3 x0 ![0, 768] _ 6 (by rfl), rd_kg w4 x1 _ _ (512 * ((grid0.coords t) 2).val) 6 (off_k0_6 t), rd_m0_6, rd_vg w5 x2 _ _ (512 * ((grid0.coords t) 2).val) 6 (off_v0_6 t), rd_a0_6, l_a0_6]
  rfl
theorem rd_m0_7 : View.readCov (Val := Elt F) a7.view (sl.HS0_8 (F := F) c (grid0.coords t) a3 w3 a4 w4 a7 x0 x1) (mR 7).toLoadRect = Own.noM := by
  rw [l_m0_7, readCov_skips a7.view mR _ _ _ _ (by intro j hj; exact mR_apart j 7 (by revert j; decide))]
  exact View.readCov_fill a7.view _ _ [] _ (by decide)
theorem rd_a0_7 : View.readCov (Val := Elt F) a8.view (sl.HS1_8 (F := F) c (grid0.coords t) a3 w3 a4 w4 a5 w5 a7 a8 x0 x1 x2) (aR 7).toLoadRect = Own.noA := by
  rw [l_a0_7, readCov_skips a8.view aR _ _ _ _ (by intro j hj; exact aR_apart j 7 (by revert j; decide))]
  exact View.readCov_fill a8.view _ _ [] _ (by decide)
theorem l_m0_8 : sl.HS0_9 (F := F) c (grid0.coords t) a3 w3 a4 w4 a7 x0 x1 = heads.map (fun h => (⟨mR h, Own.m0 ((grid0.coords t) 2).val x0 x1 h⟩ : Own.PM F)) ++ sl.HS0_1 (F := F) := by
  show ((⟨mR 7, newM0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect)⟩ : Own.PM F) :: sl.HS0_8 (F := F) c (grid0.coords t) a3 w3 a4 w4 a7 x0 x1) = _
  rw [rd_q w3 x0 ![0, 896] _ 7 (by rfl), rd_kg w4 x1 _ _ (512 * ((grid0.coords t) 2).val) 7 (off_k0_7 t), rd_m0_7, l_m0_7]
  rfl
theorem l_a0_8 : sl.HS1_9 (F := F) c (grid0.coords t) a3 w3 a4 w4 a5 w5 a7 a8 x0 x1 x2 = heads.map (fun h => (⟨aR h, Own.a0 ((grid0.coords t) 2).val x0 x1 x2 h⟩ : Own.PA F)) ++ sl.HS1_1 (F := F) := by
  show ((⟨aR 7, newA0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect) (View.readAt (Elt F) a5.view (Rect.unit (s := S640x4096) (k0_off16 (grid0.coords t) 0#32) S80x256.size _).toLoadRect (w5.unread x2)) (View.readCov (Val := Elt F) a8.view (sl.HS1_8 (F := F) c (grid0.coords t) a3 w3 a4 w4 a5 w5 a7 a8 x0 x1 x2) (aR 7).toLoadRect)⟩ : Own.PA F) :: sl.HS1_8 (F := F) c (grid0.coords t) a3 w3 a4 w4 a5 w5 a7 a8 x0 x1 x2) = _
  rw [rd_q w3 x0 ![0, 896] _ 7 (by rfl), rd_kg w4 x1 _ _ (512 * ((grid0.coords t) 2).val) 7 (off_k0_7 t), rd_m0_7, rd_vg w5 x2 _ _ (512 * ((grid0.coords t) 2).val) 7 (off_v0_7 t), rd_a0_7, l_a0_7]
  rfl
theorem w_s1_4 : sl.r_93 (F := F) c (grid0.coords t) a3 w3 a4 w4 x0 x1 = Own.s1 ((grid0.coords t) 2).val x0 x1 4 := by
  have e : sl.r_93 (F := F) c (grid0.coords t) a3 w3 a4 w4 x0 x1 = (own1 (BitVec.ofNat 32 ((grid0.coords t) 2).val) (View.readAt (Elt F) a3.view (Rect.unit (s := S512x1024) ![0, 512] S512x128.size inb_S512x1024_S512x128_0_512).toLoadRect (w3.unread x0)) (View.readAt (Elt F) a4.view (Rect.unit (s := S4096x1024) (k0_off5 (grid0.coords t) 256#32) S256x128.size (by exact k0_off5_inb _ 1)).toLoadRect (w4.unread x1))) := by
    unfold sl.r_93 k0_pay483 own1
    refine congrArg₂ (fun a b => select a b _) (congrArg₂ (cmpi .sle) ?_ ?_) ?_
    · show sl.r_92 _ = _
      unfold sl.r_92 k0_pay482
      rfl
    · rfl
    · rfl
  rw [e, rd_q w3 x0 ![0, 512] _ 4 (by rfl), rd_kg w4 x1 _ _ (512 * ((grid0.coords t) 2).val + 256) 4 (off_k1_4 t)]
  rfl
theorem w_s1_7 : sl.r_117 (F := F) c (grid0.coords t) a3 w3 a4 w4 x0 x1 = Own.s1 ((grid0.coords t) 2).val x0 x1 7 := by
  have e : sl.r_117 (F := F) c (grid0.coords t) a3 w3 a4 w4 x0 x1 = (own1 (BitVec.ofNat 32 ((grid0.coords t) 2).val) (View.readAt (Elt F) a3.view (Rect.unit (s := S512x1024) ![0, 896] S512x128.size inb_S512x1024_S512x128_0_896).toLoadRect (w3.unread x0)) (View.readAt (Elt F) a4.view (Rect.unit (s := S4096x1024) (k0_off8 (grid0.coords t) 256#32) S256x128.size (by exact k0_off8_inb _ 1)).toLoadRect (w4.unread x1))) := by
    unfold sl.r_117 k0_pay520 own1
    refine congrArg₂ (fun a b => select a b _) (congrArg₂ (cmpi .sle) ?_ ?_) ?_
    · show sl.r_116 _ = _
      unfold sl.r_116 k0_pay519
      rfl
    · rfl
    · rfl
  rw [e, rd_q w3 x0 ![0, 896] _ 7 (by rfl), rd_kg w4 x1 _ _ (512 * ((grid0.coords t) 2).val + 256) 7 (off_k1_7 t)]
  rfl
theorem l_m1_0 : sl.HS0_9 (F := F) c (grid0.coords t) a3 w3 a4 w4 a7 x0 x1 = ([] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by rw [l_m0_8]; rfl
theorem l_a1_0 : sl.HS1_9 (F := F) c (grid0.coords t) a3 w3 a4 w4 a5 w5 a7 a8 x0 x1 x2 = ([] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by rw [l_a0_8]; rfl
theorem rd_m1_0 : View.readCov (Val := Elt F) a7.view (sl.HS0_9 (F := F) c (grid0.coords t) a3 w3 a4 w4 a7 x0 x1) (mH 0).toLoadRect = Own.lateM (Own.m0 ((grid0.coords t) 2).val x0 x1 0) := by
  rw [l_m1_0, readCov_skips a7.view mH _ _ _ _ (by intro j hj; exact absurd hj (by simp))]
  exact Own.late_m a7.view _ _ 0
theorem rd_a1_0 : View.readCov (Val := Elt F) a8.view (sl.HS1_9 (F := F) c (grid0.coords t) a3 w3 a4 w4 a5 w5 a7 a8 x0 x1 x2) (aH 0).toLoadRect = Own.lateA (Own.a0 ((grid0.coords t) 2).val x0 x1 x2 0) := by
  rw [l_a1_0, readCov_skips a8.view aH _ _ _ _ (by intro j hj; exact absurd hj (by simp))]
  exact Own.late_a a8.view _ _ 0
theorem l_m1_1 : sl.HS0_10 (F := F) c (grid0.coords t) a3 w3 a4 w4 a7 x0 x1 = ([0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 0, newM1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect)⟩ : Own.PM F) :: sl.HS0_9 (F := F) c (grid0.coords t) a3 w3 a4 w4 a7 x0 x1) = _
  rw [rd_q w3 x0 ![0, 0] _ 0 (by rfl), rd_kg w4 x1 _ _ (512 * ((grid0.coords t) 2).val + 256) 0 (off_k1_0 t), rd_m1_0, l_m1_0]
  rfl
theorem l_a1_1 : sl.HS1_10 (F := F) c (grid0.coords t) a3 w3 a4 w4 a5 w5 a7 a8 x0 x1 x2 = ([0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 0, newA1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect) (View.readAt (Elt F) a5.view (Rect.unit (s := S640x4096) (k0_off9 (grid0.coords t) 256#32) S80x256.size _).toLoadRect (w5.unread x2)) (View.readCov (Val := Elt F) a8.view (sl.HS1_9 (F := F) c (grid0.coords t) a3 w3 a4 w4 a5 w5 a7 a8 x0 x1 x2) (aH 0).toLoadRect)⟩ : Own.PA F) :: sl.HS1_9 (F := F) c (grid0.coords t) a3 w3 a4 w4 a5 w5 a7 a8 x0 x1 x2) = _
  rw [rd_q w3 x0 ![0, 0] _ 0 (by rfl), rd_kg w4 x1 _ _ (512 * ((grid0.coords t) 2).val + 256) 0 (off_k1_0 t), rd_m1_0, rd_vg w5 x2 _ _ (512 * ((grid0.coords t) 2).val + 256) 0 (off_v1_0 t), rd_a1_0, l_a1_0]
  rfl
theorem rd_m1_1 : View.readCov (Val := Elt F) a7.view (sl.HS0_10 (F := F) c (grid0.coords t) a3 w3 a4 w4 a7 x0 x1) (mH 1).toLoadRect = Own.lateM (Own.m0 ((grid0.coords t) 2).val x0 x1 1) := by
  rw [l_m1_1, readCov_skips a7.view mH _ _ _ _ (by intro j hj; exact mH_apart j 1 (by revert j; decide))]
  exact Own.late_m a7.view _ _ 1
theorem rd_a1_1 : View.readCov (Val := Elt F) a8.view (sl.HS1_10 (F := F) c (grid0.coords t) a3 w3 a4 w4 a5 w5 a7 a8 x0 x1 x2) (aH 1).toLoadRect = Own.lateA (Own.a0 ((grid0.coords t) 2).val x0 x1 x2 1) := by
  rw [l_a1_1, readCov_skips a8.view aH _ _ _ _ (by intro j hj; exact aH_apart j 1 (by revert j; decide))]
  exact Own.late_a a8.view _ _ 1
theorem l_m1_2 : sl.HS0_11 (F := F) c (grid0.coords t) a3 w3 a4 w4 a7 x0 x1 = ([1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 1, newM1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect)⟩ : Own.PM F) :: sl.HS0_10 (F := F) c (grid0.coords t) a3 w3 a4 w4 a7 x0 x1) = _
  rw [rd_q w3 x0 ![0, 128] _ 1 (by rfl), rd_kg w4 x1 _ _ (512 * ((grid0.coords t) 2).val + 256) 1 (off_k1_1 t), rd_m1_1, l_m1_1]
  rfl
theorem l_a1_2 : sl.HS1_11 (F := F) c (grid0.coords t) a3 w3 a4 w4 a5 w5 a7 a8 x0 x1 x2 = ([1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 1, newA1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect) (View.readAt (Elt F) a5.view (Rect.unit (s := S640x4096) (k0_off10 (grid0.coords t) 256#32) S80x256.size _).toLoadRect (w5.unread x2)) (View.readCov (Val := Elt F) a8.view (sl.HS1_10 (F := F) c (grid0.coords t) a3 w3 a4 w4 a5 w5 a7 a8 x0 x1 x2) (aH 1).toLoadRect)⟩ : Own.PA F) :: sl.HS1_10 (F := F) c (grid0.coords t) a3 w3 a4 w4 a5 w5 a7 a8 x0 x1 x2) = _
  rw [rd_q w3 x0 ![0, 128] _ 1 (by rfl), rd_kg w4 x1 _ _ (512 * ((grid0.coords t) 2).val + 256) 1 (off_k1_1 t), rd_m1_1, rd_vg w5 x2 _ _ (512 * ((grid0.coords t) 2).val + 256) 1 (off_v1_1 t), rd_a1_1, l_a1_1]
  rfl
theorem rd_m1_2 : View.readCov (Val := Elt F) a7.view (sl.HS0_11 (F := F) c (grid0.coords t) a3 w3 a4 w4 a7 x0 x1) (mH 2).toLoadRect = Own.lateM (Own.m0 ((grid0.coords t) 2).val x0 x1 2) := by
  rw [l_m1_2, readCov_skips a7.view mH _ _ _ _ (by intro j hj; exact mH_apart j 2 (by revert j; decide))]
  exact Own.late_m a7.view _ _ 2
theorem rd_a1_2 : View.readCov (Val := Elt F) a8.view (sl.HS1_11 (F := F) c (grid0.coords t) a3 w3 a4 w4 a5 w5 a7 a8 x0 x1 x2) (aH 2).toLoadRect = Own.lateA (Own.a0 ((grid0.coords t) 2).val x0 x1 x2 2) := by
  rw [l_a1_2, readCov_skips a8.view aH _ _ _ _ (by intro j hj; exact aH_apart j 2 (by revert j; decide))]
  exact Own.late_a a8.view _ _ 2
theorem l_m1_3 : sl.HS0_12 (F := F) c (grid0.coords t) a3 w3 a4 w4 a7 x0 x1 = ([2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 2, newM1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect)⟩ : Own.PM F) :: sl.HS0_11 (F := F) c (grid0.coords t) a3 w3 a4 w4 a7 x0 x1) = _
  rw [rd_q w3 x0 ![0, 256] _ 2 (by rfl), rd_kg w4 x1 _ _ (512 * ((grid0.coords t) 2).val + 256) 2 (off_k1_2 t), rd_m1_2, l_m1_2]
  rfl
theorem l_a1_3 : sl.HS1_12 (F := F) c (grid0.coords t) a3 w3 a4 w4 a5 w5 a7 a8 x0 x1 x2 = ([2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 2, newA1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect) (View.readAt (Elt F) a5.view (Rect.unit (s := S640x4096) (k0_off11 (grid0.coords t) 256#32) S80x256.size _).toLoadRect (w5.unread x2)) (View.readCov (Val := Elt F) a8.view (sl.HS1_11 (F := F) c (grid0.coords t) a3 w3 a4 w4 a5 w5 a7 a8 x0 x1 x2) (aH 2).toLoadRect)⟩ : Own.PA F) :: sl.HS1_11 (F := F) c (grid0.coords t) a3 w3 a4 w4 a5 w5 a7 a8 x0 x1 x2) = _
  rw [rd_q w3 x0 ![0, 256] _ 2 (by rfl), rd_kg w4 x1 _ _ (512 * ((grid0.coords t) 2).val + 256) 2 (off_k1_2 t), rd_m1_2, rd_vg w5 x2 _ _ (512 * ((grid0.coords t) 2).val + 256) 2 (off_v1_2 t), rd_a1_2, l_a1_2]
  rfl
theorem rd_m1_3 : View.readCov (Val := Elt F) a7.view (sl.HS0_12 (F := F) c (grid0.coords t) a3 w3 a4 w4 a7 x0 x1) (mH 3).toLoadRect = Own.lateM (Own.m0 ((grid0.coords t) 2).val x0 x1 3) := by
  rw [l_m1_3, readCov_skips a7.view mH _ _ _ _ (by intro j hj; exact mH_apart j 3 (by revert j; decide))]
  exact Own.late_m a7.view _ _ 3
theorem rd_a1_3 : View.readCov (Val := Elt F) a8.view (sl.HS1_12 (F := F) c (grid0.coords t) a3 w3 a4 w4 a5 w5 a7 a8 x0 x1 x2) (aH 3).toLoadRect = Own.lateA (Own.a0 ((grid0.coords t) 2).val x0 x1 x2 3) := by
  rw [l_a1_3, readCov_skips a8.view aH _ _ _ _ (by intro j hj; exact aH_apart j 3 (by revert j; decide))]
  exact Own.late_a a8.view _ _ 3
theorem l_m1_4 : sl.HS0_13 (F := F) c (grid0.coords t) a3 w3 a4 w4 a7 x0 x1 = ([3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 3, newM1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect)⟩ : Own.PM F) :: sl.HS0_12 (F := F) c (grid0.coords t) a3 w3 a4 w4 a7 x0 x1) = _
  rw [rd_q w3 x0 ![0, 384] _ 3 (by rfl), rd_kg w4 x1 _ _ (512 * ((grid0.coords t) 2).val + 256) 3 (off_k1_3 t), rd_m1_3, l_m1_3]
  rfl
theorem l_a1_4 : sl.HS1_13 (F := F) c (grid0.coords t) a3 w3 a4 w4 a5 w5 a7 a8 x0 x1 x2 = ([3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 3, newA1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect) (View.readAt (Elt F) a5.view (Rect.unit (s := S640x4096) (k0_off12 (grid0.coords t) 256#32) S80x256.size _).toLoadRect (w5.unread x2)) (View.readCov (Val := Elt F) a8.view (sl.HS1_12 (F := F) c (grid0.coords t) a3 w3 a4 w4 a5 w5 a7 a8 x0 x1 x2) (aH 3).toLoadRect)⟩ : Own.PA F) :: sl.HS1_12 (F := F) c (grid0.coords t) a3 w3 a4 w4 a5 w5 a7 a8 x0 x1 x2) = _
  rw [rd_q w3 x0 ![0, 384] _ 3 (by rfl), rd_kg w4 x1 _ _ (512 * ((grid0.coords t) 2).val + 256) 3 (off_k1_3 t), rd_m1_3, rd_vg w5 x2 _ _ (512 * ((grid0.coords t) 2).val + 256) 3 (off_v1_3 t), rd_a1_3, l_a1_3]
  rfl
theorem rd_m1_4 : View.readCov (Val := Elt F) a7.view (sl.HS0_13 (F := F) c (grid0.coords t) a3 w3 a4 w4 a7 x0 x1) (mH 4).toLoadRect = Own.lateM (Own.m0 ((grid0.coords t) 2).val x0 x1 4) := by
  rw [l_m1_4, readCov_skips a7.view mH _ _ _ _ (by intro j hj; exact mH_apart j 4 (by revert j; decide))]
  exact Own.late_m a7.view _ _ 4
theorem rd_a1_4 : View.readCov (Val := Elt F) a8.view (sl.HS1_13 (F := F) c (grid0.coords t) a3 w3 a4 w4 a5 w5 a7 a8 x0 x1 x2) (aH 4).toLoadRect = Own.lateA (Own.a0 ((grid0.coords t) 2).val x0 x1 x2 4) := by
  rw [l_a1_4, readCov_skips a8.view aH _ _ _ _ (by intro j hj; exact aH_apart j 4 (by revert j; decide))]
  exact Own.late_a a8.view _ _ 4
theorem l_m1_5 : sl.HS0_14 (F := F) c (grid0.coords t) a3 w3 a4 w4 a7 x0 x1 = ([4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 4, newM1 (sl.r_93 (F := F) c (grid0.coords t) a3 w3 a4 w4 x0 x1) (View.readCov (Val := Elt F) a7.view (sl.HS0_13 (F := F) c (grid0.coords t) a3 w3 a4 w4 a7 x0 x1) (mH 4).toLoadRect)⟩ : Own.PM F) :: sl.HS0_13 (F := F) c (grid0.coords t) a3 w3 a4 w4 a7 x0 x1) = _
  rw [w_s1_4, rd_m1_4, l_m1_4]
  rfl
theorem l_a1_5 : sl.HS1_14 (F := F) c (grid0.coords t) a3 w3 a4 w4 a5 w5 a7 a8 x0 x1 x2 = ([4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 4, newA1 (sl.r_93 (F := F) c (grid0.coords t) a3 w3 a4 w4 x0 x1) (View.readCov (Val := Elt F) a7.view (sl.HS0_13 (F := F) c (grid0.coords t) a3 w3 a4 w4 a7 x0 x1) (mH 4).toLoadRect) (View.readAt (Elt F) a5.view (Rect.unit (s := S640x4096) (k0_off13 (grid0.coords t) 256#32) S80x256.size _).toLoadRect (w5.unread x2)) (View.readCov (Val := Elt F) a8.view (sl.HS1_13 (F := F) c (grid0.coords t) a3 w3 a4 w4 a5 w5 a7 a8 x0 x1 x2) (aH 4).toLoadRect)⟩ : Own.PA F) :: sl.HS1_13 (F := F) c (grid0.coords t) a3 w3 a4 w4 a5 w5 a7 a8 x0 x1 x2) = _
  rw [w_s1_4, rd_m1_4, rd_vg w5 x2 _ _ (512 * ((grid0.coords t) 2).val + 256) 4 (off_v1_4 t), rd_a1_4, l_a1_4]
  rfl
theorem rd_m1_5 : View.readCov (Val := Elt F) a7.view (sl.HS0_14 (F := F) c (grid0.coords t) a3 w3 a4 w4 a7 x0 x1) (mH 5).toLoadRect = Own.lateM (Own.m0 ((grid0.coords t) 2).val x0 x1 5) := by
  rw [l_m1_5, readCov_skips a7.view mH _ _ _ _ (by intro j hj; exact mH_apart j 5 (by revert j; decide))]
  exact Own.late_m a7.view _ _ 5
theorem rd_a1_5 : View.readCov (Val := Elt F) a8.view (sl.HS1_14 (F := F) c (grid0.coords t) a3 w3 a4 w4 a5 w5 a7 a8 x0 x1 x2) (aH 5).toLoadRect = Own.lateA (Own.a0 ((grid0.coords t) 2).val x0 x1 x2 5) := by
  rw [l_a1_5, readCov_skips a8.view aH _ _ _ _ (by intro j hj; exact aH_apart j 5 (by revert j; decide))]
  exact Own.late_a a8.view _ _ 5
theorem l_m1_6 : sl.HS0_15 (F := F) c (grid0.coords t) a3 w3 a4 w4 a7 x0 x1 = ([5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 5, newM1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect)⟩ : Own.PM F) :: sl.HS0_14 (F := F) c (grid0.coords t) a3 w3 a4 w4 a7 x0 x1) = _
  rw [rd_q w3 x0 ![0, 640] _ 5 (by rfl), rd_kg w4 x1 _ _ (512 * ((grid0.coords t) 2).val + 256) 5 (off_k1_5 t), rd_m1_5, l_m1_5]
  rfl
theorem l_a1_6 : sl.HS1_15 (F := F) c (grid0.coords t) a3 w3 a4 w4 a5 w5 a7 a8 x0 x1 x2 = ([5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 5, newA1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect) (View.readAt (Elt F) a5.view (Rect.unit (s := S640x4096) (k0_off14 (grid0.coords t) 256#32) S80x256.size _).toLoadRect (w5.unread x2)) (View.readCov (Val := Elt F) a8.view (sl.HS1_14 (F := F) c (grid0.coords t) a3 w3 a4 w4 a5 w5 a7 a8 x0 x1 x2) (aH 5).toLoadRect)⟩ : Own.PA F) :: sl.HS1_14 (F := F) c (grid0.coords t) a3 w3 a4 w4 a5 w5 a7 a8 x0 x1 x2) = _
  rw [rd_q w3 x0 ![0, 640] _ 5 (by rfl), rd_kg w4 x1 _ _ (512 * ((grid0.coords t) 2).val + 256) 5 (off_k1_5 t), rd_m1_5, rd_vg w5 x2 _ _ (512 * ((grid0.coords t) 2).val + 256) 5 (off_v1_5 t), rd_a1_5, l_a1_5]
  rfl
theorem rd_m1_6 : View.readCov (Val := Elt F) a7.view (sl.HS0_15 (F := F) c (grid0.coords t) a3 w3 a4 w4 a7 x0 x1) (mH 6).toLoadRect = Own.lateM (Own.m0 ((grid0.coords t) 2).val x0 x1 6) := by
  rw [l_m1_6, readCov_skips a7.view mH _ _ _ _ (by intro j hj; exact mH_apart j 6 (by revert j; decide))]
  exact Own.late_m a7.view _ _ 6
theorem rd_a1_6 : View.readCov (Val := Elt F) a8.view (sl.HS1_15 (F := F) c (grid0.coords t) a3 w3 a4 w4 a5 w5 a7 a8 x0 x1 x2) (aH 6).toLoadRect = Own.lateA (Own.a0 ((grid0.coords t) 2).val x0 x1 x2 6) := by
  rw [l_a1_6, readCov_skips a8.view aH _ _ _ _ (by intro j hj; exact aH_apart j 6 (by revert j; decide))]
  exact Own.late_a a8.view _ _ 6
theorem l_m1_7 : sl.HS0_16 (F := F) c (grid0.coords t) a3 w3 a4 w4 a7 x0 x1 = ([6, 5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 6, newM1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect)⟩ : Own.PM F) :: sl.HS0_15 (F := F) c (grid0.coords t) a3 w3 a4 w4 a7 x0 x1) = _
  rw [rd_q w3 x0 ![0, 768] _ 6 (by rfl), rd_kg w4 x1 _ _ (512 * ((grid0.coords t) 2).val + 256) 6 (off_k1_6 t), rd_m1_6, l_m1_6]
  rfl
theorem l_a1_7 : sl.HS1_16 (F := F) c (grid0.coords t) a3 w3 a4 w4 a5 w5 a7 a8 x0 x1 x2 = ([6, 5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 6, newA1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect) (View.readAt (Elt F) a5.view (Rect.unit (s := S640x4096) (k0_off15 (grid0.coords t) 256#32) S80x256.size _).toLoadRect (w5.unread x2)) (View.readCov (Val := Elt F) a8.view (sl.HS1_15 (F := F) c (grid0.coords t) a3 w3 a4 w4 a5 w5 a7 a8 x0 x1 x2) (aH 6).toLoadRect)⟩ : Own.PA F) :: sl.HS1_15 (F := F) c (grid0.coords t) a3 w3 a4 w4 a5 w5 a7 a8 x0 x1 x2) = _
  rw [rd_q w3 x0 ![0, 768] _ 6 (by rfl), rd_kg w4 x1 _ _ (512 * ((grid0.coords t) 2).val + 256) 6 (off_k1_6 t), rd_m1_6, rd_vg w5 x2 _ _ (512 * ((grid0.coords t) 2).val + 256) 6 (off_v1_6 t), rd_a1_6, l_a1_6]
  rfl
theorem rd_m1_7 : View.readCov (Val := Elt F) a7.view (sl.HS0_16 (F := F) c (grid0.coords t) a3 w3 a4 w4 a7 x0 x1) (mH 7).toLoadRect = Own.lateM (Own.m0 ((grid0.coords t) 2).val x0 x1 7) := by
  rw [l_m1_7, readCov_skips a7.view mH _ _ _ _ (by intro j hj; exact mH_apart j 7 (by revert j; decide))]
  exact Own.late_m a7.view _ _ 7
theorem rd_a1_7 : View.readCov (Val := Elt F) a8.view (sl.HS1_16 (F := F) c (grid0.coords t) a3 w3 a4 w4 a5 w5 a7 a8 x0 x1 x2) (aH 7).toLoadRect = Own.lateA (Own.a0 ((grid0.coords t) 2).val x0 x1 x2 7) := by
  rw [l_a1_7, readCov_skips a8.view aH _ _ _ _ (by intro j hj; exact aH_apart j 7 (by revert j; decide))]
  exact Own.late_a a8.view _ _ 7
theorem l_m1_8 : sl.HS0_17 (F := F) c (grid0.coords t) a3 w3 a4 w4 a7 x0 x1 = heads.map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 7, newM1 (sl.r_117 (F := F) c (grid0.coords t) a3 w3 a4 w4 x0 x1) (View.readCov (Val := Elt F) a7.view (sl.HS0_16 (F := F) c (grid0.coords t) a3 w3 a4 w4 a7 x0 x1) (mH 7).toLoadRect)⟩ : Own.PM F) :: sl.HS0_16 (F := F) c (grid0.coords t) a3 w3 a4 w4 a7 x0 x1) = _
  rw [w_s1_7, rd_m1_7, l_m1_7]
  rfl
theorem l_a1_8 : sl.HS1_17 (F := F) c (grid0.coords t) a3 w3 a4 w4 a5 w5 a7 a8 x0 x1 x2 = heads.map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 7, newA1 (sl.r_117 (F := F) c (grid0.coords t) a3 w3 a4 w4 x0 x1) (View.readCov (Val := Elt F) a7.view (sl.HS0_16 (F := F) c (grid0.coords t) a3 w3 a4 w4 a7 x0 x1) (mH 7).toLoadRect) (View.readAt (Elt F) a5.view (Rect.unit (s := S640x4096) (k0_off16 (grid0.coords t) 256#32) S80x256.size _).toLoadRect (w5.unread x2)) (View.readCov (Val := Elt F) a8.view (sl.HS1_16 (F := F) c (grid0.coords t) a3 w3 a4 w4 a5 w5 a7 a8 x0 x1 x2) (aH 7).toLoadRect)⟩ : Own.PA F) :: sl.HS1_16 (F := F) c (grid0.coords t) a3 w3 a4 w4 a5 w5 a7 a8 x0 x1 x2) = _
  rw [w_s1_7, rd_m1_7, rd_vg w5 x2 _ _ (512 * ((grid0.coords t) 2).val + 256) 7 (off_v1_7 t), rd_a1_7, l_a1_7]
  rfl
theorem l_s : sl.HS2_8 (F := F) c a3 w3 a4 w4 x0 x1 = heads.map (fun h => (⟨sR h, Own.s x0 x1 h⟩ : Own.PS F)) := by
  show ([⟨sR 7, score (View.readAt (Elt F) a3.view (Rect.unit (s := S512x1024) ![0, 896] S512x128.size _).toLoadRect (w3.unread x0)) (View.readAt (Elt F) a4.view (Rect.unit (s := S4096x1024) ![0, 896] S512x128.size _).toLoadRect (w4.unread x1))⟩, ⟨sR 6, score (View.readAt (Elt F) a3.view (Rect.unit (s := S512x1024) ![0, 768] S512x128.size _).toLoadRect (w3.unread x0)) (View.readAt (Elt F) a4.view (Rect.unit (s := S4096x1024) ![0, 768] S512x128.size _).toLoadRect (w4.unread x1))⟩, ⟨sR 5, score (View.readAt (Elt F) a3.view (Rect.unit (s := S512x1024) ![0, 640] S512x128.size _).toLoadRect (w3.unread x0)) (View.readAt (Elt F) a4.view (Rect.unit (s := S4096x1024) ![0, 640] S512x128.size _).toLoadRect (w4.unread x1))⟩, ⟨sR 4, score (View.readAt (Elt F) a3.view (Rect.unit (s := S512x1024) ![0, 512] S512x128.size _).toLoadRect (w3.unread x0)) (View.readAt (Elt F) a4.view (Rect.unit (s := S4096x1024) ![0, 512] S512x128.size _).toLoadRect (w4.unread x1))⟩, ⟨sR 3, score (View.readAt (Elt F) a3.view (Rect.unit (s := S512x1024) ![0, 384] S512x128.size _).toLoadRect (w3.unread x0)) (View.readAt (Elt F) a4.view (Rect.unit (s := S4096x1024) ![0, 384] S512x128.size _).toLoadRect (w4.unread x1))⟩, ⟨sR 2, score (View.readAt (Elt F) a3.view (Rect.unit (s := S512x1024) ![0, 256] S512x128.size _).toLoadRect (w3.unread x0)) (View.readAt (Elt F) a4.view (Rect.unit (s := S4096x1024) ![0, 256] S512x128.size _).toLoadRect (w4.unread x1))⟩, ⟨sR 1, score (View.readAt (Elt F) a3.view (Rect.unit (s := S512x1024) ![0, 128] S512x128.size _).toLoadRect (w3.unread x0)) (View.readAt (Elt F) a4.view (Rect.unit (s := S4096x1024) ![0, 128] S512x128.size _).toLoadRect (w4.unread x1))⟩, ⟨sR 0, score (View.readAt (Elt F) a3.view (Rect.unit (s := S512x1024) ![0, 0] S512x128.size _).toLoadRect (w3.unread x0)) (View.readAt (Elt F) a4.view (Rect.unit (s := S4096x1024) ![0, 0] S512x128.size _).toLoadRect (w4.unread x1))⟩] : List (Own.PS F)) = _
  rw [rd_q w3 x0 ![0, 0] _ 0 (by rfl), rd_q w3 x0 ![0, 128] _ 1 (by rfl), rd_q w3 x0 ![0, 256] _ 2 (by rfl), rd_q w3 x0 ![0, 384] _ 3 (by rfl), rd_q w3 x0 ![0, 512] _ 4 (by rfl), rd_q w3 x0 ![0, 640] _ 5 (by rfl), rd_q w3 x0 ![0, 768] _ 6 (by rfl), rd_q w3 x0 ![0, 896] _ 7 (by rfl), rd_kf w4 x1 ![0, 0] _ 0 0 (by rfl), rd_kf w4 x1 ![0, 128] _ 0 1 (by rfl), rd_kf w4 x1 ![0, 256] _ 0 2 (by rfl), rd_kf w4 x1 ![0, 384] _ 0 3 (by rfl), rd_kf w4 x1 ![0, 512] _ 0 4 (by rfl), rd_kf w4 x1 ![0, 640] _ 0 5 (by rfl), rd_kf w4 x1 ![0, 768] _ 0 6 (by rfl), rd_kf w4 x1 ![0, 896] _ 0 7 (by rfl)]
  rfl
/-- What the buffers hold when the full blocks begin. -/
theorem own_m (h : Fin 8) : View.readCov (Val := Elt F) a7.view (sl.HS0_17 (F := F) c (grid0.coords t) a3 w3 a4 w4 a7 x0 x1) (mR h).toLoadRect = Own.m ((grid0.coords t) 2).val x0 x1 h := by
  rw [l_m1_8]
  exact Own.glue_m a7.view _ _ _ h
theorem own_s (a9 : Memref sig .tc .vmem S8x512x512 .f32) (h : Fin 8) : View.readCov (Val := Elt F) a9.view (sl.HS2_8 (F := F) c a3 w3 a4 w4 x0 x1) (sR h).toLoadRect = Own.s x0 x1 h := by
  rw [l_s]
  exact (congrArg (fun L => View.readCov a9.view L _) (List.append_nil _).symm).trans (readCov_head a9.view sR _ sR_apart [] heads h (mem_heads h))
theorem own_a (h : Fin 8) : View.readCov (Val := Elt F) a8.view (sl.HS1_17 (F := F) c (grid0.coords t) a3 w3 a4 w4 a5 w5 a7 a8 x0 x1 x2) (aR h).toLoadRect = Own.a ((grid0.coords t) 2).val x0 x1 x2 h := by
  rw [l_a1_8]
  exact Own.glue_a a8.view _ _ _ h

end

end Cert.OwnB

end
-- ==== Proof.TailB.lean ====
/- After the loop, in the run at the odd row blocks, where one full block is left over: what the weighted sums are when
   the run comes to divide. -/
module

public import proofs.«01_k».proof.Proof.Loop
public import proofs.«01_k».proof.Proof.OwnB
import all proofs.«01_k».proof.Proof.Run.KernelIdeal.B

@[expose] public section

set_option maxRecDepth 16384
set_option maxHeartbeats 1000000

noncomputable section

namespace Cert.TailB

open Idealize.ShloMosaic Cert.KernelIdeal Cert.KernelIdeal.Gen Cert.Steps Cert.Slab Cert.Trip Cert.Loop kernelRun0_B

/-- The number of trips of the loop. -/
abbrev nT (t : Fin grid0.N) : ℕ := (k0_t1_loop (grid0.coords t)).trips

theorem trips_eq : ∀ t : Fin grid0.N, cond0_0 (grid0.coords t) → cond0_2 (grid0.coords t) → ((grid0.coords t) 2).val = 2 * nT t + 1 := by decide +kernel
theorem off_v_0 : ∀ t : Fin grid0.N, cond0_0 (grid0.coords t) → cond0_2 (grid0.coords t) → k0_off105 (grid0.coords t) = ![80 * 0, 512 * (2 * nT t)] := by decide +kernel
theorem off_v_1 : ∀ t : Fin grid0.N, cond0_0 (grid0.coords t) → cond0_2 (grid0.coords t) → k0_off106 (grid0.coords t) = ![80 * 1, 512 * (2 * nT t)] := by decide +kernel
theorem off_v_2 : ∀ t : Fin grid0.N, cond0_0 (grid0.coords t) → cond0_2 (grid0.coords t) → k0_off107 (grid0.coords t) = ![80 * 2, 512 * (2 * nT t)] := by decide +kernel
theorem off_v_3 : ∀ t : Fin grid0.N, cond0_0 (grid0.coords t) → cond0_2 (grid0.coords t) → k0_off108 (grid0.coords t) = ![80 * 3, 512 * (2 * nT t)] := by decide +kernel
theorem off_v_4 : ∀ t : Fin grid0.N, cond0_0 (grid0.coords t) → cond0_2 (grid0.coords t) → k0_off109 (grid0.coords t) = ![80 * 4, 512 * (2 * nT t)] := by decide +kernel
theorem off_v_5 : ∀ t : Fin grid0.N, cond0_0 (grid0.coords t) → cond0_2 (grid0.coords t) → k0_off110 (grid0.coords t) = ![80 * 5, 512 * (2 * nT t)] := by decide +kernel
theorem off_v_6 : ∀ t : Fin grid0.N, cond0_0 (grid0.coords t) → cond0_2 (grid0.coords t) → k0_off111 (grid0.coords t) = ![80 * 6, 512 * (2 * nT t)] := by decide +kernel
theorem off_v_7 : ∀ t : Fin grid0.N, cond0_0 (grid0.coords t) → cond0_2 (grid0.coords t) → k0_off112 (grid0.coords t) = ![80 * 7, 512 * (2 * nT t)] := by decide +kernel

section
variable {F : FTy → Type} [FloatOps F] [Named F]
variable (t : Fin grid0.N) (c : Dev nD)
  (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a6 : Memref sig .tc .vmem S512x512 .bf16) (w6 : a6.IsWhole)
  (a7 : Memref sig .tc .vmem S8x1x512 .f32) (w7 : a7.IsWhole) (a8 : Memref sig .tc .vmem S8x80x512 .f32) (w8 : a8.IsWhole)
  (a9 : Memref sig .tc .vmem S8x512x512 .f32) (w9 : a9.IsWhole) (a10 : Memref sig .tc .vmem S8x512x512 .f32) (w10 : a10.IsWhole)
  (hc0 : cond0_0 (grid0.coords t)) (hc2 : cond0_2 (grid0.coords t))
  (x0 : Vec F S512x1024 .bf16) (x1 : Vec F S4096x1024 .bf16) (x2 : Vec F S640x4096 .bf16)

/-- The pieces that the trips write. -/
abbrev PB := Loop.pb x1 x2 t Variants.none c none a3 w3 a4 w4 a5 w5 a6 w6 a7 w7 a8 w8 a9 w9 a10 w10 (sl.r (F := F) c a3 w3 x0) (sl.r_1 (F := F) c a3 w3 x0) (sl.r_2 (F := F) c a3 w3 x0) (sl.r_3 (F := F) c a3 w3 x0) (sl.r_4 (F := F) c a3 w3 x0) (sl.r_5 (F := F) c a3 w3 x0) (sl.r_6 (F := F) c a3 w3 x0) (sl.r_7 (F := F) c a3 w3 x0) (sl.v33 (grid0.coords t)) hc0
  (a7.view.writes (Elt F) a7.view.junk (sl.HS0_17 (F := F) c (grid0.coords t) a3 w3 a4 w4 a7 x0 x1)) (a8.view.writes (Elt F) a8.view.junk (sl.HS1_17 (F := F) c (grid0.coords t) a3 w3 a4 w4 a5 w5 a7 a8 x0 x1 x2)) (a9.view.writes (Elt F) a9.view.junk (sl.HS2_8 (F := F) c a3 w3 a4 w4 x0 x1)) a10.view.junk (nT t)
/-- The three lists of pieces when the trips are over. -/
abbrev BM : List (Own.PM F) := (PB t c a3 w3 a4 w4 a5 w5 a6 w6 a7 w7 a8 w8 a9 w9 a10 w10 hc0 x0 x1 x2).1 ++ sl.HS0_17 (F := F) c (grid0.coords t) a3 w3 a4 w4 a7 x0 x1
abbrev BA : List (Own.PA F) := (PB t c a3 w3 a4 w4 a5 w5 a6 w6 a7 w7 a8 w8 a9 w9 a10 w10 hc0 x0 x1 x2).2.1 ++ sl.HS1_17 (F := F) c (grid0.coords t) a3 w3 a4 w4 a5 w5 a7 a8 x0 x1 x2
abbrev BS : List (Own.PS F) := (PB t c a3 w3 a4 w4 a5 w5 a6 w6 a7 w7 a8 w8 a9 w9 a10 w10 hc0 x0 x1 x2).2.2.1 ++ sl.HS2_8 (F := F) c a3 w3 a4 w4 x0 x1
/-- The scores, the greatest scores and the weighted sums when the trips are over. -/
abbrev VS : Fin 8 → Vec F S1x512x512 .f32 := Sv x0 x1 (nT t)
abbrev VM : Fin 8 → Vec F S1x1x512 .f32 := Mv ((grid0.coords t) 2).val x0 x1 (nT t)
abbrev VA : Fin 8 → Vec F S1x80x512 .f32 := Av ((grid0.coords t) 2).val x0 x1 x2 (nT t)

theorem qs_eq : qs8 (sl.r (F := F) c a3 w3 x0) (sl.r_1 (F := F) c a3 w3 x0) (sl.r_2 (F := F) c a3 w3 x0) (sl.r_3 (F := F) c a3 w3 x0) (sl.r_4 (F := F) c a3 w3 x0) (sl.r_5 (F := F) c a3 w3 x0) (sl.r_6 (F := F) c a3 w3 x0) (sl.r_7 (F := F) c a3 w3 x0) = Qv x0 := by
  funext h
  fin_cases h
  · exact rd_q w3 x0 ![0, 0] _ 0 (by rfl)
  · exact rd_q w3 x0 ![0, 128] _ 1 (by rfl)
  · exact rd_q w3 x0 ![0, 256] _ 2 (by rfl)
  · exact rd_q w3 x0 ![0, 384] _ 3 (by rfl)
  · exact rd_q w3 x0 ![0, 512] _ 4 (by rfl)
  · exact rd_q w3 x0 ![0, 640] _ 5 (by rfl)
  · exact rd_q w3 x0 ![0, 768] _ 6 (by rfl)
  · exact rd_q w3 x0 ![0, 896] _ 7 (by rfl)
theorem base :
    rdM a7 (a7.view.writes (Elt F) (a7.view.writes (Elt F) a7.view.junk (sl.HS0_17 (F := F) c (grid0.coords t) a3 w3 a4 w4 a7 x0 x1)) (PB t c a3 w3 a4 w4 a5 w5 a6 w6 a7 w7 a8 w8 a9 w9 a10 w10 hc0 x0 x1 x2).1) = VM t x0 x1
      ∧ rdA a8 (a8.view.writes (Elt F) (a8.view.writes (Elt F) a8.view.junk (sl.HS1_17 (F := F) c (grid0.coords t) a3 w3 a4 w4 a5 w5 a7 a8 x0 x1 x2)) (PB t c a3 w3 a4 w4 a5 w5 a6 w6 a7 w7 a8 w8 a9 w9 a10 w10 hc0 x0 x1 x2).2.1) = VA t x0 x1 x2
      ∧ rdS a9 (a9.view.writes (Elt F) (a9.view.writes (Elt F) a9.view.junk (sl.HS2_8 (F := F) c a3 w3 a4 w4 x0 x1)) (PB t c a3 w3 a4 w4 a5 w5 a6 w6 a7 w7 a8 w8 a9 w9 a10 w10 hc0 x0 x1 x2).2.2.1) = VS t x0 x1 :=
  Loop.reads ((grid0.coords t) 2).val x0 x1 x2 t _ c _ a3 w3 a4 w4 a5 w5 a6 w6 a7 w7 a8 w8 a9 w9 a10 w10 _ _ _ _ _ _ _ _ _ hc0 _ _ _ _ (qs_eq c a3 w3 x0)
    (funext fun h => OwnB.own_m t c a3 w3 a4 w4 a7 x0 x1 h)
    (funext fun h => OwnB.own_a t c a3 w3 a4 w4 a5 w5 a7 a8 x0 x1 x2 h)
    (funext fun h => OwnB.own_s c a3 w3 a4 w4 x0 x1 a9 h) _ le_rfl
theorem b_m (h : Fin 8) : View.readCov (Val := Elt F) a7.view (BM t c a3 w3 a4 w4 a5 w5 a6 w6 a7 w7 a8 w8 a9 w9 a10 w10 hc0 x0 x1 x2) (mR h).toLoadRect = VM t x0 x1 h := by
  show View.readAt (Elt F) a7.view (mR h).toLoadRect (a7.view.writes (Elt F) a7.view.junk (_ ++ _)) = _
  rw [View.writes_append]
  exact congrFun (base t c a3 w3 a4 w4 a5 w5 a6 w6 a7 w7 a8 w8 a9 w9 a10 w10 hc0 x0 x1 x2).1 h
theorem b_a (h : Fin 8) : View.readCov (Val := Elt F) a8.view (BA t c a3 w3 a4 w4 a5 w5 a6 w6 a7 w7 a8 w8 a9 w9 a10 w10 hc0 x0 x1 x2) (aR h).toLoadRect = VA t x0 x1 x2 h := by
  show View.readAt (Elt F) a8.view (aR h).toLoadRect (a8.view.writes (Elt F) a8.view.junk (_ ++ _)) = _
  rw [View.writes_append]
  exact congrFun (base t c a3 w3 a4 w4 a5 w5 a6 w6 a7 w7 a8 w8 a9 w9 a10 w10 hc0 x0 x1 x2).2.1 h
theorem b_s (h : Fin 8) : View.readCov (Val := Elt F) a9.view (BS t c a3 w3 a4 w4 a5 w5 a6 w6 a7 w7 a8 w8 a9 w9 a10 w10 hc0 x0 x1 x2) (sR h).toLoadRect = VS t x0 x1 h := by
  show View.readAt (Elt F) a9.view (sR h).toLoadRect (a9.view.writes (Elt F) a9.view.junk (_ ++ _)) = _
  rw [View.writes_append]
  exact congrFun (base t c a3 w3 a4 w4 a5 w5 a6 w6 a7 w7 a8 w8 a9 w9 a10 w10 hc0 x0 x1 x2).2.2 h

theorem rd_m_0 : (View.readCov (Val := Elt F) a7.view (BM t c a3 w3 a4 w4 a5 w5 a6 w6 a7 w7 a8 w8 a9 w9 a10 w10 hc0 x0 x1 x2) (mR 0).toLoadRect) = VM t x0 x1 0 := by
  exact b_m t c a3 w3 a4 w4 a5 w5 a6 w6 a7 w7 a8 w8 a9 w9 a10 w10 hc0 x0 x1 x2 0
theorem rd_a_0 : (View.readCov (Val := Elt F) a8.view (BA t c a3 w3 a4 w4 a5 w5 a6 w6 a7 w7 a8 w8 a9 w9 a10 w10 hc0 x0 x1 x2) (aR 0).toLoadRect) = VA t x0 x1 x2 0 := by
  exact b_a t c a3 w3 a4 w4 a5 w5 a6 w6 a7 w7 a8 w8 a9 w9 a10 w10 hc0 x0 x1 x2 0
theorem l_m_1 : sl.HS0_1_1 (F := F) c (grid0.coords t) a3 w3 a4 w4 a5 w5 a6 w6 a7 w7 a8 w8 a9 w9 a10 w10 hc0 x0 x1 x2 = ([0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 0, newM (View.readCov (Val := Elt F) a9.view (BS t c a3 w3 a4 w4 a5 w5 a6 w6 a7 w7 a8 w8 a9 w9 a10 w10 hc0 x0 x1 x2) (sR 0).toLoadRect) (View.readCov (Val := Elt F) a7.view (BM t c a3 w3 a4 w4 a5 w5 a6 w6 a7 w7 a8 w8 a9 w9 a10 w10 hc0 x0 x1 x2) (mR 0).toLoadRect)⟩ : Own.PM F) :: BM t c a3 w3 a4 w4 a5 w5 a6 w6 a7 w7 a8 w8 a9 w9 a10 w10 hc0 x0 x1 x2) = _
  rw [b_s, rd_m_0]
  rfl
theorem l_a_1 : sl.HS1_1_1 (F := F) c (grid0.coords t) a3 w3 a4 w4 a5 w5 a6 w6 a7 w7 a8 w8 a9 w9 a10 w10 hc0 hc2 x0 x1 x2 = ([0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 0, newA (View.readCov (Val := Elt F) a9.view (BS t c a3 w3 a4 w4 a5 w5 a6 w6 a7 w7 a8 w8 a9 w9 a10 w10 hc0 x0 x1 x2) (sR 0).toLoadRect) (View.readCov (Val := Elt F) a7.view (BM t c a3 w3 a4 w4 a5 w5 a6 w6 a7 w7 a8 w8 a9 w9 a10 w10 hc0 x0 x1 x2) (mR 0).toLoadRect) (View.readAt (Elt F) a5.view (Rect.unit (s := S640x4096) (k0_off105 (grid0.coords t)) S80x512.size _).toLoadRect (w5.unread x2)) (View.readCov (Val := Elt F) a8.view (BA t c a3 w3 a4 w4 a5 w5 a6 w6 a7 w7 a8 w8 a9 w9 a10 w10 hc0 x0 x1 x2) (aR 0).toLoadRect)⟩ : Own.PA F) :: BA t c a3 w3 a4 w4 a5 w5 a6 w6 a7 w7 a8 w8 a9 w9 a10 w10 hc0 x0 x1 x2) = _
  rw [b_s, rd_m_0, rd_vf w5 x2 _ _ (512 * (2 * nT t)) 0 (off_v_0 t hc0 hc2), rd_a_0]
  rfl
theorem rd_m_1 : (View.readCov (Val := Elt F) a7.view (sl.HS0_1_1 (F := F) c (grid0.coords t) a3 w3 a4 w4 a5 w5 a6 w6 a7 w7 a8 w8 a9 w9 a10 w10 hc0 x0 x1 x2) (mR 1).toLoadRect) = VM t x0 x1 1 := by
  rw [l_m_1, readCov_skips a7.view mR _ _ _ _ (by intro j hj; exact mR_apart j 1 (by revert j; decide))]
  exact b_m t c a3 w3 a4 w4 a5 w5 a6 w6 a7 w7 a8 w8 a9 w9 a10 w10 hc0 x0 x1 x2 1
theorem rd_a_1 : (View.readCov (Val := Elt F) a8.view (sl.HS1_1_1 (F := F) c (grid0.coords t) a3 w3 a4 w4 a5 w5 a6 w6 a7 w7 a8 w8 a9 w9 a10 w10 hc0 hc2 x0 x1 x2) (aR 1).toLoadRect) = VA t x0 x1 x2 1 := by
  rw [l_a_1, readCov_skips a8.view aR _ _ _ _ (by intro j hj; exact aR_apart j 1 (by revert j; decide))]
  exact b_a t c a3 w3 a4 w4 a5 w5 a6 w6 a7 w7 a8 w8 a9 w9 a10 w10 hc0 x0 x1 x2 1
theorem l_m_2 : sl.HS0_2_1 (F := F) c (grid0.coords t) a3 w3 a4 w4 a5 w5 a6 w6 a7 w7 a8 w8 a9 w9 a10 w10 hc0 x0 x1 x2 = ([1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 1, newM (View.readCov (Val := Elt F) a9.view (BS t c a3 w3 a4 w4 a5 w5 a6 w6 a7 w7 a8 w8 a9 w9 a10 w10 hc0 x0 x1 x2) (sR 1).toLoadRect) (View.readCov (Val := Elt F) a7.view (sl.HS0_1_1 (F := F) c (grid0.coords t) a3 w3 a4 w4 a5 w5 a6 w6 a7 w7 a8 w8 a9 w9 a10 w10 hc0 x0 x1 x2) (mR 1).toLoadRect)⟩ : Own.PM F) :: sl.HS0_1_1 (F := F) c (grid0.coords t) a3 w3 a4 w4 a5 w5 a6 w6 a7 w7 a8 w8 a9 w9 a10 w10 hc0 x0 x1 x2) = _
  rw [b_s, rd_m_1, l_m_1]
  rfl
theorem l_a_2 : sl.HS1_2_1 (F := F) c (grid0.coords t) a3 w3 a4 w4 a5 w5 a6 w6 a7 w7 a8 w8 a9 w9 a10 w10 hc0 hc2 x0 x1 x2 = ([1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 1, newA (View.readCov (Val := Elt F) a9.view (BS t c a3 w3 a4 w4 a5 w5 a6 w6 a7 w7 a8 w8 a9 w9 a10 w10 hc0 x0 x1 x2) (sR 1).toLoadRect) (View.readCov (Val := Elt F) a7.view (sl.HS0_1_1 (F := F) c (grid0.coords t) a3 w3 a4 w4 a5 w5 a6 w6 a7 w7 a8 w8 a9 w9 a10 w10 hc0 x0 x1 x2) (mR 1).toLoadRect) (View.readAt (Elt F) a5.view (Rect.unit (s := S640x4096) (k0_off106 (grid0.coords t)) S80x512.size _).toLoadRect (w5.unread x2)) (View.readCov (Val := Elt F) a8.view (sl.HS1_1_1 (F := F) c (grid0.coords t) a3 w3 a4 w4 a5 w5 a6 w6 a7 w7 a8 w8 a9 w9 a10 w10 hc0 hc2 x0 x1 x2) (aR 1).toLoadRect)⟩ : Own.PA F) :: sl.HS1_1_1 (F := F) c (grid0.coords t) a3 w3 a4 w4 a5 w5 a6 w6 a7 w7 a8 w8 a9 w9 a10 w10 hc0 hc2 x0 x1 x2) = _
  rw [b_s, rd_m_1, rd_vf w5 x2 _ _ (512 * (2 * nT t)) 1 (off_v_1 t hc0 hc2), rd_a_1, l_a_1]
  rfl
theorem rd_m_2 : (View.readCov (Val := Elt F) a7.view (sl.HS0_2_1 (F := F) c (grid0.coords t) a3 w3 a4 w4 a5 w5 a6 w6 a7 w7 a8 w8 a9 w9 a10 w10 hc0 x0 x1 x2) (mR 2).toLoadRect) = VM t x0 x1 2 := by
  rw [l_m_2, readCov_skips a7.view mR _ _ _ _ (by intro j hj; exact mR_apart j 2 (by revert j; decide))]
  exact b_m t c a3 w3 a4 w4 a5 w5 a6 w6 a7 w7 a8 w8 a9 w9 a10 w10 hc0 x0 x1 x2 2
theorem rd_a_2 : (View.readCov (Val := Elt F) a8.view (sl.HS1_2_1 (F := F) c (grid0.coords t) a3 w3 a4 w4 a5 w5 a6 w6 a7 w7 a8 w8 a9 w9 a10 w10 hc0 hc2 x0 x1 x2) (aR 2).toLoadRect) = VA t x0 x1 x2 2 := by
  rw [l_a_2, readCov_skips a8.view aR _ _ _ _ (by intro j hj; exact aR_apart j 2 (by revert j; decide))]
  exact b_a t c a3 w3 a4 w4 a5 w5 a6 w6 a7 w7 a8 w8 a9 w9 a10 w10 hc0 x0 x1 x2 2
theorem l_m_3 : sl.HS0_3_1 (F := F) c (grid0.coords t) a3 w3 a4 w4 a5 w5 a6 w6 a7 w7 a8 w8 a9 w9 a10 w10 hc0 x0 x1 x2 = ([2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 2, newM (View.readCov (Val := Elt F) a9.view (BS t c a3 w3 a4 w4 a5 w5 a6 w6 a7 w7 a8 w8 a9 w9 a10 w10 hc0 x0 x1 x2) (sR 2).toLoadRect) (View.readCov (Val := Elt F) a7.view (sl.HS0_2_1 (F := F) c (grid0.coords t) a3 w3 a4 w4 a5 w5 a6 w6 a7 w7 a8 w8 a9 w9 a10 w10 hc0 x0 x1 x2) (mR 2).toLoadRect)⟩ : Own.PM F) :: sl.HS0_2_1 (F := F) c (grid0.coords t) a3 w3 a4 w4 a5 w5 a6 w6 a7 w7 a8 w8 a9 w9 a10 w10 hc0 x0 x1 x2) = _
  rw [b_s, rd_m_2, l_m_2]
  rfl
theorem l_a_3 : sl.HS1_3_1 (F := F) c (grid0.coords t) a3 w3 a4 w4 a5 w5 a6 w6 a7 w7 a8 w8 a9 w9 a10 w10 hc0 hc2 x0 x1 x2 = ([2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 2, newA (View.readCov (Val := Elt F) a9.view (BS t c a3 w3 a4 w4 a5 w5 a6 w6 a7 w7 a8 w8 a9 w9 a10 w10 hc0 x0 x1 x2) (sR 2).toLoadRect) (View.readCov (Val := Elt F) a7.view (sl.HS0_2_1 (F := F) c (grid0.coords t) a3 w3 a4 w4 a5 w5 a6 w6 a7 w7 a8 w8 a9 w9 a10 w10 hc0 x0 x1 x2) (mR 2).toLoadRect) (View.readAt (Elt F) a5.view (Rect.unit (s := S640x4096) (k0_off107 (grid0.coords t)) S80x512.size _).toLoadRect (w5.unread x2)) (View.readCov (Val := Elt F) a8.view (sl.HS1_2_1 (F := F) c (grid0.coords t) a3 w3 a4 w4 a5 w5 a6 w6 a7 w7 a8 w8 a9 w9 a10 w10 hc0 hc2 x0 x1 x2) (aR 2).toLoadRect)⟩ : Own.PA F) :: sl.HS1_2_1 (F := F) c (grid0.coords t) a3 w3 a4 w4 a5 w5 a6 w6 a7 w7 a8 w8 a9 w9 a10 w10 hc0 hc2 x0 x1 x2) = _
  rw [b_s, rd_m_2, rd_vf w5 x2 _ _ (512 * (2 * nT t)) 2 (off_v_2 t hc0 hc2), rd_a_2, l_a_2]
  rfl
theorem rd_m_3 : (View.readCov (Val := Elt F) a7.view (sl.HS0_3_1 (F := F) c (grid0.coords t) a3 w3 a4 w4 a5 w5 a6 w6 a7 w7 a8 w8 a9 w9 a10 w10 hc0 x0 x1 x2) (mR 3).toLoadRect) = VM t x0 x1 3 := by
  rw [l_m_3, readCov_skips a7.view mR _ _ _ _ (by intro j hj; exact mR_apart j 3 (by revert j; decide))]
  exact b_m t c a3 w3 a4 w4 a5 w5 a6 w6 a7 w7 a8 w8 a9 w9 a10 w10 hc0 x0 x1 x2 3
theorem rd_a_3 : (View.readCov (Val := Elt F) a8.view (sl.HS1_3_1 (F := F) c (grid0.coords t) a3 w3 a4 w4 a5 w5 a6 w6 a7 w7 a8 w8 a9 w9 a10 w10 hc0 hc2 x0 x1 x2) (aR 3).toLoadRect) = VA t x0 x1 x2 3 := by
  rw [l_a_3, readCov_skips a8.view aR _ _ _ _ (by intro j hj; exact aR_apart j 3 (by revert j; decide))]
  exact b_a t c a3 w3 a4 w4 a5 w5 a6 w6 a7 w7 a8 w8 a9 w9 a10 w10 hc0 x0 x1 x2 3
theorem l_m_4 : sl.HS0_4_1 (F := F) c (grid0.coords t) a3 w3 a4 w4 a5 w5 a6 w6 a7 w7 a8 w8 a9 w9 a10 w10 hc0 x0 x1 x2 = ([3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 3, newM (View.readCov (Val := Elt F) a9.view (BS t c a3 w3 a4 w4 a5 w5 a6 w6 a7 w7 a8 w8 a9 w9 a10 w10 hc0 x0 x1 x2) (sR 3).toLoadRect) (View.readCov (Val := Elt F) a7.view (sl.HS0_3_1 (F := F) c (grid0.coords t) a3 w3 a4 w4 a5 w5 a6 w6 a7 w7 a8 w8 a9 w9 a10 w10 hc0 x0 x1 x2) (mR 3).toLoadRect)⟩ : Own.PM F) :: sl.HS0_3_1 (F := F) c (grid0.coords t) a3 w3 a4 w4 a5 w5 a6 w6 a7 w7 a8 w8 a9 w9 a10 w10 hc0 x0 x1 x2) = _
  rw [b_s, rd_m_3, l_m_3]
  rfl
theorem l_a_4 : sl.HS1_4_1 (F := F) c (grid0.coords t) a3 w3 a4 w4 a5 w5 a6 w6 a7 w7 a8 w8 a9 w9 a10 w10 hc0 hc2 x0 x1 x2 = ([3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 3, newA (View.readCov (Val := Elt F) a9.view (BS t c a3 w3 a4 w4 a5 w5 a6 w6 a7 w7 a8 w8 a9 w9 a10 w10 hc0 x0 x1 x2) (sR 3).toLoadRect) (View.readCov (Val := Elt F) a7.view (sl.HS0_3_1 (F := F) c (grid0.coords t) a3 w3 a4 w4 a5 w5 a6 w6 a7 w7 a8 w8 a9 w9 a10 w10 hc0 x0 x1 x2) (mR 3).toLoadRect) (View.readAt (Elt F) a5.view (Rect.unit (s := S640x4096) (k0_off108 (grid0.coords t)) S80x512.size _).toLoadRect (w5.unread x2)) (View.readCov (Val := Elt F) a8.view (sl.HS1_3_1 (F := F) c (grid0.coords t) a3 w3 a4 w4 a5 w5 a6 w6 a7 w7 a8 w8 a9 w9 a10 w10 hc0 hc2 x0 x1 x2) (aR 3).toLoadRect)⟩ : Own.PA F) :: sl.HS1_3_1 (F := F) c (grid0.coords t) a3 w3 a4 w4 a5 w5 a6 w6 a7 w7 a8 w8 a9 w9 a10 w10 hc0 hc2 x0 x1 x2) = _
  rw [b_s, rd_m_3, rd_vf w5 x2 _ _ (512 * (2 * nT t)) 3 (off_v_3 t hc0 hc2), rd_a_3, l_a_3]
  rfl
theorem rd_m_4 : (View.readCov (Val := Elt F) a7.view (sl.HS0_4_1 (F := F) c (grid0.coords t) a3 w3 a4 w4 a5 w5 a6 w6 a7 w7 a8 w8 a9 w9 a10 w10 hc0 x0 x1 x2) (mR 4).toLoadRect) = VM t x0 x1 4 := by
  rw [l_m_4, readCov_skips a7.view mR _ _ _ _ (by intro j hj; exact mR_apart j 4 (by revert j; decide))]
  exact b_m t c a3 w3 a4 w4 a5 w5 a6 w6 a7 w7 a8 w8 a9 w9 a10 w10 hc0 x0 x1 x2 4
theorem rd_a_4 : (View.readCov (Val := Elt F) a8.view (sl.HS1_4_1 (F := F) c (grid0.coords t) a3 w3 a4 w4 a5 w5 a6 w6 a7 w7 a8 w8 a9 w9 a10 w10 hc0 hc2 x0 x1 x2) (aR 4).toLoadRect) = VA t x0 x1 x2 4 := by
  rw [l_a_4, readCov_skips a8.view aR _ _ _ _ (by intro j hj; exact aR_apart j 4 (by revert j; decide))]
  exact b_a t c a3 w3 a4 w4 a5 w5 a6 w6 a7 w7 a8 w8 a9 w9 a10 w10 hc0 x0 x1 x2 4
theorem l_m_5 : sl.HS0_5_1 (F := F) c (grid0.coords t) a3 w3 a4 w4 a5 w5 a6 w6 a7 w7 a8 w8 a9 w9 a10 w10 hc0 x0 x1 x2 = ([4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 4, newM (View.readCov (Val := Elt F) a9.view (BS t c a3 w3 a4 w4 a5 w5 a6 w6 a7 w7 a8 w8 a9 w9 a10 w10 hc0 x0 x1 x2) (sR 4).toLoadRect) (View.readCov (Val := Elt F) a7.view (sl.HS0_4_1 (F := F) c (grid0.coords t) a3 w3 a4 w4 a5 w5 a6 w6 a7 w7 a8 w8 a9 w9 a10 w10 hc0 x0 x1 x2) (mR 4).toLoadRect)⟩ : Own.PM F) :: sl.HS0_4_1 (F := F) c (grid0.coords t) a3 w3 a4 w4 a5 w5 a6 w6 a7 w7 a8 w8 a9 w9 a10 w10 hc0 x0 x1 x2) = _
  rw [b_s, rd_m_4, l_m_4]
  rfl
theorem l_a_5 : sl.HS1_5_1 (F := F) c (grid0.coords t) a3 w3 a4 w4 a5 w5 a6 w6 a7 w7 a8 w8 a9 w9 a10 w10 hc0 hc2 x0 x1 x2 = ([4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 4, newA (View.readCov (Val := Elt F) a9.view (BS t c a3 w3 a4 w4 a5 w5 a6 w6 a7 w7 a8 w8 a9 w9 a10 w10 hc0 x0 x1 x2) (sR 4).toLoadRect) (View.readCov (Val := Elt F) a7.view (sl.HS0_4_1 (F := F) c (grid0.coords t) a3 w3 a4 w4 a5 w5 a6 w6 a7 w7 a8 w8 a9 w9 a10 w10 hc0 x0 x1 x2) (mR 4).toLoadRect) (View.readAt (Elt F) a5.view (Rect.unit (s := S640x4096) (k0_off109 (grid0.coords t)) S80x512.size _).toLoadRect (w5.unread x2)) (View.readCov (Val := Elt F) a8.view (sl.HS1_4_1 (F := F) c (grid0.coords t) a3 w3 a4 w4 a5 w5 a6 w6 a7 w7 a8 w8 a9 w9 a10 w10 hc0 hc2 x0 x1 x2) (aR 4).toLoadRect)⟩ : Own.PA F) :: sl.HS1_4_1 (F := F) c (grid0.coords t) a3 w3 a4 w4 a5 w5 a6 w6 a7 w7 a8 w8 a9 w9 a10 w10 hc0 hc2 x0 x1 x2) = _
  rw [b_s, rd_m_4, rd_vf w5 x2 _ _ (512 * (2 * nT t)) 4 (off_v_4 t hc0 hc2), rd_a_4, l_a_4]
  rfl
theorem rd_m_5 : (View.readCov (Val := Elt F) a7.view (sl.HS0_5_1 (F := F) c (grid0.coords t) a3 w3 a4 w4 a5 w5 a6 w6 a7 w7 a8 w8 a9 w9 a10 w10 hc0 x0 x1 x2) (mR 5).toLoadRect) = VM t x0 x1 5 := by
  rw [l_m_5, readCov_skips a7.view mR _ _ _ _ (by intro j hj; exact mR_apart j 5 (by revert j; decide))]
  exact b_m t c a3 w3 a4 w4 a5 w5 a6 w6 a7 w7 a8 w8 a9 w9 a10 w10 hc0 x0 x1 x2 5
theorem rd_a_5 : (View.readCov (Val := Elt F) a8.view (sl.HS1_5_1 (F := F) c (grid0.coords t) a3 w3 a4 w4 a5 w5 a6 w6 a7 w7 a8 w8 a9 w9 a10 w10 hc0 hc2 x0 x1 x2) (aR 5).toLoadRect) = VA t x0 x1 x2 5 := by
  rw [l_a_5, readCov_skips a8.view aR _ _ _ _ (by intro j hj; exact aR_apart j 5 (by revert j; decide))]
  exact b_a t c a3 w3 a4 w4 a5 w5 a6 w6 a7 w7 a8 w8 a9 w9 a10 w10 hc0 x0 x1 x2 5
theorem l_m_6 : sl.HS0_6_1 (F := F) c (grid0.coords t) a3 w3 a4 w4 a5 w5 a6 w6 a7 w7 a8 w8 a9 w9 a10 w10 hc0 x0 x1 x2 = ([5, 4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 5, newM (View.readCov (Val := Elt F) a9.view (BS t c a3 w3 a4 w4 a5 w5 a6 w6 a7 w7 a8 w8 a9 w9 a10 w10 hc0 x0 x1 x2) (sR 5).toLoadRect) (View.readCov (Val := Elt F) a7.view (sl.HS0_5_1 (F := F) c (grid0.coords t) a3 w3 a4 w4 a5 w5 a6 w6 a7 w7 a8 w8 a9 w9 a10 w10 hc0 x0 x1 x2) (mR 5).toLoadRect)⟩ : Own.PM F) :: sl.HS0_5_1 (F := F) c (grid0.coords t) a3 w3 a4 w4 a5 w5 a6 w6 a7 w7 a8 w8 a9 w9 a10 w10 hc0 x0 x1 x2) = _
  rw [b_s, rd_m_5, l_m_5]
  rfl
theorem l_a_6 : sl.HS1_6_1 (F := F) c (grid0.coords t) a3 w3 a4 w4 a5 w5 a6 w6 a7 w7 a8 w8 a9 w9 a10 w10 hc0 hc2 x0 x1 x2 = ([5, 4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 5, newA (View.readCov (Val := Elt F) a9.view (BS t c a3 w3 a4 w4 a5 w5 a6 w6 a7 w7 a8 w8 a9 w9 a10 w10 hc0 x0 x1 x2) (sR 5).toLoadRect) (View.readCov (Val := Elt F) a7.view (sl.HS0_5_1 (F := F) c (grid0.coords t) a3 w3 a4 w4 a5 w5 a6 w6 a7 w7 a8 w8 a9 w9 a10 w10 hc0 x0 x1 x2) (mR 5).toLoadRect) (View.readAt (Elt F) a5.view (Rect.unit (s := S640x4096) (k0_off110 (grid0.coords t)) S80x512.size _).toLoadRect (w5.unread x2)) (View.readCov (Val := Elt F) a8.view (sl.HS1_5_1 (F := F) c (grid0.coords t) a3 w3 a4 w4 a5 w5 a6 w6 a7 w7 a8 w8 a9 w9 a10 w10 hc0 hc2 x0 x1 x2) (aR 5).toLoadRect)⟩ : Own.PA F) :: sl.HS1_5_1 (F := F) c (grid0.coords t) a3 w3 a4 w4 a5 w5 a6 w6 a7 w7 a8 w8 a9 w9 a10 w10 hc0 hc2 x0 x1 x2) = _
  rw [b_s, rd_m_5, rd_vf w5 x2 _ _ (512 * (2 * nT t)) 5 (off_v_5 t hc0 hc2), rd_a_5, l_a_5]
  rfl
theorem rd_m_6 : (View.readCov (Val := Elt F) a7.view (sl.HS0_6_1 (F := F) c (grid0.coords t) a3 w3 a4 w4 a5 w5 a6 w6 a7 w7 a8 w8 a9 w9 a10 w10 hc0 x0 x1 x2) (mR 6).toLoadRect) = VM t x0 x1 6 := by
  rw [l_m_6, readCov_skips a7.view mR _ _ _ _ (by intro j hj; exact mR_apart j 6 (by revert j; decide))]
  exact b_m t c a3 w3 a4 w4 a5 w5 a6 w6 a7 w7 a8 w8 a9 w9 a10 w10 hc0 x0 x1 x2 6
theorem rd_a_6 : (View.readCov (Val := Elt F) a8.view (sl.HS1_6_1 (F := F) c (grid0.coords t) a3 w3 a4 w4 a5 w5 a6 w6 a7 w7 a8 w8 a9 w9 a10 w10 hc0 hc2 x0 x1 x2) (aR 6).toLoadRect) = VA t x0 x1 x2 6 := by
  rw [l_a_6, readCov_skips a8.view aR _ _ _ _ (by intro j hj; exact aR_apart j 6 (by revert j; decide))]
  exact b_a t c a3 w3 a4 w4 a5 w5 a6 w6 a7 w7 a8 w8 a9 w9 a10 w10 hc0 x0 x1 x2 6
theorem l_m_7 : sl.HS0_7_1 (F := F) c (grid0.coords t) a3 w3 a4 w4 a5 w5 a6 w6 a7 w7 a8 w8 a9 w9 a10 w10 hc0 x0 x1 x2 = ([6, 5, 4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 6, newM (View.readCov (Val := Elt F) a9.view (BS t c a3 w3 a4 w4 a5 w5 a6 w6 a7 w7 a8 w8 a9 w9 a10 w10 hc0 x0 x1 x2) (sR 6).toLoadRect) (View.readCov (Val := Elt F) a7.view (sl.HS0_6_1 (F := F) c (grid0.coords t) a3 w3 a4 w4 a5 w5 a6 w6 a7 w7 a8 w8 a9 w9 a10 w10 hc0 x0 x1 x2) (mR 6).toLoadRect)⟩ : Own.PM F) :: sl.HS0_6_1 (F := F) c (grid0.coords t) a3 w3 a4 w4 a5 w5 a6 w6 a7 w7 a8 w8 a9 w9 a10 w10 hc0 x0 x1 x2) = _
  rw [b_s, rd_m_6, l_m_6]
  rfl
theorem l_a_7 : sl.HS1_7_1 (F := F) c (grid0.coords t) a3 w3 a4 w4 a5 w5 a6 w6 a7 w7 a8 w8 a9 w9 a10 w10 hc0 hc2 x0 x1 x2 = ([6, 5, 4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 6, newA (View.readCov (Val := Elt F) a9.view (BS t c a3 w3 a4 w4 a5 w5 a6 w6 a7 w7 a8 w8 a9 w9 a10 w10 hc0 x0 x1 x2) (sR 6).toLoadRect) (View.readCov (Val := Elt F) a7.view (sl.HS0_6_1 (F := F) c (grid0.coords t) a3 w3 a4 w4 a5 w5 a6 w6 a7 w7 a8 w8 a9 w9 a10 w10 hc0 x0 x1 x2) (mR 6).toLoadRect) (View.readAt (Elt F) a5.view (Rect.unit (s := S640x4096) (k0_off111 (grid0.coords t)) S80x512.size _).toLoadRect (w5.unread x2)) (View.readCov (Val := Elt F) a8.view (sl.HS1_6_1 (F := F) c (grid0.coords t) a3 w3 a4 w4 a5 w5 a6 w6 a7 w7 a8 w8 a9 w9 a10 w10 hc0 hc2 x0 x1 x2) (aR 6).toLoadRect)⟩ : Own.PA F) :: sl.HS1_6_1 (F := F) c (grid0.coords t) a3 w3 a4 w4 a5 w5 a6 w6 a7 w7 a8 w8 a9 w9 a10 w10 hc0 hc2 x0 x1 x2) = _
  rw [b_s, rd_m_6, rd_vf w5 x2 _ _ (512 * (2 * nT t)) 6 (off_v_6 t hc0 hc2), rd_a_6, l_a_6]
  rfl
theorem rd_m_7 : (View.readCov (Val := Elt F) a7.view (sl.HS0_7_1 (F := F) c (grid0.coords t) a3 w3 a4 w4 a5 w5 a6 w6 a7 w7 a8 w8 a9 w9 a10 w10 hc0 x0 x1 x2) (mR 7).toLoadRect) = VM t x0 x1 7 := by
  rw [l_m_7, readCov_skips a7.view mR _ _ _ _ (by intro j hj; exact mR_apart j 7 (by revert j; decide))]
  exact b_m t c a3 w3 a4 w4 a5 w5 a6 w6 a7 w7 a8 w8 a9 w9 a10 w10 hc0 x0 x1 x2 7
theorem rd_a_7 : (View.readCov (Val := Elt F) a8.view (sl.HS1_7_1 (F := F) c (grid0.coords t) a3 w3 a4 w4 a5 w5 a6 w6 a7 w7 a8 w8 a9 w9 a10 w10 hc0 hc2 x0 x1 x2) (aR 7).toLoadRect) = VA t x0 x1 x2 7 := by
  rw [l_a_7, readCov_skips a8.view aR _ _ _ _ (by intro j hj; exact aR_apart j 7 (by revert j; decide))]
  exact b_a t c a3 w3 a4 w4 a5 w5 a6 w6 a7 w7 a8 w8 a9 w9 a10 w10 hc0 x0 x1 x2 7
theorem l_a_8 : sl.HS1_8_1 (F := F) c (grid0.coords t) a3 w3 a4 w4 a5 w5 a6 w6 a7 w7 a8 w8 a9 w9 a10 w10 hc0 hc2 x0 x1 x2 = heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 7, newA (View.readCov (Val := Elt F) a9.view (BS t c a3 w3 a4 w4 a5 w5 a6 w6 a7 w7 a8 w8 a9 w9 a10 w10 hc0 x0 x1 x2) (sR 7).toLoadRect) (View.readCov (Val := Elt F) a7.view (sl.HS0_7_1 (F := F) c (grid0.coords t) a3 w3 a4 w4 a5 w5 a6 w6 a7 w7 a8 w8 a9 w9 a10 w10 hc0 x0 x1 x2) (mR 7).toLoadRect) (View.readAt (Elt F) a5.view (Rect.unit (s := S640x4096) (k0_off112 (grid0.coords t)) S80x512.size _).toLoadRect (w5.unread x2)) (View.readCov (Val := Elt F) a8.view (sl.HS1_7_1 (F := F) c (grid0.coords t) a3 w3 a4 w4 a5 w5 a6 w6 a7 w7 a8 w8 a9 w9 a10 w10 hc0 hc2 x0 x1 x2) (aR 7).toLoadRect)⟩ : Own.PA F) :: sl.HS1_7_1 (F := F) c (grid0.coords t) a3 w3 a4 w4 a5 w5 a6 w6 a7 w7 a8 w8 a9 w9 a10 w10 hc0 hc2 x0 x1 x2) = _
  rw [b_s, rd_m_7, rd_vf w5 x2 _ _ (512 * (2 * nT t)) 7 (off_v_7 t hc0 hc2), rd_a_7, l_a_7]
  rfl
/-- The weighted sums that the run divides. -/
theorem last_a (h : Fin 8) : (View.readCov (Val := Elt F) a8.view (sl.HS1_8_1 (F := F) c (grid0.coords t) a3 w3 a4 w4 a5 w5 a6 w6 a7 w7 a8 w8 a9 w9 a10 w10 hc0 hc2 x0 x1 x2) (aR h).toLoadRect) = Trip.a1 x2 (nT t) (VS t x0 x1) (VM t x0 x1) (VA t x0 x1 x2) h := by
  rw [l_a_8]
  exact readCov_head a8.view aR _ aR_apart _ heads h (mem_heads h)

end

end Cert.TailB

end
-- ==== Proof.OwnC.lean ====
/- The two steps over the keys at the queries' own positions, in the run at the even row blocks after the first: the lists of
   pieces that the run finds are those of Own.lean, head by head. -/
module

public import proofs.«01_k».proof.Proof.Own
public import proofs.«01_k».proof.Proof.Run.KernelIdeal.C
import all proofs.«01_k».proof.Proof.Run.KernelIdeal.C
public import proofs.«01_k».proof.Proof.Gen.KernelIdeal.Points

@[expose] public section

set_option maxRecDepth 16384
set_option maxHeartbeats 1000000

noncomputable section

namespace Cert.OwnC

open Idealize.ShloMosaic Cert.KernelIdeal Cert.KernelIdeal.Gen Cert.Steps Cert.Slab kernelRun0_C

theorem off_k0_0 : ∀ t : Fin grid0.N, k0_off1 (grid0.coords t) 0#32 = ![512 * ((grid0.coords t) 2).val, 128 * 0] := by decide +kernel
theorem off_k1_0 : ∀ t : Fin grid0.N, k0_off1 (grid0.coords t) 256#32 = ![512 * ((grid0.coords t) 2).val + 256, 128 * 0] := by decide +kernel
theorem off_v0_0 : ∀ t : Fin grid0.N, k0_off9 (grid0.coords t) 0#32 = ![80 * 0, 512 * ((grid0.coords t) 2).val] := by decide +kernel
theorem off_v1_0 : ∀ t : Fin grid0.N, k0_off9 (grid0.coords t) 256#32 = ![80 * 0, 512 * ((grid0.coords t) 2).val + 256] := by decide +kernel
theorem off_k0_1 : ∀ t : Fin grid0.N, k0_off2 (grid0.coords t) 0#32 = ![512 * ((grid0.coords t) 2).val, 128 * 1] := by decide +kernel
theorem off_k1_1 : ∀ t : Fin grid0.N, k0_off2 (grid0.coords t) 256#32 = ![512 * ((grid0.coords t) 2).val + 256, 128 * 1] := by decide +kernel
theorem off_v0_1 : ∀ t : Fin grid0.N, k0_off10 (grid0.coords t) 0#32 = ![80 * 1, 512 * ((grid0.coords t) 2).val] := by decide +kernel
theorem off_v1_1 : ∀ t : Fin grid0.N, k0_off10 (grid0.coords t) 256#32 = ![80 * 1, 512 * ((grid0.coords t) 2).val + 256] := by decide +kernel
theorem off_k0_2 : ∀ t : Fin grid0.N, k0_off3 (grid0.coords t) 0#32 = ![512 * ((grid0.coords t) 2).val, 128 * 2] := by decide +kernel
theorem off_k1_2 : ∀ t : Fin grid0.N, k0_off3 (grid0.coords t) 256#32 = ![512 * ((grid0.coords t) 2).val + 256, 128 * 2] := by decide +kernel
theorem off_v0_2 : ∀ t : Fin grid0.N, k0_off11 (grid0.coords t) 0#32 = ![80 * 2, 512 * ((grid0.coords t) 2).val] := by decide +kernel
theorem off_v1_2 : ∀ t : Fin grid0.N, k0_off11 (grid0.coords t) 256#32 = ![80 * 2, 512 * ((grid0.coords t) 2).val + 256] := by decide +kernel
theorem off_k0_3 : ∀ t : Fin grid0.N, k0_off4 (grid0.coords t) 0#32 = ![512 * ((grid0.coords t) 2).val, 128 * 3] := by decide +kernel
theorem off_k1_3 : ∀ t : Fin grid0.N, k0_off4 (grid0.coords t) 256#32 = ![512 * ((grid0.coords t) 2).val + 256, 128 * 3] := by decide +kernel
theorem off_v0_3 : ∀ t : Fin grid0.N, k0_off12 (grid0.coords t) 0#32 = ![80 * 3, 512 * ((grid0.coords t) 2).val] := by decide +kernel
theorem off_v1_3 : ∀ t : Fin grid0.N, k0_off12 (grid0.coords t) 256#32 = ![80 * 3, 512 * ((grid0.coords t) 2).val + 256] := by decide +kernel
theorem off_k0_4 : ∀ t : Fin grid0.N, k0_off5 (grid0.coords t) 0#32 = ![512 * ((grid0.coords t) 2).val, 128 * 4] := by decide +kernel
theorem off_k1_4 : ∀ t : Fin grid0.N, k0_off5 (grid0.coords t) 256#32 = ![512 * ((grid0.coords t) 2).val + 256, 128 * 4] := by decide +kernel
theorem off_v0_4 : ∀ t : Fin grid0.N, k0_off13 (grid0.coords t) 0#32 = ![80 * 4, 512 * ((grid0.coords t) 2).val] := by decide +kernel
theorem off_v1_4 : ∀ t : Fin grid0.N, k0_off13 (grid0.coords t) 256#32 = ![80 * 4, 512 * ((grid0.coords t) 2).val + 256] := by decide +kernel
theorem off_k0_5 : ∀ t : Fin grid0.N, k0_off6 (grid0.coords t) 0#32 = ![512 * ((grid0.coords t) 2).val, 128 * 5] := by decide +kernel
theorem off_k1_5 : ∀ t : Fin grid0.N, k0_off6 (grid0.coords t) 256#32 = ![512 * ((grid0.coords t) 2).val + 256, 128 * 5] := by decide +kernel
theorem off_v0_5 : ∀ t : Fin grid0.N, k0_off14 (grid0.coords t) 0#32 = ![80 * 5, 512 * ((grid0.coords t) 2).val] := by decide +kernel
theorem off_v1_5 : ∀ t : Fin grid0.N, k0_off14 (grid0.coords t) 256#32 = ![80 * 5, 512 * ((grid0.coords t) 2).val + 256] := by decide +kernel
theorem off_k0_6 : ∀ t : Fin grid0.N, k0_off7 (grid0.coords t) 0#32 = ![512 * ((grid0.coords t) 2).val, 128 * 6] := by decide +kernel
theorem off_k1_6 : ∀ t : Fin grid0.N, k0_off7 (grid0.coords t) 256#32 = ![512 * ((grid0.coords t) 2).val + 256, 128 * 6] := by decide +kernel
theorem off_v0_6 : ∀ t : Fin grid0.N, k0_off15 (grid0.coords t) 0#32 = ![80 * 6, 512 * ((grid0.coords t) 2).val] := by decide +kernel
theorem off_v1_6 : ∀ t : Fin grid0.N, k0_off15 (grid0.coords t) 256#32 = ![80 * 6, 512 * ((grid0.coords t) 2).val + 256] := by decide +kernel
theorem off_k0_7 : ∀ t : Fin grid0.N, k0_off8 (grid0.coords t) 0#32 = ![512 * ((grid0.coords t) 2).val, 128 * 7] := by decide +kernel
theorem off_k1_7 : ∀ t : Fin grid0.N, k0_off8 (grid0.coords t) 256#32 = ![512 * ((grid0.coords t) 2).val + 256, 128 * 7] := by decide +kernel
theorem off_v0_7 : ∀ t : Fin grid0.N, k0_off16 (grid0.coords t) 0#32 = ![80 * 7, 512 * ((grid0.coords t) 2).val] := by decide +kernel
theorem off_v1_7 : ∀ t : Fin grid0.N, k0_off16 (grid0.coords t) 256#32 = ![80 * 7, 512 * ((grid0.coords t) 2).val + 256] := by decide +kernel

section
variable {F : FTy → Type} [FloatOps F] [Named F]
variable (t : Fin grid0.N) (c : Dev nD)
  (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a7 : Memref sig .tc .vmem S8x1x512 .f32) (a8 : Memref sig .tc .vmem S8x80x512 .f32)
  (x0 : Vec F S512x1024 .bf16) (x1 : Vec F S4096x1024 .bf16) (x2 : Vec F S640x4096 .bf16)

theorem l_m0_0 : sl.HS0_1 (F := F) = ([] : List (Fin 8)).map (fun h => (⟨mR h, Own.m0 ((grid0.coords t) 2).val x0 x1 h⟩ : Own.PM F)) ++ sl.HS0_1 (F := F) := rfl
theorem l_a0_0 : sl.HS1_1 (F := F) = ([] : List (Fin 8)).map (fun h => (⟨aR h, Own.a0 ((grid0.coords t) 2).val x0 x1 x2 h⟩ : Own.PA F)) ++ sl.HS1_1 (F := F) := rfl
theorem rd_m0_0 : View.readCov (Val := Elt F) a7.view (sl.HS0_1 (F := F)) (mR 0).toLoadRect = Own.noM := by
  exact View.readCov_fill a7.view _ _ [] _ (by decide)
theorem rd_a0_0 : View.readCov (Val := Elt F) a8.view (sl.HS1_1 (F := F)) (aR 0).toLoadRect = Own.noA := by
  exact View.readCov_fill a8.view _ _ [] _ (by decide)
theorem l_m0_1 : sl.HS0_2 (F := F) c (grid0.coords t) a3 w3 a4 w4 a7 x0 x1 = ([0] : List (Fin 8)).map (fun h => (⟨mR h, Own.m0 ((grid0.coords t) 2).val x0 x1 h⟩ : Own.PM F)) ++ sl.HS0_1 (F := F) := by
  show ((⟨mR 0, newM0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect)⟩ : Own.PM F) :: sl.HS0_1 (F := F)) = _
  rw [rd_q w3 x0 ![0, 0] _ 0 (by rfl), rd_kg w4 x1 _ _ (512 * ((grid0.coords t) 2).val) 0 (off_k0_0 t), rd_m0_0, l_m0_0]
  rfl
theorem l_a0_1 : sl.HS1_2 (F := F) c (grid0.coords t) a3 w3 a4 w4 a5 w5 a7 a8 x0 x1 x2 = ([0] : List (Fin 8)).map (fun h => (⟨aR h, Own.a0 ((grid0.coords t) 2).val x0 x1 x2 h⟩ : Own.PA F)) ++ sl.HS1_1 (F := F) := by
  show ((⟨aR 0, newA0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect) (View.readAt (Elt F) a5.view (Rect.unit (s := S640x4096) (k0_off9 (grid0.coords t) 0#32) S80x256.size _).toLoadRect (w5.unread x2)) (View.readCov (Val := Elt F) a8.view (sl.HS1_1 (F := F)) (aR 0).toLoadRect)⟩ : Own.PA F) :: sl.HS1_1 (F := F)) = _
  rw [rd_q w3 x0 ![0, 0] _ 0 (by rfl), rd_kg w4 x1 _ _ (512 * ((grid0.coords t) 2).val) 0 (off_k0_0 t), rd_m0_0, rd_vg w5 x2 _ _ (512 * ((grid0.coords t) 2).val) 0 (off_v0_0 t), rd_a0_0, l_a0_0]
  rfl
theorem rd_m0_1 : View.readCov (Val := Elt F) a7.view (sl.HS0_2 (F := F) c (grid0.coords t) a3 w3 a4 w4 a7 x0 x1) (mR 1).toLoadRect = Own.noM := by
  rw [l_m0_1, readCov_skips a7.view mR _ _ _ _ (by intro j hj; exact mR_apart j 1 (by revert j; decide))]
  exact View.readCov_fill a7.view _ _ [] _ (by decide)
theorem rd_a0_1 : View.readCov (Val := Elt F) a8.view (sl.HS1_2 (F := F) c (grid0.coords t) a3 w3 a4 w4 a5 w5 a7 a8 x0 x1 x2) (aR 1).toLoadRect = Own.noA := by
  rw [l_a0_1, readCov_skips a8.view aR _ _ _ _ (by intro j hj; exact aR_apart j 1 (by revert j; decide))]
  exact View.readCov_fill a8.view _ _ [] _ (by decide)
theorem l_m0_2 : sl.HS0_3 (F := F) c (grid0.coords t) a3 w3 a4 w4 a7 x0 x1 = ([1, 0] : List (Fin 8)).map (fun h => (⟨mR h, Own.m0 ((grid0.coords t) 2).val x0 x1 h⟩ : Own.PM F)) ++ sl.HS0_1 (F := F) := by
  show ((⟨mR 1, newM0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect)⟩ : Own.PM F) :: sl.HS0_2 (F := F) c (grid0.coords t) a3 w3 a4 w4 a7 x0 x1) = _
  rw [rd_q w3 x0 ![0, 128] _ 1 (by rfl), rd_kg w4 x1 _ _ (512 * ((grid0.coords t) 2).val) 1 (off_k0_1 t), rd_m0_1, l_m0_1]
  rfl
theorem l_a0_2 : sl.HS1_3 (F := F) c (grid0.coords t) a3 w3 a4 w4 a5 w5 a7 a8 x0 x1 x2 = ([1, 0] : List (Fin 8)).map (fun h => (⟨aR h, Own.a0 ((grid0.coords t) 2).val x0 x1 x2 h⟩ : Own.PA F)) ++ sl.HS1_1 (F := F) := by
  show ((⟨aR 1, newA0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect) (View.readAt (Elt F) a5.view (Rect.unit (s := S640x4096) (k0_off10 (grid0.coords t) 0#32) S80x256.size _).toLoadRect (w5.unread x2)) (View.readCov (Val := Elt F) a8.view (sl.HS1_2 (F := F) c (grid0.coords t) a3 w3 a4 w4 a5 w5 a7 a8 x0 x1 x2) (aR 1).toLoadRect)⟩ : Own.PA F) :: sl.HS1_2 (F := F) c (grid0.coords t) a3 w3 a4 w4 a5 w5 a7 a8 x0 x1 x2) = _
  rw [rd_q w3 x0 ![0, 128] _ 1 (by rfl), rd_kg w4 x1 _ _ (512 * ((grid0.coords t) 2).val) 1 (off_k0_1 t), rd_m0_1, rd_vg w5 x2 _ _ (512 * ((grid0.coords t) 2).val) 1 (off_v0_1 t), rd_a0_1, l_a0_1]
  rfl
theorem rd_m0_2 : View.readCov (Val := Elt F) a7.view (sl.HS0_3 (F := F) c (grid0.coords t) a3 w3 a4 w4 a7 x0 x1) (mR 2).toLoadRect = Own.noM := by
  rw [l_m0_2, readCov_skips a7.view mR _ _ _ _ (by intro j hj; exact mR_apart j 2 (by revert j; decide))]
  exact View.readCov_fill a7.view _ _ [] _ (by decide)
theorem rd_a0_2 : View.readCov (Val := Elt F) a8.view (sl.HS1_3 (F := F) c (grid0.coords t) a3 w3 a4 w4 a5 w5 a7 a8 x0 x1 x2) (aR 2).toLoadRect = Own.noA := by
  rw [l_a0_2, readCov_skips a8.view aR _ _ _ _ (by intro j hj; exact aR_apart j 2 (by revert j; decide))]
  exact View.readCov_fill a8.view _ _ [] _ (by decide)
theorem l_m0_3 : sl.HS0_4 (F := F) c (grid0.coords t) a3 w3 a4 w4 a7 x0 x1 = ([2, 1, 0] : List (Fin 8)).map (fun h => (⟨mR h, Own.m0 ((grid0.coords t) 2).val x0 x1 h⟩ : Own.PM F)) ++ sl.HS0_1 (F := F) := by
  show ((⟨mR 2, newM0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect)⟩ : Own.PM F) :: sl.HS0_3 (F := F) c (grid0.coords t) a3 w3 a4 w4 a7 x0 x1) = _
  rw [rd_q w3 x0 ![0, 256] _ 2 (by rfl), rd_kg w4 x1 _ _ (512 * ((grid0.coords t) 2).val) 2 (off_k0_2 t), rd_m0_2, l_m0_2]
  rfl
theorem l_a0_3 : sl.HS1_4 (F := F) c (grid0.coords t) a3 w3 a4 w4 a5 w5 a7 a8 x0 x1 x2 = ([2, 1, 0] : List (Fin 8)).map (fun h => (⟨aR h, Own.a0 ((grid0.coords t) 2).val x0 x1 x2 h⟩ : Own.PA F)) ++ sl.HS1_1 (F := F) := by
  show ((⟨aR 2, newA0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect) (View.readAt (Elt F) a5.view (Rect.unit (s := S640x4096) (k0_off11 (grid0.coords t) 0#32) S80x256.size _).toLoadRect (w5.unread x2)) (View.readCov (Val := Elt F) a8.view (sl.HS1_3 (F := F) c (grid0.coords t) a3 w3 a4 w4 a5 w5 a7 a8 x0 x1 x2) (aR 2).toLoadRect)⟩ : Own.PA F) :: sl.HS1_3 (F := F) c (grid0.coords t) a3 w3 a4 w4 a5 w5 a7 a8 x0 x1 x2) = _
  rw [rd_q w3 x0 ![0, 256] _ 2 (by rfl), rd_kg w4 x1 _ _ (512 * ((grid0.coords t) 2).val) 2 (off_k0_2 t), rd_m0_2, rd_vg w5 x2 _ _ (512 * ((grid0.coords t) 2).val) 2 (off_v0_2 t), rd_a0_2, l_a0_2]
  rfl
theorem rd_m0_3 : View.readCov (Val := Elt F) a7.view (sl.HS0_4 (F := F) c (grid0.coords t) a3 w3 a4 w4 a7 x0 x1) (mR 3).toLoadRect = Own.noM := by
  rw [l_m0_3, readCov_skips a7.view mR _ _ _ _ (by intro j hj; exact mR_apart j 3 (by revert j; decide))]
  exact View.readCov_fill a7.view _ _ [] _ (by decide)
theorem rd_a0_3 : View.readCov (Val := Elt F) a8.view (sl.HS1_4 (F := F) c (grid0.coords t) a3 w3 a4 w4 a5 w5 a7 a8 x0 x1 x2) (aR 3).toLoadRect = Own.noA := by
  rw [l_a0_3, readCov_skips a8.view aR _ _ _ _ (by intro j hj; exact aR_apart j 3 (by revert j; decide))]
  exact View.readCov_fill a8.view _ _ [] _ (by decide)
theorem l_m0_4 : sl.HS0_5 (F := F) c (grid0.coords t) a3 w3 a4 w4 a7 x0 x1 = ([3, 2, 1, 0] : List (Fin 8)).map (fun h => (⟨mR h, Own.m0 ((grid0.coords t) 2).val x0 x1 h⟩ : Own.PM F)) ++ sl.HS0_1 (F := F) := by
  show ((⟨mR 3, newM0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect)⟩ : Own.PM F) :: sl.HS0_4 (F := F) c (grid0.coords t) a3 w3 a4 w4 a7 x0 x1) = _
  rw [rd_q w3 x0 ![0, 384] _ 3 (by rfl), rd_kg w4 x1 _ _ (512 * ((grid0.coords t) 2).val) 3 (off_k0_3 t), rd_m0_3, l_m0_3]
  rfl
theorem l_a0_4 : sl.HS1_5 (F := F) c (grid0.coords t) a3 w3 a4 w4 a5 w5 a7 a8 x0 x1 x2 = ([3, 2, 1, 0] : List (Fin 8)).map (fun h => (⟨aR h, Own.a0 ((grid0.coords t) 2).val x0 x1 x2 h⟩ : Own.PA F)) ++ sl.HS1_1 (F := F) := by
  show ((⟨aR 3, newA0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect) (View.readAt (Elt F) a5.view (Rect.unit (s := S640x4096) (k0_off12 (grid0.coords t) 0#32) S80x256.size _).toLoadRect (w5.unread x2)) (View.readCov (Val := Elt F) a8.view (sl.HS1_4 (F := F) c (grid0.coords t) a3 w3 a4 w4 a5 w5 a7 a8 x0 x1 x2) (aR 3).toLoadRect)⟩ : Own.PA F) :: sl.HS1_4 (F := F) c (grid0.coords t) a3 w3 a4 w4 a5 w5 a7 a8 x0 x1 x2) = _
  rw [rd_q w3 x0 ![0, 384] _ 3 (by rfl), rd_kg w4 x1 _ _ (512 * ((grid0.coords t) 2).val) 3 (off_k0_3 t), rd_m0_3, rd_vg w5 x2 _ _ (512 * ((grid0.coords t) 2).val) 3 (off_v0_3 t), rd_a0_3, l_a0_3]
  rfl
theorem rd_m0_4 : View.readCov (Val := Elt F) a7.view (sl.HS0_5 (F := F) c (grid0.coords t) a3 w3 a4 w4 a7 x0 x1) (mR 4).toLoadRect = Own.noM := by
  rw [l_m0_4, readCov_skips a7.view mR _ _ _ _ (by intro j hj; exact mR_apart j 4 (by revert j; decide))]
  exact View.readCov_fill a7.view _ _ [] _ (by decide)
theorem rd_a0_4 : View.readCov (Val := Elt F) a8.view (sl.HS1_5 (F := F) c (grid0.coords t) a3 w3 a4 w4 a5 w5 a7 a8 x0 x1 x2) (aR 4).toLoadRect = Own.noA := by
  rw [l_a0_4, readCov_skips a8.view aR _ _ _ _ (by intro j hj; exact aR_apart j 4 (by revert j; decide))]
  exact View.readCov_fill a8.view _ _ [] _ (by decide)
theorem l_m0_5 : sl.HS0_6 (F := F) c (grid0.coords t) a3 w3 a4 w4 a7 x0 x1 = ([4, 3, 2, 1, 0] : List (Fin 8)).map (fun h => (⟨mR h, Own.m0 ((grid0.coords t) 2).val x0 x1 h⟩ : Own.PM F)) ++ sl.HS0_1 (F := F) := by
  show ((⟨mR 4, newM0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect)⟩ : Own.PM F) :: sl.HS0_5 (F := F) c (grid0.coords t) a3 w3 a4 w4 a7 x0 x1) = _
  rw [rd_q w3 x0 ![0, 512] _ 4 (by rfl), rd_kg w4 x1 _ _ (512 * ((grid0.coords t) 2).val) 4 (off_k0_4 t), rd_m0_4, l_m0_4]
  rfl
theorem l_a0_5 : sl.HS1_6 (F := F) c (grid0.coords t) a3 w3 a4 w4 a5 w5 a7 a8 x0 x1 x2 = ([4, 3, 2, 1, 0] : List (Fin 8)).map (fun h => (⟨aR h, Own.a0 ((grid0.coords t) 2).val x0 x1 x2 h⟩ : Own.PA F)) ++ sl.HS1_1 (F := F) := by
  show ((⟨aR 4, newA0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect) (View.readAt (Elt F) a5.view (Rect.unit (s := S640x4096) (k0_off13 (grid0.coords t) 0#32) S80x256.size _).toLoadRect (w5.unread x2)) (View.readCov (Val := Elt F) a8.view (sl.HS1_5 (F := F) c (grid0.coords t) a3 w3 a4 w4 a5 w5 a7 a8 x0 x1 x2) (aR 4).toLoadRect)⟩ : Own.PA F) :: sl.HS1_5 (F := F) c (grid0.coords t) a3 w3 a4 w4 a5 w5 a7 a8 x0 x1 x2) = _
  rw [rd_q w3 x0 ![0, 512] _ 4 (by rfl), rd_kg w4 x1 _ _ (512 * ((grid0.coords t) 2).val) 4 (off_k0_4 t), rd_m0_4, rd_vg w5 x2 _ _ (512 * ((grid0.coords t) 2).val) 4 (off_v0_4 t), rd_a0_4, l_a0_4]
  rfl
theorem rd_m0_5 : View.readCov (Val := Elt F) a7.view (sl.HS0_6 (F := F) c (grid0.coords t) a3 w3 a4 w4 a7 x0 x1) (mR 5).toLoadRect = Own.noM := by
  rw [l_m0_5, readCov_skips a7.view mR _ _ _ _ (by intro j hj; exact mR_apart j 5 (by revert j; decide))]
  exact View.readCov_fill a7.view _ _ [] _ (by decide)
theorem rd_a0_5 : View.readCov (Val := Elt F) a8.view (sl.HS1_6 (F := F) c (grid0.coords t) a3 w3 a4 w4 a5 w5 a7 a8 x0 x1 x2) (aR 5).toLoadRect = Own.noA := by
  rw [l_a0_5, readCov_skips a8.view aR _ _ _ _ (by intro j hj; exact aR_apart j 5 (by revert j; decide))]
  exact View.readCov_fill a8.view _ _ [] _ (by decide)
theorem l_m0_6 : sl.HS0_7 (F := F) c (grid0.coords t) a3 w3 a4 w4 a7 x0 x1 = ([5, 4, 3, 2, 1, 0] : List (Fin 8)).map (fun h => (⟨mR h, Own.m0 ((grid0.coords t) 2).val x0 x1 h⟩ : Own.PM F)) ++ sl.HS0_1 (F := F) := by
  show ((⟨mR 5, newM0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect)⟩ : Own.PM F) :: sl.HS0_6 (F := F) c (grid0.coords t) a3 w3 a4 w4 a7 x0 x1) = _
  rw [rd_q w3 x0 ![0, 640] _ 5 (by rfl), rd_kg w4 x1 _ _ (512 * ((grid0.coords t) 2).val) 5 (off_k0_5 t), rd_m0_5, l_m0_5]
  rfl
theorem l_a0_6 : sl.HS1_7 (F := F) c (grid0.coords t) a3 w3 a4 w4 a5 w5 a7 a8 x0 x1 x2 = ([5, 4, 3, 2, 1, 0] : List (Fin 8)).map (fun h => (⟨aR h, Own.a0 ((grid0.coords t) 2).val x0 x1 x2 h⟩ : Own.PA F)) ++ sl.HS1_1 (F := F) := by
  show ((⟨aR 5, newA0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect) (View.readAt (Elt F) a5.view (Rect.unit (s := S640x4096) (k0_off14 (grid0.coords t) 0#32) S80x256.size _).toLoadRect (w5.unread x2)) (View.readCov (Val := Elt F) a8.view (sl.HS1_6 (F := F) c (grid0.coords t) a3 w3 a4 w4 a5 w5 a7 a8 x0 x1 x2) (aR 5).toLoadRect)⟩ : Own.PA F) :: sl.HS1_6 (F := F) c (grid0.coords t) a3 w3 a4 w4 a5 w5 a7 a8 x0 x1 x2) = _
  rw [rd_q w3 x0 ![0, 640] _ 5 (by rfl), rd_kg w4 x1 _ _ (512 * ((grid0.coords t) 2).val) 5 (off_k0_5 t), rd_m0_5, rd_vg w5 x2 _ _ (512 * ((grid0.coords t) 2).val) 5 (off_v0_5 t), rd_a0_5, l_a0_5]
  rfl
theorem rd_m0_6 : View.readCov (Val := Elt F) a7.view (sl.HS0_7 (F := F) c (grid0.coords t) a3 w3 a4 w4 a7 x0 x1) (mR 6).toLoadRect = Own.noM := by
  rw [l_m0_6, readCov_skips a7.view mR _ _ _ _ (by intro j hj; exact mR_apart j 6 (by revert j; decide))]
  exact View.readCov_fill a7.view _ _ [] _ (by decide)
theorem rd_a0_6 : View.readCov (Val := Elt F) a8.view (sl.HS1_7 (F := F) c (grid0.coords t) a3 w3 a4 w4 a5 w5 a7 a8 x0 x1 x2) (aR 6).toLoadRect = Own.noA := by
  rw [l_a0_6, readCov_skips a8.view aR _ _ _ _ (by intro j hj; exact aR_apart j 6 (by revert j; decide))]
  exact View.readCov_fill a8.view _ _ [] _ (by decide)
theorem l_m0_7 : sl.HS0_8 (F := F) c (grid0.coords t) a3 w3 a4 w4 a7 x0 x1 = ([6, 5, 4, 3, 2, 1, 0] : List (Fin 8)).map (fun h => (⟨mR h, Own.m0 ((grid0.coords t) 2).val x0 x1 h⟩ : Own.PM F)) ++ sl.HS0_1 (F := F) := by
  show ((⟨mR 6, newM0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect)⟩ : Own.PM F) :: sl.HS0_7 (F := F) c (grid0.coords t) a3 w3 a4 w4 a7 x0 x1) = _
  rw [rd_q w3 x0 ![0, 768] _ 6 (by rfl), rd_kg w4 x1 _ _ (512 * ((grid0.coords t) 2).val) 6 (off_k0_6 t), rd_m0_6, l_m0_6]
  rfl
theorem l_a0_7 : sl.HS1_8 (F := F) c (grid0.coords t) a3 w3 a4 w4 a5 w5 a7 a8 x0 x1 x2 = ([6, 5, 4, 3, 2, 1, 0] : List (Fin 8)).map (fun h => (⟨aR h, Own.a0 ((grid0.coords t) 2).val x0 x1 x2 h⟩ : Own.PA F)) ++ sl.HS1_1 (F := F) := by
  show ((⟨aR 6, newA0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect) (View.readAt (Elt F) a5.view (Rect.unit (s := S640x4096) (k0_off15 (grid0.coords t) 0#32) S80x256.size _).toLoadRect (w5.unread x2)) (View.readCov (Val := Elt F) a8.view (sl.HS1_7 (F := F) c (grid0.coords t) a3 w3 a4 w4 a5 w5 a7 a8 x0 x1 x2) (aR 6).toLoadRect)⟩ : Own.PA F) :: sl.HS1_7 (F := F) c (grid0.coords t) a3 w3 a4 w4 a5 w5 a7 a8 x0 x1 x2) = _
  rw [rd_q w3 x0 ![0, 768] _ 6 (by rfl), rd_kg w4 x1 _ _ (512 * ((grid0.coords t) 2).val) 6 (off_k0_6 t), rd_m0_6, rd_vg w5 x2 _ _ (512 * ((grid0.coords t) 2).val) 6 (off_v0_6 t), rd_a0_6, l_a0_6]
  rfl
theorem rd_m0_7 : View.readCov (Val := Elt F) a7.view (sl.HS0_8 (F := F) c (grid0.coords t) a3 w3 a4 w4 a7 x0 x1) (mR 7).toLoadRect = Own.noM := by
  rw [l_m0_7, readCov_skips a7.view mR _ _ _ _ (by intro j hj; exact mR_apart j 7 (by revert j; decide))]
  exact View.readCov_fill a7.view _ _ [] _ (by decide)
theorem rd_a0_7 : View.readCov (Val := Elt F) a8.view (sl.HS1_8 (F := F) c (grid0.coords t) a3 w3 a4 w4 a5 w5 a7 a8 x0 x1 x2) (aR 7).toLoadRect = Own.noA := by
  rw [l_a0_7, readCov_skips a8.view aR _ _ _ _ (by intro j hj; exact aR_apart j 7 (by revert j; decide))]
  exact View.readCov_fill a8.view _ _ [] _ (by decide)
theorem l_m0_8 : sl.HS0_9 (F := F) c (grid0.coords t) a3 w3 a4 w4 a7 x0 x1 = heads.map (fun h => (⟨mR h, Own.m0 ((grid0.coords t) 2).val x0 x1 h⟩ : Own.PM F)) ++ sl.HS0_1 (F := F) := by
  show ((⟨mR 7, newM0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect)⟩ : Own.PM F) :: sl.HS0_8 (F := F) c (grid0.coords t) a3 w3 a4 w4 a7 x0 x1) = _
  rw [rd_q w3 x0 ![0, 896] _ 7 (by rfl), rd_kg w4 x1 _ _ (512 * ((grid0.coords t) 2).val) 7 (off_k0_7 t), rd_m0_7, l_m0_7]
  rfl
theorem l_a0_8 : sl.HS1_9 (F := F) c (grid0.coords t) a3 w3 a4 w4 a5 w5 a7 a8 x0 x1 x2 = heads.map (fun h => (⟨aR h, Own.a0 ((grid0.coords t) 2).val x0 x1 x2 h⟩ : Own.PA F)) ++ sl.HS1_1 (F := F) := by
  show ((⟨aR 7, newA0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect) (View.readAt (Elt F) a5.view (Rect.unit (s := S640x4096) (k0_off16 (grid0.coords t) 0#32) S80x256.size _).toLoadRect (w5.unread x2)) (View.readCov (Val := Elt F) a8.view (sl.HS1_8 (F := F) c (grid0.coords t) a3 w3 a4 w4 a5 w5 a7 a8 x0 x1 x2) (aR 7).toLoadRect)⟩ : Own.PA F) :: sl.HS1_8 (F := F) c (grid0.coords t) a3 w3 a4 w4 a5 w5 a7 a8 x0 x1 x2) = _
  rw [rd_q w3 x0 ![0, 896] _ 7 (by rfl), rd_kg w4 x1 _ _ (512 * ((grid0.coords t) 2).val) 7 (off_k0_7 t), rd_m0_7, rd_vg w5 x2 _ _ (512 * ((grid0.coords t) 2).val) 7 (off_v0_7 t), rd_a0_7, l_a0_7]
  rfl
theorem w_s1_4 : sl.r_93 (F := F) c (grid0.coords t) a3 w3 a4 w4 x0 x1 = Own.s1 ((grid0.coords t) 2).val x0 x1 4 := by
  have e : sl.r_93 (F := F) c (grid0.coords t) a3 w3 a4 w4 x0 x1 = (own1 (BitVec.ofNat 32 ((grid0.coords t) 2).val) (View.readAt (Elt F) a3.view (Rect.unit (s := S512x1024) ![0, 512] S512x128.size inb_S512x1024_S512x128_0_512).toLoadRect (w3.unread x0)) (View.readAt (Elt F) a4.view (Rect.unit (s := S4096x1024) (k0_off5 (grid0.coords t) 256#32) S256x128.size (by exact k0_off5_inb _ 1)).toLoadRect (w4.unread x1))) := by
    unfold sl.r_93 k0_pay483 own1
    refine congrArg₂ (fun a b => select a b _) (congrArg₂ (cmpi .sle) ?_ ?_) ?_
    · show sl.r_92 _ = _
      unfold sl.r_92 k0_pay482
      rfl
    · rfl
    · rfl
  rw [e, rd_q w3 x0 ![0, 512] _ 4 (by rfl), rd_kg w4 x1 _ _ (512 * ((grid0.coords t) 2).val + 256) 4 (off_k1_4 t)]
  rfl
theorem w_s1_7 : sl.r_117 (F := F) c (grid0.coords t) a3 w3 a4 w4 x0 x1 = Own.s1 ((grid0.coords t) 2).val x0 x1 7 := by
  have e : sl.r_117 (F := F) c (grid0.coords t) a3 w3 a4 w4 x0 x1 = (own1 (BitVec.ofNat 32 ((grid0.coords t) 2).val) (View.readAt (Elt F) a3.view (Rect.unit (s := S512x1024) ![0, 896] S512x128.size inb_S512x1024_S512x128_0_896).toLoadRect (w3.unread x0)) (View.readAt (Elt F) a4.view (Rect.unit (s := S4096x1024) (k0_off8 (grid0.coords t) 256#32) S256x128.size (by exact k0_off8_inb _ 1)).toLoadRect (w4.unread x1))) := by
    unfold sl.r_117 k0_pay520 own1
    refine congrArg₂ (fun a b => select a b _) (congrArg₂ (cmpi .sle) ?_ ?_) ?_
    · show sl.r_116 _ = _
      unfold sl.r_116 k0_pay519
      rfl
    · rfl
    · rfl
  rw [e, rd_q w3 x0 ![0, 896] _ 7 (by rfl), rd_kg w4 x1 _ _ (512 * ((grid0.coords t) 2).val + 256) 7 (off_k1_7 t)]
  rfl
theorem l_m1_0 : sl.HS0_9 (F := F) c (grid0.coords t) a3 w3 a4 w4 a7 x0 x1 = ([] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by rw [l_m0_8]; rfl
theorem l_a1_0 : sl.HS1_9 (F := F) c (grid0.coords t) a3 w3 a4 w4 a5 w5 a7 a8 x0 x1 x2 = ([] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by rw [l_a0_8]; rfl
theorem rd_m1_0 : View.readCov (Val := Elt F) a7.view (sl.HS0_9 (F := F) c (grid0.coords t) a3 w3 a4 w4 a7 x0 x1) (mH 0).toLoadRect = Own.lateM (Own.m0 ((grid0.coords t) 2).val x0 x1 0) := by
  rw [l_m1_0, readCov_skips a7.view mH _ _ _ _ (by intro j hj; exact absurd hj (by simp))]
  exact Own.late_m a7.view _ _ 0
theorem rd_a1_0 : View.readCov (Val := Elt F) a8.view (sl.HS1_9 (F := F) c (grid0.coords t) a3 w3 a4 w4 a5 w5 a7 a8 x0 x1 x2) (aH 0).toLoadRect = Own.lateA (Own.a0 ((grid0.coords t) 2).val x0 x1 x2 0) := by
  rw [l_a1_0, readCov_skips a8.view aH _ _ _ _ (by intro j hj; exact absurd hj (by simp))]
  exact Own.late_a a8.view _ _ 0
theorem l_m1_1 : sl.HS0_10 (F := F) c (grid0.coords t) a3 w3 a4 w4 a7 x0 x1 = ([0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 0, newM1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect)⟩ : Own.PM F) :: sl.HS0_9 (F := F) c (grid0.coords t) a3 w3 a4 w4 a7 x0 x1) = _
  rw [rd_q w3 x0 ![0, 0] _ 0 (by rfl), rd_kg w4 x1 _ _ (512 * ((grid0.coords t) 2).val + 256) 0 (off_k1_0 t), rd_m1_0, l_m1_0]
  rfl
theorem l_a1_1 : sl.HS1_10 (F := F) c (grid0.coords t) a3 w3 a4 w4 a5 w5 a7 a8 x0 x1 x2 = ([0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 0, newA1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect) (View.readAt (Elt F) a5.view (Rect.unit (s := S640x4096) (k0_off9 (grid0.coords t) 256#32) S80x256.size _).toLoadRect (w5.unread x2)) (View.readCov (Val := Elt F) a8.view (sl.HS1_9 (F := F) c (grid0.coords t) a3 w3 a4 w4 a5 w5 a7 a8 x0 x1 x2) (aH 0).toLoadRect)⟩ : Own.PA F) :: sl.HS1_9 (F := F) c (grid0.coords t) a3 w3 a4 w4 a5 w5 a7 a8 x0 x1 x2) = _
  rw [rd_q w3 x0 ![0, 0] _ 0 (by rfl), rd_kg w4 x1 _ _ (512 * ((grid0.coords t) 2).val + 256) 0 (off_k1_0 t), rd_m1_0, rd_vg w5 x2 _ _ (512 * ((grid0.coords t) 2).val + 256) 0 (off_v1_0 t), rd_a1_0, l_a1_0]
  rfl
theorem rd_m1_1 : View.readCov (Val := Elt F) a7.view (sl.HS0_10 (F := F) c (grid0.coords t) a3 w3 a4 w4 a7 x0 x1) (mH 1).toLoadRect = Own.lateM (Own.m0 ((grid0.coords t) 2).val x0 x1 1) := by
  rw [l_m1_1, readCov_skips a7.view mH _ _ _ _ (by intro j hj; exact mH_apart j 1 (by revert j; decide))]
  exact Own.late_m a7.view _ _ 1
theorem rd_a1_1 : View.readCov (Val := Elt F) a8.view (sl.HS1_10 (F := F) c (grid0.coords t) a3 w3 a4 w4 a5 w5 a7 a8 x0 x1 x2) (aH 1).toLoadRect = Own.lateA (Own.a0 ((grid0.coords t) 2).val x0 x1 x2 1) := by
  rw [l_a1_1, readCov_skips a8.view aH _ _ _ _ (by intro j hj; exact aH_apart j 1 (by revert j; decide))]
  exact Own.late_a a8.view _ _ 1
theorem l_m1_2 : sl.HS0_11 (F := F) c (grid0.coords t) a3 w3 a4 w4 a7 x0 x1 = ([1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 1, newM1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect)⟩ : Own.PM F) :: sl.HS0_10 (F := F) c (grid0.coords t) a3 w3 a4 w4 a7 x0 x1) = _
  rw [rd_q w3 x0 ![0, 128] _ 1 (by rfl), rd_kg w4 x1 _ _ (512 * ((grid0.coords t) 2).val + 256) 1 (off_k1_1 t), rd_m1_1, l_m1_1]
  rfl
theorem l_a1_2 : sl.HS1_11 (F := F) c (grid0.coords t) a3 w3 a4 w4 a5 w5 a7 a8 x0 x1 x2 = ([1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 1, newA1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect) (View.readAt (Elt F) a5.view (Rect.unit (s := S640x4096) (k0_off10 (grid0.coords t) 256#32) S80x256.size _).toLoadRect (w5.unread x2)) (View.readCov (Val := Elt F) a8.view (sl.HS1_10 (F := F) c (grid0.coords t) a3 w3 a4 w4 a5 w5 a7 a8 x0 x1 x2) (aH 1).toLoadRect)⟩ : Own.PA F) :: sl.HS1_10 (F := F) c (grid0.coords t) a3 w3 a4 w4 a5 w5 a7 a8 x0 x1 x2) = _
  rw [rd_q w3 x0 ![0, 128] _ 1 (by rfl), rd_kg w4 x1 _ _ (512 * ((grid0.coords t) 2).val + 256) 1 (off_k1_1 t), rd_m1_1, rd_vg w5 x2 _ _ (512 * ((grid0.coords t) 2).val + 256) 1 (off_v1_1 t), rd_a1_1, l_a1_1]
  rfl
theorem rd_m1_2 : View.readCov (Val := Elt F) a7.view (sl.HS0_11 (F := F) c (grid0.coords t) a3 w3 a4 w4 a7 x0 x1) (mH 2).toLoadRect = Own.lateM (Own.m0 ((grid0.coords t) 2).val x0 x1 2) := by
  rw [l_m1_2, readCov_skips a7.view mH _ _ _ _ (by intro j hj; exact mH_apart j 2 (by revert j; decide))]
  exact Own.late_m a7.view _ _ 2
theorem rd_a1_2 : View.readCov (Val := Elt F) a8.view (sl.HS1_11 (F := F) c (grid0.coords t) a3 w3 a4 w4 a5 w5 a7 a8 x0 x1 x2) (aH 2).toLoadRect = Own.lateA (Own.a0 ((grid0.coords t) 2).val x0 x1 x2 2) := by
  rw [l_a1_2, readCov_skips a8.view aH _ _ _ _ (by intro j hj; exact aH_apart j 2 (by revert j; decide))]
  exact Own.late_a a8.view _ _ 2
theorem l_m1_3 : sl.HS0_12 (F := F) c (grid0.coords t) a3 w3 a4 w4 a7 x0 x1 = ([2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 2, newM1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect)⟩ : Own.PM F) :: sl.HS0_11 (F := F) c (grid0.coords t) a3 w3 a4 w4 a7 x0 x1) = _
  rw [rd_q w3 x0 ![0, 256] _ 2 (by rfl), rd_kg w4 x1 _ _ (512 * ((grid0.coords t) 2).val + 256) 2 (off_k1_2 t), rd_m1_2, l_m1_2]
  rfl
theorem l_a1_3 : sl.HS1_12 (F := F) c (grid0.coords t) a3 w3 a4 w4 a5 w5 a7 a8 x0 x1 x2 = ([2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 2, newA1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect) (View.readAt (Elt F) a5.view (Rect.unit (s := S640x4096) (k0_off11 (grid0.coords t) 256#32) S80x256.size _).toLoadRect (w5.unread x2)) (View.readCov (Val := Elt F) a8.view (sl.HS1_11 (F := F) c (grid0.coords t) a3 w3 a4 w4 a5 w5 a7 a8 x0 x1 x2) (aH 2).toLoadRect)⟩ : Own.PA F) :: sl.HS1_11 (F := F) c (grid0.coords t) a3 w3 a4 w4 a5 w5 a7 a8 x0 x1 x2) = _
  rw [rd_q w3 x0 ![0, 256] _ 2 (by rfl), rd_kg w4 x1 _ _ (512 * ((grid0.coords t) 2).val + 256) 2 (off_k1_2 t), rd_m1_2, rd_vg w5 x2 _ _ (512 * ((grid0.coords t) 2).val + 256) 2 (off_v1_2 t), rd_a1_2, l_a1_2]
  rfl
theorem rd_m1_3 : View.readCov (Val := Elt F) a7.view (sl.HS0_12 (F := F) c (grid0.coords t) a3 w3 a4 w4 a7 x0 x1) (mH 3).toLoadRect = Own.lateM (Own.m0 ((grid0.coords t) 2).val x0 x1 3) := by
  rw [l_m1_3, readCov_skips a7.view mH _ _ _ _ (by intro j hj; exact mH_apart j 3 (by revert j; decide))]
  exact Own.late_m a7.view _ _ 3
theorem rd_a1_3 : View.readCov (Val := Elt F) a8.view (sl.HS1_12 (F := F) c (grid0.coords t) a3 w3 a4 w4 a5 w5 a7 a8 x0 x1 x2) (aH 3).toLoadRect = Own.lateA (Own.a0 ((grid0.coords t) 2).val x0 x1 x2 3) := by
  rw [l_a1_3, readCov_skips a8.view aH _ _ _ _ (by intro j hj; exact aH_apart j 3 (by revert j; decide))]
  exact Own.late_a a8.view _ _ 3
theorem l_m1_4 : sl.HS0_13 (F := F) c (grid0.coords t) a3 w3 a4 w4 a7 x0 x1 = ([3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 3, newM1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect)⟩ : Own.PM F) :: sl.HS0_12 (F := F) c (grid0.coords t) a3 w3 a4 w4 a7 x0 x1) = _
  rw [rd_q w3 x0 ![0, 384] _ 3 (by rfl), rd_kg w4 x1 _ _ (512 * ((grid0.coords t) 2).val + 256) 3 (off_k1_3 t), rd_m1_3, l_m1_3]
  rfl
theorem l_a1_4 : sl.HS1_13 (F := F) c (grid0.coords t) a3 w3 a4 w4 a5 w5 a7 a8 x0 x1 x2 = ([3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 3, newA1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect) (View.readAt (Elt F) a5.view (Rect.unit (s := S640x4096) (k0_off12 (grid0.coords t) 256#32) S80x256.size _).toLoadRect (w5.unread x2)) (View.readCov (Val := Elt F) a8.view (sl.HS1_12 (F := F) c (grid0.coords t) a3 w3 a4 w4 a5 w5 a7 a8 x0 x1 x2) (aH 3).toLoadRect)⟩ : Own.PA F) :: sl.HS1_12 (F := F) c (grid0.coords t) a3 w3 a4 w4 a5 w5 a7 a8 x0 x1 x2) = _
  rw [rd_q w3 x0 ![0, 384] _ 3 (by rfl), rd_kg w4 x1 _ _ (512 * ((grid0.coords t) 2).val + 256) 3 (off_k1_3 t), rd_m1_3, rd_vg w5 x2 _ _ (512 * ((grid0.coords t) 2).val + 256) 3 (off_v1_3 t), rd_a1_3, l_a1_3]
  rfl
theorem rd_m1_4 : View.readCov (Val := Elt F) a7.view (sl.HS0_13 (F := F) c (grid0.coords t) a3 w3 a4 w4 a7 x0 x1) (mH 4).toLoadRect = Own.lateM (Own.m0 ((grid0.coords t) 2).val x0 x1 4) := by
  rw [l_m1_4, readCov_skips a7.view mH _ _ _ _ (by intro j hj; exact mH_apart j 4 (by revert j; decide))]
  exact Own.late_m a7.view _ _ 4
theorem rd_a1_4 : View.readCov (Val := Elt F) a8.view (sl.HS1_13 (F := F) c (grid0.coords t) a3 w3 a4 w4 a5 w5 a7 a8 x0 x1 x2) (aH 4).toLoadRect = Own.lateA (Own.a0 ((grid0.coords t) 2).val x0 x1 x2 4) := by
  rw [l_a1_4, readCov_skips a8.view aH _ _ _ _ (by intro j hj; exact aH_apart j 4 (by revert j; decide))]
  exact Own.late_a a8.view _ _ 4
theorem l_m1_5 : sl.HS0_14 (F := F) c (grid0.coords t) a3 w3 a4 w4 a7 x0 x1 = ([4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 4, newM1 (sl.r_93 (F := F) c (grid0.coords t) a3 w3 a4 w4 x0 x1) (View.readCov (Val := Elt F) a7.view (sl.HS0_13 (F := F) c (grid0.coords t) a3 w3 a4 w4 a7 x0 x1) (mH 4).toLoadRect)⟩ : Own.PM F) :: sl.HS0_13 (F := F) c (grid0.coords t) a3 w3 a4 w4 a7 x0 x1) = _
  rw [w_s1_4, rd_m1_4, l_m1_4]
  rfl
theorem l_a1_5 : sl.HS1_14 (F := F) c (grid0.coords t) a3 w3 a4 w4 a5 w5 a7 a8 x0 x1 x2 = ([4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 4, newA1 (sl.r_93 (F := F) c (grid0.coords t) a3 w3 a4 w4 x0 x1) (View.readCov (Val := Elt F) a7.view (sl.HS0_13 (F := F) c (grid0.coords t) a3 w3 a4 w4 a7 x0 x1) (mH 4).toLoadRect) (View.readAt (Elt F) a5.view (Rect.unit (s := S640x4096) (k0_off13 (grid0.coords t) 256#32) S80x256.size _).toLoadRect (w5.unread x2)) (View.readCov (Val := Elt F) a8.view (sl.HS1_13 (F := F) c (grid0.coords t) a3 w3 a4 w4 a5 w5 a7 a8 x0 x1 x2) (aH 4).toLoadRect)⟩ : Own.PA F) :: sl.HS1_13 (F := F) c (grid0.coords t) a3 w3 a4 w4 a5 w5 a7 a8 x0 x1 x2) = _
  rw [w_s1_4, rd_m1_4, rd_vg w5 x2 _ _ (512 * ((grid0.coords t) 2).val + 256) 4 (off_v1_4 t), rd_a1_4, l_a1_4]
  rfl
theorem rd_m1_5 : View.readCov (Val := Elt F) a7.view (sl.HS0_14 (F := F) c (grid0.coords t) a3 w3 a4 w4 a7 x0 x1) (mH 5).toLoadRect = Own.lateM (Own.m0 ((grid0.coords t) 2).val x0 x1 5) := by
  rw [l_m1_5, readCov_skips a7.view mH _ _ _ _ (by intro j hj; exact mH_apart j 5 (by revert j; decide))]
  exact Own.late_m a7.view _ _ 5
theorem rd_a1_5 : View.readCov (Val := Elt F) a8.view (sl.HS1_14 (F := F) c (grid0.coords t) a3 w3 a4 w4 a5 w5 a7 a8 x0 x1 x2) (aH 5).toLoadRect = Own.lateA (Own.a0 ((grid0.coords t) 2).val x0 x1 x2 5) := by
  rw [l_a1_5, readCov_skips a8.view aH _ _ _ _ (by intro j hj; exact aH_apart j 5 (by revert j; decide))]
  exact Own.late_a a8.view _ _ 5
theorem l_m1_6 : sl.HS0_15 (F := F) c (grid0.coords t) a3 w3 a4 w4 a7 x0 x1 = ([5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 5, newM1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect)⟩ : Own.PM F) :: sl.HS0_14 (F := F) c (grid0.coords t) a3 w3 a4 w4 a7 x0 x1) = _
  rw [rd_q w3 x0 ![0, 640] _ 5 (by rfl), rd_kg w4 x1 _ _ (512 * ((grid0.coords t) 2).val + 256) 5 (off_k1_5 t), rd_m1_5, l_m1_5]
  rfl
theorem l_a1_6 : sl.HS1_15 (F := F) c (grid0.coords t) a3 w3 a4 w4 a5 w5 a7 a8 x0 x1 x2 = ([5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 5, newA1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect) (View.readAt (Elt F) a5.view (Rect.unit (s := S640x4096) (k0_off14 (grid0.coords t) 256#32) S80x256.size _).toLoadRect (w5.unread x2)) (View.readCov (Val := Elt F) a8.view (sl.HS1_14 (F := F) c (grid0.coords t) a3 w3 a4 w4 a5 w5 a7 a8 x0 x1 x2) (aH 5).toLoadRect)⟩ : Own.PA F) :: sl.HS1_14 (F := F) c (grid0.coords t) a3 w3 a4 w4 a5 w5 a7 a8 x0 x1 x2) = _
  rw [rd_q w3 x0 ![0, 640] _ 5 (by rfl), rd_kg w4 x1 _ _ (512 * ((grid0.coords t) 2).val + 256) 5 (off_k1_5 t), rd_m1_5, rd_vg w5 x2 _ _ (512 * ((grid0.coords t) 2).val + 256) 5 (off_v1_5 t), rd_a1_5, l_a1_5]
  rfl
theorem rd_m1_6 : View.readCov (Val := Elt F) a7.view (sl.HS0_15 (F := F) c (grid0.coords t) a3 w3 a4 w4 a7 x0 x1) (mH 6).toLoadRect = Own.lateM (Own.m0 ((grid0.coords t) 2).val x0 x1 6) := by
  rw [l_m1_6, readCov_skips a7.view mH _ _ _ _ (by intro j hj; exact mH_apart j 6 (by revert j; decide))]
  exact Own.late_m a7.view _ _ 6
theorem rd_a1_6 : View.readCov (Val := Elt F) a8.view (sl.HS1_15 (F := F) c (grid0.coords t) a3 w3 a4 w4 a5 w5 a7 a8 x0 x1 x2) (aH 6).toLoadRect = Own.lateA (Own.a0 ((grid0.coords t) 2).val x0 x1 x2 6) := by
  rw [l_a1_6, readCov_skips a8.view aH _ _ _ _ (by intro j hj; exact aH_apart j 6 (by revert j; decide))]
  exact Own.late_a a8.view _ _ 6
theorem l_m1_7 : sl.HS0_16 (F := F) c (grid0.coords t) a3 w3 a4 w4 a7 x0 x1 = ([6, 5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 6, newM1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect)⟩ : Own.PM F) :: sl.HS0_15 (F := F) c (grid0.coords t) a3 w3 a4 w4 a7 x0 x1) = _
  rw [rd_q w3 x0 ![0, 768] _ 6 (by rfl), rd_kg w4 x1 _ _ (512 * ((grid0.coords t) 2).val + 256) 6 (off_k1_6 t), rd_m1_6, l_m1_6]
  rfl
theorem l_a1_7 : sl.HS1_16 (F := F) c (grid0.coords t) a3 w3 a4 w4 a5 w5 a7 a8 x0 x1 x2 = ([6, 5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 6, newA1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect) (View.readAt (Elt F) a5.view (Rect.unit (s := S640x4096) (k0_off15 (grid0.coords t) 256#32) S80x256.size _).toLoadRect (w5.unread x2)) (View.readCov (Val := Elt F) a8.view (sl.HS1_15 (F := F) c (grid0.coords t) a3 w3 a4 w4 a5 w5 a7 a8 x0 x1 x2) (aH 6).toLoadRect)⟩ : Own.PA F) :: sl.HS1_15 (F := F) c (grid0.coords t) a3 w3 a4 w4 a5 w5 a7 a8 x0 x1 x2) = _
  rw [rd_q w3 x0 ![0, 768] _ 6 (by rfl), rd_kg w4 x1 _ _ (512 * ((grid0.coords t) 2).val + 256) 6 (off_k1_6 t), rd_m1_6, rd_vg w5 x2 _ _ (512 * ((grid0.coords t) 2).val + 256) 6 (off_v1_6 t), rd_a1_6, l_a1_6]
  rfl
theorem rd_m1_7 : View.readCov (Val := Elt F) a7.view (sl.HS0_16 (F := F) c (grid0.coords t) a3 w3 a4 w4 a7 x0 x1) (mH 7).toLoadRect = Own.lateM (Own.m0 ((grid0.coords t) 2).val x0 x1 7) := by
  rw [l_m1_7, readCov_skips a7.view mH _ _ _ _ (by intro j hj; exact mH_apart j 7 (by revert j; decide))]
  exact Own.late_m a7.view _ _ 7
theorem rd_a1_7 : View.readCov (Val := Elt F) a8.view (sl.HS1_16 (F := F) c (grid0.coords t) a3 w3 a4 w4 a5 w5 a7 a8 x0 x1 x2) (aH 7).toLoadRect = Own.lateA (Own.a0 ((grid0.coords t) 2).val x0 x1 x2 7) := by
  rw [l_a1_7, readCov_skips a8.view aH _ _ _ _ (by intro j hj; exact aH_apart j 7 (by revert j; decide))]
  exact Own.late_a a8.view _ _ 7
theorem l_m1_8 : sl.HS0_17 (F := F) c (grid0.coords t) a3 w3 a4 w4 a7 x0 x1 = heads.map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 7, newM1 (sl.r_117 (F := F) c (grid0.coords t) a3 w3 a4 w4 x0 x1) (View.readCov (Val := Elt F) a7.view (sl.HS0_16 (F := F) c (grid0.coords t) a3 w3 a4 w4 a7 x0 x1) (mH 7).toLoadRect)⟩ : Own.PM F) :: sl.HS0_16 (F := F) c (grid0.coords t) a3 w3 a4 w4 a7 x0 x1) = _
  rw [w_s1_7, rd_m1_7, l_m1_7]
  rfl
theorem l_a1_8 : sl.HS1_17 (F := F) c (grid0.coords t) a3 w3 a4 w4 a5 w5 a7 a8 x0 x1 x2 = heads.map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 7, newA1 (sl.r_117 (F := F) c (grid0.coords t) a3 w3 a4 w4 x0 x1) (View.readCov (Val := Elt F) a7.view (sl.HS0_16 (F := F) c (grid0.coords t) a3 w3 a4 w4 a7 x0 x1) (mH 7).toLoadRect) (View.readAt (Elt F) a5.view (Rect.unit (s := S640x4096) (k0_off16 (grid0.coords t) 256#32) S80x256.size _).toLoadRect (w5.unread x2)) (View.readCov (Val := Elt F) a8.view (sl.HS1_16 (F := F) c (grid0.coords t) a3 w3 a4 w4 a5 w5 a7 a8 x0 x1 x2) (aH 7).toLoadRect)⟩ : Own.PA F) :: sl.HS1_16 (F := F) c (grid0.coords t) a3 w3 a4 w4 a5 w5 a7 a8 x0 x1 x2) = _
  rw [w_s1_7, rd_m1_7, rd_vg w5 x2 _ _ (512 * ((grid0.coords t) 2).val + 256) 7 (off_v1_7 t), rd_a1_7, l_a1_7]
  rfl
theorem l_s : sl.HS2_8 (F := F) c a3 w3 a4 w4 x0 x1 = heads.map (fun h => (⟨sR h, Own.s x0 x1 h⟩ : Own.PS F)) := by
  show ([⟨sR 7, score (View.readAt (Elt F) a3.view (Rect.unit (s := S512x1024) ![0, 896] S512x128.size _).toLoadRect (w3.unread x0)) (View.readAt (Elt F) a4.view (Rect.unit (s := S4096x1024) ![0, 896] S512x128.size _).toLoadRect (w4.unread x1))⟩, ⟨sR 6, score (View.readAt (Elt F) a3.view (Rect.unit (s := S512x1024) ![0, 768] S512x128.size _).toLoadRect (w3.unread x0)) (View.readAt (Elt F) a4.view (Rect.unit (s := S4096x1024) ![0, 768] S512x128.size _).toLoadRect (w4.unread x1))⟩, ⟨sR 5, score (View.readAt (Elt F) a3.view (Rect.unit (s := S512x1024) ![0, 640] S512x128.size _).toLoadRect (w3.unread x0)) (View.readAt (Elt F) a4.view (Rect.unit (s := S4096x1024) ![0, 640] S512x128.size _).toLoadRect (w4.unread x1))⟩, ⟨sR 4, score (View.readAt (Elt F) a3.view (Rect.unit (s := S512x1024) ![0, 512] S512x128.size _).toLoadRect (w3.unread x0)) (View.readAt (Elt F) a4.view (Rect.unit (s := S4096x1024) ![0, 512] S512x128.size _).toLoadRect (w4.unread x1))⟩, ⟨sR 3, score (View.readAt (Elt F) a3.view (Rect.unit (s := S512x1024) ![0, 384] S512x128.size _).toLoadRect (w3.unread x0)) (View.readAt (Elt F) a4.view (Rect.unit (s := S4096x1024) ![0, 384] S512x128.size _).toLoadRect (w4.unread x1))⟩, ⟨sR 2, score (View.readAt (Elt F) a3.view (Rect.unit (s := S512x1024) ![0, 256] S512x128.size _).toLoadRect (w3.unread x0)) (View.readAt (Elt F) a4.view (Rect.unit (s := S4096x1024) ![0, 256] S512x128.size _).toLoadRect (w4.unread x1))⟩, ⟨sR 1, score (View.readAt (Elt F) a3.view (Rect.unit (s := S512x1024) ![0, 128] S512x128.size _).toLoadRect (w3.unread x0)) (View.readAt (Elt F) a4.view (Rect.unit (s := S4096x1024) ![0, 128] S512x128.size _).toLoadRect (w4.unread x1))⟩, ⟨sR 0, score (View.readAt (Elt F) a3.view (Rect.unit (s := S512x1024) ![0, 0] S512x128.size _).toLoadRect (w3.unread x0)) (View.readAt (Elt F) a4.view (Rect.unit (s := S4096x1024) ![0, 0] S512x128.size _).toLoadRect (w4.unread x1))⟩] : List (Own.PS F)) = _
  rw [rd_q w3 x0 ![0, 0] _ 0 (by rfl), rd_q w3 x0 ![0, 128] _ 1 (by rfl), rd_q w3 x0 ![0, 256] _ 2 (by rfl), rd_q w3 x0 ![0, 384] _ 3 (by rfl), rd_q w3 x0 ![0, 512] _ 4 (by rfl), rd_q w3 x0 ![0, 640] _ 5 (by rfl), rd_q w3 x0 ![0, 768] _ 6 (by rfl), rd_q w3 x0 ![0, 896] _ 7 (by rfl), rd_kf w4 x1 ![0, 0] _ 0 0 (by rfl), rd_kf w4 x1 ![0, 128] _ 0 1 (by rfl), rd_kf w4 x1 ![0, 256] _ 0 2 (by rfl), rd_kf w4 x1 ![0, 384] _ 0 3 (by rfl), rd_kf w4 x1 ![0, 512] _ 0 4 (by rfl), rd_kf w4 x1 ![0, 640] _ 0 5 (by rfl), rd_kf w4 x1 ![0, 768] _ 0 6 (by rfl), rd_kf w4 x1 ![0, 896] _ 0 7 (by rfl)]
  rfl
/-- What the buffers hold when the full blocks begin. -/
theorem own_m (h : Fin 8) : View.readCov (Val := Elt F) a7.view (sl.HS0_17 (F := F) c (grid0.coords t) a3 w3 a4 w4 a7 x0 x1) (mR h).toLoadRect = Own.m ((grid0.coords t) 2).val x0 x1 h := by
  rw [l_m1_8]
  exact Own.glue_m a7.view _ _ _ h
theorem own_s (a9 : Memref sig .tc .vmem S8x512x512 .f32) (h : Fin 8) : View.readCov (Val := Elt F) a9.view (sl.HS2_8 (F := F) c a3 w3 a4 w4 x0 x1) (sR h).toLoadRect = Own.s x0 x1 h := by
  rw [l_s]
  exact (congrArg (fun L => View.readCov a9.view L _) (List.append_nil _).symm).trans (readCov_head a9.view sR _ sR_apart [] heads h (mem_heads h))
theorem own_a (h : Fin 8) : View.readCov (Val := Elt F) a8.view (sl.HS1_17 (F := F) c (grid0.coords t) a3 w3 a4 w4 a5 w5 a7 a8 x0 x1 x2) (aR h).toLoadRect = Own.a ((grid0.coords t) 2).val x0 x1 x2 h := by
  rw [l_a1_8]
  exact Own.glue_a a8.view _ _ _ h

end

end Cert.OwnC

end
-- ==== Proof.TailC.lean ====
/- After the loop, in the run at the even row blocks after the first, where two full blocks are left over: what the weighted sums are when
   the run comes to divide. -/
module

public import proofs.«01_k».proof.Proof.Loop
public import proofs.«01_k».proof.Proof.OwnC
import all proofs.«01_k».proof.Proof.Run.KernelIdeal.C

@[expose] public section

set_option maxRecDepth 16384
set_option maxHeartbeats 1000000

noncomputable section

namespace Cert.TailC

open Idealize.ShloMosaic Cert.KernelIdeal Cert.KernelIdeal.Gen Cert.Steps Cert.Slab Cert.Trip Cert.Loop kernelRun0_C

/-- The number of trips of the loop. -/
abbrev nT (t : Fin grid0.N) : ℕ := (k0_t1_loop (grid0.coords t)).trips

theorem trips_eq : ∀ t : Fin grid0.N, cond0_0 (grid0.coords t) → cond0_1 (grid0.coords t) → ((grid0.coords t) 2).val = 2 * nT t + 2 := by decide +kernel
theorem off_k_0 : ∀ t : Fin grid0.N, cond0_0 (grid0.coords t) → cond0_1 (grid0.coords t) → k0_off81 (grid0.coords t) = ![512 * (2 * nT t + 1), 128 * 0] := by decide +kernel
theorem off_v_0 : ∀ t : Fin grid0.N, cond0_0 (grid0.coords t) → cond0_1 (grid0.coords t) → k0_off82 (grid0.coords t) = ![80 * 0, 512 * (2 * nT t)] := by decide +kernel
theorem off_w_0 : ∀ t : Fin grid0.N, cond0_0 (grid0.coords t) → cond0_1 (grid0.coords t) → k0_off97 (grid0.coords t) = ![80 * 0, 512 * (2 * nT t + 1)] := by decide +kernel
theorem off_k_1 : ∀ t : Fin grid0.N, cond0_0 (grid0.coords t) → cond0_1 (grid0.coords t) → k0_off83 (grid0.coords t) = ![512 * (2 * nT t + 1), 128 * 1] := by decide +kernel
theorem off_v_1 : ∀ t : Fin grid0.N, cond0_0 (grid0.coords t) → cond0_1 (grid0.coords t) → k0_off84 (grid0.coords t) = ![80 * 1, 512 * (2 * nT t)] := by decide +kernel
theorem off_w_1 : ∀ t : Fin grid0.N, cond0_0 (grid0.coords t) → cond0_1 (grid0.coords t) → k0_off98 (grid0.coords t) = ![80 * 1, 512 * (2 * nT t + 1)] := by decide +kernel
theorem off_k_2 : ∀ t : Fin grid0.N, cond0_0 (grid0.coords t) → cond0_1 (grid0.coords t) → k0_off85 (grid0.coords t) = ![512 * (2 * nT t + 1), 128 * 2] := by decide +kernel
theorem off_v_2 : ∀ t : Fin grid0.N, cond0_0 (grid0.coords t) → cond0_1 (grid0.coords t) → k0_off86 (grid0.coords t) = ![80 * 2, 512 * (2 * nT t)] := by decide +kernel
theorem off_w_2 : ∀ t : Fin grid0.N, cond0_0 (grid0.coords t) → cond0_1 (grid0.coords t) → k0_off99 (grid0.coords t) = ![80 * 2, 512 * (2 * nT t + 1)] := by decide +kernel
theorem off_k_3 : ∀ t : Fin grid0.N, cond0_0 (grid0.coords t) → cond0_1 (grid0.coords t) → k0_off87 (grid0.coords t) = ![512 * (2 * nT t + 1), 128 * 3] := by decide +kernel
theorem off_v_3 : ∀ t : Fin grid0.N, cond0_0 (grid0.coords t) → cond0_1 (grid0.coords t) → k0_off88 (grid0.coords t) = ![80 * 3, 512 * (2 * nT t)] := by decide +kernel
theorem off_w_3 : ∀ t : Fin grid0.N, cond0_0 (grid0.coords t) → cond0_1 (grid0.coords t) → k0_off100 (grid0.coords t) = ![80 * 3, 512 * (2 * nT t + 1)] := by decide +kernel
theorem off_k_4 : ∀ t : Fin grid0.N, cond0_0 (grid0.coords t) → cond0_1 (grid0.coords t) → k0_off89 (grid0.coords t) = ![512 * (2 * nT t + 1), 128 * 4] := by decide +kernel
theorem off_v_4 : ∀ t : Fin grid0.N, cond0_0 (grid0.coords t) → cond0_1 (grid0.coords t) → k0_off90 (grid0.coords t) = ![80 * 4, 512 * (2 * nT t)] := by decide +kernel
theorem off_w_4 : ∀ t : Fin grid0.N, cond0_0 (grid0.coords t) → cond0_1 (grid0.coords t) → k0_off101 (grid0.coords t) = ![80 * 4, 512 * (2 * nT t + 1)] := by decide +kernel
theorem off_k_5 : ∀ t : Fin grid0.N, cond0_0 (grid0.coords t) → cond0_1 (grid0.coords t) → k0_off91 (grid0.coords t) = ![512 * (2 * nT t + 1), 128 * 5] := by decide +kernel
theorem off_v_5 : ∀ t : Fin grid0.N, cond0_0 (grid0.coords t) → cond0_1 (grid0.coords t) → k0_off92 (grid0.coords t) = ![80 * 5, 512 * (2 * nT t)] := by decide +kernel
theorem off_w_5 : ∀ t : Fin grid0.N, cond0_0 (grid0.coords t) → cond0_1 (grid0.coords t) → k0_off102 (grid0.coords t) = ![80 * 5, 512 * (2 * nT t + 1)] := by decide +kernel
theorem off_k_6 : ∀ t : Fin grid0.N, cond0_0 (grid0.coords t) → cond0_1 (grid0.coords t) → k0_off93 (grid0.coords t) = ![512 * (2 * nT t + 1), 128 * 6] := by decide +kernel
theorem off_v_6 : ∀ t : Fin grid0.N, cond0_0 (grid0.coords t) → cond0_1 (grid0.coords t) → k0_off94 (grid0.coords t) = ![80 * 6, 512 * (2 * nT t)] := by decide +kernel
theorem off_w_6 : ∀ t : Fin grid0.N, cond0_0 (grid0.coords t) → cond0_1 (grid0.coords t) → k0_off103 (grid0.coords t) = ![80 * 6, 512 * (2 * nT t + 1)] := by decide +kernel
theorem off_k_7 : ∀ t : Fin grid0.N, cond0_0 (grid0.coords t) → cond0_1 (grid0.coords t) → k0_off95 (grid0.coords t) = ![512 * (2 * nT t + 1), 128 * 7] := by decide +kernel
theorem off_v_7 : ∀ t : Fin grid0.N, cond0_0 (grid0.coords t) → cond0_1 (grid0.coords t) → k0_off96 (grid0.coords t) = ![80 * 7, 512 * (2 * nT t)] := by decide +kernel
theorem off_w_7 : ∀ t : Fin grid0.N, cond0_0 (grid0.coords t) → cond0_1 (grid0.coords t) → k0_off104 (grid0.coords t) = ![80 * 7, 512 * (2 * nT t + 1)] := by decide +kernel

section
variable {F : FTy → Type} [FloatOps F] [Named F]
variable (t : Fin grid0.N) (c : Dev nD)
  (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a6 : Memref sig .tc .vmem S512x512 .bf16) (w6 : a6.IsWhole)
  (a7 : Memref sig .tc .vmem S8x1x512 .f32) (w7 : a7.IsWhole) (a8 : Memref sig .tc .vmem S8x80x512 .f32) (w8 : a8.IsWhole)
  (a9 : Memref sig .tc .vmem S8x512x512 .f32) (w9 : a9.IsWhole) (a10 : Memref sig .tc .vmem S8x512x512 .f32) (w10 : a10.IsWhole)
  (hc0 : cond0_0 (grid0.coords t)) (hc1 : cond0_1 (grid0.coords t))
  (x0 : Vec F S512x1024 .bf16) (x1 : Vec F S4096x1024 .bf16) (x2 : Vec F S640x4096 .bf16)

/-- The pieces that the trips write. -/
abbrev PB := Loop.pb x1 x2 t Variants.none c none a3 w3 a4 w4 a5 w5 a6 w6 a7 w7 a8 w8 a9 w9 a10 w10 (sl.r (F := F) c a3 w3 x0) (sl.r_1 (F := F) c a3 w3 x0) (sl.r_2 (F := F) c a3 w3 x0) (sl.r_3 (F := F) c a3 w3 x0) (sl.r_4 (F := F) c a3 w3 x0) (sl.r_5 (F := F) c a3 w3 x0) (sl.r_6 (F := F) c a3 w3 x0) (sl.r_7 (F := F) c a3 w3 x0) (sl.v33 (grid0.coords t)) hc0
  (a7.view.writes (Elt F) a7.view.junk (sl.HS0_17 (F := F) c (grid0.coords t) a3 w3 a4 w4 a7 x0 x1)) (a8.view.writes (Elt F) a8.view.junk (sl.HS1_17 (F := F) c (grid0.coords t) a3 w3 a4 w4 a5 w5 a7 a8 x0 x1 x2)) (a9.view.writes (Elt F) a9.view.junk (sl.HS2_8 (F := F) c a3 w3 a4 w4 x0 x1)) a10.view.junk (nT t)
/-- The three lists of pieces when the trips are over. -/
abbrev BM : List (Own.PM F) := (PB t c a3 w3 a4 w4 a5 w5 a6 w6 a7 w7 a8 w8 a9 w9 a10 w10 hc0 x0 x1 x2).1 ++ sl.HS0_17 (F := F) c (grid0.coords t) a3 w3 a4 w4 a7 x0 x1
abbrev BA : List (Own.PA F) := (PB t c a3 w3 a4 w4 a5 w5 a6 w6 a7 w7 a8 w8 a9 w9 a10 w10 hc0 x0 x1 x2).2.1 ++ sl.HS1_17 (F := F) c (grid0.coords t) a3 w3 a4 w4 a5 w5 a7 a8 x0 x1 x2
abbrev BS : List (Own.PS F) := (PB t c a3 w3 a4 w4 a5 w5 a6 w6 a7 w7 a8 w8 a9 w9 a10 w10 hc0 x0 x1 x2).2.2.1 ++ sl.HS2_8 (F := F) c a3 w3 a4 w4 x0 x1
/-- The scores, the greatest scores and the weighted sums when the trips are over. -/
abbrev VS : Fin 8 → Vec F S1x512x512 .f32 := Sv x0 x1 (nT t)
abbrev VM : Fin 8 → Vec F S1x1x512 .f32 := Mv ((grid0.coords t) 2).val x0 x1 (nT t)
abbrev VA : Fin 8 → Vec F S1x80x512 .f32 := Av ((grid0.coords t) 2).val x0 x1 x2 (nT t)

theorem qs_eq : qs8 (sl.r (F := F) c a3 w3 x0) (sl.r_1 (F := F) c a3 w3 x0) (sl.r_2 (F := F) c a3 w3 x0) (sl.r_3 (F := F) c a3 w3 x0) (sl.r_4 (F := F) c a3 w3 x0) (sl.r_5 (F := F) c a3 w3 x0) (sl.r_6 (F := F) c a3 w3 x0) (sl.r_7 (F := F) c a3 w3 x0) = Qv x0 := by
  funext h
  fin_cases h
  · exact rd_q w3 x0 ![0, 0] _ 0 (by rfl)
  · exact rd_q w3 x0 ![0, 128] _ 1 (by rfl)
  · exact rd_q w3 x0 ![0, 256] _ 2 (by rfl)
  · exact rd_q w3 x0 ![0, 384] _ 3 (by rfl)
  · exact rd_q w3 x0 ![0, 512] _ 4 (by rfl)
  · exact rd_q w3 x0 ![0, 640] _ 5 (by rfl)
  · exact rd_q w3 x0 ![0, 768] _ 6 (by rfl)
  · exact rd_q w3 x0 ![0, 896] _ 7 (by rfl)
theorem base :
    rdM a7 (a7.view.writes (Elt F) (a7.view.writes (Elt F) a7.view.junk (sl.HS0_17 (F := F) c (grid0.coords t) a3 w3 a4 w4 a7 x0 x1)) (PB t c a3 w3 a4 w4 a5 w5 a6 w6 a7 w7 a8 w8 a9 w9 a10 w10 hc0 x0 x1 x2).1) = VM t x0 x1
      ∧ rdA a8 (a8.view.writes (Elt F) (a8.view.writes (Elt F) a8.view.junk (sl.HS1_17 (F := F) c (grid0.coords t) a3 w3 a4 w4 a5 w5 a7 a8 x0 x1 x2)) (PB t c a3 w3 a4 w4 a5 w5 a6 w6 a7 w7 a8 w8 a9 w9 a10 w10 hc0 x0 x1 x2).2.1) = VA t x0 x1 x2
      ∧ rdS a9 (a9.view.writes (Elt F) (a9.view.writes (Elt F) a9.view.junk (sl.HS2_8 (F := F) c a3 w3 a4 w4 x0 x1)) (PB t c a3 w3 a4 w4 a5 w5 a6 w6 a7 w7 a8 w8 a9 w9 a10 w10 hc0 x0 x1 x2).2.2.1) = VS t x0 x1 :=
  Loop.reads ((grid0.coords t) 2).val x0 x1 x2 t _ c _ a3 w3 a4 w4 a5 w5 a6 w6 a7 w7 a8 w8 a9 w9 a10 w10 _ _ _ _ _ _ _ _ _ hc0 _ _ _ _ (qs_eq c a3 w3 x0)
    (funext fun h => OwnC.own_m t c a3 w3 a4 w4 a7 x0 x1 h)
    (funext fun h => OwnC.own_a t c a3 w3 a4 w4 a5 w5 a7 a8 x0 x1 x2 h)
    (funext fun h => OwnC.own_s c a3 w3 a4 w4 x0 x1 a9 h) _ le_rfl
theorem b_m (h : Fin 8) : View.readCov (Val := Elt F) a7.view (BM t c a3 w3 a4 w4 a5 w5 a6 w6 a7 w7 a8 w8 a9 w9 a10 w10 hc0 x0 x1 x2) (mR h).toLoadRect = VM t x0 x1 h := by
  show View.readAt (Elt F) a7.view (mR h).toLoadRect (a7.view.writes (Elt F) a7.view.junk (_ ++ _)) = _
  rw [View.writes_append]
  exact congrFun (base t c a3 w3 a4 w4 a5 w5 a6 w6 a7 w7 a8 w8 a9 w9 a10 w10 hc0 x0 x1 x2).1 h
theorem b_a (h : Fin 8) : View.readCov (Val := Elt F) a8.view (BA t c a3 w3 a4 w4 a5 w5 a6 w6 a7 w7 a8 w8 a9 w9 a10 w10 hc0 x0 x1 x2) (aR h).toLoadRect = VA t x0 x1 x2 h := by
  show View.readAt (Elt F) a8.view (aR h).toLoadRect (a8.view.writes (Elt F) a8.view.junk (_ ++ _)) = _
  rw [View.writes_append]
  exact congrFun (base t c a3 w3 a4 w4 a5 w5 a6 w6 a7 w7 a8 w8 a9 w9 a10 w10 hc0 x0 x1 x2).2.1 h
theorem b_s (h : Fin 8) : View.readCov (Val := Elt F) a9.view (BS t c a3 w3 a4 w4 a5 w5 a6 w6 a7 w7 a8 w8 a9 w9 a10 w10 hc0 x0 x1 x2) (sR h).toLoadRect = VS t x0 x1 h := by
  show View.readAt (Elt F) a9.view (sR h).toLoadRect (a9.view.writes (Elt F) a9.view.junk (_ ++ _)) = _
  rw [View.writes_append]
  exact congrFun (base t c a3 w3 a4 w4 a5 w5 a6 w6 a7 w7 a8 w8 a9 w9 a10 w10 hc0 x0 x1 x2).2.2 h

theorem rd_m_0 : (View.readCov (Val := Elt F) a7.view (BM t c a3 w3 a4 w4 a5 w5 a6 w6 a7 w7 a8 w8 a9 w9 a10 w10 hc0 x0 x1 x2) (mR 0).toLoadRect) = VM t x0 x1 0 := by
  exact b_m t c a3 w3 a4 w4 a5 w5 a6 w6 a7 w7 a8 w8 a9 w9 a10 w10 hc0 x0 x1 x2 0
theorem rd_a_0 : (View.readCov (Val := Elt F) a8.view (BA t c a3 w3 a4 w4 a5 w5 a6 w6 a7 w7 a8 w8 a9 w9 a10 w10 hc0 x0 x1 x2) (aR 0).toLoadRect) = VA t x0 x1 x2 0 := by
  exact b_a t c a3 w3 a4 w4 a5 w5 a6 w6 a7 w7 a8 w8 a9 w9 a10 w10 hc0 x0 x1 x2 0
theorem l_m_1 : sl.HS0_1_1 (F := F) c (grid0.coords t) a3 w3 a4 w4 a5 w5 a6 w6 a7 w7 a8 w8 a9 w9 a10 w10 hc0 x0 x1 x2 = ([0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 0, newM (View.readCov (Val := Elt F) a9.view (BS t c a3 w3 a4 w4 a5 w5 a6 w6 a7 w7 a8 w8 a9 w9 a10 w10 hc0 x0 x1 x2) (sR 0).toLoadRect) (View.readCov (Val := Elt F) a7.view (BM t c a3 w3 a4 w4 a5 w5 a6 w6 a7 w7 a8 w8 a9 w9 a10 w10 hc0 x0 x1 x2) (mR 0).toLoadRect)⟩ : Own.PM F) :: BM t c a3 w3 a4 w4 a5 w5 a6 w6 a7 w7 a8 w8 a9 w9 a10 w10 hc0 x0 x1 x2) = _
  rw [b_s, rd_m_0]
  rfl
theorem l_a_1 : sl.HS1_1_1 (F := F) c (grid0.coords t) a3 w3 a4 w4 a5 w5 a6 w6 a7 w7 a8 w8 a9 w9 a10 w10 hc0 hc1 x0 x1 x2 = ([0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 0, newA (View.readCov (Val := Elt F) a9.view (BS t c a3 w3 a4 w4 a5 w5 a6 w6 a7 w7 a8 w8 a9 w9 a10 w10 hc0 x0 x1 x2) (sR 0).toLoadRect) (View.readCov (Val := Elt F) a7.view (BM t c a3 w3 a4 w4 a5 w5 a6 w6 a7 w7 a8 w8 a9 w9 a10 w10 hc0 x0 x1 x2) (mR 0).toLoadRect) (View.readAt (Elt F) a5.view (Rect.unit (s := S640x4096) (k0_off82 (grid0.coords t)) S80x512.size _).toLoadRect (w5.unread x2)) (View.readCov (Val := Elt F) a8.view (BA t c a3 w3 a4 w4 a5 w5 a6 w6 a7 w7 a8 w8 a9 w9 a10 w10 hc0 x0 x1 x2) (aR 0).toLoadRect)⟩ : Own.PA F) :: BA t c a3 w3 a4 w4 a5 w5 a6 w6 a7 w7 a8 w8 a9 w9 a10 w10 hc0 x0 x1 x2) = _
  rw [b_s, rd_m_0, rd_vf w5 x2 _ _ (512 * (2 * nT t)) 0 (off_v_0 t hc0 hc1), rd_a_0]
  rfl
theorem rd_m_1 : (View.readCov (Val := Elt F) a7.view (sl.HS0_1_1 (F := F) c (grid0.coords t) a3 w3 a4 w4 a5 w5 a6 w6 a7 w7 a8 w8 a9 w9 a10 w10 hc0 x0 x1 x2) (mR 1).toLoadRect) = VM t x0 x1 1 := by
  rw [l_m_1, readCov_skips a7.view mR _ _ _ _ (by intro j hj; exact mR_apart j 1 (by revert j; decide))]
  exact b_m t c a3 w3 a4 w4 a5 w5 a6 w6 a7 w7 a8 w8 a9 w9 a10 w10 hc0 x0 x1 x2 1
theorem rd_a_1 : (View.readCov (Val := Elt F) a8.view (sl.HS1_1_1 (F := F) c (grid0.coords t) a3 w3 a4 w4 a5 w5 a6 w6 a7 w7 a8 w8 a9 w9 a10 w10 hc0 hc1 x0 x1 x2) (aR 1).toLoadRect) = VA t x0 x1 x2 1 := by
  rw [l_a_1, readCov_skips a8.view aR _ _ _ _ (by intro j hj; exact aR_apart j 1 (by revert j; decide))]
  exact b_a t c a3 w3 a4 w4 a5 w5 a6 w6 a7 w7 a8 w8 a9 w9 a10 w10 hc0 x0 x1 x2 1
theorem l_m_2 : sl.HS0_2_1 (F := F) c (grid0.coords t) a3 w3 a4 w4 a5 w5 a6 w6 a7 w7 a8 w8 a9 w9 a10 w10 hc0 x0 x1 x2 = ([1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 1, newM (View.readCov (Val := Elt F) a9.view (BS t c a3 w3 a4 w4 a5 w5 a6 w6 a7 w7 a8 w8 a9 w9 a10 w10 hc0 x0 x1 x2) (sR 1).toLoadRect) (View.readCov (Val := Elt F) a7.view (sl.HS0_1_1 (F := F) c (grid0.coords t) a3 w3 a4 w4 a5 w5 a6 w6 a7 w7 a8 w8 a9 w9 a10 w10 hc0 x0 x1 x2) (mR 1).toLoadRect)⟩ : Own.PM F) :: sl.HS0_1_1 (F := F) c (grid0.coords t) a3 w3 a4 w4 a5 w5 a6 w6 a7 w7 a8 w8 a9 w9 a10 w10 hc0 x0 x1 x2) = _
  rw [b_s, rd_m_1, l_m_1]
  rfl
theorem l_a_2 : sl.HS1_2_1 (F := F) c (grid0.coords t) a3 w3 a4 w4 a5 w5 a6 w6 a7 w7 a8 w8 a9 w9 a10 w10 hc0 hc1 x0 x1 x2 = ([1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 1, newA (View.readCov (Val := Elt F) a9.view (BS t c a3 w3 a4 w4 a5 w5 a6 w6 a7 w7 a8 w8 a9 w9 a10 w10 hc0 x0 x1 x2) (sR 1).toLoadRect) (View.readCov (Val := Elt F) a7.view (sl.HS0_1_1 (F := F) c (grid0.coords t) a3 w3 a4 w4 a5 w5 a6 w6 a7 w7 a8 w8 a9 w9 a10 w10 hc0 x0 x1 x2) (mR 1).toLoadRect) (View.readAt (Elt F) a5.view (Rect.unit (s := S640x4096) (k0_off84 (grid0.coords t)) S80x512.size _).toLoadRect (w5.unread x2)) (View.readCov (Val := Elt F) a8.view (sl.HS1_1_1 (F := F) c (grid0.coords t) a3 w3 a4 w4 a5 w5 a6 w6 a7 w7 a8 w8 a9 w9 a10 w10 hc0 hc1 x0 x1 x2) (aR 1).toLoadRect)⟩ : Own.PA F) :: sl.HS1_1_1 (F := F) c (grid0.coords t) a3 w3 a4 w4 a5 w5 a6 w6 a7 w7 a8 w8 a9 w9 a10 w10 hc0 hc1 x0 x1 x2) = _
  rw [b_s, rd_m_1, rd_vf w5 x2 _ _ (512 * (2 * nT t)) 1 (off_v_1 t hc0 hc1), rd_a_1, l_a_1]
  rfl
theorem rd_m_2 : (View.readCov (Val := Elt F) a7.view (sl.HS0_2_1 (F := F) c (grid0.coords t) a3 w3 a4 w4 a5 w5 a6 w6 a7 w7 a8 w8 a9 w9 a10 w10 hc0 x0 x1 x2) (mR 2).toLoadRect) = VM t x0 x1 2 := by
  rw [l_m_2, readCov_skips a7.view mR _ _ _ _ (by intro j hj; exact mR_apart j 2 (by revert j; decide))]
  exact b_m t c a3 w3 a4 w4 a5 w5 a6 w6 a7 w7 a8 w8 a9 w9 a10 w10 hc0 x0 x1 x2 2
theorem rd_a_2 : (View.readCov (Val := Elt F) a8.view (sl.HS1_2_1 (F := F) c (grid0.coords t) a3 w3 a4 w4 a5 w5 a6 w6 a7 w7 a8 w8 a9 w9 a10 w10 hc0 hc1 x0 x1 x2) (aR 2).toLoadRect) = VA t x0 x1 x2 2 := by
  rw [l_a_2, readCov_skips a8.view aR _ _ _ _ (by intro j hj; exact aR_apart j 2 (by revert j; decide))]
  exact b_a t c a3 w3 a4 w4 a5 w5 a6 w6 a7 w7 a8 w8 a9 w9 a10 w10 hc0 x0 x1 x2 2
theorem l_m_3 : sl.HS0_3_1 (F := F) c (grid0.coords t) a3 w3 a4 w4 a5 w5 a6 w6 a7 w7 a8 w8 a9 w9 a10 w10 hc0 x0 x1 x2 = ([2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 2, newM (View.readCov (Val := Elt F) a9.view (BS t c a3 w3 a4 w4 a5 w5 a6 w6 a7 w7 a8 w8 a9 w9 a10 w10 hc0 x0 x1 x2) (sR 2).toLoadRect) (View.readCov (Val := Elt F) a7.view (sl.HS0_2_1 (F := F) c (grid0.coords t) a3 w3 a4 w4 a5 w5 a6 w6 a7 w7 a8 w8 a9 w9 a10 w10 hc0 x0 x1 x2) (mR 2).toLoadRect)⟩ : Own.PM F) :: sl.HS0_2_1 (F := F) c (grid0.coords t) a3 w3 a4 w4 a5 w5 a6 w6 a7 w7 a8 w8 a9 w9 a10 w10 hc0 x0 x1 x2) = _
  rw [b_s, rd_m_2, l_m_2]
  rfl
theorem l_a_3 : sl.HS1_3_1 (F := F) c (grid0.coords t) a3 w3 a4 w4 a5 w5 a6 w6 a7 w7 a8 w8 a9 w9 a10 w10 hc0 hc1 x0 x1 x2 = ([2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 2, newA (View.readCov (Val := Elt F) a9.view (BS t c a3 w3 a4 w4 a5 w5 a6 w6 a7 w7 a8 w8 a9 w9 a10 w10 hc0 x0 x1 x2) (sR 2).toLoadRect) (View.readCov (Val := Elt F) a7.view (sl.HS0_2_1 (F := F) c (grid0.coords t) a3 w3 a4 w4 a5 w5 a6 w6 a7 w7 a8 w8 a9 w9 a10 w10 hc0 x0 x1 x2) (mR 2).toLoadRect) (View.readAt (Elt F) a5.view (Rect.unit (s := S640x4096) (k0_off86 (grid0.coords t)) S80x512.size _).toLoadRect (w5.unread x2)) (View.readCov (Val := Elt F) a8.view (sl.HS1_2_1 (F := F) c (grid0.coords t) a3 w3 a4 w4 a5 w5 a6 w6 a7 w7 a8 w8 a9 w9 a10 w10 hc0 hc1 x0 x1 x2) (aR 2).toLoadRect)⟩ : Own.PA F) :: sl.HS1_2_1 (F := F) c (grid0.coords t) a3 w3 a4 w4 a5 w5 a6 w6 a7 w7 a8 w8 a9 w9 a10 w10 hc0 hc1 x0 x1 x2) = _
  rw [b_s, rd_m_2, rd_vf w5 x2 _ _ (512 * (2 * nT t)) 2 (off_v_2 t hc0 hc1), rd_a_2, l_a_2]
  rfl
theorem rd_m_3 : (View.readCov (Val := Elt F) a7.view (sl.HS0_3_1 (F := F) c (grid0.coords t) a3 w3 a4 w4 a5 w5 a6 w6 a7 w7 a8 w8 a9 w9 a10 w10 hc0 x0 x1 x2) (mR 3).toLoadRect) = VM t x0 x1 3 := by
  rw [l_m_3, readCov_skips a7.view mR _ _ _ _ (by intro j hj; exact mR_apart j 3 (by revert j; decide))]
  exact b_m t c a3 w3 a4 w4 a5 w5 a6 w6 a7 w7 a8 w8 a9 w9 a10 w10 hc0 x0 x1 x2 3
theorem rd_a_3 : (View.readCov (Val := Elt F) a8.view (sl.HS1_3_1 (F := F) c (grid0.coords t) a3 w3 a4 w4 a5 w5 a6 w6 a7 w7 a8 w8 a9 w9 a10 w10 hc0 hc1 x0 x1 x2) (aR 3).toLoadRect) = VA t x0 x1 x2 3 := by
  rw [l_a_3, readCov_skips a8.view aR _ _ _ _ (by intro j hj; exact aR_apart j 3 (by revert j; decide))]
  exact b_a t c a3 w3 a4 w4 a5 w5 a6 w6 a7 w7 a8 w8 a9 w9 a10 w10 hc0 x0 x1 x2 3
theorem l_m_4 : sl.HS0_4_1 (F := F) c (grid0.coords t) a3 w3 a4 w4 a5 w5 a6 w6 a7 w7 a8 w8 a9 w9 a10 w10 hc0 x0 x1 x2 = ([3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 3, newM (View.readCov (Val := Elt F) a9.view (BS t c a3 w3 a4 w4 a5 w5 a6 w6 a7 w7 a8 w8 a9 w9 a10 w10 hc0 x0 x1 x2) (sR 3).toLoadRect) (View.readCov (Val := Elt F) a7.view (sl.HS0_3_1 (F := F) c (grid0.coords t) a3 w3 a4 w4 a5 w5 a6 w6 a7 w7 a8 w8 a9 w9 a10 w10 hc0 x0 x1 x2) (mR 3).toLoadRect)⟩ : Own.PM F) :: sl.HS0_3_1 (F := F) c (grid0.coords t) a3 w3 a4 w4 a5 w5 a6 w6 a7 w7 a8 w8 a9 w9 a10 w10 hc0 x0 x1 x2) = _
  rw [b_s, rd_m_3, l_m_3]
  rfl
theorem l_a_4 : sl.HS1_4_1 (F := F) c (grid0.coords t) a3 w3 a4 w4 a5 w5 a6 w6 a7 w7 a8 w8 a9 w9 a10 w10 hc0 hc1 x0 x1 x2 = ([3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 3, newA (View.readCov (Val := Elt F) a9.view (BS t c a3 w3 a4 w4 a5 w5 a6 w6 a7 w7 a8 w8 a9 w9 a10 w10 hc0 x0 x1 x2) (sR 3).toLoadRect) (View.readCov (Val := Elt F) a7.view (sl.HS0_3_1 (F := F) c (grid0.coords t) a3 w3 a4 w4 a5 w5 a6 w6 a7 w7 a8 w8 a9 w9 a10 w10 hc0 x0 x1 x2) (mR 3).toLoadRect) (View.readAt (Elt F) a5.view (Rect.unit (s := S640x4096) (k0_off88 (grid0.coords t)) S80x512.size _).toLoadRect (w5.unread x2)) (View.readCov (Val := Elt F) a8.view (sl.HS1_3_1 (F := F) c (grid0.coords t) a3 w3 a4 w4 a5 w5 a6 w6 a7 w7 a8 w8 a9 w9 a10 w10 hc0 hc1 x0 x1 x2) (aR 3).toLoadRect)⟩ : Own.PA F) :: sl.HS1_3_1 (F := F) c (grid0.coords t) a3 w3 a4 w4 a5 w5 a6 w6 a7 w7 a8 w8 a9 w9 a10 w10 hc0 hc1 x0 x1 x2) = _
  rw [b_s, rd_m_3, rd_vf w5 x2 _ _ (512 * (2 * nT t)) 3 (off_v_3 t hc0 hc1), rd_a_3, l_a_3]
  rfl
theorem rd_m_4 : (View.readCov (Val := Elt F) a7.view (sl.HS0_4_1 (F := F) c (grid0.coords t) a3 w3 a4 w4 a5 w5 a6 w6 a7 w7 a8 w8 a9 w9 a10 w10 hc0 x0 x1 x2) (mR 4).toLoadRect) = VM t x0 x1 4 := by
  rw [l_m_4, readCov_skips a7.view mR _ _ _ _ (by intro j hj; exact mR_apart j 4 (by revert j; decide))]
  exact b_m t c a3 w3 a4 w4 a5 w5 a6 w6 a7 w7 a8 w8 a9 w9 a10 w10 hc0 x0 x1 x2 4
theorem rd_a_4 : (View.readCov (Val := Elt F) a8.view (sl.HS1_4_1 (F := F) c (grid0.coords t) a3 w3 a4 w4 a5 w5 a6 w6 a7 w7 a8 w8 a9 w9 a10 w10 hc0 hc1 x0 x1 x2) (aR 4).toLoadRect) = VA t x0 x1 x2 4 := by
  rw [l_a_4, readCov_skips a8.view aR _ _ _ _ (by intro j hj; exact aR_apart j 4 (by revert j; decide))]
  exact b_a t c a3 w3 a4 w4 a5 w5 a6 w6 a7 w7 a8 w8 a9 w9 a10 w10 hc0 x0 x1 x2 4
theorem l_m_5 : sl.HS0_5_1 (F := F) c (grid0.coords t) a3 w3 a4 w4 a5 w5 a6 w6 a7 w7 a8 w8 a9 w9 a10 w10 hc0 x0 x1 x2 = ([4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 4, newM (View.readCov (Val := Elt F) a9.view (BS t c a3 w3 a4 w4 a5 w5 a6 w6 a7 w7 a8 w8 a9 w9 a10 w10 hc0 x0 x1 x2) (sR 4).toLoadRect) (View.readCov (Val := Elt F) a7.view (sl.HS0_4_1 (F := F) c (grid0.coords t) a3 w3 a4 w4 a5 w5 a6 w6 a7 w7 a8 w8 a9 w9 a10 w10 hc0 x0 x1 x2) (mR 4).toLoadRect)⟩ : Own.PM F) :: sl.HS0_4_1 (F := F) c (grid0.coords t) a3 w3 a4 w4 a5 w5 a6 w6 a7 w7 a8 w8 a9 w9 a10 w10 hc0 x0 x1 x2) = _
  rw [b_s, rd_m_4, l_m_4]
  rfl
theorem l_a_5 : sl.HS1_5_1 (F := F) c (grid0.coords t) a3 w3 a4 w4 a5 w5 a6 w6 a7 w7 a8 w8 a9 w9 a10 w10 hc0 hc1 x0 x1 x2 = ([4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 4, newA (View.readCov (Val := Elt F) a9.view (BS t c a3 w3 a4 w4 a5 w5 a6 w6 a7 w7 a8 w8 a9 w9 a10 w10 hc0 x0 x1 x2) (sR 4).toLoadRect) (View.readCov (Val := Elt F) a7.view (sl.HS0_4_1 (F := F) c (grid0.coords t) a3 w3 a4 w4 a5 w5 a6 w6 a7 w7 a8 w8 a9 w9 a10 w10 hc0 x0 x1 x2) (mR 4).toLoadRect) (View.readAt (Elt F) a5.view (Rect.unit (s := S640x4096) (k0_off90 (grid0.coords t)) S80x512.size _).toLoadRect (w5.unread x2)) (View.readCov (Val := Elt F) a8.view (sl.HS1_4_1 (F := F) c (grid0.coords t) a3 w3 a4 w4 a5 w5 a6 w6 a7 w7 a8 w8 a9 w9 a10 w10 hc0 hc1 x0 x1 x2) (aR 4).toLoadRect)⟩ : Own.PA F) :: sl.HS1_4_1 (F := F) c (grid0.coords t) a3 w3 a4 w4 a5 w5 a6 w6 a7 w7 a8 w8 a9 w9 a10 w10 hc0 hc1 x0 x1 x2) = _
  rw [b_s, rd_m_4, rd_vf w5 x2 _ _ (512 * (2 * nT t)) 4 (off_v_4 t hc0 hc1), rd_a_4, l_a_4]
  rfl
theorem rd_m_5 : (View.readCov (Val := Elt F) a7.view (sl.HS0_5_1 (F := F) c (grid0.coords t) a3 w3 a4 w4 a5 w5 a6 w6 a7 w7 a8 w8 a9 w9 a10 w10 hc0 x0 x1 x2) (mR 5).toLoadRect) = VM t x0 x1 5 := by
  rw [l_m_5, readCov_skips a7.view mR _ _ _ _ (by intro j hj; exact mR_apart j 5 (by revert j; decide))]
  exact b_m t c a3 w3 a4 w4 a5 w5 a6 w6 a7 w7 a8 w8 a9 w9 a10 w10 hc0 x0 x1 x2 5
theorem rd_a_5 : (View.readCov (Val := Elt F) a8.view (sl.HS1_5_1 (F := F) c (grid0.coords t) a3 w3 a4 w4 a5 w5 a6 w6 a7 w7 a8 w8 a9 w9 a10 w10 hc0 hc1 x0 x1 x2) (aR 5).toLoadRect) = VA t x0 x1 x2 5 := by
  rw [l_a_5, readCov_skips a8.view aR _ _ _ _ (by intro j hj; exact aR_apart j 5 (by revert j; decide))]
  exact b_a t c a3 w3 a4 w4 a5 w5 a6 w6 a7 w7 a8 w8 a9 w9 a10 w10 hc0 x0 x1 x2 5
theorem l_m_6 : sl.HS0_6_1 (F := F) c (grid0.coords t) a3 w3 a4 w4 a5 w5 a6 w6 a7 w7 a8 w8 a9 w9 a10 w10 hc0 x0 x1 x2 = ([5, 4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 5, newM (View.readCov (Val := Elt F) a9.view (BS t c a3 w3 a4 w4 a5 w5 a6 w6 a7 w7 a8 w8 a9 w9 a10 w10 hc0 x0 x1 x2) (sR 5).toLoadRect) (View.readCov (Val := Elt F) a7.view (sl.HS0_5_1 (F := F) c (grid0.coords t) a3 w3 a4 w4 a5 w5 a6 w6 a7 w7 a8 w8 a9 w9 a10 w10 hc0 x0 x1 x2) (mR 5).toLoadRect)⟩ : Own.PM F) :: sl.HS0_5_1 (F := F) c (grid0.coords t) a3 w3 a4 w4 a5 w5 a6 w6 a7 w7 a8 w8 a9 w9 a10 w10 hc0 x0 x1 x2) = _
  rw [b_s, rd_m_5, l_m_5]
  rfl
theorem l_a_6 : sl.HS1_6_1 (F := F) c (grid0.coords t) a3 w3 a4 w4 a5 w5 a6 w6 a7 w7 a8 w8 a9 w9 a10 w10 hc0 hc1 x0 x1 x2 = ([5, 4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 5, newA (View.readCov (Val := Elt F) a9.view (BS t c a3 w3 a4 w4 a5 w5 a6 w6 a7 w7 a8 w8 a9 w9 a10 w10 hc0 x0 x1 x2) (sR 5).toLoadRect) (View.readCov (Val := Elt F) a7.view (sl.HS0_5_1 (F := F) c (grid0.coords t) a3 w3 a4 w4 a5 w5 a6 w6 a7 w7 a8 w8 a9 w9 a10 w10 hc0 x0 x1 x2) (mR 5).toLoadRect) (View.readAt (Elt F) a5.view (Rect.unit (s := S640x4096) (k0_off92 (grid0.coords t)) S80x512.size _).toLoadRect (w5.unread x2)) (View.readCov (Val := Elt F) a8.view (sl.HS1_5_1 (F := F) c (grid0.coords t) a3 w3 a4 w4 a5 w5 a6 w6 a7 w7 a8 w8 a9 w9 a10 w10 hc0 hc1 x0 x1 x2) (aR 5).toLoadRect)⟩ : Own.PA F) :: sl.HS1_5_1 (F := F) c (grid0.coords t) a3 w3 a4 w4 a5 w5 a6 w6 a7 w7 a8 w8 a9 w9 a10 w10 hc0 hc1 x0 x1 x2) = _
  rw [b_s, rd_m_5, rd_vf w5 x2 _ _ (512 * (2 * nT t)) 5 (off_v_5 t hc0 hc1), rd_a_5, l_a_5]
  rfl
theorem rd_m_6 : (View.readCov (Val := Elt F) a7.view (sl.HS0_6_1 (F := F) c (grid0.coords t) a3 w3 a4 w4 a5 w5 a6 w6 a7 w7 a8 w8 a9 w9 a10 w10 hc0 x0 x1 x2) (mR 6).toLoadRect) = VM t x0 x1 6 := by
  rw [l_m_6, readCov_skips a7.view mR _ _ _ _ (by intro j hj; exact mR_apart j 6 (by revert j; decide))]
  exact b_m t c a3 w3 a4 w4 a5 w5 a6 w6 a7 w7 a8 w8 a9 w9 a10 w10 hc0 x0 x1 x2 6
theorem rd_a_6 : (View.readCov (Val := Elt F) a8.view (sl.HS1_6_1 (F := F) c (grid0.coords t) a3 w3 a4 w4 a5 w5 a6 w6 a7 w7 a8 w8 a9 w9 a10 w10 hc0 hc1 x0 x1 x2) (aR 6).toLoadRect) = VA t x0 x1 x2 6 := by
  rw [l_a_6, readCov_skips a8.view aR _ _ _ _ (by intro j hj; exact aR_apart j 6 (by revert j; decide))]
  exact b_a t c a3 w3 a4 w4 a5 w5 a6 w6 a7 w7 a8 w8 a9 w9 a10 w10 hc0 x0 x1 x2 6
theorem l_m_7 : sl.HS0_7_1 (F := F) c (grid0.coords t) a3 w3 a4 w4 a5 w5 a6 w6 a7 w7 a8 w8 a9 w9 a10 w10 hc0 x0 x1 x2 = ([6, 5, 4, 3, 2, 1, 0] : List (Fin 8)).map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 6, newM (View.readCov (Val := Elt F) a9.view (BS t c a3 w3 a4 w4 a5 w5 a6 w6 a7 w7 a8 w8 a9 w9 a10 w10 hc0 x0 x1 x2) (sR 6).toLoadRect) (View.readCov (Val := Elt F) a7.view (sl.HS0_6_1 (F := F) c (grid0.coords t) a3 w3 a4 w4 a5 w5 a6 w6 a7 w7 a8 w8 a9 w9 a10 w10 hc0 x0 x1 x2) (mR 6).toLoadRect)⟩ : Own.PM F) :: sl.HS0_6_1 (F := F) c (grid0.coords t) a3 w3 a4 w4 a5 w5 a6 w6 a7 w7 a8 w8 a9 w9 a10 w10 hc0 x0 x1 x2) = _
  rw [b_s, rd_m_6, l_m_6]
  rfl
theorem l_a_7 : sl.HS1_7_1 (F := F) c (grid0.coords t) a3 w3 a4 w4 a5 w5 a6 w6 a7 w7 a8 w8 a9 w9 a10 w10 hc0 hc1 x0 x1 x2 = ([6, 5, 4, 3, 2, 1, 0] : List (Fin 8)).map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 6, newA (View.readCov (Val := Elt F) a9.view (BS t c a3 w3 a4 w4 a5 w5 a6 w6 a7 w7 a8 w8 a9 w9 a10 w10 hc0 x0 x1 x2) (sR 6).toLoadRect) (View.readCov (Val := Elt F) a7.view (sl.HS0_6_1 (F := F) c (grid0.coords t) a3 w3 a4 w4 a5 w5 a6 w6 a7 w7 a8 w8 a9 w9 a10 w10 hc0 x0 x1 x2) (mR 6).toLoadRect) (View.readAt (Elt F) a5.view (Rect.unit (s := S640x4096) (k0_off94 (grid0.coords t)) S80x512.size _).toLoadRect (w5.unread x2)) (View.readCov (Val := Elt F) a8.view (sl.HS1_6_1 (F := F) c (grid0.coords t) a3 w3 a4 w4 a5 w5 a6 w6 a7 w7 a8 w8 a9 w9 a10 w10 hc0 hc1 x0 x1 x2) (aR 6).toLoadRect)⟩ : Own.PA F) :: sl.HS1_6_1 (F := F) c (grid0.coords t) a3 w3 a4 w4 a5 w5 a6 w6 a7 w7 a8 w8 a9 w9 a10 w10 hc0 hc1 x0 x1 x2) = _
  rw [b_s, rd_m_6, rd_vf w5 x2 _ _ (512 * (2 * nT t)) 6 (off_v_6 t hc0 hc1), rd_a_6, l_a_6]
  rfl
theorem rd_m_7 : (View.readCov (Val := Elt F) a7.view (sl.HS0_7_1 (F := F) c (grid0.coords t) a3 w3 a4 w4 a5 w5 a6 w6 a7 w7 a8 w8 a9 w9 a10 w10 hc0 x0 x1 x2) (mR 7).toLoadRect) = VM t x0 x1 7 := by
  rw [l_m_7, readCov_skips a7.view mR _ _ _ _ (by intro j hj; exact mR_apart j 7 (by revert j; decide))]
  exact b_m t c a3 w3 a4 w4 a5 w5 a6 w6 a7 w7 a8 w8 a9 w9 a10 w10 hc0 x0 x1 x2 7
theorem rd_a_7 : (View.readCov (Val := Elt F) a8.view (sl.HS1_7_1 (F := F) c (grid0.coords t) a3 w3 a4 w4 a5 w5 a6 w6 a7 w7 a8 w8 a9 w9 a10 w10 hc0 hc1 x0 x1 x2) (aR 7).toLoadRect) = VA t x0 x1 x2 7 := by
  rw [l_a_7, readCov_skips a8.view aR _ _ _ _ (by intro j hj; exact aR_apart j 7 (by revert j; decide))]
  exact b_a t c a3 w3 a4 w4 a5 w5 a6 w6 a7 w7 a8 w8 a9 w9 a10 w10 hc0 x0 x1 x2 7
theorem l_m_8 : sl.HS0_8_1 (F := F) c (grid0.coords t) a3 w3 a4 w4 a5 w5 a6 w6 a7 w7 a8 w8 a9 w9 a10 w10 hc0 x0 x1 x2 = heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2 := by
  show ((⟨mR 7, newM (View.readCov (Val := Elt F) a9.view (BS t c a3 w3 a4 w4 a5 w5 a6 w6 a7 w7 a8 w8 a9 w9 a10 w10 hc0 x0 x1 x2) (sR 7).toLoadRect) (View.readCov (Val := Elt F) a7.view (sl.HS0_7_1 (F := F) c (grid0.coords t) a3 w3 a4 w4 a5 w5 a6 w6 a7 w7 a8 w8 a9 w9 a10 w10 hc0 x0 x1 x2) (mR 7).toLoadRect)⟩ : Own.PM F) :: sl.HS0_7_1 (F := F) c (grid0.coords t) a3 w3 a4 w4 a5 w5 a6 w6 a7 w7 a8 w8 a9 w9 a10 w10 hc0 x0 x1 x2) = _
  rw [b_s, rd_m_7, l_m_7]
  rfl
theorem l_a_8 : sl.HS1_8_1 (F := F) c (grid0.coords t) a3 w3 a4 w4 a5 w5 a6 w6 a7 w7 a8 w8 a9 w9 a10 w10 hc0 hc1 x0 x1 x2 = heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2 := by
  show ((⟨aR 7, newA (View.readCov (Val := Elt F) a9.view (BS t c a3 w3 a4 w4 a5 w5 a6 w6 a7 w7 a8 w8 a9 w9 a10 w10 hc0 x0 x1 x2) (sR 7).toLoadRect) (View.readCov (Val := Elt F) a7.view (sl.HS0_7_1 (F := F) c (grid0.coords t) a3 w3 a4 w4 a5 w5 a6 w6 a7 w7 a8 w8 a9 w9 a10 w10 hc0 x0 x1 x2) (mR 7).toLoadRect) (View.readAt (Elt F) a5.view (Rect.unit (s := S640x4096) (k0_off96 (grid0.coords t)) S80x512.size _).toLoadRect (w5.unread x2)) (View.readCov (Val := Elt F) a8.view (sl.HS1_7_1 (F := F) c (grid0.coords t) a3 w3 a4 w4 a5 w5 a6 w6 a7 w7 a8 w8 a9 w9 a10 w10 hc0 hc1 x0 x1 x2) (aR 7).toLoadRect)⟩ : Own.PA F) :: sl.HS1_7_1 (F := F) c (grid0.coords t) a3 w3 a4 w4 a5 w5 a6 w6 a7 w7 a8 w8 a9 w9 a10 w10 hc0 hc1 x0 x1 x2) = _
  rw [b_s, rd_m_7, rd_vf w5 x2 _ _ (512 * (2 * nT t)) 7 (off_v_7 t hc0 hc1), rd_a_7, l_a_7]
  rfl
theorem l_s : sl.HS3_8 (F := F) c (grid0.coords t) a3 w3 a4 w4 a5 w5 a6 w6 a7 w7 a8 w8 a9 w9 a10 w10 hc0 hc1 x0 x1 x2 = heads.map (fun h => (⟨sR h, Trip.s1 (Qv x0) x1 (nT t) h⟩ : Own.PS F)) ++ (PB t c a3 w3 a4 w4 a5 w5 a6 w6 a7 w7 a8 w8 a9 w9 a10 w10 hc0 x0 x1 x2).2.2.2 := by
  show (([⟨sR 7, score (View.readAt (Elt F) a3.view (Rect.unit (s := S512x1024) ![0, 896] S512x128.size _).toLoadRect (w3.unread x0)) (View.readAt (Elt F) a4.view (Rect.unit (s := S4096x1024) (k0_off95 (grid0.coords t)) S512x128.size _).toLoadRect (w4.unread x1))⟩, ⟨sR 6, score (View.readAt (Elt F) a3.view (Rect.unit (s := S512x1024) ![0, 768] S512x128.size _).toLoadRect (w3.unread x0)) (View.readAt (Elt F) a4.view (Rect.unit (s := S4096x1024) (k0_off93 (grid0.coords t)) S512x128.size _).toLoadRect (w4.unread x1))⟩, ⟨sR 5, score (View.readAt (Elt F) a3.view (Rect.unit (s := S512x1024) ![0, 640] S512x128.size _).toLoadRect (w3.unread x0)) (View.readAt (Elt F) a4.view (Rect.unit (s := S4096x1024) (k0_off91 (grid0.coords t)) S512x128.size _).toLoadRect (w4.unread x1))⟩, ⟨sR 4, score (View.readAt (Elt F) a3.view (Rect.unit (s := S512x1024) ![0, 512] S512x128.size _).toLoadRect (w3.unread x0)) (View.readAt (Elt F) a4.view (Rect.unit (s := S4096x1024) (k0_off89 (grid0.coords t)) S512x128.size _).toLoadRect (w4.unread x1))⟩, ⟨sR 3, score (View.readAt (Elt F) a3.view (Rect.unit (s := S512x1024) ![0, 384] S512x128.size _).toLoadRect (w3.unread x0)) (View.readAt (Elt F) a4.view (Rect.unit (s := S4096x1024) (k0_off87 (grid0.coords t)) S512x128.size _).toLoadRect (w4.unread x1))⟩, ⟨sR 2, score (View.readAt (Elt F) a3.view (Rect.unit (s := S512x1024) ![0, 256] S512x128.size _).toLoadRect (w3.unread x0)) (View.readAt (Elt F) a4.view (Rect.unit (s := S4096x1024) (k0_off85 (grid0.coords t)) S512x128.size _).toLoadRect (w4.unread x1))⟩, ⟨sR 1, score (View.readAt (Elt F) a3.view (Rect.unit (s := S512x1024) ![0, 128] S512x128.size _).toLoadRect (w3.unread x0)) (View.readAt (Elt F) a4.view (Rect.unit (s := S4096x1024) (k0_off83 (grid0.coords t)) S512x128.size _).toLoadRect (w4.unread x1))⟩, ⟨sR 0, score (View.readAt (Elt F) a3.view (Rect.unit (s := S512x1024) ![0, 0] S512x128.size _).toLoadRect (w3.unread x0)) (View.readAt (Elt F) a4.view (Rect.unit (s := S4096x1024) (k0_off81 (grid0.coords t)) S512x128.size _).toLoadRect (w4.unread x1))⟩] : List (Own.PS F)) ++ _) = _
  rw [rd_q w3 x0 ![0, 0] _ 0 (by rfl), rd_q w3 x0 ![0, 128] _ 1 (by rfl), rd_q w3 x0 ![0, 256] _ 2 (by rfl), rd_q w3 x0 ![0, 384] _ 3 (by rfl), rd_q w3 x0 ![0, 512] _ 4 (by rfl), rd_q w3 x0 ![0, 640] _ 5 (by rfl), rd_q w3 x0 ![0, 768] _ 6 (by rfl), rd_q w3 x0 ![0, 896] _ 7 (by rfl), rd_kf w4 x1 _ _ (512 * (2 * nT t + 1)) 0 (off_k_0 t hc0 hc1), rd_kf w4 x1 _ _ (512 * (2 * nT t + 1)) 1 (off_k_1 t hc0 hc1), rd_kf w4 x1 _ _ (512 * (2 * nT t + 1)) 2 (off_k_2 t hc0 hc1), rd_kf w4 x1 _ _ (512 * (2 * nT t + 1)) 3 (off_k_3 t hc0 hc1), rd_kf w4 x1 _ _ (512 * (2 * nT t + 1)) 4 (off_k_4 t hc0 hc1), rd_kf w4 x1 _ _ (512 * (2 * nT t + 1)) 5 (off_k_5 t hc0 hc1), rd_kf w4 x1 _ _ (512 * (2 * nT t + 1)) 6 (off_k_6 t hc0 hc1), rd_kf w4 x1 _ _ (512 * (2 * nT t + 1)) 7 (off_k_7 t hc0 hc1)]
  rfl
theorem c_s (h : Fin 8) : (View.readCov (Val := Elt F) a10.view (sl.HS3_8 (F := F) c (grid0.coords t) a3 w3 a4 w4 a5 w5 a6 w6 a7 w7 a8 w8 a9 w9 a10 w10 hc0 hc1 x0 x1 x2) (sR h).toLoadRect) = Trip.s1 (Qv x0) x1 (nT t) h := by
  rw [l_s]
  exact readCov_head a10.view sR _ sR_apart _ heads h (mem_heads h)
theorem l_m2_0 : sl.HS0_8_1 (F := F) c (grid0.coords t) a3 w3 a4 w4 a5 w5 a6 w6 a7 w7 a8 w8 a9 w9 a10 w10 hc0 x0 x1 x2 = ([] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by rw [l_m_8, List.map_nil, List.nil_append]
theorem l_a2_0 : sl.HS1_8_1 (F := F) c (grid0.coords t) a3 w3 a4 w4 a5 w5 a6 w6 a7 w7 a8 w8 a9 w9 a10 w10 hc0 hc1 x0 x1 x2 = ([] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by rw [l_a_8, List.map_nil, List.nil_append]
theorem rd_m2_0 : (View.readCov (Val := Elt F) a7.view (sl.HS0_8_1 (F := F) c (grid0.coords t) a3 w3 a4 w4 a5 w5 a6 w6 a7 w7 a8 w8 a9 w9 a10 w10 hc0 x0 x1 x2) (mR 0).toLoadRect) = Trip.m1 (VS t x0 x1) (VM t x0 x1) 0 := by
  rw [l_m2_0, readCov_skips a7.view mR _ _ _ _ (by intro j hj; exact absurd hj (by simp))]
  exact readCov_head a7.view mR _ mR_apart _ heads 0 (mem_heads 0)
theorem rd_a2_0 : (View.readCov (Val := Elt F) a8.view (sl.HS1_8_1 (F := F) c (grid0.coords t) a3 w3 a4 w4 a5 w5 a6 w6 a7 w7 a8 w8 a9 w9 a10 w10 hc0 hc1 x0 x1 x2) (aR 0).toLoadRect) = Trip.a1 x2 (nT t) (VS t x0 x1) (VM t x0 x1) (VA t x0 x1 x2) 0 := by
  rw [l_a2_0, readCov_skips a8.view aR _ _ _ _ (by intro j hj; exact absurd hj (by simp))]
  exact readCov_head a8.view aR _ aR_apart _ heads 0 (mem_heads 0)
theorem l_m2_1 : sl.HS0_9_1 (F := F) c (grid0.coords t) a3 w3 a4 w4 a5 w5 a6 w6 a7 w7 a8 w8 a9 w9 a10 w10 hc0 hc1 x0 x1 x2 = ([0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 0, newM (View.readCov (Val := Elt F) a10.view (sl.HS3_8 (F := F) c (grid0.coords t) a3 w3 a4 w4 a5 w5 a6 w6 a7 w7 a8 w8 a9 w9 a10 w10 hc0 hc1 x0 x1 x2) (sR 0).toLoadRect) (View.readCov (Val := Elt F) a7.view (sl.HS0_8_1 (F := F) c (grid0.coords t) a3 w3 a4 w4 a5 w5 a6 w6 a7 w7 a8 w8 a9 w9 a10 w10 hc0 x0 x1 x2) (mR 0).toLoadRect)⟩ : Own.PM F) :: sl.HS0_8_1 (F := F) c (grid0.coords t) a3 w3 a4 w4 a5 w5 a6 w6 a7 w7 a8 w8 a9 w9 a10 w10 hc0 x0 x1 x2) = _
  rw [c_s, rd_m2_0, l_m2_0]
  rfl
theorem l_a2_1 : sl.HS1_9_1 (F := F) c (grid0.coords t) a3 w3 a4 w4 a5 w5 a6 w6 a7 w7 a8 w8 a9 w9 a10 w10 hc0 hc1 x0 x1 x2 = ([0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 0, newA (View.readCov (Val := Elt F) a10.view (sl.HS3_8 (F := F) c (grid0.coords t) a3 w3 a4 w4 a5 w5 a6 w6 a7 w7 a8 w8 a9 w9 a10 w10 hc0 hc1 x0 x1 x2) (sR 0).toLoadRect) (View.readCov (Val := Elt F) a7.view (sl.HS0_8_1 (F := F) c (grid0.coords t) a3 w3 a4 w4 a5 w5 a6 w6 a7 w7 a8 w8 a9 w9 a10 w10 hc0 x0 x1 x2) (mR 0).toLoadRect) (View.readAt (Elt F) a5.view (Rect.unit (s := S640x4096) (k0_off97 (grid0.coords t)) S80x512.size _).toLoadRect (w5.unread x2)) (View.readCov (Val := Elt F) a8.view (sl.HS1_8_1 (F := F) c (grid0.coords t) a3 w3 a4 w4 a5 w5 a6 w6 a7 w7 a8 w8 a9 w9 a10 w10 hc0 hc1 x0 x1 x2) (aR 0).toLoadRect)⟩ : Own.PA F) :: sl.HS1_8_1 (F := F) c (grid0.coords t) a3 w3 a4 w4 a5 w5 a6 w6 a7 w7 a8 w8 a9 w9 a10 w10 hc0 hc1 x0 x1 x2) = _
  rw [c_s, rd_m2_0, rd_vf w5 x2 _ _ (512 * (2 * nT t + 1)) 0 (off_w_0 t hc0 hc1), rd_a2_0, l_a2_0]
  rfl
theorem rd_m2_1 : (View.readCov (Val := Elt F) a7.view (sl.HS0_9_1 (F := F) c (grid0.coords t) a3 w3 a4 w4 a5 w5 a6 w6 a7 w7 a8 w8 a9 w9 a10 w10 hc0 hc1 x0 x1 x2) (mR 1).toLoadRect) = Trip.m1 (VS t x0 x1) (VM t x0 x1) 1 := by
  rw [l_m2_1, readCov_skips a7.view mR _ _ _ _ (by intro j hj; exact mR_apart j 1 (by revert j; decide))]
  exact readCov_head a7.view mR _ mR_apart _ heads 1 (mem_heads 1)
theorem rd_a2_1 : (View.readCov (Val := Elt F) a8.view (sl.HS1_9_1 (F := F) c (grid0.coords t) a3 w3 a4 w4 a5 w5 a6 w6 a7 w7 a8 w8 a9 w9 a10 w10 hc0 hc1 x0 x1 x2) (aR 1).toLoadRect) = Trip.a1 x2 (nT t) (VS t x0 x1) (VM t x0 x1) (VA t x0 x1 x2) 1 := by
  rw [l_a2_1, readCov_skips a8.view aR _ _ _ _ (by intro j hj; exact aR_apart j 1 (by revert j; decide))]
  exact readCov_head a8.view aR _ aR_apart _ heads 1 (mem_heads 1)
theorem l_m2_2 : sl.HS0_10_1 (F := F) c (grid0.coords t) a3 w3 a4 w4 a5 w5 a6 w6 a7 w7 a8 w8 a9 w9 a10 w10 hc0 hc1 x0 x1 x2 = ([1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 1, newM (View.readCov (Val := Elt F) a10.view (sl.HS3_8 (F := F) c (grid0.coords t) a3 w3 a4 w4 a5 w5 a6 w6 a7 w7 a8 w8 a9 w9 a10 w10 hc0 hc1 x0 x1 x2) (sR 1).toLoadRect) (View.readCov (Val := Elt F) a7.view (sl.HS0_9_1 (F := F) c (grid0.coords t) a3 w3 a4 w4 a5 w5 a6 w6 a7 w7 a8 w8 a9 w9 a10 w10 hc0 hc1 x0 x1 x2) (mR 1).toLoadRect)⟩ : Own.PM F) :: sl.HS0_9_1 (F := F) c (grid0.coords t) a3 w3 a4 w4 a5 w5 a6 w6 a7 w7 a8 w8 a9 w9 a10 w10 hc0 hc1 x0 x1 x2) = _
  rw [c_s, rd_m2_1, l_m2_1]
  rfl
theorem l_a2_2 : sl.HS1_10_1 (F := F) c (grid0.coords t) a3 w3 a4 w4 a5 w5 a6 w6 a7 w7 a8 w8 a9 w9 a10 w10 hc0 hc1 x0 x1 x2 = ([1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 1, newA (View.readCov (Val := Elt F) a10.view (sl.HS3_8 (F := F) c (grid0.coords t) a3 w3 a4 w4 a5 w5 a6 w6 a7 w7 a8 w8 a9 w9 a10 w10 hc0 hc1 x0 x1 x2) (sR 1).toLoadRect) (View.readCov (Val := Elt F) a7.view (sl.HS0_9_1 (F := F) c (grid0.coords t) a3 w3 a4 w4 a5 w5 a6 w6 a7 w7 a8 w8 a9 w9 a10 w10 hc0 hc1 x0 x1 x2) (mR 1).toLoadRect) (View.readAt (Elt F) a5.view (Rect.unit (s := S640x4096) (k0_off98 (grid0.coords t)) S80x512.size _).toLoadRect (w5.unread x2)) (View.readCov (Val := Elt F) a8.view (sl.HS1_9_1 (F := F) c (grid0.coords t) a3 w3 a4 w4 a5 w5 a6 w6 a7 w7 a8 w8 a9 w9 a10 w10 hc0 hc1 x0 x1 x2) (aR 1).toLoadRect)⟩ : Own.PA F) :: sl.HS1_9_1 (F := F) c (grid0.coords t) a3 w3 a4 w4 a5 w5 a6 w6 a7 w7 a8 w8 a9 w9 a10 w10 hc0 hc1 x0 x1 x2) = _
  rw [c_s, rd_m2_1, rd_vf w5 x2 _ _ (512 * (2 * nT t + 1)) 1 (off_w_1 t hc0 hc1), rd_a2_1, l_a2_1]
  rfl
theorem rd_m2_2 : (View.readCov (Val := Elt F) a7.view (sl.HS0_10_1 (F := F) c (grid0.coords t) a3 w3 a4 w4 a5 w5 a6 w6 a7 w7 a8 w8 a9 w9 a10 w10 hc0 hc1 x0 x1 x2) (mR 2).toLoadRect) = Trip.m1 (VS t x0 x1) (VM t x0 x1) 2 := by
  rw [l_m2_2, readCov_skips a7.view mR _ _ _ _ (by intro j hj; exact mR_apart j 2 (by revert j; decide))]
  exact readCov_head a7.view mR _ mR_apart _ heads 2 (mem_heads 2)
theorem rd_a2_2 : (View.readCov (Val := Elt F) a8.view (sl.HS1_10_1 (F := F) c (grid0.coords t) a3 w3 a4 w4 a5 w5 a6 w6 a7 w7 a8 w8 a9 w9 a10 w10 hc0 hc1 x0 x1 x2) (aR 2).toLoadRect) = Trip.a1 x2 (nT t) (VS t x0 x1) (VM t x0 x1) (VA t x0 x1 x2) 2 := by
  rw [l_a2_2, readCov_skips a8.view aR _ _ _ _ (by intro j hj; exact aR_apart j 2 (by revert j; decide))]
  exact readCov_head a8.view aR _ aR_apart _ heads 2 (mem_heads 2)
theorem l_m2_3 : sl.HS0_11_1 (F := F) c (grid0.coords t) a3 w3 a4 w4 a5 w5 a6 w6 a7 w7 a8 w8 a9 w9 a10 w10 hc0 hc1 x0 x1 x2 = ([2, 1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 2, newM (View.readCov (Val := Elt F) a10.view (sl.HS3_8 (F := F) c (grid0.coords t) a3 w3 a4 w4 a5 w5 a6 w6 a7 w7 a8 w8 a9 w9 a10 w10 hc0 hc1 x0 x1 x2) (sR 2).toLoadRect) (View.readCov (Val := Elt F) a7.view (sl.HS0_10_1 (F := F) c (grid0.coords t) a3 w3 a4 w4 a5 w5 a6 w6 a7 w7 a8 w8 a9 w9 a10 w10 hc0 hc1 x0 x1 x2) (mR 2).toLoadRect)⟩ : Own.PM F) :: sl.HS0_10_1 (F := F) c (grid0.coords t) a3 w3 a4 w4 a5 w5 a6 w6 a7 w7 a8 w8 a9 w9 a10 w10 hc0 hc1 x0 x1 x2) = _
  rw [c_s, rd_m2_2, l_m2_2]
  rfl
theorem l_a2_3 : sl.HS1_11_1 (F := F) c (grid0.coords t) a3 w3 a4 w4 a5 w5 a6 w6 a7 w7 a8 w8 a9 w9 a10 w10 hc0 hc1 x0 x1 x2 = ([2, 1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 2, newA (View.readCov (Val := Elt F) a10.view (sl.HS3_8 (F := F) c (grid0.coords t) a3 w3 a4 w4 a5 w5 a6 w6 a7 w7 a8 w8 a9 w9 a10 w10 hc0 hc1 x0 x1 x2) (sR 2).toLoadRect) (View.readCov (Val := Elt F) a7.view (sl.HS0_10_1 (F := F) c (grid0.coords t) a3 w3 a4 w4 a5 w5 a6 w6 a7 w7 a8 w8 a9 w9 a10 w10 hc0 hc1 x0 x1 x2) (mR 2).toLoadRect) (View.readAt (Elt F) a5.view (Rect.unit (s := S640x4096) (k0_off99 (grid0.coords t)) S80x512.size _).toLoadRect (w5.unread x2)) (View.readCov (Val := Elt F) a8.view (sl.HS1_10_1 (F := F) c (grid0.coords t) a3 w3 a4 w4 a5 w5 a6 w6 a7 w7 a8 w8 a9 w9 a10 w10 hc0 hc1 x0 x1 x2) (aR 2).toLoadRect)⟩ : Own.PA F) :: sl.HS1_10_1 (F := F) c (grid0.coords t) a3 w3 a4 w4 a5 w5 a6 w6 a7 w7 a8 w8 a9 w9 a10 w10 hc0 hc1 x0 x1 x2) = _
  rw [c_s, rd_m2_2, rd_vf w5 x2 _ _ (512 * (2 * nT t + 1)) 2 (off_w_2 t hc0 hc1), rd_a2_2, l_a2_2]
  rfl
theorem rd_m2_3 : (View.readCov (Val := Elt F) a7.view (sl.HS0_11_1 (F := F) c (grid0.coords t) a3 w3 a4 w4 a5 w5 a6 w6 a7 w7 a8 w8 a9 w9 a10 w10 hc0 hc1 x0 x1 x2) (mR 3).toLoadRect) = Trip.m1 (VS t x0 x1) (VM t x0 x1) 3 := by
  rw [l_m2_3, readCov_skips a7.view mR _ _ _ _ (by intro j hj; exact mR_apart j 3 (by revert j; decide))]
  exact readCov_head a7.view mR _ mR_apart _ heads 3 (mem_heads 3)
theorem rd_a2_3 : (View.readCov (Val := Elt F) a8.view (sl.HS1_11_1 (F := F) c (grid0.coords t) a3 w3 a4 w4 a5 w5 a6 w6 a7 w7 a8 w8 a9 w9 a10 w10 hc0 hc1 x0 x1 x2) (aR 3).toLoadRect) = Trip.a1 x2 (nT t) (VS t x0 x1) (VM t x0 x1) (VA t x0 x1 x2) 3 := by
  rw [l_a2_3, readCov_skips a8.view aR _ _ _ _ (by intro j hj; exact aR_apart j 3 (by revert j; decide))]
  exact readCov_head a8.view aR _ aR_apart _ heads 3 (mem_heads 3)
theorem l_m2_4 : sl.HS0_12_1 (F := F) c (grid0.coords t) a3 w3 a4 w4 a5 w5 a6 w6 a7 w7 a8 w8 a9 w9 a10 w10 hc0 hc1 x0 x1 x2 = ([3, 2, 1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 3, newM (View.readCov (Val := Elt F) a10.view (sl.HS3_8 (F := F) c (grid0.coords t) a3 w3 a4 w4 a5 w5 a6 w6 a7 w7 a8 w8 a9 w9 a10 w10 hc0 hc1 x0 x1 x2) (sR 3).toLoadRect) (View.readCov (Val := Elt F) a7.view (sl.HS0_11_1 (F := F) c (grid0.coords t) a3 w3 a4 w4 a5 w5 a6 w6 a7 w7 a8 w8 a9 w9 a10 w10 hc0 hc1 x0 x1 x2) (mR 3).toLoadRect)⟩ : Own.PM F) :: sl.HS0_11_1 (F := F) c (grid0.coords t) a3 w3 a4 w4 a5 w5 a6 w6 a7 w7 a8 w8 a9 w9 a10 w10 hc0 hc1 x0 x1 x2) = _
  rw [c_s, rd_m2_3, l_m2_3]
  rfl
theorem l_a2_4 : sl.HS1_12_1 (F := F) c (grid0.coords t) a3 w3 a4 w4 a5 w5 a6 w6 a7 w7 a8 w8 a9 w9 a10 w10 hc0 hc1 x0 x1 x2 = ([3, 2, 1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 3, newA (View.readCov (Val := Elt F) a10.view (sl.HS3_8 (F := F) c (grid0.coords t) a3 w3 a4 w4 a5 w5 a6 w6 a7 w7 a8 w8 a9 w9 a10 w10 hc0 hc1 x0 x1 x2) (sR 3).toLoadRect) (View.readCov (Val := Elt F) a7.view (sl.HS0_11_1 (F := F) c (grid0.coords t) a3 w3 a4 w4 a5 w5 a6 w6 a7 w7 a8 w8 a9 w9 a10 w10 hc0 hc1 x0 x1 x2) (mR 3).toLoadRect) (View.readAt (Elt F) a5.view (Rect.unit (s := S640x4096) (k0_off100 (grid0.coords t)) S80x512.size _).toLoadRect (w5.unread x2)) (View.readCov (Val := Elt F) a8.view (sl.HS1_11_1 (F := F) c (grid0.coords t) a3 w3 a4 w4 a5 w5 a6 w6 a7 w7 a8 w8 a9 w9 a10 w10 hc0 hc1 x0 x1 x2) (aR 3).toLoadRect)⟩ : Own.PA F) :: sl.HS1_11_1 (F := F) c (grid0.coords t) a3 w3 a4 w4 a5 w5 a6 w6 a7 w7 a8 w8 a9 w9 a10 w10 hc0 hc1 x0 x1 x2) = _
  rw [c_s, rd_m2_3, rd_vf w5 x2 _ _ (512 * (2 * nT t + 1)) 3 (off_w_3 t hc0 hc1), rd_a2_3, l_a2_3]
  rfl
theorem rd_m2_4 : (View.readCov (Val := Elt F) a7.view (sl.HS0_12_1 (F := F) c (grid0.coords t) a3 w3 a4 w4 a5 w5 a6 w6 a7 w7 a8 w8 a9 w9 a10 w10 hc0 hc1 x0 x1 x2) (mR 4).toLoadRect) = Trip.m1 (VS t x0 x1) (VM t x0 x1) 4 := by
  rw [l_m2_4, readCov_skips a7.view mR _ _ _ _ (by intro j hj; exact mR_apart j 4 (by revert j; decide))]
  exact readCov_head a7.view mR _ mR_apart _ heads 4 (mem_heads 4)
theorem rd_a2_4 : (View.readCov (Val := Elt F) a8.view (sl.HS1_12_1 (F := F) c (grid0.coords t) a3 w3 a4 w4 a5 w5 a6 w6 a7 w7 a8 w8 a9 w9 a10 w10 hc0 hc1 x0 x1 x2) (aR 4).toLoadRect) = Trip.a1 x2 (nT t) (VS t x0 x1) (VM t x0 x1) (VA t x0 x1 x2) 4 := by
  rw [l_a2_4, readCov_skips a8.view aR _ _ _ _ (by intro j hj; exact aR_apart j 4 (by revert j; decide))]
  exact readCov_head a8.view aR _ aR_apart _ heads 4 (mem_heads 4)
theorem l_m2_5 : sl.HS0_13_1 (F := F) c (grid0.coords t) a3 w3 a4 w4 a5 w5 a6 w6 a7 w7 a8 w8 a9 w9 a10 w10 hc0 hc1 x0 x1 x2 = ([4, 3, 2, 1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 4, newM (View.readCov (Val := Elt F) a10.view (sl.HS3_8 (F := F) c (grid0.coords t) a3 w3 a4 w4 a5 w5 a6 w6 a7 w7 a8 w8 a9 w9 a10 w10 hc0 hc1 x0 x1 x2) (sR 4).toLoadRect) (View.readCov (Val := Elt F) a7.view (sl.HS0_12_1 (F := F) c (grid0.coords t) a3 w3 a4 w4 a5 w5 a6 w6 a7 w7 a8 w8 a9 w9 a10 w10 hc0 hc1 x0 x1 x2) (mR 4).toLoadRect)⟩ : Own.PM F) :: sl.HS0_12_1 (F := F) c (grid0.coords t) a3 w3 a4 w4 a5 w5 a6 w6 a7 w7 a8 w8 a9 w9 a10 w10 hc0 hc1 x0 x1 x2) = _
  rw [c_s, rd_m2_4, l_m2_4]
  rfl
theorem l_a2_5 : sl.HS1_13_1 (F := F) c (grid0.coords t) a3 w3 a4 w4 a5 w5 a6 w6 a7 w7 a8 w8 a9 w9 a10 w10 hc0 hc1 x0 x1 x2 = ([4, 3, 2, 1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 4, newA (View.readCov (Val := Elt F) a10.view (sl.HS3_8 (F := F) c (grid0.coords t) a3 w3 a4 w4 a5 w5 a6 w6 a7 w7 a8 w8 a9 w9 a10 w10 hc0 hc1 x0 x1 x2) (sR 4).toLoadRect) (View.readCov (Val := Elt F) a7.view (sl.HS0_12_1 (F := F) c (grid0.coords t) a3 w3 a4 w4 a5 w5 a6 w6 a7 w7 a8 w8 a9 w9 a10 w10 hc0 hc1 x0 x1 x2) (mR 4).toLoadRect) (View.readAt (Elt F) a5.view (Rect.unit (s := S640x4096) (k0_off101 (grid0.coords t)) S80x512.size _).toLoadRect (w5.unread x2)) (View.readCov (Val := Elt F) a8.view (sl.HS1_12_1 (F := F) c (grid0.coords t) a3 w3 a4 w4 a5 w5 a6 w6 a7 w7 a8 w8 a9 w9 a10 w10 hc0 hc1 x0 x1 x2) (aR 4).toLoadRect)⟩ : Own.PA F) :: sl.HS1_12_1 (F := F) c (grid0.coords t) a3 w3 a4 w4 a5 w5 a6 w6 a7 w7 a8 w8 a9 w9 a10 w10 hc0 hc1 x0 x1 x2) = _
  rw [c_s, rd_m2_4, rd_vf w5 x2 _ _ (512 * (2 * nT t + 1)) 4 (off_w_4 t hc0 hc1), rd_a2_4, l_a2_4]
  rfl
theorem rd_m2_5 : (View.readCov (Val := Elt F) a7.view (sl.HS0_13_1 (F := F) c (grid0.coords t) a3 w3 a4 w4 a5 w5 a6 w6 a7 w7 a8 w8 a9 w9 a10 w10 hc0 hc1 x0 x1 x2) (mR 5).toLoadRect) = Trip.m1 (VS t x0 x1) (VM t x0 x1) 5 := by
  rw [l_m2_5, readCov_skips a7.view mR _ _ _ _ (by intro j hj; exact mR_apart j 5 (by revert j; decide))]
  exact readCov_head a7.view mR _ mR_apart _ heads 5 (mem_heads 5)
theorem rd_a2_5 : (View.readCov (Val := Elt F) a8.view (sl.HS1_13_1 (F := F) c (grid0.coords t) a3 w3 a4 w4 a5 w5 a6 w6 a7 w7 a8 w8 a9 w9 a10 w10 hc0 hc1 x0 x1 x2) (aR 5).toLoadRect) = Trip.a1 x2 (nT t) (VS t x0 x1) (VM t x0 x1) (VA t x0 x1 x2) 5 := by
  rw [l_a2_5, readCov_skips a8.view aR _ _ _ _ (by intro j hj; exact aR_apart j 5 (by revert j; decide))]
  exact readCov_head a8.view aR _ aR_apart _ heads 5 (mem_heads 5)
theorem l_m2_6 : sl.HS0_14_1 (F := F) c (grid0.coords t) a3 w3 a4 w4 a5 w5 a6 w6 a7 w7 a8 w8 a9 w9 a10 w10 hc0 hc1 x0 x1 x2 = ([5, 4, 3, 2, 1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 5, newM (View.readCov (Val := Elt F) a10.view (sl.HS3_8 (F := F) c (grid0.coords t) a3 w3 a4 w4 a5 w5 a6 w6 a7 w7 a8 w8 a9 w9 a10 w10 hc0 hc1 x0 x1 x2) (sR 5).toLoadRect) (View.readCov (Val := Elt F) a7.view (sl.HS0_13_1 (F := F) c (grid0.coords t) a3 w3 a4 w4 a5 w5 a6 w6 a7 w7 a8 w8 a9 w9 a10 w10 hc0 hc1 x0 x1 x2) (mR 5).toLoadRect)⟩ : Own.PM F) :: sl.HS0_13_1 (F := F) c (grid0.coords t) a3 w3 a4 w4 a5 w5 a6 w6 a7 w7 a8 w8 a9 w9 a10 w10 hc0 hc1 x0 x1 x2) = _
  rw [c_s, rd_m2_5, l_m2_5]
  rfl
theorem l_a2_6 : sl.HS1_14_1 (F := F) c (grid0.coords t) a3 w3 a4 w4 a5 w5 a6 w6 a7 w7 a8 w8 a9 w9 a10 w10 hc0 hc1 x0 x1 x2 = ([5, 4, 3, 2, 1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 5, newA (View.readCov (Val := Elt F) a10.view (sl.HS3_8 (F := F) c (grid0.coords t) a3 w3 a4 w4 a5 w5 a6 w6 a7 w7 a8 w8 a9 w9 a10 w10 hc0 hc1 x0 x1 x2) (sR 5).toLoadRect) (View.readCov (Val := Elt F) a7.view (sl.HS0_13_1 (F := F) c (grid0.coords t) a3 w3 a4 w4 a5 w5 a6 w6 a7 w7 a8 w8 a9 w9 a10 w10 hc0 hc1 x0 x1 x2) (mR 5).toLoadRect) (View.readAt (Elt F) a5.view (Rect.unit (s := S640x4096) (k0_off102 (grid0.coords t)) S80x512.size _).toLoadRect (w5.unread x2)) (View.readCov (Val := Elt F) a8.view (sl.HS1_13_1 (F := F) c (grid0.coords t) a3 w3 a4 w4 a5 w5 a6 w6 a7 w7 a8 w8 a9 w9 a10 w10 hc0 hc1 x0 x1 x2) (aR 5).toLoadRect)⟩ : Own.PA F) :: sl.HS1_13_1 (F := F) c (grid0.coords t) a3 w3 a4 w4 a5 w5 a6 w6 a7 w7 a8 w8 a9 w9 a10 w10 hc0 hc1 x0 x1 x2) = _
  rw [c_s, rd_m2_5, rd_vf w5 x2 _ _ (512 * (2 * nT t + 1)) 5 (off_w_5 t hc0 hc1), rd_a2_5, l_a2_5]
  rfl
theorem rd_m2_6 : (View.readCov (Val := Elt F) a7.view (sl.HS0_14_1 (F := F) c (grid0.coords t) a3 w3 a4 w4 a5 w5 a6 w6 a7 w7 a8 w8 a9 w9 a10 w10 hc0 hc1 x0 x1 x2) (mR 6).toLoadRect) = Trip.m1 (VS t x0 x1) (VM t x0 x1) 6 := by
  rw [l_m2_6, readCov_skips a7.view mR _ _ _ _ (by intro j hj; exact mR_apart j 6 (by revert j; decide))]
  exact readCov_head a7.view mR _ mR_apart _ heads 6 (mem_heads 6)
theorem rd_a2_6 : (View.readCov (Val := Elt F) a8.view (sl.HS1_14_1 (F := F) c (grid0.coords t) a3 w3 a4 w4 a5 w5 a6 w6 a7 w7 a8 w8 a9 w9 a10 w10 hc0 hc1 x0 x1 x2) (aR 6).toLoadRect) = Trip.a1 x2 (nT t) (VS t x0 x1) (VM t x0 x1) (VA t x0 x1 x2) 6 := by
  rw [l_a2_6, readCov_skips a8.view aR _ _ _ _ (by intro j hj; exact aR_apart j 6 (by revert j; decide))]
  exact readCov_head a8.view aR _ aR_apart _ heads 6 (mem_heads 6)
theorem l_m2_7 : sl.HS0_15_1 (F := F) c (grid0.coords t) a3 w3 a4 w4 a5 w5 a6 w6 a7 w7 a8 w8 a9 w9 a10 w10 hc0 hc1 x0 x1 x2 = ([6, 5, 4, 3, 2, 1, 0] : List (Fin 8)).map (fun h => (⟨mR h, Trip.m2 (Qv x0) x1 (nT t) (VS t x0 x1) (VM t x0 x1) h⟩ : Own.PM F)) ++ (heads.map (fun h => (⟨mR h, Trip.m1 (VS t x0 x1) (VM t x0 x1) h⟩ : Own.PM F)) ++ BM t c a3 w3 a4 w4 a5 w5 a6 w6 a7 w7 a8 w8 a9 w9 a10 w10 hc0 x0 x1 x2) := by
  show ((⟨mR 6, newM (View.readCov (Val := Elt F) a10.view (sl.HS3_8 (F := F) c (grid0.coords t) a3 w3 a4 w4 a5 w5 a6 w6 a7 w7 a8 w8 a9 w9 a10 w10 hc0 hc1 x0 x1 x2) (sR 6).toLoadRect) (View.readCov (Val := Elt F) a7.view (sl.HS0_14_1 (F := F) c (grid0.coords t) a3 w3 a4 w4 a5 w5 a6 w6 a7 w7 a8 w8 a9 w9 a10 w10 hc0 hc1 x0 x1 x2) (mR 6).toLoadRect)⟩ : Own.PM F) :: sl.HS0_14_1 (F := F) c (grid0.coords t) a3 w3 a4 w4 a5 w5 a6 w6 a7 w7 a8 w8 a9 w9 a10 w10 hc0 hc1 x0 x1 x2) = _
  rw [c_s, rd_m2_6, l_m2_6]
  rfl
theorem l_a2_7 : sl.HS1_15_1 (F := F) c (grid0.coords t) a3 w3 a4 w4 a5 w5 a6 w6 a7 w7 a8 w8 a9 w9 a10 w10 hc0 hc1 x0 x1 x2 = ([6, 5, 4, 3, 2, 1, 0] : List (Fin 8)).map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 6, newA (View.readCov (Val := Elt F) a10.view (sl.HS3_8 (F := F) c (grid0.coords t) a3 w3 a4 w4 a5 w5 a6 w6 a7 w7 a8 w8 a9 w9 a10 w10 hc0 hc1 x0 x1 x2) (sR 6).toLoadRect) (View.readCov (Val := Elt F) a7.view (sl.HS0_14_1 (F := F) c (grid0.coords t) a3 w3 a4 w4 a5 w5 a6 w6 a7 w7 a8 w8 a9 w9 a10 w10 hc0 hc1 x0 x1 x2) (mR 6).toLoadRect) (View.readAt (Elt F) a5.view (Rect.unit (s := S640x4096) (k0_off103 (grid0.coords t)) S80x512.size _).toLoadRect (w5.unread x2)) (View.readCov (Val := Elt F) a8.view (sl.HS1_14_1 (F := F) c (grid0.coords t) a3 w3 a4 w4 a5 w5 a6 w6 a7 w7 a8 w8 a9 w9 a10 w10 hc0 hc1 x0 x1 x2) (aR 6).toLoadRect)⟩ : Own.PA F) :: sl.HS1_14_1 (F := F) c (grid0.coords t) a3 w3 a4 w4 a5 w5 a6 w6 a7 w7 a8 w8 a9 w9 a10 w10 hc0 hc1 x0 x1 x2) = _
  rw [c_s, rd_m2_6, rd_vf w5 x2 _ _ (512 * (2 * nT t + 1)) 6 (off_w_6 t hc0 hc1), rd_a2_6, l_a2_6]
  rfl
theorem rd_m2_7 : (View.readCov (Val := Elt F) a7.view (sl.HS0_15_1 (F := F) c (grid0.coords t) a3 w3 a4 w4 a5 w5 a6 w6 a7 w7 a8 w8 a9 w9 a10 w10 hc0 hc1 x0 x1 x2) (mR 7).toLoadRect) = Trip.m1 (VS t x0 x1) (VM t x0 x1) 7 := by
  rw [l_m2_7, readCov_skips a7.view mR _ _ _ _ (by intro j hj; exact mR_apart j 7 (by revert j; decide))]
  exact readCov_head a7.view mR _ mR_apart _ heads 7 (mem_heads 7)
theorem rd_a2_7 : (View.readCov (Val := Elt F) a8.view (sl.HS1_15_1 (F := F) c (grid0.coords t) a3 w3 a4 w4 a5 w5 a6 w6 a7 w7 a8 w8 a9 w9 a10 w10 hc0 hc1 x0 x1 x2) (aR 7).toLoadRect) = Trip.a1 x2 (nT t) (VS t x0 x1) (VM t x0 x1) (VA t x0 x1 x2) 7 := by
  rw [l_a2_7, readCov_skips a8.view aR _ _ _ _ (by intro j hj; exact aR_apart j 7 (by revert j; decide))]
  exact readCov_head a8.view aR _ aR_apart _ heads 7 (mem_heads 7)
theorem l_a2_8 : sl.HS1_16_1 (F := F) c (grid0.coords t) a3 w3 a4 w4 a5 w5 a6 w6 a7 w7 a8 w8 a9 w9 a10 w10 hc0 hc1 x0 x1 x2 = heads.map (fun h => (⟨aR h, Trip.a2 (Qv x0) x1 x2 (nT t) (VS t x0 x1) (VM t x0 x1) (VA t x0 x1 x2) h⟩ : Own.PA F)) ++ (heads.map (fun h => (⟨aR h, Trip.a1 x2 (nT t) (VS t x0 x1) (VM t x0 x1) (VA t x0 x1 x2) h⟩ : Own.PA F)) ++ BA t c a3 w3 a4 w4 a5 w5 a6 w6 a7 w7 a8 w8 a9 w9 a10 w10 hc0 x0 x1 x2) := by
  show ((⟨aR 7, newA (View.readCov (Val := Elt F) a10.view (sl.HS3_8 (F := F) c (grid0.coords t) a3 w3 a4 w4 a5 w5 a6 w6 a7 w7 a8 w8 a9 w9 a10 w10 hc0 hc1 x0 x1 x2) (sR 7).toLoadRect) (View.readCov (Val := Elt F) a7.view (sl.HS0_15_1 (F := F) c (grid0.coords t) a3 w3 a4 w4 a5 w5 a6 w6 a7 w7 a8 w8 a9 w9 a10 w10 hc0 hc1 x0 x1 x2) (mR 7).toLoadRect) (View.readAt (Elt F) a5.view (Rect.unit (s := S640x4096) (k0_off104 (grid0.coords t)) S80x512.size _).toLoadRect (w5.unread x2)) (View.readCov (Val := Elt F) a8.view (sl.HS1_15_1 (F := F) c (grid0.coords t) a3 w3 a4 w4 a5 w5 a6 w6 a7 w7 a8 w8 a9 w9 a10 w10 hc0 hc1 x0 x1 x2) (aR 7).toLoadRect)⟩ : Own.PA F) :: sl.HS1_15_1 (F := F) c (grid0.coords t) a3 w3 a4 w4 a5 w5 a6 w6 a7 w7 a8 w8 a9 w9 a10 w10 hc0 hc1 x0 x1 x2) = _
  rw [c_s, rd_m2_7, rd_vf w5 x2 _ _ (512 * (2 * nT t + 1)) 7 (off_w_7 t hc0 hc1), rd_a2_7, l_a2_7]
  rfl
/-- The weighted sums that the run divides. -/
theorem last_a (h : Fin 8) : (View.readCov (Val := Elt F) a8.view (sl.HS1_16_1 (F := F) c (grid0.coords t) a3 w3 a4 w4 a5 w5 a6 w6 a7 w7 a8 w8 a9 w9 a10 w10 hc0 hc1 x0 x1 x2) (aR h).toLoadRect) = Av ((grid0.coords t) 2).val x0 x1 x2 (nT t + 1) h := by
  rw [l_a2_8]
  exact readCov_head a8.view aR _ aR_apart _ heads h (mem_heads h)

end

end Cert.TailC

end
-- ==== Proof.OwnA.lean ====
/- The two steps over the keys at the queries' own positions, in the run at the first row block (where there is nothing else): the lists of
   pieces that the run finds are those of Own.lean, head by head. -/
module

public import proofs.«01_k».proof.Proof.Own
public import proofs.«01_k».proof.Proof.Gen.KernelIdeal.Frame.RunA
import all proofs.«01_k».proof.Proof.Gen.KernelIdeal.Frame.RunA
public import proofs.«01_k».proof.Proof.Gen.KernelIdeal.Points

@[expose] public section

set_option maxRecDepth 16384
set_option maxHeartbeats 1000000

noncomputable section

namespace Cert.OwnA

open Idealize.ShloMosaic Cert.KernelIdeal Cert.KernelIdeal.Gen Cert.Steps Cert.Slab kernelRun0_A

theorem off_k0_0 : ∀ t : Fin grid0.N, k0_off1 (grid0.coords t) 0#32 = ![512 * ((grid0.coords t) 2).val, 128 * 0] := by decide +kernel
theorem off_k1_0 : ∀ t : Fin grid0.N, k0_off1 (grid0.coords t) 256#32 = ![512 * ((grid0.coords t) 2).val + 256, 128 * 0] := by decide +kernel
theorem off_v0_0 : ∀ t : Fin grid0.N, k0_off9 (grid0.coords t) 0#32 = ![80 * 0, 512 * ((grid0.coords t) 2).val] := by decide +kernel
theorem off_v1_0 : ∀ t : Fin grid0.N, k0_off9 (grid0.coords t) 256#32 = ![80 * 0, 512 * ((grid0.coords t) 2).val + 256] := by decide +kernel
theorem off_k0_1 : ∀ t : Fin grid0.N, k0_off2 (grid0.coords t) 0#32 = ![512 * ((grid0.coords t) 2).val, 128 * 1] := by decide +kernel
theorem off_k1_1 : ∀ t : Fin grid0.N, k0_off2 (grid0.coords t) 256#32 = ![512 * ((grid0.coords t) 2).val + 256, 128 * 1] := by decide +kernel
theorem off_v0_1 : ∀ t : Fin grid0.N, k0_off10 (grid0.coords t) 0#32 = ![80 * 1, 512 * ((grid0.coords t) 2).val] := by decide +kernel
theorem off_v1_1 : ∀ t : Fin grid0.N, k0_off10 (grid0.coords t) 256#32 = ![80 * 1, 512 * ((grid0.coords t) 2).val + 256] := by decide +kernel
theorem off_k0_2 : ∀ t : Fin grid0.N, k0_off3 (grid0.coords t) 0#32 = ![512 * ((grid0.coords t) 2).val, 128 * 2] := by decide +kernel
theorem off_k1_2 : ∀ t : Fin grid0.N, k0_off3 (grid0.coords t) 256#32 = ![512 * ((grid0.coords t) 2).val + 256, 128 * 2] := by decide +kernel
theorem off_v0_2 : ∀ t : Fin grid0.N, k0_off11 (grid0.coords t) 0#32 = ![80 * 2, 512 * ((grid0.coords t) 2).val] := by decide +kernel
theorem off_v1_2 : ∀ t : Fin grid0.N, k0_off11 (grid0.coords t) 256#32 = ![80 * 2, 512 * ((grid0.coords t) 2).val + 256] := by decide +kernel
theorem off_k0_3 : ∀ t : Fin grid0.N, k0_off4 (grid0.coords t) 0#32 = ![512 * ((grid0.coords t) 2).val, 128 * 3] := by decide +kernel
theorem off_k1_3 : ∀ t : Fin grid0.N, k0_off4 (grid0.coords t) 256#32 = ![512 * ((grid0.coords t) 2).val + 256, 128 * 3] := by decide +kernel
theorem off_v0_3 : ∀ t : Fin grid0.N, k0_off12 (grid0.coords t) 0#32 = ![80 * 3, 512 * ((grid0.coords t) 2).val] := by decide +kernel
theorem off_v1_3 : ∀ t : Fin grid0.N, k0_off12 (grid0.coords t) 256#32 = ![80 * 3, 512 * ((grid0.coords t) 2).val + 256] := by decide +kernel
theorem off_k0_4 : ∀ t : Fin grid0.N, k0_off5 (grid0.coords t) 0#32 = ![512 * ((grid0.coords t) 2).val, 128 * 4] := by decide +kernel
theorem off_k1_4 : ∀ t : Fin grid0.N, k0_off5 (grid0.coords t) 256#32 = ![512 * ((grid0.coords t) 2).val + 256, 128 * 4] := by decide +kernel
theorem off_v0_4 : ∀ t : Fin grid0.N, k0_off13 (grid0.coords t) 0#32 = ![80 * 4, 512 * ((grid0.coords t) 2).val] := by decide +kernel
theorem off_v1_4 : ∀ t : Fin grid0.N, k0_off13 (grid0.coords t) 256#32 = ![80 * 4, 512 * ((grid0.coords t) 2).val + 256] := by decide +kernel
theorem off_k0_5 : ∀ t : Fin grid0.N, k0_off6 (grid0.coords t) 0#32 = ![512 * ((grid0.coords t) 2).val, 128 * 5] := by decide +kernel
theorem off_k1_5 : ∀ t : Fin grid0.N, k0_off6 (grid0.coords t) 256#32 = ![512 * ((grid0.coords t) 2).val + 256, 128 * 5] := by decide +kernel
theorem off_v0_5 : ∀ t : Fin grid0.N, k0_off14 (grid0.coords t) 0#32 = ![80 * 5, 512 * ((grid0.coords t) 2).val] := by decide +kernel
theorem off_v1_5 : ∀ t : Fin grid0.N, k0_off14 (grid0.coords t) 256#32 = ![80 * 5, 512 * ((grid0.coords t) 2).val + 256] := by decide +kernel
theorem off_k0_6 : ∀ t : Fin grid0.N, k0_off7 (grid0.coords t) 0#32 = ![512 * ((grid0.coords t) 2).val, 128 * 6] := by decide +kernel
theorem off_k1_6 : ∀ t : Fin grid0.N, k0_off7 (grid0.coords t) 256#32 = ![512 * ((grid0.coords t) 2).val + 256, 128 * 6] := by decide +kernel
theorem off_v0_6 : ∀ t : Fin grid0.N, k0_off15 (grid0.coords t) 0#32 = ![80 * 6, 512 * ((grid0.coords t) 2).val] := by decide +kernel
theorem off_v1_6 : ∀ t : Fin grid0.N, k0_off15 (grid0.coords t) 256#32 = ![80 * 6, 512 * ((grid0.coords t) 2).val + 256] := by decide +kernel
theorem off_k0_7 : ∀ t : Fin grid0.N, k0_off8 (grid0.coords t) 0#32 = ![512 * ((grid0.coords t) 2).val, 128 * 7] := by decide +kernel
theorem off_k1_7 : ∀ t : Fin grid0.N, k0_off8 (grid0.coords t) 256#32 = ![512 * ((grid0.coords t) 2).val + 256, 128 * 7] := by decide +kernel
theorem off_v0_7 : ∀ t : Fin grid0.N, k0_off16 (grid0.coords t) 0#32 = ![80 * 7, 512 * ((grid0.coords t) 2).val] := by decide +kernel
theorem off_v1_7 : ∀ t : Fin grid0.N, k0_off16 (grid0.coords t) 256#32 = ![80 * 7, 512 * ((grid0.coords t) 2).val + 256] := by decide +kernel

section
variable {F : FTy → Type} [FloatOps F] [Named F]
variable (t : Fin grid0.N) (c : Dev nD)
  (a3 : Memref sig .tc .vmem S512x1024 .bf16) (w3 : a3.IsWhole)
  (a4 : Memref sig .tc .vmem S4096x1024 .bf16) (w4 : a4.IsWhole) (a5 : Memref sig .tc .vmem S640x4096 .bf16) (w5 : a5.IsWhole)
  (a7 : Memref sig .tc .vmem S8x1x512 .f32) (a8 : Memref sig .tc .vmem S8x80x512 .f32)
  (x0 : Vec F S512x1024 .bf16) (x1 : Vec F S4096x1024 .bf16) (x2 : Vec F S640x4096 .bf16)

theorem l_m0_0 : sl.HS0_1 (F := F) = ([] : List (Fin 8)).map (fun h => (⟨mR h, Own.m0 ((grid0.coords t) 2).val x0 x1 h⟩ : Own.PM F)) ++ sl.HS0_1 (F := F) := rfl
theorem l_a0_0 : sl.HS1_1 (F := F) = ([] : List (Fin 8)).map (fun h => (⟨aR h, Own.a0 ((grid0.coords t) 2).val x0 x1 x2 h⟩ : Own.PA F)) ++ sl.HS1_1 (F := F) := rfl
theorem rd_m0_0 : View.readCov (Val := Elt F) a7.view (sl.HS0_1 (F := F)) (mR 0).toLoadRect = Own.noM := by
  exact View.readCov_fill a7.view _ _ [] _ (by decide)
theorem rd_a0_0 : View.readCov (Val := Elt F) a8.view (sl.HS1_1 (F := F)) (aR 0).toLoadRect = Own.noA := by
  exact View.readCov_fill a8.view _ _ [] _ (by decide)
theorem l_m0_1 : sl.HS0_2 (F := F) c (grid0.coords t) a3 w3 a4 w4 a7 x0 x1 = ([0] : List (Fin 8)).map (fun h => (⟨mR h, Own.m0 ((grid0.coords t) 2).val x0 x1 h⟩ : Own.PM F)) ++ sl.HS0_1 (F := F) := by
  show ((⟨mR 0, newM0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect)⟩ : Own.PM F) :: sl.HS0_1 (F := F)) = _
  rw [rd_q w3 x0 ![0, 0] _ 0 (by rfl), rd_kg w4 x1 _ _ (512 * ((grid0.coords t) 2).val) 0 (off_k0_0 t), rd_m0_0, l_m0_0]
  rfl
theorem l_a0_1 : sl.HS1_2 (F := F) c (grid0.coords t) a3 w3 a4 w4 a5 w5 a7 a8 x0 x1 x2 = ([0] : List (Fin 8)).map (fun h => (⟨aR h, Own.a0 ((grid0.coords t) 2).val x0 x1 x2 h⟩ : Own.PA F)) ++ sl.HS1_1 (F := F) := by
  show ((⟨aR 0, newA0 (own0 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 0#32) S256x128.size _).toLoadRect (w4.unread x1))) (View.readCov (Val := Elt F) a7.view (sl.HS0_1 (F := F)) (mR 0).toLoadRect) (View.readAt (Elt F) a5.view (Rect.unit (s := S640x4096) (k0_off9 (grid0.coords t) 0#32) S80x256.size _).toLoadRect (w5.unread x2)) (View.readCov (Val := Elt F) a8.view (sl.HS1_1 (F := F)) (aR 0).toLoadRect)⟩ : Own.PA F) :: sl.HS1_1 (F := F)) = _
  rw [rd_q w3 x0 ![0, 0] _ 0 (by rfl), rd_kg w4 x1 _ _ (512 * ((grid0.coords t) 2).val) 0 (off_k0_0 t), rd_m0_0, rd_vg w5 x2 _ _ (512 * ((grid0.coords t) 2).val) 0 (off_v0_0 t), rd_a0_0, l_a0_0]
  rfl
theorem rd_m0_1 : View.readCov (Val := Elt F) a7.view (sl.HS0_2 (F := F) c (grid0.coords t) a3 w3 a4 w4 a7 x0 x1) (mR 1).toLoadRect = Own.noM := by
  rw [l_m0_1, readCov_skips a7.view mR _ _ _ _ (by intro j hj; exact mR_apart j 1 (by revert j; decide))]
  exact View.readCov_fill a7.view _ _ [] _ (by decide)
theorem rd_a0_1 : View.readCov (Val := Elt F) a8.view (sl.HS1_2 (F := F) c (grid0.coords t) a3 w3 a4 w4 a5 w5 a7 a8 x0 x1 x2) (aR 1).toLoadRect = Own.noA := by
  rw [l_a0_1, readCov_skips a8.view aR _ _ _ _ (by intro j hj; exact aR_apart j 1 (by revert j; decide))]
  exact View.readCov_fill a8.view _ _ [] _ (by decide)
theorem l_m0_2 : sl.HS0_3 (F := F) c (grid0.coords t) a3 w3 a4 w4 a7 x0 x1 = ([1, 0] : List (Fin 8)).map (fun h => (⟨mR h, Own.m0 ((grid0.coords t) 2).val x0 x1 h⟩ : Own.PM F)) ++ sl.HS0_1 (F := F) := by
  show ((⟨mR 1, newM0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect)⟩ : Own.PM F) :: sl.HS0_2 (F := F) c (grid0.coords t) a3 w3 a4 w4 a7 x0 x1) = _
  rw [rd_q w3 x0 ![0, 128] _ 1 (by rfl), rd_kg w4 x1 _ _ (512 * ((grid0.coords t) 2).val) 1 (off_k0_1 t), rd_m0_1, l_m0_1]
  rfl
theorem l_a0_2 : sl.HS1_3 (F := F) c (grid0.coords t) a3 w3 a4 w4 a5 w5 a7 a8 x0 x1 x2 = ([1, 0] : List (Fin 8)).map (fun h => (⟨aR h, Own.a0 ((grid0.coords t) 2).val x0 x1 x2 h⟩ : Own.PA F)) ++ sl.HS1_1 (F := F) := by
  show ((⟨aR 1, newA0 (own0 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 0#32) S256x128.size _).toLoadRect (w4.unread x1))) (View.readCov (Val := Elt F) a7.view (sl.HS0_2 (F := F) c (grid0.coords t) a3 w3 a4 w4 a7 x0 x1) (mR 1).toLoadRect) (View.readAt (Elt F) a5.view (Rect.unit (s := S640x4096) (k0_off10 (grid0.coords t) 0#32) S80x256.size _).toLoadRect (w5.unread x2)) (View.readCov (Val := Elt F) a8.view (sl.HS1_2 (F := F) c (grid0.coords t) a3 w3 a4 w4 a5 w5 a7 a8 x0 x1 x2) (aR 1).toLoadRect)⟩ : Own.PA F) :: sl.HS1_2 (F := F) c (grid0.coords t) a3 w3 a4 w4 a5 w5 a7 a8 x0 x1 x2) = _
  rw [rd_q w3 x0 ![0, 128] _ 1 (by rfl), rd_kg w4 x1 _ _ (512 * ((grid0.coords t) 2).val) 1 (off_k0_1 t), rd_m0_1, rd_vg w5 x2 _ _ (512 * ((grid0.coords t) 2).val) 1 (off_v0_1 t), rd_a0_1, l_a0_1]
  rfl
theorem rd_m0_2 : View.readCov (Val := Elt F) a7.view (sl.HS0_3 (F := F) c (grid0.coords t) a3 w3 a4 w4 a7 x0 x1) (mR 2).toLoadRect = Own.noM := by
  rw [l_m0_2, readCov_skips a7.view mR _ _ _ _ (by intro j hj; exact mR_apart j 2 (by revert j; decide))]
  exact View.readCov_fill a7.view _ _ [] _ (by decide)
theorem rd_a0_2 : View.readCov (Val := Elt F) a8.view (sl.HS1_3 (F := F) c (grid0.coords t) a3 w3 a4 w4 a5 w5 a7 a8 x0 x1 x2) (aR 2).toLoadRect = Own.noA := by
  rw [l_a0_2, readCov_skips a8.view aR _ _ _ _ (by intro j hj; exact aR_apart j 2 (by revert j; decide))]
  exact View.readCov_fill a8.view _ _ [] _ (by decide)
theorem l_m0_3 : sl.HS0_4 (F := F) c (grid0.coords t) a3 w3 a4 w4 a7 x0 x1 = ([2, 1, 0] : List (Fin 8)).map (fun h => (⟨mR h, Own.m0 ((grid0.coords t) 2).val x0 x1 h⟩ : Own.PM F)) ++ sl.HS0_1 (F := F) := by
  show ((⟨mR 2, newM0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect)⟩ : Own.PM F) :: sl.HS0_3 (F := F) c (grid0.coords t) a3 w3 a4 w4 a7 x0 x1) = _
  rw [rd_q w3 x0 ![0, 256] _ 2 (by rfl), rd_kg w4 x1 _ _ (512 * ((grid0.coords t) 2).val) 2 (off_k0_2 t), rd_m0_2, l_m0_2]
  rfl
theorem l_a0_3 : sl.HS1_4 (F := F) c (grid0.coords t) a3 w3 a4 w4 a5 w5 a7 a8 x0 x1 x2 = ([2, 1, 0] : List (Fin 8)).map (fun h => (⟨aR h, Own.a0 ((grid0.coords t) 2).val x0 x1 x2 h⟩ : Own.PA F)) ++ sl.HS1_1 (F := F) := by
  show ((⟨aR 2, newA0 (own0 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 0#32) S256x128.size _).toLoadRect (w4.unread x1))) (View.readCov (Val := Elt F) a7.view (sl.HS0_3 (F := F) c (grid0.coords t) a3 w3 a4 w4 a7 x0 x1) (mR 2).toLoadRect) (View.readAt (Elt F) a5.view (Rect.unit (s := S640x4096) (k0_off11 (grid0.coords t) 0#32) S80x256.size _).toLoadRect (w5.unread x2)) (View.readCov (Val := Elt F) a8.view (sl.HS1_3 (F := F) c (grid0.coords t) a3 w3 a4 w4 a5 w5 a7 a8 x0 x1 x2) (aR 2).toLoadRect)⟩ : Own.PA F) :: sl.HS1_3 (F := F) c (grid0.coords t) a3 w3 a4 w4 a5 w5 a7 a8 x0 x1 x2) = _
  rw [rd_q w3 x0 ![0, 256] _ 2 (by rfl), rd_kg w4 x1 _ _ (512 * ((grid0.coords t) 2).val) 2 (off_k0_2 t), rd_m0_2, rd_vg w5 x2 _ _ (512 * ((grid0.coords t) 2).val) 2 (off_v0_2 t), rd_a0_2, l_a0_2]
  rfl
theorem rd_m0_3 : View.readCov (Val := Elt F) a7.view (sl.HS0_4 (F := F) c (grid0.coords t) a3 w3 a4 w4 a7 x0 x1) (mR 3).toLoadRect = Own.noM := by
  rw [l_m0_3, readCov_skips a7.view mR _ _ _ _ (by intro j hj; exact mR_apart j 3 (by revert j; decide))]
  exact View.readCov_fill a7.view _ _ [] _ (by decide)
theorem rd_a0_3 : View.readCov (Val := Elt F) a8.view (sl.HS1_4 (F := F) c (grid0.coords t) a3 w3 a4 w4 a5 w5 a7 a8 x0 x1 x2) (aR 3).toLoadRect = Own.noA := by
  rw [l_a0_3, readCov_skips a8.view aR _ _ _ _ (by intro j hj; exact aR_apart j 3 (by revert j; decide))]
  exact View.readCov_fill a8.view _ _ [] _ (by decide)
theorem l_m0_4 : sl.HS0_5 (F := F) c (grid0.coords t) a3 w3 a4 w4 a7 x0 x1 = ([3, 2, 1, 0] : List (Fin 8)).map (fun h => (⟨mR h, Own.m0 ((grid0.coords t) 2).val x0 x1 h⟩ : Own.PM F)) ++ sl.HS0_1 (F := F) := by
  show ((⟨mR 3, newM0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect)⟩ : Own.PM F) :: sl.HS0_4 (F := F) c (grid0.coords t) a3 w3 a4 w4 a7 x0 x1) = _
  rw [rd_q w3 x0 ![0, 384] _ 3 (by rfl), rd_kg w4 x1 _ _ (512 * ((grid0.coords t) 2).val) 3 (off_k0_3 t), rd_m0_3, l_m0_3]
  rfl
theorem l_a0_4 : sl.HS1_5 (F := F) c (grid0.coords t) a3 w3 a4 w4 a5 w5 a7 a8 x0 x1 x2 = ([3, 2, 1, 0] : List (Fin 8)).map (fun h => (⟨aR h, Own.a0 ((grid0.coords t) 2).val x0 x1 x2 h⟩ : Own.PA F)) ++ sl.HS1_1 (F := F) := by
  show ((⟨aR 3, newA0 (own0 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 0#32) S256x128.size _).toLoadRect (w4.unread x1))) (View.readCov (Val := Elt F) a7.view (sl.HS0_4 (F := F) c (grid0.coords t) a3 w3 a4 w4 a7 x0 x1) (mR 3).toLoadRect) (View.readAt (Elt F) a5.view (Rect.unit (s := S640x4096) (k0_off12 (grid0.coords t) 0#32) S80x256.size _).toLoadRect (w5.unread x2)) (View.readCov (Val := Elt F) a8.view (sl.HS1_4 (F := F) c (grid0.coords t) a3 w3 a4 w4 a5 w5 a7 a8 x0 x1 x2) (aR 3).toLoadRect)⟩ : Own.PA F) :: sl.HS1_4 (F := F) c (grid0.coords t) a3 w3 a4 w4 a5 w5 a7 a8 x0 x1 x2) = _
  rw [rd_q w3 x0 ![0, 384] _ 3 (by rfl), rd_kg w4 x1 _ _ (512 * ((grid0.coords t) 2).val) 3 (off_k0_3 t), rd_m0_3, rd_vg w5 x2 _ _ (512 * ((grid0.coords t) 2).val) 3 (off_v0_3 t), rd_a0_3, l_a0_3]
  rfl
theorem rd_m0_4 : View.readCov (Val := Elt F) a7.view (sl.HS0_5 (F := F) c (grid0.coords t) a3 w3 a4 w4 a7 x0 x1) (mR 4).toLoadRect = Own.noM := by
  rw [l_m0_4, readCov_skips a7.view mR _ _ _ _ (by intro j hj; exact mR_apart j 4 (by revert j; decide))]
  exact View.readCov_fill a7.view _ _ [] _ (by decide)
theorem rd_a0_4 : View.readCov (Val := Elt F) a8.view (sl.HS1_5 (F := F) c (grid0.coords t) a3 w3 a4 w4 a5 w5 a7 a8 x0 x1 x2) (aR 4).toLoadRect = Own.noA := by
  rw [l_a0_4, readCov_skips a8.view aR _ _ _ _ (by intro j hj; exact aR_apart j 4 (by revert j; decide))]
  exact View.readCov_fill a8.view _ _ [] _ (by decide)
theorem l_m0_5 : sl.HS0_6 (F := F) c (grid0.coords t) a3 w3 a4 w4 a7 x0 x1 = ([4, 3, 2, 1, 0] : List (Fin 8)).map (fun h => (⟨mR h, Own.m0 ((grid0.coords t) 2).val x0 x1 h⟩ : Own.PM F)) ++ sl.HS0_1 (F := F) := by
  show ((⟨mR 4, newM0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect)⟩ : Own.PM F) :: sl.HS0_5 (F := F) c (grid0.coords t) a3 w3 a4 w4 a7 x0 x1) = _
  rw [rd_q w3 x0 ![0, 512] _ 4 (by rfl), rd_kg w4 x1 _ _ (512 * ((grid0.coords t) 2).val) 4 (off_k0_4 t), rd_m0_4, l_m0_4]
  rfl
theorem l_a0_5 : sl.HS1_6 (F := F) c (grid0.coords t) a3 w3 a4 w4 a5 w5 a7 a8 x0 x1 x2 = ([4, 3, 2, 1, 0] : List (Fin 8)).map (fun h => (⟨aR h, Own.a0 ((grid0.coords t) 2).val x0 x1 x2 h⟩ : Own.PA F)) ++ sl.HS1_1 (F := F) := by
  show ((⟨aR 4, newA0 (own0 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 0#32) S256x128.size _).toLoadRect (w4.unread x1))) (View.readCov (Val := Elt F) a7.view (sl.HS0_5 (F := F) c (grid0.coords t) a3 w3 a4 w4 a7 x0 x1) (mR 4).toLoadRect) (View.readAt (Elt F) a5.view (Rect.unit (s := S640x4096) (k0_off13 (grid0.coords t) 0#32) S80x256.size _).toLoadRect (w5.unread x2)) (View.readCov (Val := Elt F) a8.view (sl.HS1_5 (F := F) c (grid0.coords t) a3 w3 a4 w4 a5 w5 a7 a8 x0 x1 x2) (aR 4).toLoadRect)⟩ : Own.PA F) :: sl.HS1_5 (F := F) c (grid0.coords t) a3 w3 a4 w4 a5 w5 a7 a8 x0 x1 x2) = _
  rw [rd_q w3 x0 ![0, 512] _ 4 (by rfl), rd_kg w4 x1 _ _ (512 * ((grid0.coords t) 2).val) 4 (off_k0_4 t), rd_m0_4, rd_vg w5 x2 _ _ (512 * ((grid0.coords t) 2).val) 4 (off_v0_4 t), rd_a0_4, l_a0_4]
  rfl
theorem rd_m0_5 : View.readCov (Val := Elt F) a7.view (sl.HS0_6 (F := F) c (grid0.coords t) a3 w3 a4 w4 a7 x0 x1) (mR 5).toLoadRect = Own.noM := by
  rw [l_m0_5, readCov_skips a7.view mR _ _ _ _ (by intro j hj; exact mR_apart j 5 (by revert j; decide))]
  exact View.readCov_fill a7.view _ _ [] _ (by decide)
theorem rd_a0_5 : View.readCov (Val := Elt F) a8.view (sl.HS1_6 (F := F) c (grid0.coords t) a3 w3 a4 w4 a5 w5 a7 a8 x0 x1 x2) (aR 5).toLoadRect = Own.noA := by
  rw [l_a0_5, readCov_skips a8.view aR _ _ _ _ (by intro j hj; exact aR_apart j 5 (by revert j; decide))]
  exact View.readCov_fill a8.view _ _ [] _ (by decide)
theorem l_m0_6 : sl.HS0_7 (F := F) c (grid0.coords t) a3 w3 a4 w4 a7 x0 x1 = ([5, 4, 3, 2, 1, 0] : List (Fin 8)).map (fun h => (⟨mR h, Own.m0 ((grid0.coords t) 2).val x0 x1 h⟩ : Own.PM F)) ++ sl.HS0_1 (F := F) := by
  show ((⟨mR 5, newM0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect)⟩ : Own.PM F) :: sl.HS0_6 (F := F) c (grid0.coords t) a3 w3 a4 w4 a7 x0 x1) = _
  rw [rd_q w3 x0 ![0, 640] _ 5 (by rfl), rd_kg w4 x1 _ _ (512 * ((grid0.coords t) 2).val) 5 (off_k0_5 t), rd_m0_5, l_m0_5]
  rfl
theorem l_a0_6 : sl.HS1_7 (F := F) c (grid0.coords t) a3 w3 a4 w4 a5 w5 a7 a8 x0 x1 x2 = ([5, 4, 3, 2, 1, 0] : List (Fin 8)).map (fun h => (⟨aR h, Own.a0 ((grid0.coords t) 2).val x0 x1 x2 h⟩ : Own.PA F)) ++ sl.HS1_1 (F := F) := by
  show ((⟨aR 5, newA0 (own0 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 0#32) S256x128.size _).toLoadRect (w4.unread x1))) (View.readCov (Val := Elt F) a7.view (sl.HS0_6 (F := F) c (grid0.coords t) a3 w3 a4 w4 a7 x0 x1) (mR 5).toLoadRect) (View.readAt (Elt F) a5.view (Rect.unit (s := S640x4096) (k0_off14 (grid0.coords t) 0#32) S80x256.size _).toLoadRect (w5.unread x2)) (View.readCov (Val := Elt F) a8.view (sl.HS1_6 (F := F) c (grid0.coords t) a3 w3 a4 w4 a5 w5 a7 a8 x0 x1 x2) (aR 5).toLoadRect)⟩ : Own.PA F) :: sl.HS1_6 (F := F) c (grid0.coords t) a3 w3 a4 w4 a5 w5 a7 a8 x0 x1 x2) = _
  rw [rd_q w3 x0 ![0, 640] _ 5 (by rfl), rd_kg w4 x1 _ _ (512 * ((grid0.coords t) 2).val) 5 (off_k0_5 t), rd_m0_5, rd_vg w5 x2 _ _ (512 * ((grid0.coords t) 2).val) 5 (off_v0_5 t), rd_a0_5, l_a0_5]
  rfl
theorem rd_m0_6 : View.readCov (Val := Elt F) a7.view (sl.HS0_7 (F := F) c (grid0.coords t) a3 w3 a4 w4 a7 x0 x1) (mR 6).toLoadRect = Own.noM := by
  rw [l_m0_6, readCov_skips a7.view mR _ _ _ _ (by intro j hj; exact mR_apart j 6 (by revert j; decide))]
  exact View.readCov_fill a7.view _ _ [] _ (by decide)
theorem rd_a0_6 : View.readCov (Val := Elt F) a8.view (sl.HS1_7 (F := F) c (grid0.coords t) a3 w3 a4 w4 a5 w5 a7 a8 x0 x1 x2) (aR 6).toLoadRect = Own.noA := by
  rw [l_a0_6, readCov_skips a8.view aR _ _ _ _ (by intro j hj; exact aR_apart j 6 (by revert j; decide))]
  exact View.readCov_fill a8.view _ _ [] _ (by decide)
theorem l_m0_7 : sl.HS0_8 (F := F) c (grid0.coords t) a3 w3 a4 w4 a7 x0 x1 = ([6, 5, 4, 3, 2, 1, 0] : List (Fin 8)).map (fun h => (⟨mR h, Own.m0 ((grid0.coords t) 2).val x0 x1 h⟩ : Own.PM F)) ++ sl.HS0_1 (F := F) := by
  show ((⟨mR 6, newM0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect)⟩ : Own.PM F) :: sl.HS0_7 (F := F) c (grid0.coords t) a3 w3 a4 w4 a7 x0 x1) = _
  rw [rd_q w3 x0 ![0, 768] _ 6 (by rfl), rd_kg w4 x1 _ _ (512 * ((grid0.coords t) 2).val) 6 (off_k0_6 t), rd_m0_6, l_m0_6]
  rfl
theorem l_a0_7 : sl.HS1_8 (F := F) c (grid0.coords t) a3 w3 a4 w4 a5 w5 a7 a8 x0 x1 x2 = ([6, 5, 4, 3, 2, 1, 0] : List (Fin 8)).map (fun h => (⟨aR h, Own.a0 ((grid0.coords t) 2).val x0 x1 x2 h⟩ : Own.PA F)) ++ sl.HS1_1 (F := F) := by
  show ((⟨aR 6, newA0 (own0 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 0#32) S256x128.size _).toLoadRect (w4.unread x1))) (View.readCov (Val := Elt F) a7.view (sl.HS0_7 (F := F) c (grid0.coords t) a3 w3 a4 w4 a7 x0 x1) (mR 6).toLoadRect) (View.readAt (Elt F) a5.view (Rect.unit (s := S640x4096) (k0_off15 (grid0.coords t) 0#32) S80x256.size _).toLoadRect (w5.unread x2)) (View.readCov (Val := Elt F) a8.view (sl.HS1_7 (F := F) c (grid0.coords t) a3 w3 a4 w4 a5 w5 a7 a8 x0 x1 x2) (aR 6).toLoadRect)⟩ : Own.PA F) :: sl.HS1_7 (F := F) c (grid0.coords t) a3 w3 a4 w4 a5 w5 a7 a8 x0 x1 x2) = _
  rw [rd_q w3 x0 ![0, 768] _ 6 (by rfl), rd_kg w4 x1 _ _ (512 * ((grid0.coords t) 2).val) 6 (off_k0_6 t), rd_m0_6, rd_vg w5 x2 _ _ (512 * ((grid0.coords t) 2).val) 6 (off_v0_6 t), rd_a0_6, l_a0_6]
  rfl
theorem rd_m0_7 : View.readCov (Val := Elt F) a7.view (sl.HS0_8 (F := F) c (grid0.coords t) a3 w3 a4 w4 a7 x0 x1) (mR 7).toLoadRect = Own.noM := by
  rw [l_m0_7, readCov_skips a7.view mR _ _ _ _ (by intro j hj; exact mR_apart j 7 (by revert j; decide))]
  exact View.readCov_fill a7.view _ _ [] _ (by decide)
theorem rd_a0_7 : View.readCov (Val := Elt F) a8.view (sl.HS1_8 (F := F) c (grid0.coords t) a3 w3 a4 w4 a5 w5 a7 a8 x0 x1 x2) (aR 7).toLoadRect = Own.noA := by
  rw [l_a0_7, readCov_skips a8.view aR _ _ _ _ (by intro j hj; exact aR_apart j 7 (by revert j; decide))]
  exact View.readCov_fill a8.view _ _ [] _ (by decide)
theorem l_m0_8 : sl.HS0_9 (F := F) c (grid0.coords t) a3 w3 a4 w4 a7 x0 x1 = heads.map (fun h => (⟨mR h, Own.m0 ((grid0.coords t) 2).val x0 x1 h⟩ : Own.PM F)) ++ sl.HS0_1 (F := F) := by
  show ((⟨mR 7, newM0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect)⟩ : Own.PM F) :: sl.HS0_8 (F := F) c (grid0.coords t) a3 w3 a4 w4 a7 x0 x1) = _
  rw [rd_q w3 x0 ![0, 896] _ 7 (by rfl), rd_kg w4 x1 _ _ (512 * ((grid0.coords t) 2).val) 7 (off_k0_7 t), rd_m0_7, l_m0_7]
  rfl
theorem l_a0_8 : sl.HS1_9 (F := F) c (grid0.coords t) a3 w3 a4 w4 a5 w5 a7 a8 x0 x1 x2 = heads.map (fun h => (⟨aR h, Own.a0 ((grid0.coords t) 2).val x0 x1 x2 h⟩ : Own.PA F)) ++ sl.HS1_1 (F := F) := by
  show ((⟨aR 7, newA0 (own0 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 0#32) S256x128.size _).toLoadRect (w4.unread x1))) (View.readCov (Val := Elt F) a7.view (sl.HS0_8 (F := F) c (grid0.coords t) a3 w3 a4 w4 a7 x0 x1) (mR 7).toLoadRect) (View.readAt (Elt F) a5.view (Rect.unit (s := S640x4096) (k0_off16 (grid0.coords t) 0#32) S80x256.size _).toLoadRect (w5.unread x2)) (View.readCov (Val := Elt F) a8.view (sl.HS1_8 (F := F) c (grid0.coords t) a3 w3 a4 w4 a5 w5 a7 a8 x0 x1 x2) (aR 7).toLoadRect)⟩ : Own.PA F) :: sl.HS1_8 (F := F) c (grid0.coords t) a3 w3 a4 w4 a5 w5 a7 a8 x0 x1 x2) = _
  rw [rd_q w3 x0 ![0, 896] _ 7 (by rfl), rd_kg w4 x1 _ _ (512 * ((grid0.coords t) 2).val) 7 (off_k0_7 t), rd_m0_7, rd_vg w5 x2 _ _ (512 * ((grid0.coords t) 2).val) 7 (off_v0_7 t), rd_a0_7, l_a0_7]
  rfl
theorem l_m1_0 : sl.HS0_9 (F := F) c (grid0.coords t) a3 w3 a4 w4 a7 x0 x1 = ([] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by rw [l_m0_8]; rfl
theorem l_a1_0 : sl.HS1_9 (F := F) c (grid0.coords t) a3 w3 a4 w4 a5 w5 a7 a8 x0 x1 x2 = ([] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by rw [l_a0_8]; rfl
theorem rd_m1_0 : View.readCov (Val := Elt F) a7.view (sl.HS0_9 (F := F) c (grid0.coords t) a3 w3 a4 w4 a7 x0 x1) (mH 0).toLoadRect = Own.lateM (Own.m0 ((grid0.coords t) 2).val x0 x1 0) := by
  rw [l_m1_0, readCov_skips a7.view mH _ _ _ _ (by intro j hj; exact absurd hj (by simp))]
  exact Own.late_m a7.view _ _ 0
theorem rd_a1_0 : View.readCov (Val := Elt F) a8.view (sl.HS1_9 (F := F) c (grid0.coords t) a3 w3 a4 w4 a5 w5 a7 a8 x0 x1 x2) (aH 0).toLoadRect = Own.lateA (Own.a0 ((grid0.coords t) 2).val x0 x1 x2 0) := by
  rw [l_a1_0, readCov_skips a8.view aH _ _ _ _ (by intro j hj; exact absurd hj (by simp))]
  exact Own.late_a a8.view _ _ 0
theorem l_m1_1 : sl.HS0_10 (F := F) c (grid0.coords t) a3 w3 a4 w4 a7 x0 x1 = ([0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 0, newM1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect)⟩ : Own.PM F) :: sl.HS0_9 (F := F) c (grid0.coords t) a3 w3 a4 w4 a7 x0 x1) = _
  rw [rd_q w3 x0 ![0, 0] _ 0 (by rfl), rd_kg w4 x1 _ _ (512 * ((grid0.coords t) 2).val + 256) 0 (off_k1_0 t), rd_m1_0, l_m1_0]
  rfl
theorem l_a1_1 : sl.HS1_10 (F := F) c (grid0.coords t) a3 w3 a4 w4 a5 w5 a7 a8 x0 x1 x2 = ([0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 0, newA1 (own1 (BitVec.ofNat 32 ((grid0.coords t) 2).val) (View.readAt (Elt F) a3.view (Rect.unit (s := S512x1024) ![0, 0] S512x128.size _).toLoadRect (w3.unread x0)) (View.readAt (Elt F) a4.view (Rect.unit (s := S4096x1024) (k0_off1 (grid0.coords t) 256#32) S256x128.size _).toLoadRect (w4.unread x1))) (View.readCov (Val := Elt F) a7.view (sl.HS0_9 (F := F) c (grid0.coords t) a3 w3 a4 w4 a7 x0 x1) (mH 0).toLoadRect) (View.readAt (Elt F) a5.view (Rect.unit (s := S640x4096) (k0_off9 (grid0.coords t) 256#32) S80x256.size _).toLoadRect (w5.unread x2)) (View.readCov (Val := Elt F) a8.view (sl.HS1_9 (F := F) c (grid0.coords t) a3 w3 a4 w4 a5 w5 a7 a8 x0 x1 x2) (aH 0).toLoadRect)⟩ : Own.PA F) :: sl.HS1_9 (F := F) c (grid0.coords t) a3 w3 a4 w4 a5 w5 a7 a8 x0 x1 x2) = _
  rw [rd_q w3 x0 ![0, 0] _ 0 (by rfl), rd_kg w4 x1 _ _ (512 * ((grid0.coords t) 2).val + 256) 0 (off_k1_0 t), rd_m1_0, rd_vg w5 x2 _ _ (512 * ((grid0.coords t) 2).val + 256) 0 (off_v1_0 t), rd_a1_0, l_a1_0]
  rfl
theorem rd_m1_1 : View.readCov (Val := Elt F) a7.view (sl.HS0_10 (F := F) c (grid0.coords t) a3 w3 a4 w4 a7 x0 x1) (mH 1).toLoadRect = Own.lateM (Own.m0 ((grid0.coords t) 2).val x0 x1 1) := by
  rw [l_m1_1, readCov_skips a7.view mH _ _ _ _ (by intro j hj; exact mH_apart j 1 (by revert j; decide))]
  exact Own.late_m a7.view _ _ 1
theorem rd_a1_1 : View.readCov (Val := Elt F) a8.view (sl.HS1_10 (F := F) c (grid0.coords t) a3 w3 a4 w4 a5 w5 a7 a8 x0 x1 x2) (aH 1).toLoadRect = Own.lateA (Own.a0 ((grid0.coords t) 2).val x0 x1 x2 1) := by
  rw [l_a1_1, readCov_skips a8.view aH _ _ _ _ (by intro j hj; exact aH_apart j 1 (by revert j; decide))]
  exact Own.late_a a8.view _ _ 1
theorem l_m1_2 : sl.HS0_11 (F := F) c (grid0.coords t) a3 w3 a4 w4 a7 x0 x1 = ([1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 1, newM1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect)⟩ : Own.PM F) :: sl.HS0_10 (F := F) c (grid0.coords t) a3 w3 a4 w4 a7 x0 x1) = _
  rw [rd_q w3 x0 ![0, 128] _ 1 (by rfl), rd_kg w4 x1 _ _ (512 * ((grid0.coords t) 2).val + 256) 1 (off_k1_1 t), rd_m1_1, l_m1_1]
  rfl
theorem l_a1_2 : sl.HS1_11 (F := F) c (grid0.coords t) a3 w3 a4 w4 a5 w5 a7 a8 x0 x1 x2 = ([1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 1, newA1 (own1 (BitVec.ofNat 32 ((grid0.coords t) 2).val) (View.readAt (Elt F) a3.view (Rect.unit (s := S512x1024) ![0, 128] S512x128.size _).toLoadRect (w3.unread x0)) (View.readAt (Elt F) a4.view (Rect.unit (s := S4096x1024) (k0_off2 (grid0.coords t) 256#32) S256x128.size _).toLoadRect (w4.unread x1))) (View.readCov (Val := Elt F) a7.view (sl.HS0_10 (F := F) c (grid0.coords t) a3 w3 a4 w4 a7 x0 x1) (mH 1).toLoadRect) (View.readAt (Elt F) a5.view (Rect.unit (s := S640x4096) (k0_off10 (grid0.coords t) 256#32) S80x256.size _).toLoadRect (w5.unread x2)) (View.readCov (Val := Elt F) a8.view (sl.HS1_10 (F := F) c (grid0.coords t) a3 w3 a4 w4 a5 w5 a7 a8 x0 x1 x2) (aH 1).toLoadRect)⟩ : Own.PA F) :: sl.HS1_10 (F := F) c (grid0.coords t) a3 w3 a4 w4 a5 w5 a7 a8 x0 x1 x2) = _
  rw [rd_q w3 x0 ![0, 128] _ 1 (by rfl), rd_kg w4 x1 _ _ (512 * ((grid0.coords t) 2).val + 256) 1 (off_k1_1 t), rd_m1_1, rd_vg w5 x2 _ _ (512 * ((grid0.coords t) 2).val + 256) 1 (off_v1_1 t), rd_a1_1, l_a1_1]
  rfl
theorem rd_m1_2 : View.readCov (Val := Elt F) a7.view (sl.HS0_11 (F := F) c (grid0.coords t) a3 w3 a4 w4 a7 x0 x1) (mH 2).toLoadRect = Own.lateM (Own.m0 ((grid0.coords t) 2).val x0 x1 2) := by
  rw [l_m1_2, readCov_skips a7.view mH _ _ _ _ (by intro j hj; exact mH_apart j 2 (by revert j; decide))]
  exact Own.late_m a7.view _ _ 2
theorem rd_a1_2 : View.readCov (Val := Elt F) a8.view (sl.HS1_11 (F := F) c (grid0.coords t) a3 w3 a4 w4 a5 w5 a7 a8 x0 x1 x2) (aH 2).toLoadRect = Own.lateA (Own.a0 ((grid0.coords t) 2).val x0 x1 x2 2) := by
  rw [l_a1_2, readCov_skips a8.view aH _ _ _ _ (by intro j hj; exact aH_apart j 2 (by revert j; decide))]
  exact Own.late_a a8.view _ _ 2
theorem l_m1_3 : sl.HS0_12 (F := F) c (grid0.coords t) a3 w3 a4 w4 a7 x0 x1 = ([2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 2, newM1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect)⟩ : Own.PM F) :: sl.HS0_11 (F := F) c (grid0.coords t) a3 w3 a4 w4 a7 x0 x1) = _
  rw [rd_q w3 x0 ![0, 256] _ 2 (by rfl), rd_kg w4 x1 _ _ (512 * ((grid0.coords t) 2).val + 256) 2 (off_k1_2 t), rd_m1_2, l_m1_2]
  rfl
theorem l_a1_3 : sl.HS1_12 (F := F) c (grid0.coords t) a3 w3 a4 w4 a5 w5 a7 a8 x0 x1 x2 = ([2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 2, newA1 (own1 (BitVec.ofNat 32 ((grid0.coords t) 2).val) (View.readAt (Elt F) a3.view (Rect.unit (s := S512x1024) ![0, 256] S512x128.size _).toLoadRect (w3.unread x0)) (View.readAt (Elt F) a4.view (Rect.unit (s := S4096x1024) (k0_off3 (grid0.coords t) 256#32) S256x128.size _).toLoadRect (w4.unread x1))) (View.readCov (Val := Elt F) a7.view (sl.HS0_11 (F := F) c (grid0.coords t) a3 w3 a4 w4 a7 x0 x1) (mH 2).toLoadRect) (View.readAt (Elt F) a5.view (Rect.unit (s := S640x4096) (k0_off11 (grid0.coords t) 256#32) S80x256.size _).toLoadRect (w5.unread x2)) (View.readCov (Val := Elt F) a8.view (sl.HS1_11 (F := F) c (grid0.coords t) a3 w3 a4 w4 a5 w5 a7 a8 x0 x1 x2) (aH 2).toLoadRect)⟩ : Own.PA F) :: sl.HS1_11 (F := F) c (grid0.coords t) a3 w3 a4 w4 a5 w5 a7 a8 x0 x1 x2) = _
  rw [rd_q w3 x0 ![0, 256] _ 2 (by rfl), rd_kg w4 x1 _ _ (512 * ((grid0.coords t) 2).val + 256) 2 (off_k1_2 t), rd_m1_2, rd_vg w5 x2 _ _ (512 * ((grid0.coords t) 2).val + 256) 2 (off_v1_2 t), rd_a1_2, l_a1_2]
  rfl
theorem rd_m1_3 : View.readCov (Val := Elt F) a7.view (sl.HS0_12 (F := F) c (grid0.coords t) a3 w3 a4 w4 a7 x0 x1) (mH 3).toLoadRect = Own.lateM (Own.m0 ((grid0.coords t) 2).val x0 x1 3) := by
  rw [l_m1_3, readCov_skips a7.view mH _ _ _ _ (by intro j hj; exact mH_apart j 3 (by revert j; decide))]
  exact Own.late_m a7.view _ _ 3
theorem rd_a1_3 : View.readCov (Val := Elt F) a8.view (sl.HS1_12 (F := F) c (grid0.coords t) a3 w3 a4 w4 a5 w5 a7 a8 x0 x1 x2) (aH 3).toLoadRect = Own.lateA (Own.a0 ((grid0.coords t) 2).val x0 x1 x2 3) := by
  rw [l_a1_3, readCov_skips a8.view aH _ _ _ _ (by intro j hj; exact aH_apart j 3 (by revert j; decide))]
  exact Own.late_a a8.view _ _ 3
theorem l_m1_4 : sl.HS0_13 (F := F) c (grid0.coords t) a3 w3 a4 w4 a7 x0 x1 = ([3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 3, newM1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect)⟩ : Own.PM F) :: sl.HS0_12 (F := F) c (grid0.coords t) a3 w3 a4 w4 a7 x0 x1) = _
  rw [rd_q w3 x0 ![0, 384] _ 3 (by rfl), rd_kg w4 x1 _ _ (512 * ((grid0.coords t) 2).val + 256) 3 (off_k1_3 t), rd_m1_3, l_m1_3]
  rfl
theorem l_a1_4 : sl.HS1_13 (F := F) c (grid0.coords t) a3 w3 a4 w4 a5 w5 a7 a8 x0 x1 x2 = ([3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 3, newA1 (own1 (BitVec.ofNat 32 ((grid0.coords t) 2).val) (View.readAt (Elt F) a3.view (Rect.unit (s := S512x1024) ![0, 384] S512x128.size _).toLoadRect (w3.unread x0)) (View.readAt (Elt F) a4.view (Rect.unit (s := S4096x1024) (k0_off4 (grid0.coords t) 256#32) S256x128.size _).toLoadRect (w4.unread x1))) (View.readCov (Val := Elt F) a7.view (sl.HS0_12 (F := F) c (grid0.coords t) a3 w3 a4 w4 a7 x0 x1) (mH 3).toLoadRect) (View.readAt (Elt F) a5.view (Rect.unit (s := S640x4096) (k0_off12 (grid0.coords t) 256#32) S80x256.size _).toLoadRect (w5.unread x2)) (View.readCov (Val := Elt F) a8.view (sl.HS1_12 (F := F) c (grid0.coords t) a3 w3 a4 w4 a5 w5 a7 a8 x0 x1 x2) (aH 3).toLoadRect)⟩ : Own.PA F) :: sl.HS1_12 (F := F) c (grid0.coords t) a3 w3 a4 w4 a5 w5 a7 a8 x0 x1 x2) = _
  rw [rd_q w3 x0 ![0, 384] _ 3 (by rfl), rd_kg w4 x1 _ _ (512 * ((grid0.coords t) 2).val + 256) 3 (off_k1_3 t), rd_m1_3, rd_vg w5 x2 _ _ (512 * ((grid0.coords t) 2).val + 256) 3 (off_v1_3 t), rd_a1_3, l_a1_3]
  rfl
theorem rd_m1_4 : View.readCov (Val := Elt F) a7.view (sl.HS0_13 (F := F) c (grid0.coords t) a3 w3 a4 w4 a7 x0 x1) (mH 4).toLoadRect = Own.lateM (Own.m0 ((grid0.coords t) 2).val x0 x1 4) := by
  rw [l_m1_4, readCov_skips a7.view mH _ _ _ _ (by intro j hj; exact mH_apart j 4 (by revert j; decide))]
  exact Own.late_m a7.view _ _ 4
theorem rd_a1_4 : View.readCov (Val := Elt F) a8.view (sl.HS1_13 (F := F) c (grid0.coords t) a3 w3 a4 w4 a5 w5 a7 a8 x0 x1 x2) (aH 4).toLoadRect = Own.lateA (Own.a0 ((grid0.coords t) 2).val x0 x1 x2 4) := by
  rw [l_a1_4, readCov_skips a8.view aH _ _ _ _ (by intro j hj; exact aH_apart j 4 (by revert j; decide))]
  exact Own.late_a a8.view _ _ 4
theorem l_m1_5 : sl.HS0_14 (F := F) c (grid0.coords t) a3 w3 a4 w4 a7 x0 x1 = ([4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 4, newM1 (own1 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 256#32) S256x128.size _).toLoadRect (w4.unread x1))) (View.readCov (Val := Elt F) a7.view (sl.HS0_13 (F := F) c (grid0.coords t) a3 w3 a4 w4 a7 x0 x1) (mH 4).toLoadRect)⟩ : Own.PM F) :: sl.HS0_13 (F := F) c (grid0.coords t) a3 w3 a4 w4 a7 x0 x1) = _
  rw [rd_q w3 x0 ![0, 512] _ 4 (by rfl), rd_kg w4 x1 _ _ (512 * ((grid0.coords t) 2).val + 256) 4 (off_k1_4 t), rd_m1_4, l_m1_4]
  rfl
theorem l_a1_5 : sl.HS1_14 (F := F) c (grid0.coords t) a3 w3 a4 w4 a5 w5 a7 a8 x0 x1 x2 = ([4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 4, newA1 (own1 (BitVec.ofNat 32 ((grid0.coords t) 2).val) (View.readAt (Elt F) a3.view (Rect.unit (s := S512x1024) ![0, 512] S512x128.size _).toLoadRect (w3.unread x0)) (View.readAt (Elt F) a4.view (Rect.unit (s := S4096x1024) (k0_off5 (grid0.coords t) 256#32) S256x128.size _).toLoadRect (w4.unread x1))) (View.readCov (Val := Elt F) a7.view (sl.HS0_13 (F := F) c (grid0.coords t) a3 w3 a4 w4 a7 x0 x1) (mH 4).toLoadRect) (View.readAt (Elt F) a5.view (Rect.unit (s := S640x4096) (k0_off13 (grid0.coords t) 256#32) S80x256.size _).toLoadRect (w5.unread x2)) (View.readCov (Val := Elt F) a8.view (sl.HS1_13 (F := F) c (grid0.coords t) a3 w3 a4 w4 a5 w5 a7 a8 x0 x1 x2) (aH 4).toLoadRect)⟩ : Own.PA F) :: sl.HS1_13 (F := F) c (grid0.coords t) a3 w3 a4 w4 a5 w5 a7 a8 x0 x1 x2) = _
  rw [rd_q w3 x0 ![0, 512] _ 4 (by rfl), rd_kg w4 x1 _ _ (512 * ((grid0.coords t) 2).val + 256) 4 (off_k1_4 t), rd_m1_4, rd_vg w5 x2 _ _ (512 * ((grid0.coords t) 2).val + 256) 4 (off_v1_4 t), rd_a1_4, l_a1_4]
  rfl
theorem rd_m1_5 : View.readCov (Val := Elt F) a7.view (sl.HS0_14 (F := F) c (grid0.coords t) a3 w3 a4 w4 a7 x0 x1) (mH 5).toLoadRect = Own.lateM (Own.m0 ((grid0.coords t) 2).val x0 x1 5) := by
  rw [l_m1_5, readCov_skips a7.view mH _ _ _ _ (by intro j hj; exact mH_apart j 5 (by revert j; decide))]
  exact Own.late_m a7.view _ _ 5
theorem rd_a1_5 : View.readCov (Val := Elt F) a8.view (sl.HS1_14 (F := F) c (grid0.coords t) a3 w3 a4 w4 a5 w5 a7 a8 x0 x1 x2) (aH 5).toLoadRect = Own.lateA (Own.a0 ((grid0.coords t) 2).val x0 x1 x2 5) := by
  rw [l_a1_5, readCov_skips a8.view aH _ _ _ _ (by intro j hj; exact aH_apart j 5 (by revert j; decide))]
  exact Own.late_a a8.view _ _ 5
theorem l_m1_6 : sl.HS0_15 (F := F) c (grid0.coords t) a3 w3 a4 w4 a7 x0 x1 = ([5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 5, newM1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect)⟩ : Own.PM F) :: sl.HS0_14 (F := F) c (grid0.coords t) a3 w3 a4 w4 a7 x0 x1) = _
  rw [rd_q w3 x0 ![0, 640] _ 5 (by rfl), rd_kg w4 x1 _ _ (512 * ((grid0.coords t) 2).val + 256) 5 (off_k1_5 t), rd_m1_5, l_m1_5]
  rfl
theorem l_a1_6 : sl.HS1_15 (F := F) c (grid0.coords t) a3 w3 a4 w4 a5 w5 a7 a8 x0 x1 x2 = ([5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 5, newA1 (own1 (BitVec.ofNat 32 ((grid0.coords t) 2).val) (View.readAt (Elt F) a3.view (Rect.unit (s := S512x1024) ![0, 640] S512x128.size _).toLoadRect (w3.unread x0)) (View.readAt (Elt F) a4.view (Rect.unit (s := S4096x1024) (k0_off6 (grid0.coords t) 256#32) S256x128.size _).toLoadRect (w4.unread x1))) (View.readCov (Val := Elt F) a7.view (sl.HS0_14 (F := F) c (grid0.coords t) a3 w3 a4 w4 a7 x0 x1) (mH 5).toLoadRect) (View.readAt (Elt F) a5.view (Rect.unit (s := S640x4096) (k0_off14 (grid0.coords t) 256#32) S80x256.size _).toLoadRect (w5.unread x2)) (View.readCov (Val := Elt F) a8.view (sl.HS1_14 (F := F) c (grid0.coords t) a3 w3 a4 w4 a5 w5 a7 a8 x0 x1 x2) (aH 5).toLoadRect)⟩ : Own.PA F) :: sl.HS1_14 (F := F) c (grid0.coords t) a3 w3 a4 w4 a5 w5 a7 a8 x0 x1 x2) = _
  rw [rd_q w3 x0 ![0, 640] _ 5 (by rfl), rd_kg w4 x1 _ _ (512 * ((grid0.coords t) 2).val + 256) 5 (off_k1_5 t), rd_m1_5, rd_vg w5 x2 _ _ (512 * ((grid0.coords t) 2).val + 256) 5 (off_v1_5 t), rd_a1_5, l_a1_5]
  rfl
theorem rd_m1_6 : View.readCov (Val := Elt F) a7.view (sl.HS0_15 (F := F) c (grid0.coords t) a3 w3 a4 w4 a7 x0 x1) (mH 6).toLoadRect = Own.lateM (Own.m0 ((grid0.coords t) 2).val x0 x1 6) := by
  rw [l_m1_6, readCov_skips a7.view mH _ _ _ _ (by intro j hj; exact mH_apart j 6 (by revert j; decide))]
  exact Own.late_m a7.view _ _ 6
theorem rd_a1_6 : View.readCov (Val := Elt F) a8.view (sl.HS1_15 (F := F) c (grid0.coords t) a3 w3 a4 w4 a5 w5 a7 a8 x0 x1 x2) (aH 6).toLoadRect = Own.lateA (Own.a0 ((grid0.coords t) 2).val x0 x1 x2 6) := by
  rw [l_a1_6, readCov_skips a8.view aH _ _ _ _ (by intro j hj; exact aH_apart j 6 (by revert j; decide))]
  exact Own.late_a a8.view _ _ 6
theorem l_m1_7 : sl.HS0_16 (F := F) c (grid0.coords t) a3 w3 a4 w4 a7 x0 x1 = ([6, 5, 4, 3, 2, 1, 0] : List (Fin 8)).map (fun h => (⟨mH h, Own.m1 ((grid0.coords t) 2).val x0 x1 h⟩ : Own.PM F)) ++ (heads.map (fun h => (⟨mR h, Own.m0 ((grid0.coords t) 2).val x0 x1 h⟩ : Own.PM F)) ++ sl.HS0_1 (F := F)) := by
  show ((⟨mH 6, newM1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect)⟩ : Own.PM F) :: sl.HS0_15 (F := F) c (grid0.coords t) a3 w3 a4 w4 a7 x0 x1) = _
  rw [rd_q w3 x0 ![0, 768] _ 6 (by rfl), rd_kg w4 x1 _ _ (512 * ((grid0.coords t) 2).val + 256) 6 (off_k1_6 t), rd_m1_6, l_m1_6]
  rfl
theorem l_a1_7 : sl.HS1_16 (F := F) c (grid0.coords t) a3 w3 a4 w4 a5 w5 a7 a8 x0 x1 x2 = ([6, 5, 4, 3, 2, 1, 0] : List (Fin 8)).map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 6, newA1 (own1 (BitVec.ofNat 32 ((grid0.coords t) 2).val) (View.readAt (Elt F) a3.view (Rect.unit (s := S512x1024) ![0, 768] S512x128.size _).toLoadRect (w3.unread x0)) (View.readAt (Elt F) a4.view (Rect.unit (s := S4096x1024) (k0_off7 (grid0.coords t) 256#32) S256x128.size _).toLoadRect (w4.unread x1))) (View.readCov (Val := Elt F) a7.view (sl.HS0_15 (F := F) c (grid0.coords t) a3 w3 a4 w4 a7 x0 x1) (mH 6).toLoadRect) (View.readAt (Elt F) a5.view (Rect.unit (s := S640x4096) (k0_off15 (grid0.coords t) 256#32) S80x256.size _).toLoadRect (w5.unread x2)) (View.readCov (Val := Elt F) a8.view (sl.HS1_15 (F := F) c (grid0.coords t) a3 w3 a4 w4 a5 w5 a7 a8 x0 x1 x2) (aH 6).toLoadRect)⟩ : Own.PA F) :: sl.HS1_15 (F := F) c (grid0.coords t) a3 w3 a4 w4 a5 w5 a7 a8 x0 x1 x2) = _
  rw [rd_q w3 x0 ![0, 768] _ 6 (by rfl), rd_kg w4 x1 _ _ (512 * ((grid0.coords t) 2).val + 256) 6 (off_k1_6 t), rd_m1_6, rd_vg w5 x2 _ _ (512 * ((grid0.coords t) 2).val + 256) 6 (off_v1_6 t), rd_a1_6, l_a1_6]
  rfl
theorem rd_m1_7 : View.readCov (Val := Elt F) a7.view (sl.HS0_16 (F := F) c (grid0.coords t) a3 w3 a4 w4 a7 x0 x1) (mH 7).toLoadRect = Own.lateM (Own.m0 ((grid0.coords t) 2).val x0 x1 7) := by
  rw [l_m1_7, readCov_skips a7.view mH _ _ _ _ (by intro j hj; exact mH_apart j 7 (by revert j; decide))]
  exact Own.late_m a7.view _ _ 7
theorem rd_a1_7 : View.readCov (Val := Elt F) a8.view (sl.HS1_16 (F := F) c (grid0.coords t) a3 w3 a4 w4 a5 w5 a7 a8 x0 x1 x2) (aH 7).toLoadRect = Own.lateA (Own.a0 ((grid0.coords t) 2).val x0 x1 x2 7) := by
  rw [l_a1_7, readCov_skips a8.view aH _ _ _ _ (by intro j hj; exact aH_apart j 7 (by revert j; decide))]
  exact Own.late_a a8.view _ _ 7
theorem l_a1_8 : sl.HS1_17 (F := F) c (grid0.coords t) a3 w3 a4 w4 a5 w5 a7 a8 x0 x1 x2 = heads.map (fun h => (⟨aH h, Own.a1 ((grid0.coords t) 2).val x0 x1 x2 h⟩ : Own.PA F)) ++ (heads.map (fun h => (⟨aR h, Own.a0 ((grid0.coords t) 2).val x0 x1 x2 h⟩ : Own.PA F)) ++ sl.HS1_1 (F := F)) := by
  show ((⟨aH 7, newA1 (own1 (BitVec.ofNat 32 ((grid0.coords t) 2).val) (View.readAt (Elt F) a3.view (Rect.unit (s := S512x1024) ![0, 896] S512x128.size _).toLoadRect (w3.unread x0)) (View.readAt (Elt F) a4.view (Rect.unit (s := S4096x1024) (k0_off8 (grid0.coords t) 256#32) S256x128.size _).toLoadRect (w4.unread x1))) (View.readCov (Val := Elt F) a7.view (sl.HS0_16 (F := F) c (grid0.coords t) a3 w3 a4 w4 a7 x0 x1) (mH 7).toLoadRect) (View.readAt (Elt F) a5.view (Rect.unit (s := S640x4096) (k0_off16 (grid0.coords t) 256#32) S80x256.size _).toLoadRect (w5.unread x2)) (View.readCov (Val := Elt F) a8.view (sl.HS1_16 (F := F) c (grid0.coords t) a3 w3 a4 w4 a5 w5 a7 a8 x0 x1 x2) (aH 7).toLoadRect)⟩ : Own.PA F) :: sl.HS1_16 (F := F) c (grid0.coords t) a3 w3 a4 w4 a5 w5 a7 a8 x0 x1 x2) = _
  rw [rd_q w3 x0 ![0, 896] _ 7 (by rfl), rd_kg w4 x1 _ _ (512 * ((grid0.coords t) 2).val + 256) 7 (off_k1_7 t), rd_m1_7, rd_vg w5 x2 _ _ (512 * ((grid0.coords t) 2).val + 256) 7 (off_v1_7 t), rd_a1_7, l_a1_7]
  rfl
theorem own_a (h : Fin 8) : View.readCov (Val := Elt F) a8.view (sl.HS1_17 (F := F) c (grid0.coords t) a3 w3 a4 w4 a5 w5 a7 a8 x0 x1 x2) (aR h).toLoadRect = Own.a ((grid0.coords t) 2).val x0 x1 x2 h := by
  rw [l_a1_8]
  exact Own.glue_a a8.view _ _ _ h

end

end Cert.OwnA

end
-- ==== Proof.Out.lean ====
/- The block of results that a run writes: four pieces, each of a pair of heads, each the weighted sums times the
   reciprocal of the sum of the weights. -/
module

public import proofs.«01_k».proof.Proof.TailB
public import proofs.«01_k».proof.Proof.TailC
public import proofs.«01_k».proof.Proof.OwnA
public import proofs.«01_k».proof.Proof.Run.KernelIdeal.Frame
import all proofs.«01_k».proof.Proof.Gen.KernelIdeal.Frame.RunA
import all proofs.«01_k».proof.Proof.Run.KernelIdeal.B
import all proofs.«01_k».proof.Proof.Run.KernelIdeal.C

@[expose] public section

set_option maxRecDepth 16384
set_option maxHeartbeats 1000000

noncomputable section

namespace Cert.Out

open Idealize.ShloMosaic Cert.KernelIdeal Cert.KernelIdeal.Gen Cert.Steps Cert.Slab

theorem oR_inb (p : Fin 4) : ∀ a, (![0, 128 * p.val] : Fin 2 → ℕ) a + S512x128.size a ≤ S512x512.size a := by
  revert p; decide
/-- The columns of a pair of heads. -/
abbrev oR (p : Fin 4) : Rect S512x512 := Rect.unit ![0, 128 * p.val] S512x128.size (oR_inb p)

section
variable {F : FTy → Type} [FloatOps F] [Named F]

/-- The pieces written, of the weighted sums of the eight heads. -/
def outL (a : Fin 8 → Vec F S1x80x512 .f32) : List (View.Piece (Elt F) S512x512 .bf16) :=
  [⟨oR 3, fin (a 6) (a 7)⟩, ⟨oR 2, fin (a 4) (a 5)⟩, ⟨oR 1, fin (a 2) (a 3)⟩, ⟨oR 0, fin (a 0) (a 1)⟩]

theorem outL_eq (a : Fin 8 → Vec F S1x80x512 .f32) :
    outL a = ([3, 2, 1, 0] : List (Fin 4)).map (fun p => (⟨oR p, fin (a ⟨2 * p.val, by omega⟩) (a ⟨2 * p.val + 1, by omega⟩)⟩ :
      View.Piece (Elt F) S512x512 .bf16)) := rfl

theorem oR_apart : ∀ j k : Fin 4, j ≠ k → LoadRect.disj (oR j) (oR k).toLoadRect = true := by decide

theorem canon_pairs (w : ∀ p, (oR p).shape.Idx → Elt F .bf16) (p : Fin 4) (z : (oR p).shape.Idx) (ps : List (Fin 4)) (hm : p ∈ ps) :
    View.canon (ps.map (fun p => (⟨oR p, w p⟩ : View.Piece (Elt F) S512x512 .bf16))) ((oR p).emb z) = w p z := by
  induction ps with
  | nil => exact absurd hm (by simp)
  | cons j ps ih =>
    by_cases e : j = p
    · subst e
      exact View.canon_cons_emb (oR j) (w j) _ z
    · exact (View.canon_cons_of_not_mem ⟨oR j, w j⟩ _ (LoadRect.idx_not_mem_of_disj (oR_apart j p e) z)).trans
        (ih ((List.mem_cons.mp hm).resolve_left fun h => e h.symm))

theorem canon_outL (a : Fin 8 → Vec F S1x80x512 .f32) (p : Fin 4) (z : S512x128.Idx) :
    View.canon (outL a) ((oR p).emb z) = fin (a ⟨2 * p.val, by omega⟩) (a ⟨2 * p.val + 1, by omega⟩) z := by
  rw [outL_eq]
  exact canon_pairs _ p z [3, 2, 1, 0] (by revert p; decide)

variable (t : Fin grid0.N) (c : Dev nD)
  (arg3 : Memref sig .tc .vmem S512x1024 .bf16) (harg3 : arg3.IsWhole)
  (arg4 : Memref sig .tc .vmem S4096x1024 .bf16) (harg4 : arg4.IsWhole) (arg5 : Memref sig .tc .vmem S640x4096 .bf16) (harg5 : arg5.IsWhole)
  (arg6 : Memref sig .tc .vmem S512x512 .bf16) (harg6 : arg6.IsWhole)
  (arg7 : Memref sig .tc .vmem S8x1x512 .f32) (harg7 : arg7.IsWhole) (arg8 : Memref sig .tc .vmem S8x80x512 .f32) (harg8 : arg8.IsWhole)
  (arg9 : Memref sig .tc .vmem S8x512x512 .f32) (harg9 : arg9.IsWhole) (arg10 : Memref sig .tc .vmem S8x512x512 .f32) (harg10 : arg10.IsWhole)
  (x0 : Vec F S512x1024 .bf16) (x1 : Vec F S4096x1024 .bf16) (x2 : Vec F S640x4096 .bf16)

theorem out_A (hc0 : ¬cond0_0 (grid0.coords t)) :
    out0_A_3 (F := F) c (grid0.coords t) arg3 harg3 arg4 harg4 arg5 harg5 arg6 harg6 arg7 harg7 arg8 harg8 arg9 harg9 arg10 harg10 hc0 x0 x1 x2
      = View.canon (outL (Own.a ((grid0.coords t) 2).val x0 x1 x2)) := by
  have e : (kernelRun0_A (F := F) c (grid0.coords t) arg3 harg3 arg4 harg4 arg5 harg5 arg6 harg6 arg7 harg7 arg8 harg8 arg9 harg9 arg10 harg10 hc0 x0 x1 x2).1
      = outL (fun h => View.readCov (Val := Elt F) arg8.view (kernelRun0_A.sl.HS1_17 (F := F) c (grid0.coords t) arg3 harg3 arg4 harg4 arg5 harg5 arg7 arg8 x0 x1 x2) (aR h).toLoadRect) := rfl
  rw [out0_A_3, e, View.read_writes_junk_eq_canon]
  exact congrArg (fun f => View.canon (outL f)) (funext fun h => OwnA.own_a t c arg3 harg3 arg4 harg4 arg5 harg5 arg7 arg8 x0 x1 x2 h)

theorem out_B (hc0 : cond0_0 (grid0.coords t)) (hc1 : ¬cond0_1 (grid0.coords t)) (hc2 : cond0_2 (grid0.coords t)) :
    out0_B_3 (F := F) c (grid0.coords t) arg3 harg3 arg4 harg4 arg5 harg5 arg6 harg6 arg7 harg7 arg8 harg8 arg9 harg9 arg10 harg10 hc0 hc1 hc2 x0 x1 x2
      = View.canon (outL (Trip.a1 x2 (TailB.nT t) (Loop.Sv x0 x1 (TailB.nT t)) (Loop.Mv ((grid0.coords t) 2).val x0 x1 (TailB.nT t))
          (Loop.Av ((grid0.coords t) 2).val x0 x1 x2 (TailB.nT t)))) := by
  have e : (kernelRun0_B (F := F) c (grid0.coords t) arg3 harg3 arg4 harg4 arg5 harg5 arg6 harg6 arg7 harg7 arg8 harg8 arg9 harg9 arg10 harg10 hc0 hc1 hc2 x0 x1 x2).1
      = outL (fun h => View.readCov (Val := Elt F) arg8.view (kernelRun0_B.sl.HS1_8_1 (F := F) c (grid0.coords t) arg3 harg3 arg4 harg4 arg5 harg5 arg6 harg6 arg7 harg7 arg8 harg8 arg9 harg9 arg10 harg10 hc0 hc2 x0 x1 x2) (aR h).toLoadRect) := rfl
  rw [out0_B_3, e, View.read_writes_junk_eq_canon]
  exact congrArg (fun f => View.canon (outL f)) (funext fun h => TailB.last_a t c arg3 harg3 arg4 harg4 arg5 harg5 arg6 harg6 arg7 harg7 arg8 harg8 arg9 harg9 arg10 harg10 hc0 hc2 x0 x1 x2 h)

theorem out_C (hc0 : cond0_0 (grid0.coords t)) (hc1 : cond0_1 (grid0.coords t)) (hc2 : ¬cond0_2 (grid0.coords t)) :
    out0_C_3 (F := F) c (grid0.coords t) arg3 harg3 arg4 harg4 arg5 harg5 arg6 harg6 arg7 harg7 arg8 harg8 arg9 harg9 arg10 harg10 hc0 hc1 hc2 x0 x1 x2
      = View.canon (outL (Loop.Av ((grid0.coords t) 2).val x0 x1 x2 (TailC.nT t + 1))) := by
  have e : (kernelRun0_C (F := F) c (grid0.coords t) arg3 harg3 arg4 harg4 arg5 harg5 arg6 harg6 arg7 harg7 arg8 harg8 arg9 harg9 arg10 harg10 hc0 hc1 hc2 x0 x1 x2).1
      = outL (fun h => View.readCov (Val := Elt F) arg8.view (kernelRun0_C.sl.HS1_16_1 (F := F) c (grid0.coords t) arg3 harg3 arg4 harg4 arg5 harg5 arg6 harg6 arg7 harg7 arg8 harg8 arg9 harg9 arg10 harg10 hc0 hc1 x0 x1 x2) (aR h).toLoadRect) := rfl
  rw [out0_C_3, e, View.read_writes_junk_eq_canon]
  exact congrArg (fun f => View.canon (outL f)) (funext fun h => TailC.last_a t c arg3 harg3 arg4 harg4 arg5 harg5 arg6 harg6 arg7 harg7 arg8 harg8 arg9 harg9 arg10 harg10 hc0 hc1 x0 x1 x2 h)

end

/-- A result: head `h`'s value `d` at query `x`. -/
theorem canon_outL_apply (a : Fin 8 → Vec Ideal S1x80x512 .f32) (h : Fin 8) (d : Fin 64) (x : Fin 512) :
    View.canon (Val := Elt Ideal) (outL (F := Ideal) a) (ix2 x ⟨64 * h.val + d.val, by omega⟩)
      = a h (ix3 0 ⟨d.val, by omega⟩ x) * Ideal.div 1 (a h (ix3 0 64 x)) := by
  rcases Nat.even_or_odd' h.val with ⟨p, hp | hp⟩
  · have e : (ix2 x ⟨64 * h.val + d.val, by omega⟩ : S512x512.Idx) = (oR ⟨p, by omega⟩).emb (ix2 x ⟨d.val, by omega⟩) := by
      refine funext fun q => Fin.ext ?_
      fin_cases q
      · simp [Rect.emb_apply]
      · simp [Rect.emb_apply]; omega
    rw [e, canon_outL, fin_apply_left _ _ x d.val d.isLt]
    have eh : (⟨2 * p, by omega⟩ : Fin 8) = h := Fin.ext hp.symm
    rw [eh]
  · have e : (ix2 x ⟨64 * h.val + d.val, by omega⟩ : S512x512.Idx) = (oR ⟨p, by omega⟩).emb (ix2 x ⟨64 + d.val, by omega⟩) := by
      refine funext fun q => Fin.ext ?_
      fin_cases q
      · simp [Rect.emb_apply]
      · simp [Rect.emb_apply]; omega
    rw [e, canon_outL, fin_apply_right _ _ x d.val d.isLt]
    have eh : (⟨2 * p + 1, by omega⟩ : Fin 8) = h := Fin.ext hp.symm
    rw [eh]

end Cert.Out

end
-- ==== Proof.Block.lean ====
/- The kernel's result array: every block a run writes is the block of `Spec.out`, so the array is `Spec.out` of the three
   arguments — where queries and keys are real and every head's row 64 of the transposed values is ones. -/
module

public import proofs.«01_k».proof.Proof.Spec
public import proofs.«01_k».proof.Proof.Attn
public import proofs.«01_k».proof.Proof.Out
public import proofs.«01_k».proof.Proof.Run.KernelIdeal.Value
public import Idealize.ShloMosaic.Lib.Pipeline.ValueKit

@[expose] public section

set_option maxRecDepth 16384
set_option maxHeartbeats 1000000

noncomputable section

namespace Cert.Block

open Idealize.ShloMosaic Idealize.ShloMosaic.TcCoe Cert.KernelIdeal Cert.KernelIdeal.Gen Cert.Softmax

/-- A sum of products of reals is a real. -/
theorem sum_ne_top {n : ℕ} (f g : Fin n → EReal) (hf : ∀ d, f d ≠ ⊤ ∧ f d ≠ ⊥) (hg : ∀ d, g d ≠ ⊤ ∧ g d ≠ ⊥) :
    (∑ d, f d * g d) ≠ ⊤ ∧ (∑ d, f d * g d) ≠ ⊥ := by
  have e : (∑ d, f d * g d) = ((∑ d, (f d).toReal * (g d).toReal : ℝ) : EReal) := by
    rw [show ((∑ d, (f d).toReal * (g d).toReal : ℝ) : EReal) = ∑ d, (((f d).toReal * (g d).toReal : ℝ) : EReal) from
      map_sum (⟨⟨Real.toEReal, EReal.coe_zero⟩, EReal.coe_add⟩ : ℝ →+ EReal) _ _]
    refine Finset.sum_congr rfl fun d _ => ?_
    rw [EReal.coe_mul, EReal.coe_toReal (hf d).1 (hf d).2, EReal.coe_toReal (hg d).1 (hg d).2]
  rw [e]
  exact ⟨EReal.coe_ne_top _, EReal.coe_ne_bot _⟩

theorem range_sup (n : ℕ) (f : ℕ → EReal) : (Finset.range n).sup f = Finset.univ.sup (fun y : Fin n => f y.val) := by
  have e := Attn.Ico_eq_image 0 n
  rw [Nat.zero_add, ← Finset.range_eq_Ico] at e
  rw [e, Finset.sup_image]
  exact Finset.sup_congr rfl fun y _ => congrArg f (Nat.zero_add _)

section
variable (q k : Vec Ideal Spec.SQ .bf16) (v : Vec Ideal Spec.SV .bf16) (b : Fin 4) (g : Fin 2) (i : Fin 8)
  (x0 : Vec Ideal S512x1024 .bf16) (x1 : Vec Ideal S4096x1024 .bf16) (x2 : Vec Ideal S640x4096 .bf16)

/-- Queries and keys are real. -/
def Real2 (q : Vec Ideal Spec.SQ .bf16) : Prop := ∀ j, q j ≠ (⊤ : EReal) ∧ q j ≠ (⊥ : EReal)
/-- Every head's row 64 is ones. -/
def Ones (v : Vec Ideal Spec.SV .bf16) : Prop :=
  ∀ (h : Fin 16) (y : Fin 16384), v (ix2 ⟨80 * h.val + 64, by omega⟩ y) = (1 : EReal)

/-- The three blocks of a grid point are these parts of the arguments. -/
structure Parts : Prop where
  q : ∀ (x : Fin 512) (c : Fin 1024), x0 (ix2 x c) = q (ix2 ⟨(b.val * 8 + i.val) * 512 + x.val, by omega⟩ ⟨g.val * 1024 + c.val, by omega⟩)
  k : ∀ (y : Fin 4096) (c : Fin 1024), x1 (ix2 y c) = k (ix2 ⟨b.val * 4096 + y.val, by omega⟩ ⟨g.val * 1024 + c.val, by omega⟩)
  v : ∀ (r : Fin 640) (y : Fin 4096), x2 (ix2 r y) = v (ix2 ⟨g.val * 640 + r.val, by omega⟩ ⟨b.val * 4096 + y.val, by omega⟩)

variable {q k v b g i x0 x1 x2} (P : Parts q k v b g i x0 x1 x2) (h : Fin 8) (x : Fin 512)
include P

theorem sc_eq (y : Fin 4096) : Attn.sc i.val x0 x1 h x y.val
    = Spec.score q k b ⟨8 * g.val + h.val, by omega⟩ ⟨512 * i.val + x.val, by omega⟩ y := by
  have e : Attn.raw x0 x1 h x y.val = Spec.raw q k b ⟨8 * g.val + h.val, by omega⟩ ⟨512 * i.val + x.val, by omega⟩ y := by
    refine Finset.sum_congr rfl fun d _ => ?_
    rw [P.q, P.k, mul_comm]
    have := h.isLt; have := d.isLt; have := x.isLt; have := y.isLt
    refine congrArg₂ (· * ·) (congrArg q ?_) (congrArg k ?_) <;>
      refine congrArg₂ ix2 (Fin.ext ?_) (Fin.ext ?_) <;>
      simp only [Spec.row, Fin.ofNat] <;> omega
  simp only [Attn.sc, Spec.score, e]

theorem vl_eq (d : Fin 80) (y : Fin 4096) : Attn.vl x2 h d y.val
    = v (ix2 ⟨80 * (8 * g.val + h.val) + d.val, by omega⟩ (Spec.row b y)) := by
  have := h.isLt; have := d.isLt; have := y.isLt
  refine (P.v _ _).trans (congrArg v ?_)
  refine congrArg₂ ix2 (Fin.ext ?_) (Fin.ext ?_) <;> simp only [Spec.row, Fin.ofNat] <;> omega

/-- What a run writes for one query, head and column, from the state after all keys. -/
theorem attend_eq (hq : Real2 q) (hk : Real2 k) (hv : Ones v) (m : EReal) (a : Fin 80 → EReal)
    (st : State (Attn.sc i.val x0 x1 h x) (Attn.vl x2 h) (Finset.range 4096) m a) (d : Fin 64) :
    a ⟨d.val, by omega⟩ * Ideal.div 1 (a 64)
      = Spec.attend q k v b ⟨8 * g.val + h.val, by omega⟩ ⟨512 * i.val + x.val, by omega⟩ d := by
  have raw_real : ∀ y : Fin 4096, _ := fun y => sum_ne_top
    (fun d : Fin 128 => q (ix2 (Spec.row b ⟨512 * i.val + x.val, by omega⟩) ⟨128 * (8 * g.val + h.val) + d.val, by omega⟩))
    (fun d : Fin 128 => k (ix2 (Spec.row b y) ⟨128 * (8 * g.val + h.val) + d.val, by omega⟩)) (fun _ => hq _) (fun _ => hk _)
  have key := st.done 64 (fun y hy => ?_) (fun y hy => ?_) (512 * i.val + x.val) ?_ ?_ ⟨d.val, by omega⟩
  · rw [key, range_sup, Finset.sum_range, Finset.sum_range]
    simp only [sc_eq P, vl_eq P]
    rfl
  · have := vl_eq P h 64 ⟨y, Finset.mem_range.mp hy⟩
    exact this.trans (hv ⟨8 * g.val + h.val, by omega⟩ _)
  · rw [show y = (⟨y, Finset.mem_range.mp hy⟩ : Fin 4096).val from rfl, sc_eq P, Spec.score]
    split
    · exact (raw_real _).1
    · exact bot_ne_top
  · exact Finset.mem_range.mpr (by omega)
  · rw [show 512 * i.val + x.val = (⟨512 * i.val + x.val, by omega⟩ : Fin 4096).val from rfl, sc_eq P, Spec.score, if_pos le_rfl]
    exact (raw_real _).2

end

variable (m : (ℓ : Loc nD τ sig) → Buf (Elt Ideal) ℓ) (c : Dev nD)

theorem idx0 : ∀ t : Fin cfg0.N, win0_0.index t = ![((grid0.coords t) 0).val * 8 + ((grid0.coords t) 2).val, ((grid0.coords t) 1).val] :=
  (by decide +kernel : ∀ t : Fin grid0.N, _)
theorem idx1 : ∀ t : Fin cfg0.N, win0_1.index t = ![((grid0.coords t) 0).val, ((grid0.coords t) 1).val] :=
  (by decide +kernel : ∀ t : Fin grid0.N, _)
theorem idx2 : ∀ t : Fin cfg0.N, win0_2.index t = ![((grid0.coords t) 1).val, ((grid0.coords t) 0).val] :=
  (by decide +kernel : ∀ t : Fin grid0.N, _)
theorem idx3 : ∀ t : Fin cfg0.N, win0_3.index t = ![((grid0.coords t) 0).val * 8 + ((grid0.coords t) 2).val, ((grid0.coords t) 1).val] :=
  (by decide +kernel : ∀ t : Fin grid0.N, _)
theorem row_coord : ∀ t : Fin cfg0.N, ((grid0.coords t) 2).val = t.val % 8 :=
  (by decide +kernel : ∀ t : Fin grid0.N, _)

/-- The first coordinate of a grid point, the sequence; the second, the group of heads; the third, the block of queries. -/
def cb (t : Fin cfg0.N) : Fin 4 := (grid0.coords t) 0
def cg (t : Fin cfg0.N) : Fin 2 := (grid0.coords t) 1
def ci (t : Fin cfg0.N) : Fin 8 := (grid0.coords t) 2

theorem parts (t : Fin cfg0.N) : Parts (m ((c : Thread nD τ).loc main_arg0)) (m ((c : Thread nD τ).loc main_arg1)) (m ((c : Thread nD τ).loc main_arg2))
    (cb t) (cg t) (ci t) (iblk m c 0 t) (iblk m c 1 t) (iblk m c 2 t) where
  q x y := by
    blk_ext! [iblk, V, idx0 t]
    all_goals rfl
  k x y := by
    blk_ext! [iblk, V, idx1 t]
    all_goals rfl
  v x y := by
    blk_ext! [iblk, V, idx2 t]
    all_goals rfl

/-- The block a run leaves, at an index. -/
theorem after_apply (t : Fin cfg0.N) (hq : Real2 (m ((c : Thread nD τ).loc main_arg0))) (hk : Real2 (m ((c : Thread nD τ).loc main_arg1)))
    (hv : Ones (m ((c : Thread nD τ).loc main_arg2))) (h : Fin 8) (x : Fin 512) (d : Fin 64) :
    outsAt0 m c t.val t.isLt (ix2 x ⟨64 * h.val + d.val, by omega⟩)
      = Spec.attend (m ((c : Thread nD τ).loc main_arg0)) (m ((c : Thread nD τ).loc main_arg1)) (m ((c : Thread nD τ).loc main_arg2))
          (cb t) ⟨8 * (cg t).val + h.val, by omega⟩ ⟨512 * (ci t).val + x.val, by omega⟩ d := by
  have P := parts m c t
  have r := row_coord t
  by_cases h0 : 1 ≤ t.val % 8
  · by_cases h1 : t.val % 2 = 0
    · have h2 : ¬t.val % 2 = 1 := by omega
      rw [outsAt0_C m c t h0 h1 h2, Out.out_C, Out.canon_outL_apply]
      obtain ⟨M, st⟩ := Attn.full_C (ci t).val (iblk m c 0 t) (iblk m c 1 t) (iblk m c 2 t) h x (TailC.nT t) (ci t).isLt
        (TailC.trips_eq t ((hcond0_0 t).mpr h0) ((hcond0_1 t).mpr h1))
      exact attend_eq P h x hq hk hv M _ st d
    · have h2 : t.val % 2 = 1 := by omega
      rw [outsAt0_B m c t h0 h1 h2, Out.out_B, Out.canon_outL_apply]
      obtain ⟨M, st⟩ := Attn.full_B (ci t).val (iblk m c 0 t) (iblk m c 1 t) (iblk m c 2 t) h x (TailB.nT t) (ci t).isLt
        (TailB.trips_eq t ((hcond0_0 t).mpr h0) ((hcond0_2 t).mpr h2))
      exact attend_eq P h x hq hk hv M _ st d
  · rw [outsAt0_A m c t h0, Out.out_A, Out.canon_outL_apply]
    obtain ⟨M, st⟩ := Attn.full_A (ci t).val (iblk m c 0 t) (iblk m c 1 t) (iblk m c 2 t) h x (r.trans (by omega))
    exact attend_eq P h x hq hk hv M _ st d

/-- The result array after the run. -/
theorem final (hq : Real2 (m ((c : Thread nD τ).loc main_arg0))) (hk : Real2 (m ((c : Thread nD τ).loc main_arg1)))
    (hv : Ones (m ((c : Thread nD τ).loc main_arg2))) :
    (dats m 0 c).arrAt 3 cfg0.N
      = Spec.out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨x, z, hx, hz, rfl⟩ : ∃ (x : Fin 512) (z : Fin 512), x = y 0 ∧ z = y 1 ∧ y = ix2 x z :=
    ⟨y 0, y 1, rfl, rfl, by funext a; fin_cases a <;> rfl⟩
  have e0 : ((((win0_3.blk t).view.emb (ix2 x z)) 0 : Fin _) : ℕ) = ((cb t).val * 8 + (ci t).val) * 512 + x.val := by
    blk_simp [idx3 t]
    rfl
  have e1 : ((((win0_3.blk t).view.emb (ix2 x z)) 1 : Fin _) : ℕ) = (cg t).val * 512 + z.val := by
    blk_simp [idx3 t]
    rfl
  have key := after_apply m c t hq hk hv ⟨z.val / 64, by omega⟩ x ⟨z.val % 64, by omega⟩
  have ez : ∀ p, (⟨64 * (z.val / 64) + z.val % 64, p⟩ : Fin 512) = z := fun p => Fin.ext (by dsimp only; omega)
  dsimp only at key
  rw [ez] at key
  refine key.trans (Spec.out_apply _ _ _ _ _ _ _ _ ?_ ?_).symm
  · rw [e0]; dsimp only; omega
  · rw [e1]; dsimp only; omega

end Cert.Block

end
-- ==== Proof.Ref.lean ====
/- The reference at an index: its composed term is `Spec.out`. -/
module

public import proofs.«01_k».proof.Proof.Spec
public import proofs.«01_k».proof.Proof.Steps
public import proofs.«01_k».proof.Proof.Gen.ReferenceIdeal.Run
import all proofs.«01_k».proof.Proof.Gen.ReferenceIdeal.Run
public import Idealize.ShloMosaic.Lib.Pointwise

@[expose] public section

set_option maxRecDepth 16384
set_option maxHeartbeats 1000000

noncomputable section

namespace Cert.Ref

open Idealize.ShloMosaic Cert.ReferenceIdeal Cert.ReferenceIdeal.Gen

/-- The chunk of every position, as the reference computes it: the quotient by 64, rounded towards `-∞`. -/
def chunks : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- Which keys a query may take. -/
def mask : IVec S4096x4096 1 :=
  cmpi .sle
    (broadcastInDim S4096x4096 ![0, 1] bcast_S1x4096_S4096x4096_0_1 (broadcastInDim S1x4096 ![1] bcast_S4096_S1x4096_1 chunks))
    (broadcastInDim S4096x4096 ![0, 1] bcast_S4096x1_S4096x4096_0_1 (broadcastInDim S4096x1 ![0] bcast_S4096_S4096x1_0 chunks))

/-- The products of queries and keys. -/
def products (q k : FVec Ideal S16384x2048 .bf16) : FVec Ideal S4x16x4096x4096 .f32 :=
  Host.dotGeneral dot_S4x4096x16x128_S4x4096x16x128_S4x16x4096x4096_3_3_1_1_02_02 none
    (shapeCast _ (extf .f32 q bitsLt_bf16_f32) shapeCasts_S16384x2048_S4x4096x16x128)
    (shapeCast _ (extf .f32 k bitsLt_bf16_f32) shapeCasts_S16384x2048_S4x4096x16x128)

/-- The scores: the products where the mask is set. -/
def masked (w : FVec Ideal S4x16x4096x4096 .f32) : FVec Ideal S4x16x4096x4096 .f32 :=
  select (broadcastInDim S4x16x4096x4096 ![0, 1, 2, 3] bcast_S1x1x4096x4096_S4x16x4096x4096_0_1_2_3
      (broadcastInDim S1x1x4096x4096 ![2, 3] bcast_S4096x4096_S1x1x4096x4096_2_3 mask)) w
    (broadcastInDim S4x16x4096x4096 ![] bcast_S_S4x16x4096x4096 (id (constant S_ .f32 0xFF800000#32)))

/-- The greatest score of every query. -/
def tops (s : FVec Ideal S4x16x4096x4096 .f32) : FVec Ideal S4x16x4096 .f32 :=
  Host.reduce FloatOps.maximumf s (constant S_ .f32 0xFF800000#32) reducesTo_S4x16x4096x4096_S4x16x4096_d3 h_S_

/-- A number per query, at each of its keys. -/
def spread (r : FVec Ideal S4x16x4096 .f32) : FVec Ideal S4x16x4096x4096 .f32 :=
  broadcastInDim S4x16x4096x4096 ![0, 1, 2, 3] bcast_S4x16x4096x1_S4x16x4096x4096_0_1_2_3
    (broadcastInDim S4x16x4096x1 ![0, 1, 2] bcast_S4x16x4096_S4x16x4096x1_0_1_2 r)

/-- The weights. -/
def weights (s : FVec Ideal S4x16x4096x4096 .f32) : FVec Ideal S4x16x4096x4096 .f32 :=
  Host.exp (mulf (broadcastInDim S4x16x4096x4096 ![] bcast_S_S4x16x4096x4096 (Host.log (constant S_ .f32 0x40000000#32)))
    (subf s (spread (tops s))))

/-- The sums of the weights. -/
def sums (p : FVec Ideal S4x16x4096x4096 .f32) : FVec Ideal S4x16x4096 .f32 :=
  Host.reduceAdd p (constant S_ .f32 0x00000000#32) reducesTo_S4x16x4096x4096_S4x16x4096_d3 h_S_

/-- The values. -/
def values (v : FVec Ideal S1280x16384 .bf16) : FVec Ideal S16x64x4x4096 .f32 :=
  extractStridedSlice S16x64x4x4096 ![0, 0, 0, 0] (shapeCast _ (extf .f32 v bitsLt_bf16_f32) shapeCasts_S1280x16384_S16x80x4x4096)
    slices_S16x80x4x4096_S16x64x4x4096_0_0_0_0

/-- The result. -/
def result (v : FVec Ideal S16x64x4x4096 .f32) (p : FVec Ideal S4x16x4096x4096 .f32) : FVec Ideal S16384x1024 .bf16 :=
  truncf .bf16 (shapeCast _ (transpose S4x4096x16x64 [0, 3, 1, 2]
    (Host.dotGeneral dot_S16x64x4x4096_S4x16x4096x4096_S4x16x64x4096_3_3_1_2_20_01 none v p)
    transposes_S4x16x64x4096_S4x4096x16x64_0_3_1_2) shapeCasts_S4x4096x16x64_S16384x1024) bitsLt_bf16_f32

/-- The composed term, part by part. -/
theorem res_eq (m : (ℓ : Loc nD τ sig) → Buf (Elt Ideal) ℓ) (c : Dev nD) :
    Value.res_main_v32 (F := Ideal) m c
      = result (values (m ((c.tc : Thread nD τ).loc main_arg2)))
          (Host.divf (weights (masked (products (m ((c.tc : Thread nD τ).loc main_arg0)) (m ((c.tc : Thread nD τ).loc main_arg1)))))
            (spread (sums (weights (masked (products (m ((c.tc : Thread nD τ).loc main_arg0)) (m ((c.tc : Thread nD τ).loc main_arg1)))))))) := by
  unfold Value.res_main_v32
  rfl

theorem chunks_apply : ∀ n : Fin 4096, chunks (ix1 n) = BitVec.ofNat 32 (n.val / 64) := by
  decide +kernel

theorem products_apply (q k : FVec Ideal S16384x2048 .bf16) (b : Fin 4) (h : Fin 16) (x y : Fin 4096) :
    products q k (ix4 b h x y) = Spec.raw q k b h x y := by
  pointwise [products, Spec.raw]
  refine Finset.sum_congr rfl fun d _ => ?_
  simp only [Spec.row, Nat.mul_comm b.val, Nat.mul_comm h.val]

theorem masked_apply (w : FVec Ideal S4x16x4096x4096 .f32) (b : Fin 4) (h : Fin 16) (x y : Fin 4096) :
    masked w (ix4 b h x y) = if y.val / 64 ≤ x.val / 64 then w (ix4 b h x y) else ⊥ := by
  pointwise [masked, mask, chunks_apply]
  refine (congrArg (fun c => Scalar.select c _ _)
    (Steps.sle_fin ⟨y.val / 64, by omega⟩ ⟨x.val / 64, by omega⟩)).trans ?_
  dsimp only
  split
  · rfl
  · show Ideal.ofBits .f32 0xFF800000#32 = ⊥
    simp [Ideal.ofBits, Ideal.ieee]

theorem tops_apply (w : FVec Ideal S4x16x4096x4096 .f32) (b : Fin 4) (h : Fin 16) (x : Fin 4096) :
    tops w (ix3 b h x) = Finset.univ.sup (fun y : Fin 4096 => w (ix4 b h x y)) := by
  pointwise [tops]
  exact Steps.fold_eq_sup _

theorem spread_apply (r : FVec Ideal S4x16x4096 .f32) (b : Fin 4) (h : Fin 16) (x y : Fin 4096) :
    spread r (ix4 b h x y) = r (ix3 b h x) := by
  pointwise [spread]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  exact if_neg (by norm_num)

theorem weights_apply (s : FVec Ideal S4x16x4096x4096 .f32) (b : Fin 4) (h : Fin 16) (x y : Fin 4096) :
    weights s (ix4 b h x y) = Ideal.exp2 (s (ix4 b h x y) - tops s (ix3 b h x)) := by
  pointwise [weights, spread_apply]
  rw [log_two, Softmax.exp_log_two]

theorem sums_apply (p : FVec Ideal S4x16x4096x4096 .f32) (b : Fin 4) (h : Fin 16) (x : Fin 4096) :
    sums p (ix3 b h x) = ∑ y : Fin 4096, p (ix4 b h x y) := by
  pointwise [sums]

theorem values_apply (v : FVec Ideal S1280x16384 .bf16) (b : Fin 4) (h : Fin 16) (d : Fin 64) (y : Fin 4096) :
    values v (ix4 h d b y) = Spec.value v b h d y := by
  pointwise [values, Spec.value]
  simp only [Spec.row, Nat.mul_comm b.val, Nat.mul_comm h.val]

theorem result_apply (v : FVec Ideal S16x64x4x4096 .f32) (p : FVec Ideal S4x16x4096x4096 .f32) (R : Fin 16384) (C : Fin 1024) :
    result v p (ix2 R C) = ∑ y : Fin 4096, v (ix4 ⟨C.val / 64, by omega⟩ ⟨C.val % 64, by omega⟩ ⟨R.val / 4096, by omega⟩ y)
      * p (ix4 ⟨R.val / 4096, by omega⟩ ⟨C.val / 64, by omega⟩ ⟨R.val % 4096, by omega⟩ y) := by
  pointwise [result]

theorem divf_apply (p r : FVec Ideal S4x16x4096x4096 .f32) (b : Fin 4) (h : Fin 16) (x y : Fin 4096) :
    Host.divf p r (ix4 b h x y) = Ideal.div (p (ix4 b h x y)) (r (ix4 b h x y)) := rfl

/-- The weights of the reference are those of `Spec`. -/
theorem weights_spec (q k : FVec Ideal S16384x2048 .bf16) (b : Fin 4) (h : Fin 16) (x y : Fin 4096) :
    weights (masked (products q k)) (ix4 b h x y) = Spec.weight q k b h x y := by
  rw [weights_apply, tops_apply]
  simp only [masked_apply, products_apply]
  rfl

/-- The reference's result. -/
theorem res_spec (m : (ℓ : Loc nD τ sig) → Buf (Elt Ideal) ℓ) (c : Dev nD) :
    Value.res_main_v32 (F := Ideal) m c
      = Spec.out (m ((c.tc : Thread nD τ).loc main_arg0)) (m ((c.tc : Thread nD τ).loc main_arg1)) (m ((c.tc : Thread nD τ).loc main_arg2)) := by
  rw [res_eq]
  have e : ∀ (q k : FVec Ideal S16384x2048 .bf16) (v : FVec Ideal S1280x16384 .bf16) (R : Fin 16384) (C : Fin 1024),
      result (values v) (Host.divf (weights (masked (products q k))) (spread (sums (weights (masked (products q k)))))) (ix2 R C)
        = Spec.out q k v (ix2 R C) := by
    intro q k v R C
    rw [result_apply]
    simp only [values_apply, divf_apply, spread_apply, sums_apply, weights_spec]
    rfl
  funext j
  have hj : j = ix2 (n0 := 16384) (n1 := 1024) (j 0) (j 1) := by funext a; fin_cases a <;> rfl
  rw [hj]
  exact e _ _ _ _ _

end Cert.Ref

end
-- ==== Proof.Pre.lean ====
/- The precondition, read: queries and keys are real numbers, and every head's row 64 of the transposed values is ones. -/
module

public import proofs.«01_k».proof.Pre_finite_with_ones_row
public import proofs.«01_k».proof.Proof.Block
public import Idealize.ShloMosaic.Lib.IdealHost
public import Idealize.ShloMosaic.Lib.Pointwise

@[expose] public section

set_option maxRecDepth 16384

noncomputable section

namespace Cert.Pre

open Idealize.ShloMosaic Cert.Pre_finite_with_ones_row

/-- The shapes of the precondition's operations fit. -/
instance facts : Cert.Pre_finite_with_ones_row.Facts where
  bcast_S_S16384x2048 := by decide
  shapeCasts_S1280x16384_S16x80x16384 := by decide
  slices_S16x80x16384_S16x1x16384_0_64_0 := by decide
  shapeCasts_S16x1x16384_S16x16384 := by decide
  bcast_S_S16x16384 := by decide

theorem inf_bf16 : Ideal.ofBits .bf16 0x7F80#16 = ⊤ := by
  simp [Ideal.ofBits, Ideal.ieee]

theorem lt_of_cmp (x y : EReal) (h : Ideal.cmp .olt x y = 1#1) : x < y := by
  by_contra n
  simp [Ideal.cmp, n] at h

theorem real_of_abs (x : EReal) (h : Ideal.cmp .olt (max x (-x)) (Ideal.ofBits .bf16 0x7F80#16) = 1#1) : x ≠ ⊤ ∧ x ≠ ⊥ := by
  have := lt_of_cmp _ _ h
  rw [inf_bf16] at this
  constructor <;> rintro rfl <;> simp at this

variable (q k : FVec Ideal S16384x2048 .bf16) (v : FVec Ideal S1280x16384 .bf16)

theorem q_real (h : (fn (F := Ideal) q k v).1 = fun _ => 1#1) : Block.Real2 q := fun j =>
  real_of_abs (q j) (congrFun h j)

theorem k_real (h : (fn (F := Ideal) q k v).2.1 = fun _ => 1#1) : Block.Real2 k := fun j =>
  real_of_abs (k j) (congrFun h j)

theorem v_ones (h : (fn (F := Ideal) q k v).2.2 = fun _ => 1#1) : Block.Ones v := fun r y => by
  have e := congrFun h (ix2 r y)
  pointwise [fn] at e
  have w : v (ix2 ⟨r.val * 80 + 64, by omega⟩ y) = (1 : EReal) := by
    by_contra n
    rw [decide_eq_false n] at e
    exact absurd e (by decide)
  simpa only [Nat.mul_comm r.val] using w

end Cert.Pre

end
-- ==== Proof.Rows.lean ====
/- The parts of the layer that work on every token by itself, as they are usually written: for one token a norm, a
   product with a matrix, and half a feed-forward step. -/
module

public import Idealize.ShloMosaic.Lib.Pointwise

@[expose] public section

noncomputable section

namespace Cert.Rows

open Idealize.ShloMosaic

/-- The number that keeps the root of a norm away from zero. -/
def eps : EReal := Ideal.ofBits .f32 0x358637BD#32

/-- A row over the root of its mean square, times the gains; `N` is the number of its entries. -/
def norm (N : EReal) {n : ℕ} (x g : Fin n → EReal) (j : Fin n) : EReal :=
  x j * Ideal.rsqrt (Ideal.div (∑ i, x i * x i) N + eps) * g j

/-- A row times a matrix. -/
def lin {n k : ℕ} (x : Fin n → EReal) (w : Fin n → Fin k → EReal) (j : Fin k) : EReal := ∑ i, x i * w i j

/-- The number of entries of a token. -/
def width : EReal := Ideal.ofBits .f32 0x44800000#32

/-- A gate, let through as far as it is large. -/
def silu (a : EReal) : EReal := a * Ideal.logistic a

/-- The same, as a quotient. -/
theorem silu_div (a : EReal) :
    a * Ideal.div (Ideal.ofBits .f32 0x3F800000#32) (Ideal.ofBits .f32 0x3F800000#32 + Ideal.exp (-a)) = silu a := by
  have h : Ideal.ofBits .f32 0x3F800000#32 = 1 := by
    simp [Ideal.ofBits, Ideal.ieee, -EReal.coe_mul]
    norm_num
  rw [h]
  rfl

/-- A token and half of what the feed-forward part makes of it. -/
def ffn {n k : ℕ} (x g : Fin n → EReal) (wg wu : Fin n → Fin k → EReal) (wd : Fin k → Fin n → EReal) (j : Fin n) : EReal :=
  x j + Ideal.ofBits .f32 0x3F000000#32
    * lin (fun i => silu (lin (norm width x g) wg i) * lin (norm width x g) wu i) wd j

end Cert.Rows

end
-- ==== Proof.RowsB.lean ====
/- The part of the layer after the attention, token by token: the attention's product, the second feed-forward step, and
   the shared keys and values of the next layer. What it makes of one token, and of all. -/
module

public import proofs.«01_k».proof.Proof.Rows

@[expose] public section

noncomputable section

namespace Cert.RowsB

open Idealize.ShloMosaic

abbrev Mat (n k : ℕ) : Type := (⟨2, ![n, k]⟩ : Shape).Idx → EReal
abbrev Cube (l n k : ℕ) : Type := (⟨3, ![l, n, k]⟩ : Shape).Idx → EReal

/-- Row `r` of a matrix. -/
def row {n k : ℕ} (a : Mat n k) (r : Fin n) (j : Fin k) : EReal := a (ix2 r j)

/-- Every matrix is its entries. -/
theorem mat_ext {n k : ℕ} {p q : Mat n k} (h : ∀ r j, p (ix2 r j) = q (ix2 r j)) : p = q := by
  funext i
  have e : i = ix2 (i 0) (i 1) := by funext a; fin_cases a <;> rfl
  rw [e]
  exact h _ _

/-- Slab `0` of a stack of matrices. -/
def first {l n k : ℕ} (h : 0 < l) (w : Cube l n k) (i : Fin n) (j : Fin k) : EReal := w (ix3 ⟨0, h⟩ i j)

/-- The token after this part: the attention's row `a`, projected, is added to `x`, and then the feed-forward step. -/
def token (a x : Fin 1024 → EReal) (wo : Mat 1024 1024) (g : Fin 1024 → EReal) (wg wu : Fin 1024 → Fin 2816 → EReal)
    (wd : Fin 2816 → Fin 1024 → EReal) : Fin 1024 → EReal :=
  Rows.ffn (fun j => x j + Rows.lin a (row wo) j) g wg wu wd

/-- Its shared keys (the first 256 entries) and values (the last). -/
def kv (x g : Fin 1024 → EReal) (w : Mat 1024 512) : Fin 512 → EReal := Rows.lin (Rows.norm Rows.width x g) (row w)

/-- The keys, laid out by a matrix. -/
def keys (u : Fin 512 → EReal) (rep : Mat 256 1024) : Fin 1024 → EReal :=
  Rows.lin (fun i : Fin 256 => u ⟨i.val, by omega⟩) (row rep)

/-- The values, laid out by a matrix. -/
def values (u : Fin 512 → EReal) (e : Mat 256 256) (d : Fin 256) : EReal :=
  ∑ i : Fin 256, e (ix2 d i) * u ⟨256 + i.val, by omega⟩

variable (a : Mat 16384 1024) (x : Mat 16384 1024) (wo : Mat 1024 1024) (g : Mat 2 1024) (wg wu : Cube 2 1024 2816)
  (wd : Cube 2 2816 1024) (gk : (⟨1, ![1024]⟩ : Shape).Idx → EReal) (wk : Mat 1024 512) (rep : Mat 256 1024) (e : Mat 256 256)

/-- Token `r`. -/
def tokenAt (r : Fin 16384) : Fin 1024 → EReal :=
  token (row a r) (row x r) wo (row g 0) (first (by decide) wg) (first (by decide) wu) (first (by decide) wd)

/-- The keys and values of token `r`. -/
def kvAt (r : Fin 16384) : Fin 512 → EReal := kv (tokenAt a x wo g wg wu wd r) (fun j => gk (ix1 j)) wk

/-- All tokens. -/
def tokens : Mat 16384 1024 := fun i => tokenAt a x wo g wg wu wd (i 0) (i 1)

/-- All keys and values. -/
def kvs : Mat 16384 512 := fun i => kvAt a x wo g wg wu wd gk wk (i 0) (i 1)

/-- All keys, laid out. -/
def keyss : Mat 16384 1024 := fun i => keys (kvAt a x wo g wg wu wd gk wk (i 0)) rep (i 1)

/-- All values, laid out; here a token is a column. -/
def valuess : Mat 256 16384 := fun i => values (kvAt a x wo g wg wu wd gk wk (i 1)) e (i 0)

end Cert.RowsB

end
-- ==== Proof.RowsBBlock.lean ====
/- The kernel of the part after the attention: what each of its blocks of tokens leaves, and the arrays of all blocks. -/
module

public import proofs.«01_k».proof.Proof.RowsB
public import proofs.«01_k».proof.Proof.Gen.Kernel2Ideal.Value
import all proofs.«01_k».proof.Proof.Gen.Kernel2Ideal.Skeleton
public import Idealize.ShloMosaic.Lib.Claim
public import Idealize.ShloMosaic.Lib.Pipeline.ValueKit
public import Idealize.ShloMosaic.Lib.Pointwise

@[expose] public section

set_option maxRecDepth 16384
set_option maxHeartbeats 1000000

noncomputable section

namespace Cert.RowsBBlock

open Idealize.ShloMosaic Idealize.ShloMosaic.TcCoe Cert.Kernel2Ideal Cert.Kernel2Ideal.Gen

section Body

variable (a : FVec Ideal S512x1024 .bf16) (wo : FVec Ideal S1024x1024 .bf16) (x : FVec Ideal S512x1024 .f32)
  (g : FVec Ideal S1x1024 .f32) (wg wu : FVec Ideal S1x1024x2816 .bf16) (wd : FVec Ideal S1x2816x1024 .bf16)
  (gk : FVec Ideal S1x1024 .f32) (wk : FVec Ideal S1024x512 .bf16) (rep : FVec Ideal S256x1024 .bf16) (e : FVec Ideal S256x256 .bf16)

theorem mid_apply (r : Fin 512) (j : Fin 1024) :
    k0_pay1 (F := Ideal) a x wo (ix2 r j) = x (ix2 r j) + Rows.lin (RowsB.row a r) (RowsB.row wo) j := by
  pointwise [k0_pay1, Rows.lin, RowsB.row]

/-- The block of tokens. -/
def tok : FVec Ideal S512x1024 .f32 :=
  k0_pay4 (F := Ideal) (k0_pay1 a x wo) (k0_pay2 a x wo g wg wu wd) k0_pay3

theorem tok_apply (r : Fin 512) (j : Fin 1024) :
    tok a wo x g wg wu wd (ix2 r j)
      = RowsB.token (RowsB.row a r) (RowsB.row x r) wo (RowsB.row g 0) (RowsB.first (by decide) wg) (RowsB.first (by decide) wu)
          (RowsB.first (by decide) wd) j := by
  have h : RowsB.row (k0_pay1 (F := Ideal) a x wo) r = fun j => x (ix2 r j) + Rows.lin (RowsB.row a r) (RowsB.row wo) j :=
    funext fun i => mid_apply a wo x r i
  refine Eq.trans ?_ (congrArg (fun z => Rows.ffn z (RowsB.row g 0) (RowsB.first (by decide) wg) (RowsB.first (by decide) wu)
    (RowsB.first (by decide) wd) j) h)
  generalize hz : k0_pay1 (F := Ideal) a x wo = z
  pointwise [tok, k0_pay4, k0_pay3, k0_pay2, hz]
  rfl

theorem tok_row (r : Fin 512) : RowsB.row (tok a wo x g wg wu wd) r
    = RowsB.token (RowsB.row a r) (RowsB.row x r) wo (RowsB.row g 0) (RowsB.first (by decide) wg) (RowsB.first (by decide) wu)
          (RowsB.first (by decide) wd) := funext fun j => tok_apply a wo x g wg wu wd r j

/-- The block of keys and values. -/
def kv (p q s : FVec Ideal S512x1024 .f32) : FVec Ideal S512x512 .f32 := k0_pay5 (F := Ideal) p q s gk wk

theorem kv_apply (p q s : FVec Ideal S512x1024 .f32) (r : Fin 512) (j : Fin 512) :
    kv gk wk p q s (ix2 r j) = RowsB.kv (RowsB.row (k0_pay4 (F := Ideal) p q s) r) (RowsB.row gk 0) wk j := by
  unfold kv
  generalize hz : k0_pay4 (F := Ideal) p q s = z
  pointwise [k0_pay5, hz]
  rfl

theorem keys_apply (p q s : FVec Ideal S512x1024 .f32) (r : Fin 512) (j : Fin 1024) :
    k0_pay6 (F := Ideal) p q s gk wk rep (ix2 r j) = RowsB.keys (RowsB.row (kv gk wk p q s) r) rep j := by
  unfold kv
  generalize hz : k0_pay5 (F := Ideal) p q s gk wk = z
  pointwise [k0_pay6, hz]
  rfl

theorem values_apply (p q s : FVec Ideal S512x1024 .f32) (d : Fin 256) (r : Fin 512) :
    k0_pay7 (F := Ideal) p q s gk wk e (ix2 d r) = RowsB.values (RowsB.row (kv gk wk p q s) r) e d := by
  unfold kv
  generalize hz : k0_pay5 (F := Ideal) p q s gk wk = z
  pointwise [k0_pay7, hz]
  rfl

theorem out11 : out0_11 (F := Ideal) a wo x g wg wu wd gk wk rep e = tok a wo x g wg wu wd := by
  unfold_out out0_11
  simp (disch := decide) only [View.ld_unit_lit, View.canon_cons_unit_lit]
  rfl

theorem out12 : out0_12 (F := Ideal) a wo x g wg wu wd gk wk rep e
    = kv gk wk (k0_pay1 a x wo) (k0_pay2 a x wo g wg wu wd) k0_pay3 := by
  unfold_out out0_12
  simp (disch := decide) only [View.ld_unit_lit, View.canon_cons_unit_lit]
  rfl

theorem out13 : out0_13 (F := Ideal) a wo x g wg wu wd gk wk rep e
    = k0_pay6 (F := Ideal) (k0_pay1 a x wo) (k0_pay2 a x wo g wg wu wd) k0_pay3 gk wk rep := by
  unfold_out out0_13
  simp (disch := decide) only [View.ld_unit_lit, View.canon_cons_unit_lit]

theorem out14 : out0_14 (F := Ideal) a wo x g wg wu wd gk wk rep e
    = k0_pay7 (F := Ideal) (k0_pay1 a x wo) (k0_pay2 a x wo g wg wu wd) k0_pay3 gk wk e := by
  unfold_out out0_14
  simp (disch := decide) only [View.ld_unit_lit, View.canon_cons_unit_lit]

end Body

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![0, t.val] := (by decide +kernel : ∀ t : Fin grid0.N, _)

/-- Token `r` of block `t`. -/
def tokenOf (t : Fin cfg0.N) (r : Fin 512) : Fin 16384 := ⟨t.val * 512 + r.val, by have := t.isLt; have : cfg0.N = 32 := rfl; omega⟩

theorem blk0 (t : Fin cfg0.N) (r : Fin 512) :
    RowsB.row (iblk m c 0 t) r = RowsB.row (m ((c : Thread nD τ).loc main_arg0)) (tokenOf t r) := by
  funext j
  show iblk m c 0 t (ix2 r j) = m ((c : Thread nD τ).loc main_arg0) (ix2 (tokenOf t r) j)
  blk_ext! [iblk, V, idx0 t]
  all_goals rfl
theorem blk1 (t : Fin cfg0.N) : iblk m c 1 t = m ((c : Thread nD τ).loc main_arg2) := by
  refine RowsB.mat_ext (n := 1024) (k := 1024) fun i j => ?_
  blk_ext! [iblk, V, idx1 t]
theorem blk2 (t : Fin cfg0.N) (r : Fin 512) :
    RowsB.row (iblk m c 2 t) r = RowsB.row (m ((c : Thread nD τ).loc main_arg1)) (tokenOf t r) := by
  funext j
  show iblk m c 2 t (ix2 r j) = m ((c : Thread nD τ).loc main_arg1) (ix2 (tokenOf t r) j)
  blk_ext! [iblk, V, idx2 t]
  all_goals rfl
theorem blk3 (t : Fin cfg0.N) : RowsB.row (iblk m c 3 t) 0 = RowsB.row (m ((c : Thread nD τ).loc main_arg3)) 0 := by
  funext j
  show iblk m c 3 t (ix2 (0 : Fin 1) j) = m ((c : Thread nD τ).loc main_arg3) (ix2 (0 : Fin 2) j)
  have e : (win0_3.blk t).view.emb (ix2 (0 : Fin 1) j) = ix2 (0 : Fin 1) j := by blk_ext! [idx3 t]
  show V m c main_v2 ((win0_3.blk t).view.emb (ix2 (0 : Fin 1) j)) = _
  rw [e]
  entry_read
  pointwise []
theorem blk4 (t : Fin cfg0.N) : RowsB.first (l := 1) (n := 1024) (k := 2816) (by decide) (iblk m c 4 t) = RowsB.first (by decide) (m ((c : Thread nD τ).loc main_arg4)) := by
  funext i j
  show iblk m c 4 t (ix3 (0 : Fin 1) i j) = m ((c : Thread nD τ).loc main_arg4) (ix3 (0 : Fin 2) i j)
  blk_ext! [iblk, V, idx4 t]
theorem blk5 (t : Fin cfg0.N) : RowsB.first (l := 1) (n := 1024) (k := 2816) (by decide) (iblk m c 5 t) = RowsB.first (by decide) (m ((c : Thread nD τ).loc main_arg5)) := by
  funext i j
  show iblk m c 5 t (ix3 (0 : Fin 1) i j) = m ((c : Thread nD τ).loc main_arg5) (ix3 (0 : Fin 2) i j)
  blk_ext! [iblk, V, idx5 t]
theorem blk6 (t : Fin cfg0.N) : RowsB.first (l := 1) (n := 2816) (k := 1024) (by decide) (iblk m c 6 t) = RowsB.first (by decide) (m ((c : Thread nD τ).loc main_arg6)) := by
  funext i j
  show iblk m c 6 t (ix3 (0 : Fin 1) i j) = m ((c : Thread nD τ).loc main_arg6) (ix3 (0 : Fin 2) i j)
  blk_ext! [iblk, V, idx6 t]
theorem blk7 (t : Fin cfg0.N) : RowsB.row (iblk m c 7 t) 0 = fun j => m ((c : Thread nD τ).loc main_arg7) (ix1 j) := by
  funext j
  show iblk m c 7 t (ix2 (0 : Fin 1) j) = m ((c : Thread nD τ).loc main_arg7) (ix1 j)
  have e : (win0_7.blk t).view.emb (ix2 (0 : Fin 1) j) = ix2 (0 : Fin 1) j := by blk_ext! [idx7 t]
  show V m c main_v3 ((win0_7.blk t).view.emb (ix2 (0 : Fin 1) j)) = _
  rw [e]
  entry_read
  pointwise []
theorem blk8 (t : Fin cfg0.N) : iblk m c 8 t = m ((c : Thread nD τ).loc main_arg8) := by
  refine RowsB.mat_ext (n := 1024) (k := 512) fun i j => ?_
  blk_ext! [iblk, V, idx8 t]
theorem blk9 (t : Fin cfg0.N) : iblk m c 9 t = m ((c : Thread nD τ).loc main_arg9) := by
  refine RowsB.mat_ext (n := 256) (k := 1024) fun i j => ?_
  blk_ext! [iblk, V, idx9 t]
theorem blk10 (t : Fin cfg0.N) : iblk m c 10 t = m ((c : Thread nD τ).loc main_arg10) := by
  refine RowsB.mat_ext (n := 256) (k := 256) fun i j => ?_
  blk_ext! [iblk, V, idx10 t]

/-- The tokens that block `t` leaves. -/
theorem tok_spec (t : Fin cfg0.N) (r : Fin 512) :
    RowsB.row (tok (iblk m c 0 t) (iblk m c 1 t) (iblk m c 2 t) (iblk m c 3 t) (iblk m c 4 t) (iblk m c 5 t) (iblk m c 6 t)) r
      = RowsB.tokenAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (tokenOf t r) := by
  refine (tok_row _ _ _ _ _ _ _ r).trans ?_
  rw [blk0, blk1, blk2, blk3, blk4, blk5, blk6]
  rfl

/-- The keys and values that it leaves. -/
theorem kv_spec (t : Fin cfg0.N) (r : Fin 512) :
    RowsB.row (kv (iblk m c 7 t) (iblk m c 8 t) (k0_pay1 (iblk m c 0 t) (iblk m c 2 t) (iblk m c 1 t))
        (k0_pay2 (iblk m c 0 t) (iblk m c 2 t) (iblk m c 1 t) (iblk m c 3 t) (iblk m c 4 t) (iblk m c 5 t) (iblk m c 6 t)) k0_pay3) r
      = RowsB.kvAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (tokenOf t r) := by
  funext j
  refine (kv_apply _ _ _ _ _ r j).trans ?_
  rw [blk7, blk8, show RowsB.row (k0_pay4 (F := Ideal) _ _ _) r = _ from tok_spec m c t r]
  rfl

/-- The four arrays after the run. -/
theorem final11 : (dats m 0 c).arrAt 11 cfg0.N
    = RowsB.tokens (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11, out11]
  obtain ⟨r, j, rfl⟩ : ∃ (r : Fin 512) (j : Fin 1024), y = ix2 r j := ⟨y 0, y 1, by funext a; fin_cases a <;> rfl⟩
  have e : (win0_11.blk t).view.emb (ix2 r j) = ix2 (tokenOf t r) j := by
    blk_ext! [idx11 t]
    all_goals rfl
  rw [e]
  exact congrFun (tok_spec m c t r) j

theorem final12 : (dats m 0 c).arrAt 12 cfg0.N
    = RowsB.kvs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) := by
  refine (dats m 0 c).arrAt_eq_of_covers 12 _ (by decide +kernel) fun t hf y => ?_
  blk_simp
  rw [after0_12, out12]
  obtain ⟨r, j, rfl⟩ : ∃ (r : Fin 512) (j : Fin 512), y = ix2 r j := ⟨y 0, y 1, by funext a; fin_cases a <;> rfl⟩
  have e : (win0_12.blk t).view.emb (ix2 r j) = ix2 (tokenOf t r) j := by
    blk_ext! [idx12 t]
    all_goals rfl
  rw [e]
  exact congrFun (kv_spec m c t r) j

theorem final13 : (dats m 0 c).arrAt 13 cfg0.N
    = RowsB.keyss (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13, out13]
  obtain ⟨r, j, rfl⟩ : ∃ (r : Fin 512) (j : Fin 1024), y = ix2 r j := ⟨y 0, y 1, by funext a; fin_cases a <;> rfl⟩
  have e : (win0_13.blk t).view.emb (ix2 r j) = ix2 (tokenOf t r) j := by
    blk_ext! [idx13 t]
    all_goals rfl
  rw [e]
  refine (keys_apply _ _ _ _ _ _ r j).trans ?_
  rw [kv_spec, blk9]
  rfl

theorem final14 : (dats m 0 c).arrAt 14 cfg0.N
    = RowsB.valuess (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg10)) := by
  refine (dats m 0 c).arrAt_eq_of_covers 14 _ (by decide +kernel) fun t hf y => ?_
  blk_simp
  rw [after0_14, out14]
  obtain ⟨d, r, rfl⟩ : ∃ (d : Fin 256) (r : Fin 512), y = ix2 d r := ⟨y 0, y 1, by funext a; fin_cases a <;> rfl⟩
  have e : (win0_14.blk t).view.emb (ix2 d r) = ix2 d (tokenOf t r) := by
    blk_ext! [idx14 t]
    all_goals rfl
  rw [e]
  refine (values_apply _ _ _ _ _ _ d r).trans ?_
  rw [kv_spec, blk10]
  rfl

end Cert.RowsBBlock

end
-- ==== Proof.RowsBRef.lean ====
/- The reference of the part after the attention, at an index: its composed terms are those of `RowsB`. -/
module

public import proofs.«01_k».proof.Proof.RowsB
public import proofs.«01_k».proof.Proof.Gen.Reference2Ideal.Run
import all proofs.«01_k».proof.Proof.Gen.Reference2Ideal.Run
public import Idealize.ShloMosaic.Lib.Pointwise

@[expose] public section

set_option maxRecDepth 16384
set_option maxHeartbeats 1000000

noncomputable section

namespace Cert.RowsBRef

open Idealize.ShloMosaic Cert.Reference2Ideal Cert.Reference2Ideal.Gen

/-- The tokens with the projected attention added. -/
def mid (a : FVec Ideal S16384x1024 .bf16) (x : FVec Ideal S16384x1024 .f32) (wo : FVec Ideal S1024x1024 .bf16) : FVec Ideal S16384x1024 .f32 :=
  addf x (Host.dotGeneral dot_S16384x1024_S1024x1024_S16384x1024_1_0_0_1_n_n none (extf .f32 a bitsLt_bf16_f32) (extf .f32 wo bitsLt_bf16_f32))

/-- The norm of every token. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- A gate's weights, of the first layer. -/
def weights (w : FVec Ideal S2x1024x2816 .bf16) : FVec Ideal S1024x2816 .f32 :=
  shapeCast _ (extractStridedSlice S1x1024x2816 ![0, 0, 0] (extf .f32 w bitsLt_bf16_f32) slices_S2x1024x2816_S1x1024x2816_0_0_0) shapeCasts_S1x1024x2816_S1024x2816

/-- The tokens' products with such weights. -/
def up (h : FVec Ideal S16384x1024 .f32) (w : FVec Ideal S2x1024x2816 .bf16) : FVec Ideal S16384x2816 .f32 :=
  Host.dotGeneral dot_S16384x1024_S1024x2816_S16384x2816_1_0_0_1_n_n none h (weights w)

/-- The gates. -/
def gates (u : FVec Ideal S16384x2816 .f32) : FVec Ideal S16384x2816 .f32 :=
  mulf u (Host.divf (broadcastInDim S16384x2816 ![] bcast_S_S16384x2816 (constant S_ .f32 0x3F800000#32))
    (addf (broadcastInDim S16384x2816 ![] bcast_S_S16384x2816 (constant S_ .f32 0x3F800000#32)) (Host.exp (Host.negf u))))

/-- The feed-forward step. -/
def step (x : FVec Ideal S16384x1024 .f32) (g : FVec Ideal S2x1024 .f32) (wg wu : FVec Ideal S2x1024x2816 .bf16) (wd : FVec Ideal S2x2816x1024 .bf16)
    (h : FVec Ideal S16384x1024 .f32) : FVec Ideal S16384x1024 .f32 :=
  addf x (mulf (broadcastInDim S16384x1024 ![] bcast_S_S16384x1024 (constant S_ .f32 0x3F000000#32))
    (Host.dotGeneral dot_S16384x2816_S2816x1024_S16384x1024_1_0_0_1_n_n none (mulf (gates (up h wg)) (up h wu))
      (shapeCast _ (extractStridedSlice S1x2816x1024 ![0, 0, 0] (extf .f32 wd bitsLt_bf16_f32) slices_S2x2816x1024_S1x2816x1024_0_0_0) shapeCasts_S1x2816x1024_S2816x1024)))

/-- The gains of the first layer. -/
def gains (g : FVec Ideal S2x1024 .f32) : FVec Ideal S1024 .f32 :=
  shapeCast _ (extractStridedSlice S1x1024 ![0, 0] g slices_S2x1024_S1x1024_0_0) shapeCasts_S1x1024_S1024

/-- The keys and values. -/
def kvs (x : FVec Ideal S16384x1024 .f32) (gk : FVec Ideal S1024 .f32) (w : FVec Ideal S1024x512 .bf16) : FVec Ideal S16384x512 .f32 :=
  Host.dotGeneral dot_S16384x1024_S1024x512_S16384x512_1_0_0_1_n_n none (normed x gk) (extf .f32 w bitsLt_bf16_f32)

theorem mid_apply (a : FVec Ideal S16384x1024 .bf16) (x : FVec Ideal S16384x1024 .f32) (wo : FVec Ideal S1024x1024 .bf16) (r : Fin 16384) (j : Fin 1024) :
    mid a x wo (ix2 r j) = x (ix2 r j) + Rows.lin (RowsB.row a r) (RowsB.row wo) j := by
  pointwise [mid, Rows.lin, RowsB.row]

theorem normed_apply (x : FVec Ideal S16384x1024 .f32) (g : FVec Ideal S1024 .f32) (r : Fin 16384) (j : Fin 1024) :
    normed x g (ix2 r j) = Rows.norm Rows.width (RowsB.row x r) (fun j => g (ix1 j)) j := by
  pointwise [normed, Rows.norm, RowsB.row]
  rfl

theorem up_apply (h : FVec Ideal S16384x1024 .f32) (w : FVec Ideal S2x1024x2816 .bf16) (r : Fin 16384) (j : Fin 2816) :
    up h w (ix2 r j) = Rows.lin (RowsB.row h r) (RowsB.first (by decide) w) j := by
  pointwise [up, weights, Rows.lin, RowsB.row, RowsB.first]

theorem gates_apply (u : FVec Ideal S16384x2816 .f32) (r : Fin 16384) (j : Fin 2816) :
    gates u (ix2 r j) = Rows.silu (u (ix2 r j)) := by
  rw [← Rows.silu_div]
  rfl

theorem gains_apply (g : FVec Ideal S2x1024 .f32) (j : Fin 1024) : gains g (ix1 j) = RowsB.row g 0 j := by
  pointwise [gains, RowsB.row]

theorem step_apply (x : FVec Ideal S16384x1024 .f32) (g : FVec Ideal S2x1024 .f32) (wg wu : FVec Ideal S2x1024x2816 .bf16) (wd : FVec Ideal S2x2816x1024 .bf16)
    (r : Fin 16384) (j : Fin 1024) :
    step x g wg wu wd (normed x (gains g)) (ix2 r j)
      = Rows.ffn (RowsB.row x r) (RowsB.row g 0) (RowsB.first (by decide) wg) (RowsB.first (by decide) wu) (RowsB.first (by decide) wd) j := by
  have e : RowsB.row (normed x (gains g)) r = Rows.norm Rows.width (RowsB.row x r) (RowsB.row g 0) := by
    funext i
    refine (normed_apply x (gains g) r i).trans ?_
    simp only [gains_apply]
  pointwise [step, gates_apply, up_apply]
  rw [e]
  rfl

theorem kvs_apply (x : FVec Ideal S16384x1024 .f32) (gk : FVec Ideal S1024 .f32) (w : FVec Ideal S1024x512 .bf16) (r : Fin 16384) (j : Fin 512) :
    kvs x gk w (ix2 r j) = RowsB.kv (RowsB.row x r) (fun j => gk (ix1 j)) w j := by
  pointwise [kvs, normed_apply, RowsB.kv, Rows.lin]
  rfl

variable (m : (ℓ : Loc nD τ sig) → Buf (Elt Ideal) ℓ) (c : Dev nD)

/-- The tokens that the reference computes. -/
def tok : FVec Ideal S16384x1024 .f32 :=
  step (mid (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5)) (m ((c.tc : Thread nD τ).loc main_arg6))
    (normed (mid (m ((c.tc : Thread nD τ).loc main_arg0)) (m ((c.tc : Thread nD τ).loc main_arg1)) (m ((c.tc : Thread nD τ).loc main_arg2))) (gains (m ((c.tc : Thread nD τ).loc main_arg3))))

theorem res0_eq : Value.res_out0 (F := Ideal) m c = tok m c := by
  unfold Value.res_out0 Value.res_main_v38
  rfl

theorem res1_eq : Value.res_out1 (F := Ideal) m c
    = kvs (tok m c) (m ((c.tc : Thread nD τ).loc main_arg7)) (m ((c.tc : Thread nD τ).loc main_arg8)) := by
  unfold Value.res_out1 Value.res_main_v52
  rfl

/-- The keys and values that the reference computes, laid out. -/
def keyss (u : FVec Ideal S16384x512 .f32) (rep : FVec Ideal S256x1024 .bf16) : FVec Ideal S16384x1024 .bf16 :=
  truncf .bf16 (Host.dotGeneral dot_S16384x256_S256x1024_S16384x1024_1_0_0_1_n_n none
    (extractStridedSlice S16384x256 ![0, 0] u slices_S16384x512_S16384x256_0_0) (extf .f32 rep bitsLt_bf16_f32)) bitsLt_bf16_f32
def valuess (u : FVec Ideal S16384x512 .f32) (e : FVec Ideal S256x256 .bf16) : FVec Ideal S256x16384 .bf16 :=
  truncf .bf16 (Host.dotGeneral dot_S256x256_S256x16384_S256x16384_1_0_0_1_n_n none (extf .f32 e bitsLt_bf16_f32)
    (transpose S256x16384 [1, 0] (extractStridedSlice S16384x256 ![0, 256] u slices_S16384x512_S16384x256_0_256) transposes_S16384x256_S256x16384_1_0)) bitsLt_bf16_f32

theorem res2_eq : Value.res_out2 (F := Ideal) m c = keyss (Value.res_out1 (F := Ideal) m c) (m ((c.tc : Thread nD τ).loc main_arg9)) := by
  unfold Value.res_out2 Value.res_main_v55 Value.res_out1 Value.res_main_v52
  rfl
theorem res3_eq : Value.res_out3 (F := Ideal) m c = valuess (Value.res_out1 (F := Ideal) m c) (m ((c.tc : Thread nD τ).loc main_arg10)) := by
  unfold Value.res_out3 Value.res_main_v59 Value.res_out1 Value.res_main_v52
  rfl

theorem keyss_apply (u : FVec Ideal S16384x512 .f32) (rep : FVec Ideal S256x1024 .bf16) (r : Fin 16384) (j : Fin 1024) :
    keyss u rep (ix2 r j) = RowsB.keys (RowsB.row u r) rep j := by
  pointwise [keyss, RowsB.keys, Rows.lin, RowsB.row]

theorem valuess_apply (u : FVec Ideal S16384x512 .f32) (e : FVec Ideal S256x256 .bf16) (d : Fin 256) (r : Fin 16384) :
    valuess u e (ix2 d r) = RowsB.values (RowsB.row u r) e d := by
  pointwise [valuess, RowsB.values, RowsB.row]

theorem tok_row (r : Fin 16384) : RowsB.row (tok m c) r
    = RowsB.tokenAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) r := by
  funext j
  refine (step_apply _ _ _ _ _ r j).trans ?_
  rw [show RowsB.row (mid _ _ _) r = _ from funext fun i => mid_apply _ _ _ r i]
  rfl

theorem res1_row (r : Fin 16384) : RowsB.row (Value.res_out1 (F := Ideal) m c) r
    = RowsB.kvAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) r := by
  funext j
  rw [res1_eq]
  refine (kvs_apply _ _ _ r j).trans ?_
  rw [tok_row]
  rfl

theorem res0 : Value.res_out0 (F := Ideal) m c
    = RowsB.tokens (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) :=
  (res0_eq m c).trans (RowsB.mat_ext fun r j => congrFun (tok_row m c r) j)

theorem res1 : Value.res_out1 (F := Ideal) m c
    = RowsB.kvs (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  RowsB.mat_ext fun r j => congrFun (res1_row m c r) j

theorem res2 : Value.res_out2 (F := Ideal) m c
    = RowsB.keyss (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) :=
  (res2_eq m c).trans (RowsB.mat_ext fun r j => (keyss_apply _ _ r j).trans (congrArg (fun u => RowsB.keys u _ j) (res1_row m c r)))

theorem res3 : Value.res_out3 (F := Ideal) m c
    = RowsB.valuess (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg10)) :=
  (res3_eq m c).trans (RowsB.mat_ext fun d r => (valuess_apply _ _ d r).trans (congrArg (fun u => RowsB.values u _ d) (res1_row m c r)))

end Cert.RowsBRef

end
-- ==== Proof.RowsA.lean ====
/- The part of the layer before the attention, token by token: the first feed-forward step, and the queries, the keys and
   the values of the attention, whose keys' common part is turned by the token's position. What it makes of one token,
   and of all. -/
module

public import proofs.«01_k».proof.Proof.RowsB

@[expose] public section

noncomputable section

namespace Cert.RowsA

open Idealize.ShloMosaic
open Cert.RowsB (Mat Cube row first)

/-- The number that an index stands for. -/
def num (n : ℕ) : EReal := FloatOps.sitofp (F := Ideal) .f32 (BitVec.ofNat 32 n)

theorem num_zero : num 0 = 0 := by
  show (((0#32 : BitVec 32).toInt : ℝ) : EReal) = 0
  simp

theorem one_bits : Ideal.ofBits .f32 0x3F800000#32 = 1 := by
  simp [Ideal.ofBits, Ideal.ieee, -EReal.coe_mul]
  norm_num

/-- Whether `d` leaves 64 over eighty, in words; each of the two programs has its way to say it. -/
theorem ones_host : ∀ d : Fin 1280,
    IntOp.cmpi .eq (Scalar.select (IntOp.andi (IntOp.cmpi .ne (IntOp.cmpi .slt (IntOp.remsi .host (BitVec.ofNat 32 d.val) 80#32) 0#32)
      (IntOp.cmpi .slt 80#32 0#32)) (IntOp.cmpi .ne (IntOp.remsi .host (BitVec.ofNat 32 d.val) 80#32) 0#32))
      (IntOp.addi (IntOp.remsi .host (BitVec.ofNat 32 d.val) 80#32) 80#32) (IntOp.remsi .host (BitVec.ofNat 32 d.val) 80#32)) 64#32
      = if d.val % 80 = 64 then 1#1 else 0#1 := by decide +kernel
theorem ones_vector : ∀ d : Fin 1280,
    IntOp.cmpi .eq (Scalar.select (IntOp.andi (IntOp.xori (IntOp.cmpi .slt (IntOp.remsi .vector (BitVec.ofNat 32 d.val)
      (Scalar.select (Scalar.cmpi .eq 80#32 0#32) 1#32 80#32)) 0#32) (Scalar.cmpi .slt (Scalar.select (Scalar.cmpi .eq 80#32 0#32) 1#32 80#32) 0#32))
      (IntOp.cmpi .ne (IntOp.remsi .vector (BitVec.ofNat 32 d.val) (Scalar.select (Scalar.cmpi .eq 80#32 0#32) 1#32 80#32)) 0#32))
      (IntOp.addi (IntOp.remsi .vector (BitVec.ofNat 32 d.val) (Scalar.select (Scalar.cmpi .eq 80#32 0#32) 1#32 80#32))
        (Scalar.select (Scalar.cmpi .eq 80#32 0#32) 1#32 80#32))
      (IntOp.remsi .vector (BitVec.ofNat 32 d.val) (Scalar.select (Scalar.cmpi .eq 80#32 0#32) 1#32 80#32))) 64#32
      = if d.val % 80 = 64 then 1#1 else 0#1 := by decide +kernel

/-- The angle of pair `i` at position `p`. -/
def angle (p : Fin 4096) (i : Fin 16) : EReal :=
  num p * Ideal.pow (Ideal.ofBits .f32 0x461C4000#32)
    (Ideal.div (-(Ideal.ofBits .f32 0x40000000#32 * num i)) (Ideal.ofBits .f32 0x42000000#32))

def cosOf (p : Fin 4096) (i : Fin 16) : EReal := FloatOps.hostUnary (F := Ideal) (φ := .f32) .cos (angle p i)
def sinOf (p : Fin 4096) (i : Fin 16) : EReal := FloatOps.hostUnary (F := Ideal) (φ := .f32) .sin (angle p i)

/-- Entries 64 to 95 of a head, as pairs `(i, 16 + i)`, turned by the angles. -/
def turned (v : Fin 128 → EReal) (cos sin : Fin 16 → EReal) (l : Fin 32) : EReal :=
  if h : l.val < 16 then v ⟨64 + l.val, by omega⟩ * cos ⟨l.val, h⟩ - v ⟨80 + l.val, by omega⟩ * sin ⟨l.val, h⟩
  else v ⟨48 + l.val, by omega⟩ * sin ⟨l.val - 16, by omega⟩ + v ⟨64 + l.val, by omega⟩ * cos ⟨l.val - 16, by omega⟩

/-- Thirty-two entries, at 64 to 95 of a head. -/
def placed (v : Fin 32 → EReal) (l : Fin 128) : EReal :=
  if h : 64 ≤ l.val ∧ l.val < 96 then v ⟨l.val - 64, by omega⟩ else 0

/-- A head of the queries: its first entries as they are, then the turned ones. -/
def query (v : Fin 128 → EReal) (cos sin : Fin 16 → EReal) (l : Fin 128) : EReal :=
  if l.val < 64 then v l else placed (turned v cos sin) l

/-- Head `l / 128` of sixteen heads in a row. -/
def head (v : Fin 2048 → EReal) (h : Fin 16) (l : Fin 128) : EReal := v ⟨128 * h.val + l.val, by omega⟩

/-- The head of an entry, and its place there. -/
def headOf (j : Fin 2048) : Fin 16 := ⟨j.val / 128, by omega⟩
def laneOf (j : Fin 2048) : Fin 128 := ⟨j.val % 128, by omega⟩

theorem head_lane (j : Fin 2048) (p : 128 * (headOf j).val + (laneOf j).val < 2048) :
    (⟨128 * (headOf j).val + (laneOf j).val, p⟩ : Fin 2048) = j := by
  apply Fin.ext
  show 128 * (j.val / 128) + j.val % 128 = j.val
  omega

/-- The position of a token in its sequence. -/
def posOf (r : Fin 16384) : Fin 4096 := ⟨r.val % 4096, by omega⟩

/-- The same turn, as it is done to all entries of a head at once: each entry times a number, and the entry sixteen
    places on, or back, times another. -/
def cosAll (cos : Fin 16 → EReal) (l : Fin 128) : EReal :=
  if h : 64 ≤ l.val ∧ l.val < 96 then cos ⟨(l.val - 64) % 16, by omega⟩ else 0
def sinAll (sin : Fin 16 → EReal) (l : Fin 128) : EReal :=
  if h : 64 ≤ l.val ∧ l.val < 96 then (if l.val < 80 then -sin ⟨(l.val - 64) % 16, by omega⟩ else sin ⟨(l.val - 64) % 16, by omega⟩) else 0

def turnAll (v : Fin 128 → EReal) (a b : EReal) (l : Fin 128) : EReal :=
  v l * a + (if l.val < 80 then v ⟨(l.val + 16) % 128, by omega⟩ else v ⟨(l.val + 112) % 128, by omega⟩) * b

theorem turnAll_placed (v : Fin 128 → EReal) (cos sin : Fin 16 → EReal) (l : Fin 128) :
    turnAll v (cosAll cos l) (sinAll sin l) l = placed (turned v cos sin) l := by
  unfold turnAll cosAll sinAll placed turned
  by_cases h : 64 ≤ l.val ∧ l.val < 96
  · simp only [h, and_self, dite_true]
    have e0 (p) : (⟨64 + (l.val - 64), p⟩ : Fin 128) = l := Fin.ext (by show 64 + (l.val - 64) = l.val; omega)
    by_cases h' : l.val < 80
    · have e : l.val - 64 < 16 := by omega
      have e1 : (l.val + 16) % 128 = 80 + (l.val - 64) := by omega
      have e2 : (l.val - 64) % 16 = l.val - 64 := by omega
      simp only [h', if_true, e, dite_true, mul_neg, ← sub_eq_add_neg, e0, e1, e2]
    · have e : ¬ l.val - 64 < 16 := by omega
      have e1 : (l.val + 112) % 128 = 48 + (l.val - 64) := by omega
      have e2 : (l.val - 64) % 16 = l.val - 64 - 16 := by omega
      simp only [h', if_false, e, dite_false, e0, e1, e2]
      exact add_comm _ _
  · simp only [h, dite_false, mul_zero, add_zero]

theorem turnAll_query (v : Fin 128 → EReal) (cos sin : Fin 16 → EReal) (l : Fin 128) :
    turnAll v (if l.val < 64 then 1 else cosAll cos l) (sinAll sin l) l = query v cos sin l := by
  unfold query
  split
  · rename_i h
    have h' : ¬ (64 ≤ l.val ∧ l.val < 96) := by omega
    simp only [turnAll, sinAll, h', dite_false, mul_zero, add_zero, mul_one]
  · exact turnAll_placed v cos sin l

def wide384 : EReal := Ideal.ofBits .f32 0x43C00000#32
def wide256 : EReal := Ideal.ofBits .f32 0x43800000#32

/-- The queries of a normed token, before the turn. -/
def flat (h : Fin 1024 → EReal) (wdq : Mat 1024 384) (gq : Fin 384 → EReal) (wq : Mat 384 2048) : Fin 2048 → EReal :=
  Rows.lin (Rows.norm wide384 (Rows.lin h (row wdq)) gq) (row wq)

/-- What keys and values are made of. -/
def latent (h : Fin 1024 → EReal) (wlat : Mat 1024 256) (gl : Fin 256 → EReal) : Fin 256 → EReal :=
  Rows.norm wide256 (Rows.lin h (row wlat)) gl

/-- The queries, sixteen heads. -/
def queries (u : Fin 2048 → EReal) (cos sin : Fin 16 → EReal) (j : Fin 2048) : EReal := query (head u (headOf j)) cos sin (laneOf j)

/-- The keys, sixteen heads: each head's own part, and the common one. -/
def keys (lat : Fin 256 → EReal) (wuk : Mat 256 2048) (kr : Fin 32 → EReal) (j : Fin 2048) : EReal :=
  Rows.lin lat (row wuk) j + placed kr (laneOf j)

/-- The values, with a row of ones for every head. -/
def values (lat : Fin 256 → EReal) (wuv : Mat 1280 256) (d : Fin 1280) : EReal :=
  if d.val % 80 = 64 then 1 else ∑ i, wuv (ix2 d i) * lat i

variable (x : Mat 16384 1024) (g : Mat 2 1024) (wg wu : Cube 2 1024 2816) (wd : Cube 2 2816 1024) (gm : Mat 2 1024)
  (wdq : Mat 1024 384) (gq : Mat 1 384) (wq : Mat 384 2048) (wlat : Mat 1024 256) (gl : Mat 1 256) (wkr : Mat 1024 128)
  (wuk : Mat 256 2048) (wuv : Mat 1280 256)

/-- Token `r` after the feed-forward step, and normed. -/
def tokenAt (r : Fin 16384) : Fin 1024 → EReal :=
  Rows.ffn (row x r) (row g 0) (first (by decide) wg) (first (by decide) wu) (first (by decide) wd)
def normAt (r : Fin 16384) : Fin 1024 → EReal := Rows.norm Rows.width (tokenAt x g wg wu wd r) (row gm 0)
def flatAt (r : Fin 16384) : Fin 2048 → EReal := flat (normAt x g wg wu wd gm r) wdq (row gq 0) wq
def latentAt (r : Fin 16384) : Fin 256 → EReal := latent (normAt x g wg wu wd gm r) wlat (row gl 0)
def turnedAt (r : Fin 16384) : Fin 32 → EReal :=
  turned (Rows.lin (normAt x g wg wu wd gm r) (row wkr)) (cosOf (posOf r)) (sinOf (posOf r))

/-- All tokens, queries, keys, values (here a token is a column), what they are made of, and the keys' common part. -/
def tokens : Mat 16384 1024 := fun i => tokenAt x g wg wu wd (i 0) (i 1)
def queriess : Mat 16384 2048 := fun i => queries (flatAt x g wg wu wd gm wdq gq wq (i 0)) (cosOf (posOf (i 0))) (sinOf (posOf (i 0))) (i 1)
def keyss : Mat 16384 2048 := fun i => keys (latentAt x g wg wu wd gm wlat gl (i 0)) wuk (turnedAt x g wg wu wd gm wkr (i 0)) (i 1)
def valuess : Mat 1280 16384 := fun i => values (latentAt x g wg wu wd gm wlat gl (i 1)) wuv (i 0)
def latents : Mat 16384 256 := fun i => latentAt x g wg wu wd gm wlat gl (i 0) (i 1)
def turneds : Cube 4 32 4096 := fun i =>
  turnedAt x g wg wu wd gm wkr ⟨(i 0).val * 4096 + (i 2).val, by have := (i 0).isLt; have := (i 2).isLt; change _ < 4 at *; simp at *; omega⟩ (i 1)

end Cert.RowsA

end
-- ==== Proof.RowsABody.lean ====
/- The kernel of the part before the attention: what its body leaves of one block of tokens. -/
module

public import proofs.«01_k».proof.Proof.RowsA
public import proofs.«01_k».proof.Proof.Gen.Kernel3Ideal.Value
import all proofs.«01_k».proof.Proof.Gen.Kernel3Ideal.Skeleton
public import Idealize.ShloMosaic.Lib.Claim
public import Idealize.ShloMosaic.Lib.Pipeline.ValueKit
public import Idealize.ShloMosaic.Lib.Pointwise

@[expose] public section

set_option maxRecDepth 16384
set_option maxHeartbeats 1000000

noncomputable section

namespace Cert.RowsABody

open Idealize.ShloMosaic Cert.Kernel3Ideal Cert.Kernel3Ideal.Gen
open Cert.RowsB (row first)

variable (x : FVec Ideal S512x1024 .f32) (g : FVec Ideal S1x1024 .f32) (wg wu : FVec Ideal S1x1024x2816 .bf16)
  (wd : FVec Ideal S1x2816x1024 .bf16) (gm : FVec Ideal S1x1024 .f32) (wdq : FVec Ideal S1024x384 .bf16) (gq : FVec Ideal S1x384 .f32)
  (wq : FVec Ideal S384x2048 .bf16) (wlat : FVec Ideal S1024x256 .bf16) (gl : FVec Ideal S1x256 .f32) (wkr : FVec Ideal S1024x128 .bf16)
  (tb : FVec Ideal S512x256 .f32) (wuk : FVec Ideal S256x2048 .bf16) (wuv : FVec Ideal S1280x256 .bf16)

section Parts

variable (z : FVec Ideal S512x1024 .f32) (h : FVec Ideal S512x1024 .bf16) (r : Fin 512)

theorem token_row : row (k0_pay2 (F := Ideal) x g wg wu wd) r
    = Rows.ffn (row x r) (row g 0) (first (by decide) wg) (first (by decide) wu) (first (by decide) wd) := by
  funext j
  pointwise [k0_pay2, row]
  rfl

theorem norm_row : row (k0_pay7 (F := Ideal) z gm) r = Rows.norm Rows.width (row z r) (row gm 0) := by
  funext j
  pointwise [k0_pay7, row]
  rfl

theorem flat_row : row (k0_pay10 (F := Ideal) (k0_pay8 z gm wdq) (k0_pay9 gq) wq) r
    = RowsA.flat (row (k0_pay7 (F := Ideal) z gm) r) wdq (row gq 0) wq := by
  generalize hz : k0_pay7 (F := Ideal) z gm = y
  funext j
  pointwise [k0_pay10, k0_pay8, k0_pay9, row, hz]
  rfl

theorem latent_row : row (k0_pay11 (F := Ideal) h wlat gl) r = RowsA.latent (row h r) wlat (row gl 0) := by
  funext j
  pointwise [k0_pay11, row]
  rfl

theorem up_row : row (k0_pay14 (F := Ideal) h wlat gl wuk) r = Rows.lin (RowsA.latent (row h r) wlat (row gl 0)) (row wuk) := by
  rw [← latent_row]
  generalize hz : k0_pay11 (F := Ideal) h wlat gl = y
  funext j
  pointwise [k0_pay14, k0_pay13, row, hz]
  rfl

theorem values_apply (d : Fin 1280) :
    k0_pay1 (F := Ideal) (k0_pay64 (k0_pay13 h wlat gl) wuv) k0_pay65 (ix2 d r)
      = RowsA.values (RowsA.latent (row h r) wlat (row gl 0)) wuv d := by
  rw [← latent_row]
  generalize hz : k0_pay11 (F := Ideal) h wlat gl = y
  pointwise [k0_pay1, k0_pay64, k0_pay65, k0_pay13, hz]
  rw [RowsA.ones_vector]
  unfold RowsA.values
  by_cases e : d.val % 80 = 64
  · simp only [e, if_true, Scalar.select]
    rfl
  · simp only [e, if_false, Scalar.select]
    rfl

end Parts

theorem below : ∀ l : Fin 128, IntOp.cmpi .slt (BitVec.ofNat 32 l.val) 80#32 = if l.val < 80 then 1#1 else 0#1 := by decide +kernel
theorem below' : ∀ l : Fin 128, IntOp.cmpi .slt (BitVec.ofNat 32 l.val) 64#32 = if l.val < 64 then 1#1 else 0#1 := by decide +kernel

/-- The two halves of the table, at a token and an entry. -/
def left (r : Fin 512) (l : Fin 128) : EReal := tb (ix2 r ⟨l.val, by omega⟩)
def right (r : Fin 512) (l : Fin 128) : EReal := tb (ix2 r ⟨128 + l.val, by omega⟩)

theorem left_apply (r : Fin 512) (l : Fin 128) : k0_pay3 (F := Ideal) (View.ld tb r0_4) (ix2 r l) = left tb r l := by
  pointwise [k0_pay3]
  rfl

theorem right_apply (r : Fin 512) (l : Fin 128) : k0_pay4 (F := Ideal) (View.ld tb r0_5) (ix2 r l) = right tb r l := by
  pointwise [k0_pay4]
  rfl

theorem one_apply (p : FVec Ideal S512x128 .f32) (r : Fin 512) (l : Fin 128) :
    k0_pay5 (F := Ideal) p (ix2 r l) = if l.val < 64 then 1 else k0_pay3 (F := Ideal) p (ix2 r l) := by
  generalize hz : k0_pay3 (F := Ideal) p = y
  pointwise [k0_pay5, hz]
  rw [below']
  by_cases e : l.val < 64
  · simp only [e, if_true, Scalar.select]
    rfl
  · simp only [e, if_false, Scalar.select]
    rfl

theorem turn_eq (v : Fin 128 → EReal) (a b : EReal) (l : Fin 128) (p q) :
    v l * a + Scalar.select (IntOp.cmpi .slt (BitVec.ofNat 32 l.val) 80#32) (v ⟨(l.val + 128 - 112) % 128, p⟩) (v ⟨(l.val + 128 - 16) % 128, q⟩) * b
      = RowsA.turnAll v a b l := by
  have e1 : (l.val + 128 - 112) % 128 = (l.val + 16) % 128 := by omega
  have e2 : (l.val + 128 - 16) % 128 = (l.val + 112) % 128 := by omega
  rw [below]
  unfold RowsA.turnAll
  by_cases e : l.val < 80
  · simp only [e, e1, if_true, Scalar.select]
    rfl
  · simp only [e, e2, if_false, Scalar.select]
    rfl

theorem common_apply (p q : FVec Ideal S512x128 .f32) (h : FVec Ideal S512x1024 .bf16) (r : Fin 512) (l : Fin 128) :
    k0_pay12 (F := Ideal) p q k0_pay6 h wkr (ix2 r l) = RowsA.turnAll (Rows.lin (row h r) (row wkr)) (p (ix2 r l)) (q (ix2 r l)) l := by
  pointwise [k0_pay12, k0_pay6]
  exact turn_eq (Rows.lin (row h r) (row wkr)) _ _ l _ _

theorem slices : ∀ i : Fin 16, S512x2048.Slices ![0, 128 * i.val] S512x128 := by decide +kernel

/-- One head of queries, turned, and one head of keys. -/
def turnedHead (sn cs : FVec Ideal S512x128 .f32) (k : IVec S1x128 1) (v : FVec Ideal S512x2048 .f32) (i : Fin 16) : FVec Ideal S512x128 .bf16 :=
  truncf .bf16 (addf (mulf (extractStridedSlice S512x128 ![0, 128 * i.val] v (slices i)) cs)
    (mulf (select (broadcastTo S512x128 (shapeCast S1x128 k shapeCasts_S1x128_S1x128) broadcasts_S1x128_S512x128)
      (dynamicRotate 1 112#32 none (extractStridedSlice S512x128 ![0, 128 * i.val] v (slices i)) rotates_S512x128_d1)
      (dynamicRotate 1 16#32 none (extractStridedSlice S512x128 ![0, 128 * i.val] v (slices i)) rotates_S512x128_d1)) sn)) bitsLt_bf16_f32
def keyHead (k : FVec Ideal S512x128 .f32) (v : FVec Ideal S512x2048 .f32) (i : Fin 16) : FVec Ideal S512x128 .bf16 :=
  truncf .bf16 (addf (extractStridedSlice S512x128 ![0, 128 * i.val] v (slices i)) k) bitsLt_bf16_f32

theorem turnedHead_apply (sn cs : FVec Ideal S512x128 .f32) (v : FVec Ideal S512x2048 .f32) (i : Fin 16) (r : Fin 512) (l : Fin 128) :
    turnedHead sn cs k0_pay6 v i (ix2 r l) = RowsA.turnAll (RowsA.head (row v r) i) (cs (ix2 r l)) (sn (ix2 r l)) l := by
  pointwise [turnedHead, k0_pay6]
  exact turn_eq (RowsA.head (row v r) i) _ _ l (by omega) (by omega)

theorem keyHead_apply (k : FVec Ideal S512x128 .f32) (v : FVec Ideal S512x2048 .f32) (i : Fin 16) (r : Fin 512) (l : Fin 128) :
    keyHead k v i (ix2 r l) = RowsA.head (row v r) i l + k (ix2 r l) := by
  pointwise [keyHead]
  rfl

/-! The sixteen pieces of sixteen heads. -/

theorem inb : ∀ i : Fin 16, ∀ a, (![0, 128 * i.val] : Fin 2 → ℕ) a + S512x128.size a ≤ S512x2048.size a := by decide +kernel
abbrev colR (i : Fin 16) : Rect S512x2048 := Rect.unit ![0, 128 * i.val] S512x128.size (inb i)

theorem apart : ∀ i k : Fin 16, i ≠ k → LoadRect.disj (colR i) (colR k).toLoadRect = true := by decide +kernel

theorem canon_heads (w : ∀ i, (colR i).shape.Idx → Elt Ideal .bf16) (i : Fin 16) (y : (colR i).shape.Idx) (ps : List (Fin 16)) (hm : i ∈ ps) :
    View.canon (ps.map (fun i => (⟨colR i, w i⟩ : View.Piece (Elt Ideal) S512x2048 .bf16))) ((colR i).emb y) = w i y := by
  induction ps with
  | nil => exact absurd hm (by simp)
  | cons j ps ih =>
    by_cases e : j = i
    · subst e
      exact View.canon_cons_emb (colR j) (w j) _ y
    · exact (View.canon_cons_of_not_mem ⟨colR j, w j⟩ _ (LoadRect.idx_not_mem_of_disj (apart j i e) y)).trans
        (ih ((List.mem_cons.mp hm).resolve_left fun h => e h.symm))

/-- The heads in the order in which they are written last. -/
def order : List (Fin 16) := [15, 14, 13, 12, 11, 10, 9, 8, 7, 6, 5, 4, 3, 2, 1, 0]

theorem mem_order : ∀ i : Fin 16, i ∈ order := by decide

theorem col_emb (r : Fin 512) (j : Fin 2048) : (colR (RowsA.headOf j)).emb (ix2 r (RowsA.laneOf j)) = ix2 r j := by
  funext a
  apply Fin.ext
  fin_cases a
  · show 0 + 1 * r.val = r.val
    omega
  · show 128 * (j.val / 128) + 1 * (j.val % 128) = j.val
    omega

theorem canon_apply (w : Fin 16 → FVec Ideal S512x128 .bf16) (r : Fin 512) (j : Fin 2048) :
    View.canon (order.map (fun i => (⟨colR i, w i⟩ : View.Piece (Elt Ideal) S512x2048 .bf16))) (ix2 r j)
      = w (RowsA.headOf j) (ix2 r (RowsA.laneOf j)) := by
  rw [← col_emb r j]
  exact canon_heads w (RowsA.headOf j) (ix2 r (RowsA.laneOf j)) order (mem_order _)

/-! What the body leaves. -/

/-- The normed block. -/
def normed : FVec Ideal S512x1024 .bf16 := k0_pay7 (F := Ideal) (k0_pay2 x g wg wu wd) gm

theorem out15 : out0_15 (F := Ideal) x g wg wu wd gm wdq gq wq wlat gl wkr tb wuk wuv = k0_pay2 (F := Ideal) x g wg wu wd := by
  unfold_out out0_15
  simp (disch := decide) only [View.ld_unit_lit, View.canon_cons_unit_lit]

theorem out16 : out0_16 (F := Ideal) x g wg wu wd gm wdq gq wq wlat gl wkr tb wuk wuv
    = View.canon (order.map (fun i => (⟨colR i, turnedHead (k0_pay4 (View.ld tb r0_5)) (k0_pay5 (View.ld tb r0_4)) k0_pay6
        (k0_pay10 (k0_pay8 (k0_pay2 x g wg wu wd) gm wdq) (k0_pay9 gq) wq) i⟩ : View.Piece (Elt Ideal) S512x2048 .bf16))) := by
  unfold_out out0_16
  simp (disch := decide) only [k0_pay66, k0_pay68, k0_pay69, k0_pay70, k0_pay72, View.ld_unit_lit]
  rfl

theorem out17 : out0_17 (F := Ideal) x g wg wu wd gm wdq gq wq wlat gl wkr tb wuk wuv
    = View.canon (order.map (fun i => (⟨colR i, keyHead (k0_pay12 (k0_pay3 (View.ld tb r0_4)) (k0_pay4 (View.ld tb r0_5)) k0_pay6 (normed x g wg wu wd gm) wkr)
        (k0_pay14 (normed x g wg wu wd gm) wlat gl wuk) i⟩ : View.Piece (Elt Ideal) S512x2048 .bf16))) := by
  unfold_out out0_17
  simp (disch := decide) only [k0_pay66, k0_pay67, k0_pay68, k0_pay70, k0_pay71, k0_pay73, k0_pay74, View.ld_unit_lit]
  rfl

theorem out18 : out0_18 (F := Ideal) x g wg wu wd gm wdq gq wq wlat gl wkr tb wuk wuv
    = k0_pay1 (k0_pay64 (k0_pay13 (normed x g wg wu wd gm) wlat gl) wuv) k0_pay65 := by
  unfold_out out0_18
  simp (disch := decide) only [k0_pay66, k0_pay71, View.ld_unit_lit, View.canon_cons_unit_lit]
  rfl

theorem out19 : out0_19 (F := Ideal) x g wg wu wd gm wdq gq wq wlat gl wkr tb wuk wuv = k0_pay11 (normed x g wg wu wd gm) wlat gl := by
  unfold_out out0_19
  simp (disch := decide) only [k0_pay66, k0_pay71, View.ld_unit_lit, View.canon_cons_unit_lit]
  rfl

theorem out20 : out0_20 (F := Ideal) x g wg wu wd gm wdq gq wq wlat gl wkr tb wuk wuv
    = k0_pay16 (k0_pay15 (k0_pay3 (View.ld tb r0_4)) (k0_pay4 (View.ld tb r0_5)) k0_pay6 (normed x g wg wu wd gm) wkr) := by
  unfold_out out0_20
  simp (disch := decide) only [k0_pay66, k0_pay67, k0_pay68, k0_pay70, k0_pay71, View.ld_unit_lit, View.canon_cons_unit_lit]
  rfl

/-! The same, at an index, when the table's rows are cosines and sines. -/

variable (r : Fin 512) (cs sn : Fin 16 → EReal) (hl : ∀ l, left tb r l = RowsA.cosAll cs l) (hr : ∀ l, right tb r l = RowsA.sinAll sn l)
include hl hr

theorem out16_apply (j : Fin 2048) : out0_16 (F := Ideal) x g wg wu wd gm wdq gq wq wlat gl wkr tb wuk wuv (ix2 r j)
    = RowsA.queries (RowsA.flat (row (normed x g wg wu wd gm) r) wdq (row gq 0) wq) cs sn j := by
  rw [out16, canon_apply, turnedHead_apply, flat_row, one_apply, left_apply, right_apply, hl, hr]
  exact RowsA.turnAll_query _ cs sn _

theorem common_eq (l : Fin 128) :
    k0_pay12 (F := Ideal) (k0_pay3 (View.ld tb r0_4)) (k0_pay4 (View.ld tb r0_5)) k0_pay6 (normed x g wg wu wd gm) wkr (ix2 r l)
      = RowsA.placed (RowsA.turned (Rows.lin (row (normed x g wg wu wd gm) r) (row wkr)) cs sn) l := by
  rw [common_apply, left_apply, right_apply, hl, hr]
  exact RowsA.turnAll_placed _ cs sn l

theorem out17_apply (j : Fin 2048) : out0_17 (F := Ideal) x g wg wu wd gm wdq gq wq wlat gl wkr tb wuk wuv (ix2 r j)
    = RowsA.keys (RowsA.latent (row (normed x g wg wu wd gm) r) wlat (row gl 0)) wuk
        (RowsA.turned (Rows.lin (row (normed x g wg wu wd gm) r) (row wkr)) cs sn) j := by
  rw [out17, canon_apply, keyHead_apply, up_row, common_eq x g wg wu wd gm wkr tb r cs sn hl hr]
  unfold RowsA.head RowsA.keys
  rw [RowsA.head_lane]

theorem out20_apply (l : Fin 32) : out0_20 (F := Ideal) x g wg wu wd gm wdq gq wq wlat gl wkr tb wuk wuv (ix3 0 l r)
    = RowsA.turned (Rows.lin (row (normed x g wg wu wd gm) r) (row wkr)) cs sn l := by
  have e := common_eq x g wg wu wd gm wkr tb r cs sn hl hr ⟨64 + l.val, by omega⟩
  rw [out20]
  generalize hz : k0_pay12 (F := Ideal) (k0_pay3 (View.ld tb r0_4)) (k0_pay4 (View.ld tb r0_5)) k0_pay6 (normed x g wg wu wd gm) wkr = y at e
  pointwise [k0_pay16, k0_pay15, hz]
  rw [e]
  unfold RowsA.placed
  have p : 64 ≤ 64 + l.val ∧ 64 + l.val < 96 := by omega
  have q : 64 + l.val - 64 = l.val := by omega
  simp only [p, q, and_self, dite_true]

end Cert.RowsABody

end
-- ==== Proof.RowsABlock.lean ====
/- The kernel of the part before the attention: the blocks that its body is given, and the arrays of all blocks. -/
module

public import proofs.«01_k».proof.Proof.RowsABody
public import proofs.«01_k».proof.Proof.Gen.Kernel3Ideal.Value
import all proofs.«01_k».proof.Proof.Gen.Kernel3Ideal.Skeleton
public import Idealize.ShloMosaic.Lib.Claim
public import Idealize.ShloMosaic.Lib.Pipeline.ValueKit
public import Idealize.ShloMosaic.Lib.Pointwise

@[expose] public section

set_option maxRecDepth 16384
set_option maxHeartbeats 1000000

noncomputable section

namespace Cert.RowsABlock

open Idealize.ShloMosaic Idealize.ShloMosaic.TcCoe Cert.Kernel3Ideal Cert.Kernel3Ideal.Gen
open Cert.RowsB (row first)

variable (m : (ℓ : Loc nD τ sig) → Buf (Elt Ideal) ℓ) (c : Dev nD)

/-! The table of cosines and sines that the program makes before the blocks. -/

/-- The angles. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- Two tables of sixteen, side by side, with zeros around. -/
def side (a b : FVec Ideal S4096x16 .f32) : FVec Ideal S4096x128 .f32 :=
  pad S4096x128 ![0, 64] ![0, 32] ![0, 0] (concatenate S4096x32 1 [⟨S4096x16, a⟩, ⟨S4096x16, b⟩] concatenates_S4096x16_S4096x16_S4096x32_d1)
    (sitofp .f32 (constantI S_ 32 0#32)) pads_S4096x32_S4096x128_000_64320 h_S_

/-- The table. -/
def table : FVec Ideal S4096x256 .f32 :=
  concatenate S4096x256 1 [⟨S4096x128, side (Host.cos angles) (Host.cos angles)⟩, ⟨S4096x128, side (Host.negf (Host.sin angles)) (Host.sin angles)⟩]
    concatenates_S4096x128_S4096x128_S4096x256_d1

theorem angles_apply (p : Fin 4096) (i : Fin 16) : angles (ix2 p i) = RowsA.angle p i := by
  pointwise [angles]
  rfl

theorem side_apply (a b : FVec Ideal S4096x16 .f32) (p : Fin 4096) (l : Fin 128) :
    side a b (ix2 p l) = if h : 64 ≤ l.val ∧ l.val < 96 then (if l.val < 80 then a (ix2 p ⟨(l.val - 64) % 16, by omega⟩)
      else b (ix2 p ⟨(l.val - 64) % 16, by omega⟩)) else 0 := by
  pointwise [side]
  by_cases h : 64 ≤ l.val ∧ l.val < 96
  · have h' : 64 ≤ l.val ∧ l.val - 64 < 32 := by omega
    by_cases e : l.val < 80
    · have e' : l.val - 64 < 16 := by omega
      have q : (l.val - 64) % 16 = l.val - 64 := by omega
      simp only [h, h', e, e', q, and_self, dite_true, if_true]
    · have e' : ¬ l.val - 64 < 16 := by omega
      have q : (l.val - 64) % 16 = l.val - 64 - 16 := by omega
      simp only [h, h', e, e', q, and_self, dite_true, dite_false, if_false]
  · have h' : ¬ (64 ≤ l.val ∧ l.val - 64 < 32) := by omega
    simp only [h, h', dite_false]
    exact RowsA.num_zero

theorem table_left (p : Fin 4096) (l : Fin 128) : table (ix2 p ⟨l.val, by omega⟩) = RowsA.cosAll (RowsA.cosOf p) l := by
  have h : l.val < 128 := l.isLt
  have e (i : Fin 16) : Host.cos (F := Ideal) angles (ix2 p i) = RowsA.cosOf p i :=
    congrArg (FloatOps.hostUnary (F := Ideal) (φ := .f32) .cos) (angles_apply p i)
  pointwise [table, side_apply]
  simp only [h, dite_true, ite_self]
  unfold RowsA.cosAll
  simp only [← e]
  rfl

theorem table_right (p : Fin 4096) (l : Fin 128) : table (ix2 p ⟨128 + l.val, by omega⟩) = RowsA.sinAll (RowsA.sinOf p) l := by
  have h : ¬ 128 + l.val < 128 := by omega
  have q : 128 + l.val - 128 = l.val := by omega
  pointwise [table, side_apply, angles_apply]
  rfl

theorem table_eq : (V m c main_v24 : FVec Ideal S4096x256 .f32) = table := by
  simp only [V, List.flatten_cons, List.flatten_nil, List.cons_append, List.append_nil, List.nil_append, hostOps0, hostOps0_1, hostOps0_2, hostOps0_3, hostOps0_4]
  entry_read
  unfold table side angles
  rfl

/-! The blocks. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val % 8, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![0, t.val] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val / 8, 0, t.val % 8] := (by decide +kernel : ∀ t : Fin grid0.N, _)

/-- Token `r` of block `t`. -/
def tokenOf (t : Fin cfg0.N) (r : Fin 512) : Fin 16384 := ⟨t.val * 512 + r.val, by have := t.isLt; have : cfg0.N = 32 := rfl; omega⟩

theorem blk0 (t : Fin cfg0.N) (r : Fin 512) : row (n := 512) (k := 1024) (iblk m c 0 t) r = row (n := 16384) (k := 1024) (m ((c : Thread nD τ).loc main_arg0)) (tokenOf t r) := by
  funext j
  show iblk m c 0 t (ix2 r j) = m ((c : Thread nD τ).loc main_arg0) (ix2 (tokenOf t r) j)
  blk_ext! [iblk, V, idx0 t]
  all_goals rfl
theorem blk1 (t : Fin cfg0.N) : row (n := 1) (k := 1024) (iblk m c 1 t) 0 = row (n := 2) (k := 1024) (m ((c : Thread nD τ).loc main_arg1)) 0 := by
  funext j
  show iblk m c 1 t (ix2 (0 : Fin 1) j) = m ((c : Thread nD τ).loc main_arg1) (ix2 (0 : Fin 2) j)
  have e : (win0_1.blk t).view.emb (ix2 (0 : Fin 1) j) = ix2 (0 : Fin 1) j := by blk_ext! [idx1 t]
  show V m c main_v27 ((win0_1.blk t).view.emb (ix2 (0 : Fin 1) j)) = _
  rw [e]
  simp only [V, List.flatten_cons, List.flatten_nil, List.cons_append, List.append_nil, List.nil_append, hostOps0, hostOps0_1, hostOps0_2, hostOps0_3, hostOps0_4]
  entry_read
  pointwise []
theorem blk2 (t : Fin cfg0.N) : first (l := 1) (n := 1024) (k := 2816) (by decide) (iblk m c 2 t) = first (l := 2) (n := 1024) (k := 2816) (by decide) (m ((c : Thread nD τ).loc main_arg2)) := by
  funext i j
  show iblk m c 2 t (ix3 (0 : Fin 1) i j) = m ((c : Thread nD τ).loc main_arg2) (ix3 (0 : Fin 2) i j)
  blk_ext! [iblk, V, idx2 t]
theorem blk3 (t : Fin cfg0.N) : first (l := 1) (n := 1024) (k := 2816) (by decide) (iblk m c 3 t) = first (l := 2) (n := 1024) (k := 2816) (by decide) (m ((c : Thread nD τ).loc main_arg3)) := by
  funext i j
  show iblk m c 3 t (ix3 (0 : Fin 1) i j) = m ((c : Thread nD τ).loc main_arg3) (ix3 (0 : Fin 2) i j)
  blk_ext! [iblk, V, idx3 t]
theorem blk4 (t : Fin cfg0.N) : first (l := 1) (n := 2816) (k := 1024) (by decide) (iblk m c 4 t) = first (l := 2) (n := 2816) (k := 1024) (by decide) (m ((c : Thread nD τ).loc main_arg4)) := by
  funext i j
  show iblk m c 4 t (ix3 (0 : Fin 1) i j) = m ((c : Thread nD τ).loc main_arg4) (ix3 (0 : Fin 2) i j)
  blk_ext! [iblk, V, idx4 t]
theorem blk5 (t : Fin cfg0.N) : row (n := 1) (k := 1024) (iblk m c 5 t) 0 = row (n := 2) (k := 1024) (m ((c : Thread nD τ).loc main_arg5)) 0 := by
  funext j
  show iblk m c 5 t (ix2 (0 : Fin 1) j) = m ((c : Thread nD τ).loc main_arg5) (ix2 (0 : Fin 2) j)
  have e : (win0_5.blk t).view.emb (ix2 (0 : Fin 1) j) = ix2 (0 : Fin 1) j := by blk_ext! [idx5 t]
  show V m c main_v30 ((win0_5.blk t).view.emb (ix2 (0 : Fin 1) j)) = _
  rw [e]
  simp only [V, List.flatten_cons, List.flatten_nil, List.cons_append, List.append_nil, List.nil_append, hostOps0, hostOps0_1, hostOps0_2, hostOps0_3, hostOps0_4]
  entry_read
  pointwise []
theorem blk6 (t : Fin cfg0.N) : iblk m c 6 t = m ((c : Thread nD τ).loc main_arg6) := by
  refine RowsB.mat_ext (n := 1024) (k := 384) fun i j => ?_
  blk_ext! [iblk, V, idx6 t]
theorem blk7 (t : Fin cfg0.N) : row (n := 1) (k := 384) (iblk m c 7 t) 0 = row (n := 1) (k := 384) (m ((c : Thread nD τ).loc main_arg7)) 0 := by
  funext j
  show iblk m c 7 t (ix2 (0 : Fin 1) j) = m ((c : Thread nD τ).loc main_arg7) (ix2 (0 : Fin 1) j)
  have e : (win0_7.blk t).view.emb (ix2 (0 : Fin 1) j) = ix2 (0 : Fin 1) j := by blk_ext! [idx7 t]
  show V m c main_v32 ((win0_7.blk t).view.emb (ix2 (0 : Fin 1) j)) = _
  rw [e]
  simp only [V, List.flatten_cons, List.flatten_nil, List.cons_append, List.append_nil, List.nil_append, hostOps0, hostOps0_1, hostOps0_2, hostOps0_3, hostOps0_4]
  entry_read
  pointwise []
theorem blk8 (t : Fin cfg0.N) : iblk m c 8 t = m ((c : Thread nD τ).loc main_arg8) := by
  refine RowsB.mat_ext (n := 384) (k := 2048) fun i j => ?_
  blk_ext! [iblk, V, idx8 t]
theorem blk9 (t : Fin cfg0.N) : iblk m c 9 t = m ((c : Thread nD τ).loc main_arg9) := by
  refine RowsB.mat_ext (n := 1024) (k := 256) fun i j => ?_
  blk_ext! [iblk, V, idx9 t]
theorem blk10 (t : Fin cfg0.N) : row (n := 1) (k := 256) (iblk m c 10 t) 0 = row (n := 1) (k := 256) (m ((c : Thread nD τ).loc main_arg10)) 0 := by
  funext j
  show iblk m c 10 t (ix2 (0 : Fin 1) j) = m ((c : Thread nD τ).loc main_arg10) (ix2 (0 : Fin 1) j)
  have e : (win0_10.blk t).view.emb (ix2 (0 : Fin 1) j) = ix2 (0 : Fin 1) j := by blk_ext! [idx10 t]
  show V m c main_v34 ((win0_10.blk t).view.emb (ix2 (0 : Fin 1) j)) = _
  rw [e]
  simp only [V, List.flatten_cons, List.flatten_nil, List.cons_append, List.append_nil, List.nil_append, hostOps0, hostOps0_1, hostOps0_2, hostOps0_3, hostOps0_4]
  entry_read
  pointwise []
theorem blk11 (t : Fin cfg0.N) : iblk m c 11 t = m ((c : Thread nD τ).loc main_arg11) := by
  refine RowsB.mat_ext (n := 1024) (k := 128) fun i j => ?_
  blk_ext! [iblk, V, idx11 t]
theorem blk13 (t : Fin cfg0.N) : iblk m c 13 t = m ((c : Thread nD τ).loc main_arg12) := by
  refine RowsB.mat_ext (n := 256) (k := 2048) fun i j => ?_
  blk_ext! [iblk, V, idx13 t]
theorem blk14 (t : Fin cfg0.N) : iblk m c 14 t = m ((c : Thread nD τ).loc main_arg13) := by
  refine RowsB.mat_ext (n := 1280) (k := 256) fun i j => ?_
  blk_ext! [iblk, V, idx14 t]

theorem blk12 (t : Fin cfg0.N) (r : Fin 512) (l : Fin 256) :
    (iblk m c 12 t : FVec Ideal S512x256 .f32) (ix2 r l) = table (ix2 (RowsA.posOf (tokenOf t r)) l) := by
  have e : (win0_12.blk t).view.emb (ix2 r l) = ix2 (RowsA.posOf (tokenOf t r)) l := by
    blk_ext! [idx12 t]
    all_goals first
      | rfl
      | (show t.val % 8 * 512 + r.val = (t.val * 512 + r.val) % 4096; omega)
  show V m c main_v24 ((win0_12.blk t).view.emb (ix2 r l)) = _
  rw [e]
  exact congrFun (table_eq m c) _

theorem blk12_left (t : Fin cfg0.N) (r : Fin 512) (l : Fin 128) :
    RowsABody.left (iblk m c 12 t) r l = RowsA.cosAll (RowsA.cosOf (RowsA.posOf (tokenOf t r))) l :=
  (blk12 m c t r _).trans (table_left _ l)

theorem blk12_right (t : Fin cfg0.N) (r : Fin 512) (l : Fin 128) :
    RowsABody.right (iblk m c 12 t) r l = RowsA.sinAll (RowsA.sinOf (RowsA.posOf (tokenOf t r))) l :=
  (blk12 m c t r _).trans (table_right _ l)

/-- Token `r` of block `t`, and normed. -/
theorem token_spec (t : Fin cfg0.N) (r : Fin 512) :
    row (k0_pay2 (F := Ideal) (iblk m c 0 t) (iblk m c 1 t) (iblk m c 2 t) (iblk m c 3 t) (iblk m c 4 t)) r
      = RowsA.tokenAt (m ((c : Thread nD τ).loc main_arg0)) (m ((c : Thread nD τ).loc main_arg1)) (m ((c : Thread nD τ).loc main_arg2)) (m ((c : Thread nD τ).loc main_arg3)) (m ((c : Thread nD τ).loc main_arg4)) (tokenOf t r) := by
  refine (RowsABody.token_row _ _ _ _ _ r).trans ?_
  rw [blk0, blk1, blk2, blk3, blk4]
  rfl

theorem norm_spec (t : Fin cfg0.N) (r : Fin 512) :
    row (RowsABody.normed (iblk m c 0 t) (iblk m c 1 t) (iblk m c 2 t) (iblk m c 3 t) (iblk m c 4 t) (iblk m c 5 t)) r
      = RowsA.normAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tokenOf t r) := by
  refine (RowsABody.norm_row _ _ r).trans ?_
  rw [token_spec, blk5]
  rfl

/-! The six arrays after the run. -/

/-- The sequence of block `t`, and the place of its token `r` there. -/
def seqOf (t : Fin cfg0.N) : Fin 4 := ⟨t.val / 8, by have := t.isLt; have : cfg0.N = 32 := rfl; omega⟩
def placeOf (t : Fin cfg0.N) (r : Fin 512) : Fin 4096 := ⟨t.val % 8 * 512 + r.val, by omega⟩

theorem seq_place (t : Fin cfg0.N) (r : Fin 512) : t.val / 8 * 4096 + (t.val % 8 * 512 + r.val) = t.val * 512 + r.val := by omega

theorem final15 : (dats m 0 c).arrAt 15 cfg0.N
    = RowsA.tokens (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  obtain ⟨r, j, rfl⟩ : ∃ (r : Fin 512) (j : Fin 1024), y = ix2 r j := ⟨y 0, y 1, by funext a; fin_cases a <;> rfl⟩
  have e : (win0_15.blk t).view.emb (ix2 r j) = ix2 (tokenOf t r) j := by
    blk_ext! [idx15 t]
    all_goals rfl
  rw [e]
  rw [RowsABody.out15]
  exact congrFun (token_spec m c t r) j

theorem final16 : (dats m 0 c).arrAt 16 cfg0.N
    = RowsA.queriess (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 16 _ (by decide +kernel) fun t hf y => ?_
  blk_simp
  rw [after0_16]
  obtain ⟨r, j, rfl⟩ : ∃ (r : Fin 512) (j : Fin 2048), y = ix2 r j := ⟨y 0, y 1, by funext a; fin_cases a <;> rfl⟩
  have e : (win0_16.blk t).view.emb (ix2 r j) = ix2 (tokenOf t r) j := by
    blk_ext! [idx16 t]
    all_goals rfl
  rw [e]
  refine (RowsABody.out16_apply _ _ _ _ _ _ _ _ _ _ _ _ _ _ _ r (RowsA.cosOf (RowsA.posOf (tokenOf t r))) (RowsA.sinOf (RowsA.posOf (tokenOf t r))) (blk12_left m c t r) (blk12_right m c t r) j).trans ?_
  rw [norm_spec, blk6, blk7, blk8]
  rfl

theorem final17 : (dats m 0 c).arrAt 17 cfg0.N
    = RowsA.keyss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  refine (dats m 0 c).arrAt_eq_of_covers 17 _ (by decide +kernel) fun t hf y => ?_
  blk_simp
  rw [after0_17]
  obtain ⟨r, j, rfl⟩ : ∃ (r : Fin 512) (j : Fin 2048), y = ix2 r j := ⟨y 0, y 1, by funext a; fin_cases a <;> rfl⟩
  have e : (win0_17.blk t).view.emb (ix2 r j) = ix2 (tokenOf t r) j := by
    blk_ext! [idx17 t]
    all_goals rfl
  rw [e]
  refine (RowsABody.out17_apply _ _ _ _ _ _ _ _ _ _ _ _ _ _ _ r (RowsA.cosOf (RowsA.posOf (tokenOf t r))) (RowsA.sinOf (RowsA.posOf (tokenOf t r))) (blk12_left m c t r) (blk12_right m c t r) j).trans ?_
  rw [norm_spec, blk9, blk10, blk11, blk13]
  rfl

theorem final18 : (dats m 0 c).arrAt 18 cfg0.N
    = RowsA.valuess (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg13)) := by
  refine (dats m 0 c).arrAt_eq_of_covers 18 _ (by decide +kernel) fun t hf y => ?_
  blk_simp
  rw [after0_18]
  obtain ⟨d, r, rfl⟩ : ∃ (d : Fin 1280) (r : Fin 512), y = ix2 d r := ⟨y 0, y 1, by funext a; fin_cases a <;> rfl⟩
  have e : (win0_18.blk t).view.emb (ix2 d r) = ix2 d (tokenOf t r) := by
    blk_ext! [idx18 t]
    all_goals rfl
  rw [e]
  rw [RowsABody.out18]
  refine (RowsABody.values_apply _ _ _ _ r d).trans ?_
  rw [norm_spec, blk9, blk10, blk14]
  rfl

theorem final19 : (dats m 0 c).arrAt 19 cfg0.N
    = RowsA.latents (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) := by
  refine (dats m 0 c).arrAt_eq_of_covers 19 _ (by decide +kernel) fun t hf y => ?_
  blk_simp
  rw [after0_19]
  obtain ⟨r, j, rfl⟩ : ∃ (r : Fin 512) (j : Fin 256), y = ix2 r j := ⟨y 0, y 1, by funext a; fin_cases a <;> rfl⟩
  have e : (win0_19.blk t).view.emb (ix2 r j) = ix2 (tokenOf t r) j := by
    blk_ext! [idx19 t]
    all_goals rfl
  rw [e]
  rw [RowsABody.out19]
  refine (congrFun (RowsABody.latent_row _ _ _ r) j).trans ?_
  rw [norm_spec, blk9, blk10]
  rfl

theorem final20 : (dats m 0 c).arrAt 20 cfg0.N
    = RowsA.turneds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  refine (dats m 0 c).arrAt_eq_of_covers 20 _ (by decide +kernel) fun t hf y => ?_
  blk_simp
  rw [after0_20]
  obtain ⟨l, r, rfl⟩ : ∃ (l : Fin 32) (r : Fin 512), y = ix3 (0 : Fin 1) l r := by
    refine ⟨y 1, y 2, ?_⟩
    funext a
    fin_cases a
    · exact Fin.ext (Nat.lt_one_iff.mp (y 0).isLt)
    · rfl
    · rfl
  have e : (win0_20.blk t).view.emb (ix3 (0 : Fin 1) l r) = ix3 (seqOf t) l (placeOf t r) := by
    blk_ext! [idx20 t]
    all_goals rfl
  rw [e]
  refine (RowsABody.out20_apply _ _ _ _ _ _ _ _ _ _ _ _ _ _ _ r (RowsA.cosOf (RowsA.posOf (tokenOf t r))) (RowsA.sinOf (RowsA.posOf (tokenOf t r))) (blk12_left m c t r) (blk12_right m c t r) l).trans ?_
  rw [norm_spec, blk11]
  unfold RowsA.turneds RowsA.turnedAt
  rw [show (⟨(ix3 (seqOf t) l (placeOf t r) 0).val * 4096 + (ix3 (seqOf t) l (placeOf t r) 2).val, _⟩ : Fin 16384) = tokenOf t r from
    Fin.ext (seq_place t r)]
  rfl

end Cert.RowsABlock

end
-- ==== Proof.RowsARef.lean ====
/- The reference of the part before the attention, at an index: its composed terms are those of `RowsA`. -/
module

public import proofs.«01_k».proof.Proof.RowsA
public import proofs.«01_k».proof.Proof.RowsBRef
public import proofs.«01_k».proof.Proof.Gen.Reference3Ideal.Run
import all proofs.«01_k».proof.Proof.Gen.Reference3Ideal.Run
public import Idealize.ShloMosaic.Lib.Pointwise

@[expose] public section

set_option maxRecDepth 16384
set_option maxHeartbeats 1000000

noncomputable section

namespace Cert.RowsARef

open Idealize.ShloMosaic Idealize.ShloMosaic.StableHlo Cert.Reference3Ideal Cert.Reference3Ideal.Gen
open Cert.RowsB (row first)

variable (V0 : Valuation τ sig (Elt Ideal))

/-- What `RowsA` makes of the arguments, token by token. -/
abbrev tokenR : Fin 16384 → Fin 1024 → EReal :=
  RowsA.tokenAt (V0 (Proc.devRef .tc main_arg0)) (V0 (Proc.devRef .tc main_arg1)) (V0 (Proc.devRef .tc main_arg2))
    (V0 (Proc.devRef .tc main_arg3)) (V0 (Proc.devRef .tc main_arg4))
abbrev normR : Fin 16384 → Fin 1024 → EReal :=
  RowsA.normAt (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
abbrev flatR (r : Fin 16384) : Fin 2048 → EReal :=
  RowsA.flat (normR V0 r) (V0 (Proc.devRef .tc main_arg6)) (row (n := 1) (k := 384) (V0 (Proc.devRef .tc main_arg7)) 0) (V0 (Proc.devRef .tc main_arg8))
abbrev latentR (r : Fin 16384) : Fin 256 → EReal :=
  RowsA.latent (normR V0 r) (V0 (Proc.devRef .tc main_arg9)) (row (n := 1) (k := 256) (V0 (Proc.devRef .tc main_arg10)) 0)
abbrev turnedR (r : Fin 16384) : Fin 32 → EReal :=
  RowsA.turned (Rows.lin (normR V0 r) (row (n := 1024) (k := 128) (V0 (Proc.devRef .tc main_arg11)))) (RowsA.cosOf (RowsA.posOf r)) (RowsA.sinOf (RowsA.posOf r))

theorem token_eq : Value.res_main_v37 (F := Ideal) V0
    = RowsBRef.step (V0 (Proc.devRef .tc main_arg0)) (V0 (Proc.devRef .tc main_arg1)) (V0 (Proc.devRef .tc main_arg2))
        (V0 (Proc.devRef .tc main_arg3)) (V0 (Proc.devRef .tc main_arg4))
        (RowsBRef.normed (V0 (Proc.devRef .tc main_arg0)) (RowsBRef.gains (V0 (Proc.devRef .tc main_arg1)))) := by
  unfold Value.res_main_v37 Value.res_main_v30 Value.res_main_v23
  rfl

theorem token_row (r : Fin 16384) : row (n := 16384) (k := 1024) (Value.res_main_v37 (F := Ideal) V0) r = tokenR V0 r := by
  funext j
  rw [token_eq]
  exact RowsBRef.step_apply _ _ _ _ _ r j

theorem norm_eq : Value.res_main_v52 (F := Ideal) V0
    = RowsBRef.normed (Value.res_main_v37 (F := Ideal) V0) (RowsBRef.gains (V0 (Proc.devRef .tc main_arg5))) := by
  unfold Value.res_main_v52
  rfl

theorem norm_row (r : Fin 16384) : row (n := 16384) (k := 1024) (Value.res_main_v52 (F := Ideal) V0) r = normR V0 r := by
  funext j
  rw [norm_eq]
  refine (RowsBRef.normed_apply _ _ r j).trans ?_
  rw [token_row]
  simp only [RowsBRef.gains_apply]
  rfl

theorem angle_apply (p : Fin 4096) (i : Fin 16) :
    (Value.res_main_v69 (F := Ideal) V0 : FVec Ideal S4096x16 .f32) (ix2 p i) = RowsA.angle p i := by
  unfold Value.res_main_v69
  pointwise []
  rfl

theorem cos_apply (p : Fin 4096) (i : Fin 16) :
    (Value.res_main_v70 (F := Ideal) V0 : FVec Ideal S4096x16 .f32) (ix2 p i) = RowsA.cosOf p i := by
  unfold Value.res_main_v70
  exact congrArg (FloatOps.hostUnary (F := Ideal) (φ := .f32) .cos) (angle_apply V0 p i)

theorem sin_apply (p : Fin 4096) (i : Fin 16) :
    (Value.res_main_v71 (F := Ideal) V0 : FVec Ideal S4096x16 .f32) (ix2 p i) = RowsA.sinOf p i := by
  unfold Value.res_main_v71
  exact congrArg (FloatOps.hostUnary (F := Ideal) (φ := .f32) .sin) (angle_apply V0 p i)

theorem down_row (r : Fin 16384) : row (n := 16384) (k := 384) (Value.res_main_v72 (F := Ideal) V0) r
    = Rows.lin (normR V0 r) (row (n := 1024) (k := 384) (V0 (Proc.devRef .tc main_arg6))) := by
  rw [← norm_row]
  unfold Value.res_main_v72
  generalize (Value.res_main_v52 (F := Ideal) V0 : FVec Ideal S16384x1024 .f32) = z
  funext j
  pointwise [row, Rows.lin]

theorem flat_apply (b : Fin 4) (s : Fin 4096) (h : Fin 16) (l : Fin 128) :
    (Value.res_main_v88 (F := Ideal) V0 : FVec Ideal S4x4096x16x128 .f32) (ix4 b s h l)
      = RowsA.head (flatR V0 ⟨b.val * 4096 + s.val, by omega⟩) h l := by
  unfold RowsA.head flatR RowsA.flat
  rw [← down_row]
  unfold Value.res_main_v88
  generalize (Value.res_main_v72 (F := Ideal) V0 : FVec Ideal S16384x384 .f32) = z
  pointwise []
  simp only [Nat.mul_comm h.val]
  rfl

theorem lat_row (r : Fin 16384) : row (n := 16384) (k := 256) (Value.res_main_v126 (F := Ideal) V0) r = latentR V0 r := by
  have e : row (n := 16384) (k := 256) (Value.res_main_v112 (F := Ideal) V0) r
      = Rows.lin (normR V0 r) (row (n := 1024) (k := 256) (V0 (Proc.devRef .tc main_arg9))) := by
    rw [← norm_row]
    unfold Value.res_main_v112
    generalize (Value.res_main_v52 (F := Ideal) V0 : FVec Ideal S16384x1024 .f32) = z
    funext j
    pointwise [row, Rows.lin]
  unfold latentR RowsA.latent
  rw [← e]
  unfold Value.res_main_v126
  generalize (Value.res_main_v112 (F := Ideal) V0 : FVec Ideal S16384x256 .f32) = z
  funext j
  pointwise [row, Rows.norm]
  rfl

theorem common_apply (b : Fin 4) (s : Fin 4096) (l : Fin 32) :
    (Value.res_main_v129 (F := Ideal) V0 : FVec Ideal S4x4096x32 .f32) (ix3 b s l)
      = Rows.lin (normR V0 ⟨b.val * 4096 + s.val, by omega⟩) (row (n := 1024) (k := 128) (V0 (Proc.devRef .tc main_arg11))) ⟨64 + l.val, by omega⟩ := by
  rw [← norm_row]
  unfold Value.res_main_v129
  generalize (Value.res_main_v52 (F := Ideal) V0 : FVec Ideal S16384x1024 .f32) = z
  pointwise []
  rfl

theorem pos_eq (b : Fin 4) (s : Fin 4096) : RowsA.posOf ⟨b.val * 4096 + s.val, by omega⟩ = s := by
  apply Fin.ext
  show (b.val * 4096 + s.val) % 4096 = s.val
  omega

theorem turned_apply (b : Fin 4) (s : Fin 4096) (l : Fin 32) :
    (Value.res_main_v146 (F := Ideal) V0 : FVec Ideal S4x4096x32 .f32) (ix3 b s l) = turnedR V0 ⟨b.val * 4096 + s.val, by omega⟩ l := by
  unfold turnedR RowsA.turned
  rw [pos_eq]
  unfold Value.res_main_v146
  pointwise [Value.res_main_v130, Value.res_main_v131, cos_apply, sin_apply, common_apply]
  split
  · have e : 64 + (16 + l.val) = 80 + l.val := by omega
    congr 2
    congr 1
    exact Fin.ext e
  · have e : 64 + (l.val - 16) = 48 + l.val := by omega
    have e' : 64 + (16 + (l.val - 16)) = 64 + l.val := by omega
    simp only [e, e']

/-- The queries that the reference computes, of the ones before the turn. -/
def queriess (u : FVec Ideal S4x4096x16x128 .f32) (cs sn : FVec Ideal S4096x16 .f32) : FVec Ideal S16384x2048 .bf16 :=
  truncf .bf16 (shapeCast _ ((concatenate S4x4096x16x128 3 [⟨S4x4096x16x64, ((extractStridedSlice S4x4096x16x64 ![0, 0, 0, 0] u slices_S4x4096x16x128_S4x4096x16x64_0_0_0_0) : FVec Ideal S4x4096x16x64 .f32)⟩, ⟨S4x4096x16x32, ((concatenate S4x4096x16x32 3 [⟨S4x4096x16x16, (subf (mulf (extractStridedSlice S4x4096x16x16 ![0, 0, 0, 0] (extractStridedSlice S4x4096x16x32 ![0, 0, 0, 64] u slices_S4x4096x16x128_S4x4096x16x32_0_0_0_64) slices_S4x4096x16x32_S4x4096x16x16_0_0_0_0) (broadcastInDim S4x4096x16x16 ![0, 1, 2, 3] bcast_S1x4096x1x16_S4x4096x16x16_0_1_2_3 (broadcastInDim S1x4096x1x16 ![1, 2, 3] bcast_S4096x1x16_S1x4096x1x16_1_2_3 (broadcastInDim S4096x1x16 ![0, 2] bcast_S4096x16_S4096x1x16_0_2 cs)))) (mulf (extractStridedSlice S4x4096x16x16 ![0, 0, 0, 16] (extractStridedSlice S4x4096x16x32 ![0, 0, 0, 64] u slices_S4x4096x16x128_S4x4096x16x32_0_0_0_64) slices_S4x4096x16x32_S4x4096x16x16_0_0_0_16) (broadcastInDim S4x4096x16x16 ![0, 1, 2, 3] bcast_S1x4096x1x16_S4x4096x16x16_0_1_2_3 (broadcastInDim S1x4096x1x16 ![1, 2, 3] bcast_S4096x1x16_S1x4096x1x16_1_2_3 (broadcastInDim S4096x1x16 ![0, 2] bcast_S4096x16_S4096x1x16_0_2 sn)))))⟩, ⟨S4x4096x16x16, (addf (mulf (extractStridedSlice S4x4096x16x16 ![0, 0, 0, 0] (extractStridedSlice S4x4096x16x32 ![0, 0, 0, 64] u slices_S4x4096x16x128_S4x4096x16x32_0_0_0_64) slices_S4x4096x16x32_S4x4096x16x16_0_0_0_0) (broadcastInDim S4x4096x16x16 ![0, 1, 2, 3] bcast_S1x4096x1x16_S4x4096x16x16_0_1_2_3 (broadcastInDim S1x4096x1x16 ![1, 2, 3] bcast_S4096x1x16_S1x4096x1x16_1_2_3 (broadcastInDim S4096x1x16 ![0, 2] bcast_S4096x16_S4096x1x16_0_2 sn)))) (mulf (extractStridedSlice S4x4096x16x16 ![0, 0, 0, 16] (extractStridedSlice S4x4096x16x32 ![0, 0, 0, 64] u slices_S4x4096x16x128_S4x4096x16x32_0_0_0_64) slices_S4x4096x16x32_S4x4096x16x16_0_0_0_16) (broadcastInDim S4x4096x16x16 ![0, 1, 2, 3] bcast_S1x4096x1x16_S4x4096x16x16_0_1_2_3 (broadcastInDim S1x4096x1x16 ![1, 2, 3] bcast_S4096x1x16_S1x4096x1x16_1_2_3 (broadcastInDim S4096x1x16 ![0, 2] bcast_S4096x16_S4096x1x16_0_2 cs)))))⟩] concatenates_S4x4096x16x16_S4x4096x16x16_S4x4096x16x32_d3) : FVec Ideal S4x4096x16x32 .f32)⟩, ⟨S4x4096x16x32, ((broadcastInDim S4x4096x16x32 ![] bcast_S_S4x4096x16x32 (constant S_ .f32 0x00000000#32 : FVec Ideal S_ .f32)) : FVec Ideal S4x4096x16x32 .f32)⟩] concatenates_S4x4096x16x64_S4x4096x16x32_S4x4096x16x32_S4x4096x16x128_d3 : FVec Ideal S4x4096x16x128 .f32)) shapeCasts_S4x4096x16x128_S16384x2048) bitsLt_bf16_f32

theorem queriess_apply (r : Fin 16384) (j : Fin 2048) :
    queriess (Value.res_main_v88 (F := Ideal) V0) (Value.res_main_v70 (F := Ideal) V0) (Value.res_main_v71 (F := Ideal) V0) (ix2 r j)
      = RowsA.queries (flatR V0 r) (RowsA.cosOf (RowsA.posOf r)) (RowsA.sinOf (RowsA.posOf r)) j := by
  have er : r.val / 4096 * 4096 + r.val % 4096 = r.val := by omega
  pointwise [queriess, cos_apply, sin_apply, flat_apply]
  simp only [er]
  unfold RowsA.queries RowsA.query RowsA.placed RowsA.turned
  have el : (RowsA.laneOf j).val = j.val % 128 := rfl
  by_cases h1 : j.val % 128 < 64
  · simp only [el, h1, dite_true, if_true]
    rfl
  · by_cases h2 : j.val % 128 < 96
    · have h3 : j.val % 128 - 64 < 32 := by omega
      have h4 : 64 ≤ j.val % 128 ∧ j.val % 128 < 96 := by omega
      by_cases h5 : j.val % 128 - 64 < 16
      · have e : 64 + (16 + (j.val % 128 - 64)) = 80 + (j.val % 128 - 64) := by omega
        simp only [el, h1, h3, h4, h5, e, and_self, dite_true, dite_false, if_false]
        rfl
      · have e : 64 + (j.val % 128 - 64 - 16) = 48 + (j.val % 128 - 64) := by omega
        have e' : 64 + (16 + (j.val % 128 - 64 - 16)) = 64 + (j.val % 128 - 64) := by omega
        simp only [el, h1, h3, h4, h5, e, e', and_self, dite_true, dite_false, if_false]
        rfl
    · have h3 : ¬ j.val % 128 - 64 < 32 := by omega
      simp only [el, h1, h2, h3, and_false, dite_false, if_false]

/-- The keys. -/
def keyss (z : FVec Ideal S16384x256 .f32) (w : FVec Ideal S256x2048 .bf16) (k : FVec Ideal S4x4096x32 .f32) : FVec Ideal S16384x2048 .bf16 :=
  truncf .bf16 (shapeCast _ (addf (shapeCast _ (Host.dotGeneral dot_S16384x256_S256x2048_S16384x2048_1_0_0_1_n_n none z (extf .f32 w bitsLt_bf16_f32)) shapeCasts_S16384x2048_S4x4096x16x128) (broadcastInDim S4x4096x16x128 ![0, 1, 2, 3] bcast_S4x4096x1x128_S4x4096x16x128_0_1_2_3 (broadcastInDim S4x4096x1x128 ![0, 1, 3] bcast_S4x4096x128_S4x4096x1x128_0_1_3 (pad S4x4096x128 ![0, 0, 64] ![0, 0, 32] ![0, 0, 0] k (sitofp .f32 (constantI S_ 32 0#32)) pads_S4x4096x32_S4x4096x128_000_000_64320 h_S_)))) shapeCasts_S4x4096x16x128_S16384x2048) bitsLt_bf16_f32

theorem keyss_apply (w : FVec Ideal S256x2048 .bf16) (r : Fin 16384) (j : Fin 2048) :
    keyss (Value.res_main_v126 (F := Ideal) V0) w (Value.res_main_v146 (F := Ideal) V0) (ix2 r j) = RowsA.keys (latentR V0 r) w (turnedR V0 r) j := by
  have er : r.val / 4096 * 4096 + r.val % 4096 = r.val := by omega
  have ej : j.val / 128 * 128 + j.val % 128 = j.val := by omega
  rw [← lat_row]
  generalize (Value.res_main_v126 (F := Ideal) V0 : FVec Ideal S16384x256 .f32) = z
  pointwise [keyss, turned_apply]
  simp only [er, ej]
  unfold RowsA.keys RowsA.placed
  have el : (RowsA.laneOf j).val = j.val % 128 := rfl
  refine congrArg₂ (· + ·) rfl ?_
  by_cases h : 64 ≤ j.val % 128 ∧ j.val % 128 < 96
  · have h' : r.val / 4096 < 4 ∧ r.val % 4096 < 4096 ∧ 64 ≤ j.val % 128 ∧ j.val % 128 - 64 < 32 := by omega
    simp only [el, h, h', and_self, dite_true]
  · have h' : ¬ (r.val / 4096 < 4 ∧ r.val % 4096 < 4096 ∧ 64 ≤ j.val % 128 ∧ j.val % 128 - 64 < 32) := by omega
    simp only [el, h, h', dite_false]
    exact RowsA.num_zero

/-- The number of rows of a head's values. -/
def eighty : IVec S_ 32 := select (cmpi .eq (id (constantI S_ 32 80#32)) (constantI S_ 32 0#32)) (constantI S_ 32 1#32) (id (constantI S_ 32 80#32))

theorem eighty_eq : eighty = constantI S_ 32 80#32 := by
  funext i
  rfl

/-- The values. -/
def valuess (z : FVec Ideal S16384x256 .f32) (w : FVec Ideal S1280x256 .bf16) : FVec Ideal S1280x16384 .bf16 :=
  truncf .bf16 (select (broadcastInDim S1280x16384 ![0, 1] bcast_S1280x1_S1280x16384_0_1 (broadcastInDim S1280x1 ![0] bcast_S1280_S1280x1_0 (cmpi .eq (select (andi (cmpi .ne (cmpi .slt (Host.remsi (iotaInDim S1280 32 0) (broadcastInDim S1280 ![] bcast_S_S1280 eighty)) (broadcastInDim S1280 ![] bcast_S_S1280 (constantI S_ 32 0#32))) (broadcastInDim S1280 ![] bcast_S_S1280 (cmpi .slt eighty (constantI S_ 32 0#32)))) (cmpi .ne (Host.remsi (iotaInDim S1280 32 0) (broadcastInDim S1280 ![] bcast_S_S1280 eighty)) (broadcastInDim S1280 ![] bcast_S_S1280 (constantI S_ 32 0#32)))) (addi (Host.remsi (iotaInDim S1280 32 0) (broadcastInDim S1280 ![] bcast_S_S1280 eighty)) (broadcastInDim S1280 ![] bcast_S_S1280 eighty)) (Host.remsi (iotaInDim S1280 32 0) (broadcastInDim S1280 ![] bcast_S_S1280 eighty))) (broadcastInDim S1280 ![] bcast_S_S1280 (constantI S_ 32 64#32))))) (broadcastInDim S1280x16384 ![] bcast_S_S1280x16384 (id (constant S_ .f32 0x3F800000#32))) (Host.dotGeneral dot_S1280x256_S256x16384_S1280x16384_1_0_0_1_n_n none (extf .f32 w bitsLt_bf16_f32) (transpose S256x16384 [1, 0] z transposes_S16384x256_S256x16384_1_0))) bitsLt_bf16_f32

theorem valuess_apply (w : FVec Ideal S1280x256 .bf16) (d : Fin 1280) (r : Fin 16384) :
    valuess (Value.res_main_v126 (F := Ideal) V0) w (ix2 d r) = RowsA.values (latentR V0 r) w d := by
  rw [← lat_row]
  generalize (Value.res_main_v126 (F := Ideal) V0 : FVec Ideal S16384x256 .f32) = z
  rw [valuess, eighty_eq]
  pointwise []
  rw [RowsA.ones_host]
  unfold RowsA.values
  by_cases h : d.val % 80 = 64
  · simp only [h, if_true, Scalar.select]
    exact RowsA.one_bits
  · simp only [h, if_false, Scalar.select]
    rfl

/-- The keys' common part. -/
def turneds (k : FVec Ideal S4x4096x32 .f32) : FVec Ideal S4x32x4096 .f32 :=
  transpose S4x32x4096 [0, 2, 1] k transposes_S4x4096x32_S4x32x4096_0_2_1

theorem turneds_apply (b : Fin 4) (l : Fin 32) (s : Fin 4096) :
    turneds (Value.res_main_v146 (F := Ideal) V0) (ix3 b l s) = turnedR V0 ⟨b.val * 4096 + s.val, by omega⟩ l := by
  pointwise [turneds, turned_apply]

/-! The six results, read from the arguments. -/

variable (m : (ℓ : Loc nD τ sig) → Buf (Elt Ideal) ℓ) (c : Dev nD)

theorem res0 : Value.res_main_v37 (F := Ideal) (launchContents m c)
    = RowsA.tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  RowsB.mat_ext fun r j => congrFun (token_row (launchContents m c) r) j

theorem res1 : queriess (Value.res_main_v88 (F := Ideal) (launchContents m c)) (Value.res_main_v70 (F := Ideal) (launchContents m c)) (Value.res_main_v71 (F := Ideal) (launchContents m c))
    = RowsA.queriess (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  RowsB.mat_ext fun r j => queriess_apply (launchContents m c) r j

theorem res2 : keyss (Value.res_main_v126 (F := Ideal) (launchContents m c)) (m ((c.tc : Thread nD τ).loc main_arg12)) (Value.res_main_v146 (F := Ideal) (launchContents m c))
    = RowsA.keyss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) :=
  RowsB.mat_ext fun r j => keyss_apply (launchContents m c) _ r j

theorem res3 : valuess (Value.res_main_v126 (F := Ideal) (launchContents m c)) (m ((c.tc : Thread nD τ).loc main_arg13))
    = RowsA.valuess (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg13)) :=
  RowsB.mat_ext fun d r => valuess_apply (launchContents m c) _ d r

theorem res4 : Value.res_main_v126 (F := Ideal) (launchContents m c)
    = RowsA.latents (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) :=
  RowsB.mat_ext fun r j => congrFun (lat_row (launchContents m c) r) j

theorem res5 : turneds (Value.res_main_v146 (F := Ideal) (launchContents m c))
    = RowsA.turneds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg11)) :=
  by
    funext y
    obtain ⟨b, l, s, rfl⟩ : ∃ (b : Fin 4) (l : Fin 32) (s : Fin 4096), y = ix3 b l s := ⟨y 0, y 1, y 2, by funext a; fin_cases a <;> rfl⟩
    exact turneds_apply (launchContents m c) b l s

end Cert.RowsARef

end
-- ==== Proof.lean ====
/- The claims of this directory, put together: the frames of the kernels' programs and of the references, that the
   attention's program and its exact version differ in the named constant alone, and that the exact versions' results are
   the references'. -/
module

public import proofs.«01_k».proof.Defs
public import proofs.«01_k».proof.Proof.Run.Kernel.Frame
public import proofs.«01_k».proof.Proof.Run.KernelIdeal.Frame
public import proofs.«01_k».proof.Proof.Run.KernelIdeal.Value
public import proofs.«01_k».proof.Proof.Gen.ReferenceIdeal.Run
public import proofs.«01_k».proof.Proof.Block
public import proofs.«01_k».proof.Proof.Ref
public import proofs.«01_k».proof.Proof.Pre
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.RowsBBlock
public import proofs.«01_k».proof.Proof.RowsBRef
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.RowsABlock
public import proofs.«01_k».proof.Proof.RowsARef
public import Idealize.ShloMosaic.Adequacy
public import Idealize.ShloMosaic.Init
public import Idealize.ShloMosaic.Lib.Quiescent

@[expose] public section

set_option maxRecDepth 16384
set_option maxHeartbeats 2000000

noncomputable section

namespace Cert.Proof

open Idealize.ShloMosaic Idealize.SL.Sem

/-- The reference's run leaves its arguments as they were, and it has no semaphores. -/
theorem frameReference : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems (by decide) r.2⟩)
    (Cert.ReferenceIdeal.Value.run (F := Ideal) m ρ)

/-- Both results are `Spec.out` of the arguments. -/
theorem algebraic : Cert.algebraic_KernelIdeal_ReferenceIdeal_pre_finite_with_ones_row (hKernelIdeal := Cert.KernelIdeal.Gen.facts)
    (hReferenceIdeal := Cert.ReferenceIdeal.Gen.facts) (hPre_finite_with_ones_row := Cert.Pre.facts) := by
  intro m g m' g' hp hag
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ⟨(h c).1.trans ?_, (h c).2⟩)
      (Cert.KernelIdeal.Value.run_blocks (F := Ideal) m g)
    exact Cert.Block.final m c (Cert.Pre.q_real _ _ _ (hp c).1) (Cert.Pre.k_real _ _ _ (hp c).2.1) (Cert.Pre.v_ones _ _ _ (hp c).2.2)
  · refine (θ_run (Cert.ReferenceIdeal.defs (F := Ideal)) _ _).mono (fun r h c => ⟨(h c).1.trans ?_, (h c).2⟩)
      (Cert.ReferenceIdeal.Value.run (F := Ideal) m' g')
    refine (Cert.Ref.res_spec m' c).trans ?_
    rw [(hag c).1, (hag c).2.1, (hag c).2.2]

/-- The same of the reference of the part after the attention. -/
theorem frameReference2 : Cert.quiescent_Reference2Ideal (hReference2Ideal := Cert.Reference2Ideal.Gen.facts) :=
  fun m ρ _ => (θ_run (Cert.Reference2Ideal.defs (F := Ideal)) _ _).mono
    (fun r h => ⟨fun c => (h c).2.2.2.2, sem_eq_zero_of_no_sems (by decide) r.2⟩)
    (Cert.Reference2Ideal.Value.run (F := Ideal) m ρ)

/-- The four results of that part are those of `RowsB`. -/
theorem algebraic2 : Cert.algebraic_Kernel2Ideal_Reference2Ideal (hKernel2Ideal := Cert.Kernel2Ideal.Gen.facts)
    (hReference2Ideal := Cert.Reference2Ideal.Gen.facts) := by
  intro m g m' g' hp hag
  refine ⟨fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    Cert.Kernel2Ideal.Value.run_blocks (F := Ideal) m g,
    (θ_run (Cert.Reference2Ideal.defs (F := Ideal)) _ _).mono (fun r h c => ?_) (Cert.Reference2Ideal.Value.run (F := Ideal) m' g')⟩
  obtain ⟨h0, h1, h2, h3, hk⟩ := h c
  obtain ⟨e0, e1, e2, e3, e4, e5, e6, e7, e8, e9, e10⟩ := hag c
  refine ⟨(h0.trans (Cert.RowsBRef.res0 m' c)).trans (Eq.trans ?_ (Cert.RowsBBlock.final11 m c).symm),
    (h1.trans (Cert.RowsBRef.res1 m' c)).trans (Eq.trans ?_ (Cert.RowsBBlock.final12 m c).symm),
    (h2.trans (Cert.RowsBRef.res2 m' c)).trans (Eq.trans ?_ (Cert.RowsBBlock.final13 m c).symm),
    (h3.trans (Cert.RowsBRef.res3 m' c)).trans (Eq.trans ?_ (Cert.RowsBBlock.final14 m c).symm), hk⟩
  · rw [e0, e1, e2, e3, e4, e5, e6]
  · rw [e0, e1, e2, e3, e4, e5, e6, e7, e8]
  · rw [e0, e1, e2, e3, e4, e5, e6, e7, e8, e9]
  · rw [e0, e1, e2, e3, e4, e5, e6, e7, e8, e10]

/-- The same of the reference of the part before the attention. -/
theorem frameReference3 : Cert.quiescent_Reference3Ideal (hReference3Ideal := Cert.Reference3Ideal.Gen.facts) :=
  fun m ρ _ => (θ_run (Cert.Reference3Ideal.defs (F := Ideal)) _ _).mono
    (fun r h => ⟨fun c => (h c).2.2.2.2.2.2, sem_eq_zero_of_no_sems (by decide) r.2⟩)
    (Cert.Reference3Ideal.Value.run (F := Ideal) m ρ)

/-- The six results of that part are those of `RowsA`. -/
theorem algebraic3 : Cert.algebraic_Kernel3Ideal_Reference3Ideal (hKernel3Ideal := Cert.Kernel3Ideal.Gen.facts)
    (hReference3Ideal := Cert.Reference3Ideal.Gen.facts) := by
  intro m g m' g' hp hag
  refine ⟨fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    fun c => (Cert.Kernel3Ideal.Gen.dats m 0 c).arrAt 19 Cert.Kernel3Ideal.cfg0.N,
    fun c => (Cert.Kernel3Ideal.Gen.dats m 0 c).arrAt 20 Cert.Kernel3Ideal.cfg0.N,
    Cert.Kernel3Ideal.Value.run_blocks (F := Ideal) m g,
    (θ_run (Cert.Reference3Ideal.defs (F := Ideal)) _ _).mono (fun r h c => ?_) (Cert.Reference3Ideal.Value.run (F := Ideal) m' g')⟩
  obtain ⟨h0, h1, h2, h3, h4, h5, hk⟩ := h c
  obtain ⟨e0, e1, e2, e3, e4, e5, e6, e7, e8, e9, e10, e11, e12, e13⟩ := hag c
  refine ⟨(h0.trans (Cert.RowsARef.res0 m' c)).trans (Eq.trans ?_ (Cert.RowsABlock.final15 m c).symm),
    (h1.trans (Cert.RowsARef.res1 m' c)).trans (Eq.trans ?_ (Cert.RowsABlock.final16 m c).symm),
    (h2.trans (Cert.RowsARef.res2 m' c)).trans (Eq.trans ?_ (Cert.RowsABlock.final17 m c).symm),
    (h3.trans (Cert.RowsARef.res3 m' c)).trans (Eq.trans ?_ (Cert.RowsABlock.final18 m c).symm),
    (h4.trans (Cert.RowsARef.res4 m' c)).trans (Eq.trans ?_ (Cert.RowsABlock.final19 m c).symm),
    (h5.trans (Cert.RowsARef.res5 m' c)).trans (Eq.trans ?_ (Cert.RowsABlock.final20 m c).symm), hk⟩
  · rw [e0, e1, e2, e3, e4]
  · rw [e0, e1, e2, e3, e4, e5, e6, e7, e8]
  · rw [e0, e1, e2, e3, e4, e5, e9, e10, e11, e12]
  · rw [e0, e1, e2, e3, e4, e5, e9, e10, e13]
  · rw [e0, e1, e2, e3, e4, e5, e9, e10]
  · rw [e0, e1, e2, e3, e4, e5, e11]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre.facts,
    fun m ρ _ => Cert.Kernel.Gen.frame m ρ,
    fun m ρ _ => Cert.KernelIdeal.Gen.frame m ρ,
    fun m ρ _ => Cert.KernelIdeal.Gen.frame m ρ,
    frameReference,
    fun m ρ _ => frameReference m ρ trivial,
    fun m ρ _ => Cert.Kernel2.Gen.frame m ρ,
    fun m ρ _ => Cert.Kernel2Ideal.Gen.frame m ρ,
    frameReference2,
    fun m ρ _ => Cert.Kernel3.Gen.frame m ρ,
    fun m ρ _ => Cert.Kernel3Ideal.Gen.frame m ρ,
    frameReference3,
    IdealRules.named_const.statement Cert.KernelIdeal.κ "mask" .f32 0xF149F2CA#32 ⊥ rfl,
    algebraic,
    algebraic2,
    algebraic3⟩

end Cert.Proof

end
